-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Mlp0 (m : (ℓ : Loc Cert.Mlp0.nD Cert.Mlp0.τ Cert.Mlp0.sig) → Buf (Elt Bits) ℓ) : Prop :=
  True

def Pre_Mlp0Ideal (m : (ℓ : Loc Cert.Mlp0Ideal.nD Cert.Mlp0Ideal.τ Cert.Mlp0Ideal.sig) → Buf (Elt Ideal) ℓ) : Prop :=
  True

def Pre_Mlp0RefIdeal (m : (ℓ : Loc Cert.Mlp0RefIdeal.nD Cert.Mlp0RefIdeal.τ Cert.Mlp0RefIdeal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1RefIdeal (m : (ℓ : Loc Cert.Mlp1RefIdeal.nD Cert.Mlp1RefIdeal.τ Cert.Mlp1RefIdeal.sig) → Buf (Elt Ideal) ℓ) : Prop :=
  True

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_Mlp2RefIdeal (m : (ℓ : Loc Cert.Mlp2RefIdeal.nD Cert.Mlp2RefIdeal.τ Cert.Mlp2RefIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInRefIdeal (m : (ℓ : Loc Cert.SwaInRefIdeal.nD Cert.SwaInRefIdeal.τ Cert.SwaInRefIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInRefIdeal (m : (ℓ : Loc Cert.RetInRefIdeal.nD Cert.RetInRefIdeal.τ Cert.RetInRefIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_SwaOut (m : (ℓ : Loc Cert.SwaOut.nD Cert.SwaOut.τ Cert.SwaOut.sig) → Buf (Elt Bits) ℓ) : Prop :=
  True

def Pre_SwaOutIdeal (m : (ℓ : Loc Cert.SwaOutIdeal.nD Cert.SwaOutIdeal.τ Cert.SwaOutIdeal.sig) → Buf (Elt Ideal) ℓ) : Prop :=
  True

def Pre_SwaOutRefIdeal (m : (ℓ : Loc Cert.SwaOutRefIdeal.nD Cert.SwaOutRefIdeal.τ Cert.SwaOutRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Mlp0 [hMlp0 : Cert.Mlp0.Facts] : Prop :=
  ∀ (m : (ℓ : Loc Cert.Mlp0.nD Cert.Mlp0.τ Cert.Mlp0.sig) → Buf (Elt Bits) ℓ) (g : Dev Cert.Mlp0.nD → PrngReg), Pre_Mlp0 m →
    θ_run (Cert.Mlp0.defs (F := Bits)) (onTc (τ := Cert.Mlp0.τ) (Cert.Mlp0.main (F := Bits))) ⟨m, fun _ => 0, g⟩ (fun r => (∀ c : Dev Cert.Mlp0.nD,
      r.2.mem ((c.tc : Thread Cert.Mlp0.nD Cert.Mlp0.τ).loc Cert.Mlp0.main_arg0) = m ((c.tc : Thread Cert.Mlp0.nD Cert.Mlp0.τ).loc Cert.Mlp0.main_arg0)
      ∧ r.2.mem ((c.tc : Thread Cert.Mlp0.nD Cert.Mlp0.τ).loc Cert.Mlp0.main_arg1) = m ((c.tc : Thread Cert.Mlp0.nD Cert.Mlp0.τ).loc Cert.Mlp0.main_arg1)
      ∧ r.2.mem ((c.tc : Thread Cert.Mlp0.nD Cert.Mlp0.τ).loc Cert.Mlp0.main_arg2) = m ((c.tc : Thread Cert.Mlp0.nD Cert.Mlp0.τ).loc Cert.Mlp0.main_arg2)
      ∧ r.2.mem ((c.tc : Thread Cert.Mlp0.nD Cert.Mlp0.τ).loc Cert.Mlp0.main_arg3) = m ((c.tc : Thread Cert.Mlp0.nD Cert.Mlp0.τ).loc Cert.Mlp0.main_arg3)
      ∧ r.2.mem ((c.tc : Thread Cert.Mlp0.nD Cert.Mlp0.τ).loc Cert.Mlp0.main_arg4) = m ((c.tc : Thread Cert.Mlp0.nD Cert.Mlp0.τ).loc Cert.Mlp0.main_arg4)
      ∧ r.2.mem ((c.tc : Thread Cert.Mlp0.nD Cert.Mlp0.τ).loc Cert.Mlp0.main_arg5) = m ((c.tc : Thread Cert.Mlp0.nD Cert.Mlp0.τ).loc Cert.Mlp0.main_arg5))
      ∧ r.2.sem = fun _ => 0)

def quiescent_Mlp0Ideal [hMlp0Ideal : Cert.Mlp0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg), Pre_Mlp0Ideal m →
    θ_run (Cert.Mlp0Ideal.defs (F := Ideal)) (onTc (τ := Cert.Mlp0Ideal.τ) (Cert.Mlp0Ideal.main (F := Ideal))) ⟨m, fun _ => 0, g⟩ (fun r => (∀ c : Dev Cert.Mlp0Ideal.nD,
      r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
      ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
      ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
      ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
      ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
      ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5))
      ∧ r.2.sem = fun _ => 0)

def quiescent_Mlp0RefIdeal [hMlp0RefIdeal : Cert.Mlp0RefIdeal.Facts] : Prop :=
  ∀ (m : (ℓ : Loc Cert.Mlp0RefIdeal.nD Cert.Mlp0RefIdeal.τ Cert.Mlp0RefIdeal.sig) → Buf (Elt Ideal) ℓ) (g : Dev Cert.Mlp0RefIdeal.nD → PrngReg), Pre_Mlp0RefIdeal m →
    θ_run (Cert.Mlp0RefIdeal.defs (F := Ideal)) (onTc (τ := Cert.Mlp0RefIdeal.τ) (Cert.Mlp0RefIdeal.main (F := Ideal))) ⟨m, fun _ => 0, g⟩ (fun r => (∀ c : Dev Cert.Mlp0RefIdeal.nD,
      r.2.mem ((c.tc : Thread Cert.Mlp0RefIdeal.nD Cert.Mlp0RefIdeal.τ).loc Cert.Mlp0RefIdeal.main_arg0) = m ((c.tc : Thread Cert.Mlp0RefIdeal.nD Cert.Mlp0RefIdeal.τ).loc Cert.Mlp0RefIdeal.main_arg0)
      ∧ r.2.mem ((c.tc : Thread Cert.Mlp0RefIdeal.nD Cert.Mlp0RefIdeal.τ).loc Cert.Mlp0RefIdeal.main_arg1) = m ((c.tc : Thread Cert.Mlp0RefIdeal.nD Cert.Mlp0RefIdeal.τ).loc Cert.Mlp0RefIdeal.main_arg1)
      ∧ r.2.mem ((c.tc : Thread Cert.Mlp0RefIdeal.nD Cert.Mlp0RefIdeal.τ).loc Cert.Mlp0RefIdeal.main_arg2) = m ((c.tc : Thread Cert.Mlp0RefIdeal.nD Cert.Mlp0RefIdeal.τ).loc Cert.Mlp0RefIdeal.main_arg2)
      ∧ r.2.mem ((c.tc : Thread Cert.Mlp0RefIdeal.nD Cert.Mlp0RefIdeal.τ).loc Cert.Mlp0RefIdeal.main_arg3) = m ((c.tc : Thread Cert.Mlp0RefIdeal.nD Cert.Mlp0RefIdeal.τ).loc Cert.Mlp0RefIdeal.main_arg3)
      ∧ r.2.mem ((c.tc : Thread Cert.Mlp0RefIdeal.nD Cert.Mlp0RefIdeal.τ).loc Cert.Mlp0RefIdeal.main_arg4) = m ((c.tc : Thread Cert.Mlp0RefIdeal.nD Cert.Mlp0RefIdeal.τ).loc Cert.Mlp0RefIdeal.main_arg4)
      ∧ r.2.mem ((c.tc : Thread Cert.Mlp0RefIdeal.nD Cert.Mlp0RefIdeal.τ).loc Cert.Mlp0RefIdeal.main_arg5) = m ((c.tc : Thread Cert.Mlp0RefIdeal.nD Cert.Mlp0RefIdeal.τ).loc Cert.Mlp0RefIdeal.main_arg5))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2)
      ∧ r.2.mem ((c.tc : Thread Cert.Mlp1.nD Cert.Mlp1.τ).loc Cert.Mlp1.main_arg3) = m ((c.tc : Thread Cert.Mlp1.nD Cert.Mlp1.τ).loc Cert.Mlp1.main_arg3)
      ∧ r.2.mem ((c.tc : Thread Cert.Mlp1.nD Cert.Mlp1.τ).loc Cert.Mlp1.main_arg4) = m ((c.tc : Thread Cert.Mlp1.nD Cert.Mlp1.τ).loc Cert.Mlp1.main_arg4)
      ∧ r.2.mem ((c.tc : Thread Cert.Mlp1.nD Cert.Mlp1.τ).loc Cert.Mlp1.main_arg5) = m ((c.tc : Thread Cert.Mlp1.nD Cert.Mlp1.τ).loc Cert.Mlp1.main_arg5))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
      ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
      ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
      ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5))
      ∧ r.2.sem = fun _ => 0)

def quiescent_Mlp1RefIdeal [hMlp1RefIdeal : Cert.Mlp1RefIdeal.Facts] : Prop :=
  ∀ (m : (ℓ : Loc Cert.Mlp1RefIdeal.nD Cert.Mlp1RefIdeal.τ Cert.Mlp1RefIdeal.sig) → Buf (Elt Ideal) ℓ) (g : Dev Cert.Mlp1RefIdeal.nD → PrngReg), Pre_Mlp1RefIdeal m →
    θ_run (Cert.Mlp1RefIdeal.defs (F := Ideal)) (onTc (τ := Cert.Mlp1RefIdeal.τ) (Cert.Mlp1RefIdeal.main (F := Ideal))) ⟨m, fun _ => 0, g⟩ (fun r => (∀ c : Dev Cert.Mlp1RefIdeal.nD,
      r.2.mem ((c.tc : Thread Cert.Mlp1RefIdeal.nD Cert.Mlp1RefIdeal.τ).loc Cert.Mlp1RefIdeal.main_arg0) = m ((c.tc : Thread Cert.Mlp1RefIdeal.nD Cert.Mlp1RefIdeal.τ).loc Cert.Mlp1RefIdeal.main_arg0)
      ∧ r.2.mem ((c.tc : Thread Cert.Mlp1RefIdeal.nD Cert.Mlp1RefIdeal.τ).loc Cert.Mlp1RefIdeal.main_arg1) = m ((c.tc : Thread Cert.Mlp1RefIdeal.nD Cert.Mlp1RefIdeal.τ).loc Cert.Mlp1RefIdeal.main_arg1)
      ∧ r.2.mem ((c.tc : Thread Cert.Mlp1RefIdeal.nD Cert.Mlp1RefIdeal.τ).loc Cert.Mlp1RefIdeal.main_arg2) = m ((c.tc : Thread Cert.Mlp1RefIdeal.nD Cert.Mlp1RefIdeal.τ).loc Cert.Mlp1RefIdeal.main_arg2)
      ∧ r.2.mem ((c.tc : Thread Cert.Mlp1RefIdeal.nD Cert.Mlp1RefIdeal.τ).loc Cert.Mlp1RefIdeal.main_arg3) = m ((c.tc : Thread Cert.Mlp1RefIdeal.nD Cert.Mlp1RefIdeal.τ).loc Cert.Mlp1RefIdeal.main_arg3)
      ∧ r.2.mem ((c.tc : Thread Cert.Mlp1RefIdeal.nD Cert.Mlp1RefIdeal.τ).loc Cert.Mlp1RefIdeal.main_arg4) = m ((c.tc : Thread Cert.Mlp1RefIdeal.nD Cert.Mlp1RefIdeal.τ).loc Cert.Mlp1RefIdeal.main_arg4)
      ∧ r.2.mem ((c.tc : Thread Cert.Mlp1RefIdeal.nD Cert.Mlp1RefIdeal.τ).loc Cert.Mlp1RefIdeal.main_arg5) = m ((c.tc : Thread Cert.Mlp1RefIdeal.nD Cert.Mlp1RefIdeal.τ).loc Cert.Mlp1RefIdeal.main_arg5))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1)
      ∧ r.2.mem ((c.tc : Thread Cert.Mlp2.nD Cert.Mlp2.τ).loc Cert.Mlp2.main_arg2) = m ((c.tc : Thread Cert.Mlp2.nD Cert.Mlp2.τ).loc Cert.Mlp2.main_arg2)
      ∧ r.2.mem ((c.tc : Thread Cert.Mlp2.nD Cert.Mlp2.τ).loc Cert.Mlp2.main_arg3) = m ((c.tc : Thread Cert.Mlp2.nD Cert.Mlp2.τ).loc Cert.Mlp2.main_arg3)
      ∧ r.2.mem ((c.tc : Thread Cert.Mlp2.nD Cert.Mlp2.τ).loc Cert.Mlp2.main_arg4) = m ((c.tc : Thread Cert.Mlp2.nD Cert.Mlp2.τ).loc Cert.Mlp2.main_arg4)
      ∧ r.2.mem ((c.tc : Thread Cert.Mlp2.nD Cert.Mlp2.τ).loc Cert.Mlp2.main_arg5) = m ((c.tc : Thread Cert.Mlp2.nD Cert.Mlp2.τ).loc Cert.Mlp2.main_arg5))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
      ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
      ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
      ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4)
      ∧ r.2.mem ((c.tc : Thread Cert.Mlp2Ideal.nD Cert.Mlp2Ideal.τ).loc Cert.Mlp2Ideal.main_arg5) = m ((c.tc : Thread Cert.Mlp2Ideal.nD Cert.Mlp2Ideal.τ).loc Cert.Mlp2Ideal.main_arg5))
      ∧ r.2.sem = fun _ => 0)

def quiescent_Mlp2RefIdeal [hMlp2RefIdeal : Cert.Mlp2RefIdeal.Facts] : Prop :=
  ∀ (m : (ℓ : Loc Cert.Mlp2RefIdeal.nD Cert.Mlp2RefIdeal.τ Cert.Mlp2RefIdeal.sig) → Buf (Elt Ideal) ℓ) (g : Dev Cert.Mlp2RefIdeal.nD → PrngReg), Pre_Mlp2RefIdeal m →
    θ_run (Cert.Mlp2RefIdeal.defs (F := Ideal)) (onTc (τ := Cert.Mlp2RefIdeal.τ) (Cert.Mlp2RefIdeal.main (F := Ideal))) ⟨m, fun _ => 0, g⟩ (fun r => (∀ c : Dev Cert.Mlp2RefIdeal.nD,
      r.2.mem ((c.tc : Thread Cert.Mlp2RefIdeal.nD Cert.Mlp2RefIdeal.τ).loc Cert.Mlp2RefIdeal.main_arg0) = m ((c.tc : Thread Cert.Mlp2RefIdeal.nD Cert.Mlp2RefIdeal.τ).loc Cert.Mlp2RefIdeal.main_arg0)
      ∧ r.2.mem ((c.tc : Thread Cert.Mlp2RefIdeal.nD Cert.Mlp2RefIdeal.τ).loc Cert.Mlp2RefIdeal.main_arg1) = m ((c.tc : Thread Cert.Mlp2RefIdeal.nD Cert.Mlp2RefIdeal.τ).loc Cert.Mlp2RefIdeal.main_arg1)
      ∧ r.2.mem ((c.tc : Thread Cert.Mlp2RefIdeal.nD Cert.Mlp2RefIdeal.τ).loc Cert.Mlp2RefIdeal.main_arg2) = m ((c.tc : Thread Cert.Mlp2RefIdeal.nD Cert.Mlp2RefIdeal.τ).loc Cert.Mlp2RefIdeal.main_arg2)
      ∧ r.2.mem ((c.tc : Thread Cert.Mlp2RefIdeal.nD Cert.Mlp2RefIdeal.τ).loc Cert.Mlp2RefIdeal.main_arg3) = m ((c.tc : Thread Cert.Mlp2RefIdeal.nD Cert.Mlp2RefIdeal.τ).loc Cert.Mlp2RefIdeal.main_arg3)
      ∧ r.2.mem ((c.tc : Thread Cert.Mlp2RefIdeal.nD Cert.Mlp2RefIdeal.τ).loc Cert.Mlp2RefIdeal.main_arg4) = m ((c.tc : Thread Cert.Mlp2RefIdeal.nD Cert.Mlp2RefIdeal.τ).loc Cert.Mlp2RefIdeal.main_arg4)
      ∧ r.2.mem ((c.tc : Thread Cert.Mlp2RefIdeal.nD Cert.Mlp2RefIdeal.τ).loc Cert.Mlp2RefIdeal.main_arg5) = m ((c.tc : Thread Cert.Mlp2RefIdeal.nD Cert.Mlp2RefIdeal.τ).loc Cert.Mlp2RefIdeal.main_arg5))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1)
      ∧ r.2.mem ((c.tc : Thread Cert.SwaIn.nD Cert.SwaIn.τ).loc Cert.SwaIn.main_arg2) = m ((c.tc : Thread Cert.SwaIn.nD Cert.SwaIn.τ).loc Cert.SwaIn.main_arg2)
      ∧ r.2.mem ((c.tc : Thread Cert.SwaIn.nD Cert.SwaIn.τ).loc Cert.SwaIn.main_arg3) = m ((c.tc : Thread Cert.SwaIn.nD Cert.SwaIn.τ).loc Cert.SwaIn.main_arg3))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
      ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2)
      ∧ r.2.mem ((c.tc : Thread Cert.SwaInIdeal.nD Cert.SwaInIdeal.τ).loc Cert.SwaInIdeal.main_arg3) = m ((c.tc : Thread Cert.SwaInIdeal.nD Cert.SwaInIdeal.τ).loc Cert.SwaInIdeal.main_arg3))
      ∧ r.2.sem = fun _ => 0)

def quiescent_SwaInRefIdeal [hSwaInRefIdeal : Cert.SwaInRefIdeal.Facts] : Prop :=
  ∀ (m : (ℓ : Loc Cert.SwaInRefIdeal.nD Cert.SwaInRefIdeal.τ Cert.SwaInRefIdeal.sig) → Buf (Elt Ideal) ℓ) (g : Dev Cert.SwaInRefIdeal.nD → PrngReg), Pre_SwaInRefIdeal m →
    θ_run (Cert.SwaInRefIdeal.defs (F := Ideal)) (onTc (τ := Cert.SwaInRefIdeal.τ) (Cert.SwaInRefIdeal.main (F := Ideal))) ⟨m, fun _ => 0, g⟩ (fun r => (∀ c : Dev Cert.SwaInRefIdeal.nD,
      r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
      ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1)
      ∧ r.2.mem ((c.tc : Thread Cert.SwaInRefIdeal.nD Cert.SwaInRefIdeal.τ).loc Cert.SwaInRefIdeal.main_arg2) = m ((c.tc : Thread Cert.SwaInRefIdeal.nD Cert.SwaInRefIdeal.τ).loc Cert.SwaInRefIdeal.main_arg2)
      ∧ r.2.mem ((c.tc : Thread Cert.SwaInRefIdeal.nD Cert.SwaInRefIdeal.τ).loc Cert.SwaInRefIdeal.main_arg3) = m ((c.tc : Thread Cert.SwaInRefIdeal.nD Cert.SwaInRefIdeal.τ).loc Cert.SwaInRefIdeal.main_arg3))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1)
      ∧ r.2.mem ((c.tc : Thread Cert.RetIn.nD Cert.RetIn.τ).loc Cert.RetIn.main_arg2) = m ((c.tc : Thread Cert.RetIn.nD Cert.RetIn.τ).loc Cert.RetIn.main_arg2)
      ∧ r.2.mem ((c.tc : Thread Cert.RetIn.nD Cert.RetIn.τ).loc Cert.RetIn.main_arg3) = m ((c.tc : Thread Cert.RetIn.nD Cert.RetIn.τ).loc Cert.RetIn.main_arg3))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
      ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
      ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3))
      ∧ r.2.sem = fun _ => 0)

def quiescent_RetInRefIdeal [hRetInRefIdeal : Cert.RetInRefIdeal.Facts] : Prop :=
  ∀ (m : (ℓ : Loc Cert.RetInRefIdeal.nD Cert.RetInRefIdeal.τ Cert.RetInRefIdeal.sig) → Buf (Elt Ideal) ℓ) (g : Dev Cert.RetInRefIdeal.nD → PrngReg), Pre_RetInRefIdeal m →
    θ_run (Cert.RetInRefIdeal.defs (F := Ideal)) (onTc (τ := Cert.RetInRefIdeal.τ) (Cert.RetInRefIdeal.main (F := Ideal))) ⟨m, fun _ => 0, g⟩ (fun r => (∀ c : Dev Cert.RetInRefIdeal.nD,
      r.2.mem ((c.tc : Thread Cert.RetInRefIdeal.nD Cert.RetInRefIdeal.τ).loc Cert.RetInRefIdeal.main_arg0) = m ((c.tc : Thread Cert.RetInRefIdeal.nD Cert.RetInRefIdeal.τ).loc Cert.RetInRefIdeal.main_arg0)
      ∧ r.2.mem ((c.tc : Thread Cert.RetInRefIdeal.nD Cert.RetInRefIdeal.τ).loc Cert.RetInRefIdeal.main_arg1) = m ((c.tc : Thread Cert.RetInRefIdeal.nD Cert.RetInRefIdeal.τ).loc Cert.RetInRefIdeal.main_arg1)
      ∧ r.2.mem ((c.tc : Thread Cert.RetInRefIdeal.nD Cert.RetInRefIdeal.τ).loc Cert.RetInRefIdeal.main_arg2) = m ((c.tc : Thread Cert.RetInRefIdeal.nD Cert.RetInRefIdeal.τ).loc Cert.RetInRefIdeal.main_arg2)
      ∧ r.2.mem ((c.tc : Thread Cert.RetInRefIdeal.nD Cert.RetInRefIdeal.τ).loc Cert.RetInRefIdeal.main_arg3) = m ((c.tc : Thread Cert.RetInRefIdeal.nD Cert.RetInRefIdeal.τ).loc Cert.RetInRefIdeal.main_arg3))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1)
      ∧ r.2.mem ((c.tc : Thread Cert.GdnIn.nD Cert.GdnIn.τ).loc Cert.GdnIn.main_arg2) = m ((c.tc : Thread Cert.GdnIn.nD Cert.GdnIn.τ).loc Cert.GdnIn.main_arg2)
      ∧ r.2.mem ((c.tc : Thread Cert.GdnIn.nD Cert.GdnIn.τ).loc Cert.GdnIn.main_arg3) = m ((c.tc : Thread Cert.GdnIn.nD Cert.GdnIn.τ).loc Cert.GdnIn.main_arg3)
      ∧ r.2.mem ((c.tc : Thread Cert.GdnIn.nD Cert.GdnIn.τ).loc Cert.GdnIn.main_arg4) = m ((c.tc : Thread Cert.GdnIn.nD Cert.GdnIn.τ).loc Cert.GdnIn.main_arg4))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
      ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
      ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3)
      ∧ r.2.mem ((c.tc : Thread Cert.GdnInIdeal.nD Cert.GdnInIdeal.τ).loc Cert.GdnInIdeal.main_arg4) = m ((c.tc : Thread Cert.GdnInIdeal.nD Cert.GdnInIdeal.τ).loc Cert.GdnInIdeal.main_arg4))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1)
      ∧ r.2.mem ((c.tc : Thread Cert.GdnInRefIdeal.nD Cert.GdnInRefIdeal.τ).loc Cert.GdnInRefIdeal.main_arg2) = m ((c.tc : Thread Cert.GdnInRefIdeal.nD Cert.GdnInRefIdeal.τ).loc Cert.GdnInRefIdeal.main_arg2)
      ∧ r.2.mem ((c.tc : Thread Cert.GdnInRefIdeal.nD Cert.GdnInRefIdeal.τ).loc Cert.GdnInRefIdeal.main_arg3) = m ((c.tc : Thread Cert.GdnInRefIdeal.nD Cert.GdnInRefIdeal.τ).loc Cert.GdnInRefIdeal.main_arg3)
      ∧ r.2.mem ((c.tc : Thread Cert.GdnInRefIdeal.nD Cert.GdnInRefIdeal.τ).loc Cert.GdnInRefIdeal.main_arg4) = m ((c.tc : Thread Cert.GdnInRefIdeal.nD Cert.GdnInRefIdeal.τ).loc Cert.GdnInRefIdeal.main_arg4))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1)
      ∧ r.2.mem ((c.tc : Thread Cert.LruIn.nD Cert.LruIn.τ).loc Cert.LruIn.main_arg2) = m ((c.tc : Thread Cert.LruIn.nD Cert.LruIn.τ).loc Cert.LruIn.main_arg2)
      ∧ r.2.mem ((c.tc : Thread Cert.LruIn.nD Cert.LruIn.τ).loc Cert.LruIn.main_arg3) = m ((c.tc : Thread Cert.LruIn.nD Cert.LruIn.τ).loc Cert.LruIn.main_arg3))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1)
      ∧ r.2.mem ((c.tc : Thread Cert.LruInIdeal.nD Cert.LruInIdeal.τ).loc Cert.LruInIdeal.main_arg2) = m ((c.tc : Thread Cert.LruInIdeal.nD Cert.LruInIdeal.τ).loc Cert.LruInIdeal.main_arg2)
      ∧ r.2.mem ((c.tc : Thread Cert.LruInIdeal.nD Cert.LruInIdeal.τ).loc Cert.LruInIdeal.main_arg3) = m ((c.tc : Thread Cert.LruInIdeal.nD Cert.LruInIdeal.τ).loc Cert.LruInIdeal.main_arg3))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1)
      ∧ r.2.mem ((c.tc : Thread Cert.LruInRefIdeal.nD Cert.LruInRefIdeal.τ).loc Cert.LruInRefIdeal.main_arg2) = m ((c.tc : Thread Cert.LruInRefIdeal.nD Cert.LruInRefIdeal.τ).loc Cert.LruInRefIdeal.main_arg2)
      ∧ r.2.mem ((c.tc : Thread Cert.LruInRefIdeal.nD Cert.LruInRefIdeal.τ).loc Cert.LruInRefIdeal.main_arg3) = m ((c.tc : Thread Cert.LruInRefIdeal.nD Cert.LruInRefIdeal.τ).loc Cert.LruInRefIdeal.main_arg3))
      ∧ r.2.sem = fun _ => 0)

def quiescent_SwaOut [hSwaOut : Cert.SwaOut.Facts] : Prop :=
  ∀ (m : (ℓ : Loc Cert.SwaOut.nD Cert.SwaOut.τ Cert.SwaOut.sig) → Buf (Elt Bits) ℓ) (g : Dev Cert.SwaOut.nD → PrngReg), Pre_SwaOut m →
    θ_run (Cert.SwaOut.defs (F := Bits)) (onTc (τ := Cert.SwaOut.τ) (Cert.SwaOut.main (F := Bits))) ⟨m, fun _ => 0, g⟩ (fun r => (∀ c : Dev Cert.SwaOut.nD,
      r.2.mem ((c.tc : Thread Cert.SwaOut.nD Cert.SwaOut.τ).loc Cert.SwaOut.main_arg0) = m ((c.tc : Thread Cert.SwaOut.nD Cert.SwaOut.τ).loc Cert.SwaOut.main_arg0)
      ∧ r.2.mem ((c.tc : Thread Cert.SwaOut.nD Cert.SwaOut.τ).loc Cert.SwaOut.main_arg1) = m ((c.tc : Thread Cert.SwaOut.nD Cert.SwaOut.τ).loc Cert.SwaOut.main_arg1)
      ∧ r.2.mem ((c.tc : Thread Cert.SwaOut.nD Cert.SwaOut.τ).loc Cert.SwaOut.main_arg2) = m ((c.tc : Thread Cert.SwaOut.nD Cert.SwaOut.τ).loc Cert.SwaOut.main_arg2)
      ∧ r.2.mem ((c.tc : Thread Cert.SwaOut.nD Cert.SwaOut.τ).loc Cert.SwaOut.main_arg3) = m ((c.tc : Thread Cert.SwaOut.nD Cert.SwaOut.τ).loc Cert.SwaOut.main_arg3))
      ∧ r.2.sem = fun _ => 0)

def quiescent_SwaOutIdeal [hSwaOutIdeal : Cert.SwaOutIdeal.Facts] : Prop :=
  ∀ (m : (ℓ : Loc Cert.SwaOutIdeal.nD Cert.SwaOutIdeal.τ Cert.SwaOutIdeal.sig) → Buf (Elt Ideal) ℓ) (g : Dev Cert.SwaOutIdeal.nD → PrngReg), Pre_SwaOutIdeal m →
    θ_run (Cert.SwaOutIdeal.defs (F := Ideal)) (onTc (τ := Cert.SwaOutIdeal.τ) (Cert.SwaOutIdeal.main (F := Ideal))) ⟨m, fun _ => 0, g⟩ (fun r => (∀ c : Dev Cert.SwaOutIdeal.nD,
      r.2.mem ((c.tc : Thread Cert.SwaOutIdeal.nD Cert.SwaOutIdeal.τ).loc Cert.SwaOutIdeal.main_arg0) = m ((c.tc : Thread Cert.SwaOutIdeal.nD Cert.SwaOutIdeal.τ).loc Cert.SwaOutIdeal.main_arg0)
      ∧ r.2.mem ((c.tc : Thread Cert.SwaOutIdeal.nD Cert.SwaOutIdeal.τ).loc Cert.SwaOutIdeal.main_arg1) = m ((c.tc : Thread Cert.SwaOutIdeal.nD Cert.SwaOutIdeal.τ).loc Cert.SwaOutIdeal.main_arg1)
      ∧ r.2.mem ((c.tc : Thread Cert.SwaOutIdeal.nD Cert.SwaOutIdeal.τ).loc Cert.SwaOutIdeal.main_arg2) = m ((c.tc : Thread Cert.SwaOutIdeal.nD Cert.SwaOutIdeal.τ).loc Cert.SwaOutIdeal.main_arg2)
      ∧ r.2.mem ((c.tc : Thread Cert.SwaOutIdeal.nD Cert.SwaOutIdeal.τ).loc Cert.SwaOutIdeal.main_arg3) = m ((c.tc : Thread Cert.SwaOutIdeal.nD Cert.SwaOutIdeal.τ).loc Cert.SwaOutIdeal.main_arg3))
      ∧ r.2.sem = fun _ => 0)

def quiescent_SwaOutRefIdeal [hSwaOutRefIdeal : Cert.SwaOutRefIdeal.Facts] : Prop :=
  ∀ (m : (ℓ : Loc Cert.SwaOutRefIdeal.nD Cert.SwaOutRefIdeal.τ Cert.SwaOutRefIdeal.sig) → Buf (Elt Ideal) ℓ) (g : Dev Cert.SwaOutRefIdeal.nD → PrngReg), Pre_SwaOutRefIdeal m →
    θ_run (Cert.SwaOutRefIdeal.defs (F := Ideal)) (onTc (τ := Cert.SwaOutRefIdeal.τ) (Cert.SwaOutRefIdeal.main (F := Ideal))) ⟨m, fun _ => 0, g⟩ (fun r => (∀ c : Dev Cert.SwaOutRefIdeal.nD,
      r.2.mem ((c.tc : Thread Cert.SwaOutRefIdeal.nD Cert.SwaOutRefIdeal.τ).loc Cert.SwaOutRefIdeal.main_arg0) = m ((c.tc : Thread Cert.SwaOutRefIdeal.nD Cert.SwaOutRefIdeal.τ).loc Cert.SwaOutRefIdeal.main_arg0)
      ∧ r.2.mem ((c.tc : Thread Cert.SwaOutRefIdeal.nD Cert.SwaOutRefIdeal.τ).loc Cert.SwaOutRefIdeal.main_arg1) = m ((c.tc : Thread Cert.SwaOutRefIdeal.nD Cert.SwaOutRefIdeal.τ).loc Cert.SwaOutRefIdeal.main_arg1)
      ∧ r.2.mem ((c.tc : Thread Cert.SwaOutRefIdeal.nD Cert.SwaOutRefIdeal.τ).loc Cert.SwaOutRefIdeal.main_arg2) = m ((c.tc : Thread Cert.SwaOutRefIdeal.nD Cert.SwaOutRefIdeal.τ).loc Cert.SwaOutRefIdeal.main_arg2)
      ∧ r.2.mem ((c.tc : Thread Cert.SwaOutRefIdeal.nD Cert.SwaOutRefIdeal.τ).loc Cert.SwaOutRefIdeal.main_arg3) = m ((c.tc : Thread Cert.SwaOutRefIdeal.nD Cert.SwaOutRefIdeal.τ).loc Cert.SwaOutRefIdeal.main_arg3))
      ∧ r.2.sem = fun _ => 0)

def preserves_Swa_SwaIdeal : Prop :=
  IdealRules.named_const.Statement Cert.SwaIdeal.κ "qscale" .f32 0x3E38AA3B#32 (((8 * (Real.log 2))⁻¹ : ℝ) : EReal)
  ∧ IdealRules.named_const.Statement Cert.SwaIdeal.κ "log2e" .f32 0x3FB8AA3B#32 (((Real.log 2)⁻¹ : ℝ) : EReal)

def preserves_Mlp_MlpIdeal : Prop :=
  True

def preserves_Mlp0_Mlp0Ideal : Prop :=
  True

def preserves_Mlp1_Mlp1Ideal : Prop :=
  True

def preserves_Mlp2_Mlp2Ideal : Prop :=
  True

def preserves_SwaIn_SwaInIdeal : Prop :=
  True

def preserves_RetIn_RetInIdeal : Prop :=
  True

def preserves_GdnIn_GdnInIdeal : Prop :=
  True

def preserves_LruIn_LruInIdeal : Prop :=
  True

def preserves_SwaOut_SwaOutIdeal : Prop :=
  True

def algebraic_SwaIdeal_SwaRefIdeal [hSwaIdeal : Cert.SwaIdeal.Facts] [hSwaRefIdeal : Cert.SwaRefIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v45)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v45) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v188) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v57) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def algebraic_Mlp0Ideal_Mlp0RefIdeal [hMlp0Ideal : Cert.Mlp0Ideal.Facts] [hMlp0RefIdeal : Cert.Mlp0RefIdeal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg)
    (m' : (ℓ : Loc Cert.Mlp0RefIdeal.nD Cert.Mlp0RefIdeal.τ Cert.Mlp0RefIdeal.sig) → Buf (Elt Ideal) ℓ) (g' : Dev Cert.Mlp0RefIdeal.nD → PrngReg), Pre_Mlp0Ideal m →
    (∀ c : Dev Cert.Mlp0Ideal.nD,
      m' ((c.tc : Thread Cert.Mlp0RefIdeal.nD Cert.Mlp0RefIdeal.τ).loc Cert.Mlp0RefIdeal.main_arg0) = m ((c.tc : Thread Cert.Mlp0Ideal.nD Cert.Mlp0Ideal.τ).loc Cert.Mlp0Ideal.main_arg0)
      ∧ m' ((c.tc : Thread Cert.Mlp0RefIdeal.nD Cert.Mlp0RefIdeal.τ).loc Cert.Mlp0RefIdeal.main_arg1) = m ((c.tc : Thread Cert.Mlp0Ideal.nD Cert.Mlp0Ideal.τ).loc Cert.Mlp0Ideal.main_arg1)
      ∧ m' ((c.tc : Thread Cert.Mlp0RefIdeal.nD Cert.Mlp0RefIdeal.τ).loc Cert.Mlp0RefIdeal.main_arg2) = m ((c.tc : Thread Cert.Mlp0Ideal.nD Cert.Mlp0Ideal.τ).loc Cert.Mlp0Ideal.main_arg2)
      ∧ m' ((c.tc : Thread Cert.Mlp0RefIdeal.nD Cert.Mlp0RefIdeal.τ).loc Cert.Mlp0RefIdeal.main_arg3) = m ((c.tc : Thread Cert.Mlp0Ideal.nD Cert.Mlp0Ideal.τ).loc Cert.Mlp0Ideal.main_arg3)
      ∧ m' ((c.tc : Thread Cert.Mlp0RefIdeal.nD Cert.Mlp0RefIdeal.τ).loc Cert.Mlp0RefIdeal.main_arg4) = m ((c.tc : Thread Cert.Mlp0Ideal.nD Cert.Mlp0Ideal.τ).loc Cert.Mlp0Ideal.main_arg4)
      ∧ m' ((c.tc : Thread Cert.Mlp0RefIdeal.nD Cert.Mlp0RefIdeal.τ).loc Cert.Mlp0RefIdeal.main_arg5) = m ((c.tc : Thread Cert.Mlp0Ideal.nD Cert.Mlp0Ideal.τ).loc Cert.Mlp0Ideal.main_arg5)) →
    ∃ (v0 : (c : Dev Cert.Mlp0Ideal.nD) → Buf (Elt Ideal) ((c.tc : Thread Cert.Mlp0Ideal.nD Cert.Mlp0Ideal.τ).loc Cert.Mlp0Ideal.main_v2)),
      θ_run (Cert.Mlp0Ideal.defs (F := Ideal)) (onTc (τ := Cert.Mlp0Ideal.τ) (Cert.Mlp0Ideal.main (F := Ideal))) ⟨m, fun _ => 0, g⟩ (fun r => ∀ c : Dev Cert.Mlp0Ideal.nD,
          r.2.mem ((c.tc : Thread Cert.Mlp0Ideal.nD Cert.Mlp0Ideal.τ).loc Cert.Mlp0Ideal.main_v2) = v0 c
          ∧ r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
          ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
          ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
          ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
          ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
          ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5))
      ∧ θ_run (Cert.Mlp0RefIdeal.defs (F := Ideal)) (onTc (τ := Cert.Mlp0RefIdeal.τ) (Cert.Mlp0RefIdeal.main (F := Ideal))) ⟨m', fun _ => 0, g'⟩ (fun r => ∀ c : Dev Cert.Mlp0RefIdeal.nD,
          r.2.mem ((c.tc : Thread Cert.Mlp0RefIdeal.nD Cert.Mlp0RefIdeal.τ).loc Cert.Mlp0RefIdeal.main_v83) = v0 c
          ∧ r.2.mem ((c.tc : Thread Cert.Mlp0RefIdeal.nD Cert.Mlp0RefIdeal.τ).loc Cert.Mlp0RefIdeal.main_arg0) = m' ((c.tc : Thread Cert.Mlp0RefIdeal.nD Cert.Mlp0RefIdeal.τ).loc Cert.Mlp0RefIdeal.main_arg0)
          ∧ r.2.mem ((c.tc : Thread Cert.Mlp0RefIdeal.nD Cert.Mlp0RefIdeal.τ).loc Cert.Mlp0RefIdeal.main_arg1) = m' ((c.tc : Thread Cert.Mlp0RefIdeal.nD Cert.Mlp0RefIdeal.τ).loc Cert.Mlp0RefIdeal.main_arg1)
          ∧ r.2.mem ((c.tc : Thread Cert.Mlp0RefIdeal.nD Cert.Mlp0RefIdeal.τ).loc Cert.Mlp0RefIdeal.main_arg2) = m' ((c.tc : Thread Cert.Mlp0RefIdeal.nD Cert.Mlp0RefIdeal.τ).loc Cert.Mlp0RefIdeal.main_arg2)
          ∧ r.2.mem ((c.tc : Thread Cert.Mlp0RefIdeal.nD Cert.Mlp0RefIdeal.τ).loc Cert.Mlp0RefIdeal.main_arg3) = m' ((c.tc : Thread Cert.Mlp0RefIdeal.nD Cert.Mlp0RefIdeal.τ).loc Cert.Mlp0RefIdeal.main_arg3)
          ∧ r.2.mem ((c.tc : Thread Cert.Mlp0RefIdeal.nD Cert.Mlp0RefIdeal.τ).loc Cert.Mlp0RefIdeal.main_arg4) = m' ((c.tc : Thread Cert.Mlp0RefIdeal.nD Cert.Mlp0RefIdeal.τ).loc Cert.Mlp0RefIdeal.main_arg4)
          ∧ r.2.mem ((c.tc : Thread Cert.Mlp0RefIdeal.nD Cert.Mlp0RefIdeal.τ).loc Cert.Mlp0RefIdeal.main_arg5) = m' ((c.tc : Thread Cert.Mlp0RefIdeal.nD Cert.Mlp0RefIdeal.τ).loc Cert.Mlp0RefIdeal.main_arg5))

def algebraic_Mlp1Ideal_Mlp1RefIdeal [hMlp1Ideal : Cert.Mlp1Ideal.Facts] [hMlp1RefIdeal : Cert.Mlp1RefIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1RefIdeal.nD Cert.Mlp1RefIdeal.τ Cert.Mlp1RefIdeal.sig) → Buf (Elt Ideal) ℓ) (g' : Dev Cert.Mlp1RefIdeal.nD → PrngReg), Pre_Mlp1Ideal m →
    (∀ c : Dev Cert.Mlp1Ideal.nD,
      m' ((c.tc : Thread Cert.Mlp1RefIdeal.nD Cert.Mlp1RefIdeal.τ).loc Cert.Mlp1RefIdeal.main_arg0) = m ((c.tc : Thread Cert.Mlp1Ideal.nD Cert.Mlp1Ideal.τ).loc Cert.Mlp1Ideal.main_arg0)
      ∧ m' ((c.tc : Thread Cert.Mlp1RefIdeal.nD Cert.Mlp1RefIdeal.τ).loc Cert.Mlp1RefIdeal.main_arg1) = m ((c.tc : Thread Cert.Mlp1Ideal.nD Cert.Mlp1Ideal.τ).loc Cert.Mlp1Ideal.main_arg1)
      ∧ m' ((c.tc : Thread Cert.Mlp1RefIdeal.nD Cert.Mlp1RefIdeal.τ).loc Cert.Mlp1RefIdeal.main_arg2) = m ((c.tc : Thread Cert.Mlp1Ideal.nD Cert.Mlp1Ideal.τ).loc Cert.Mlp1Ideal.main_arg2)
      ∧ m' ((c.tc : Thread Cert.Mlp1RefIdeal.nD Cert.Mlp1RefIdeal.τ).loc Cert.Mlp1RefIdeal.main_arg3) = m ((c.tc : Thread Cert.Mlp1Ideal.nD Cert.Mlp1Ideal.τ).loc Cert.Mlp1Ideal.main_arg3)
      ∧ m' ((c.tc : Thread Cert.Mlp1RefIdeal.nD Cert.Mlp1RefIdeal.τ).loc Cert.Mlp1RefIdeal.main_arg4) = m ((c.tc : Thread Cert.Mlp1Ideal.nD Cert.Mlp1Ideal.τ).loc Cert.Mlp1Ideal.main_arg4)
      ∧ m' ((c.tc : Thread Cert.Mlp1RefIdeal.nD Cert.Mlp1RefIdeal.τ).loc Cert.Mlp1RefIdeal.main_arg5) = m ((c.tc : Thread Cert.Mlp1Ideal.nD Cert.Mlp1Ideal.τ).loc Cert.Mlp1Ideal.main_arg5)) →
    ∃ (v0 : (c : Dev Cert.Mlp1Ideal.nD) → Buf (Elt Ideal) ((c.tc : Thread Cert.Mlp1Ideal.nD Cert.Mlp1Ideal.τ).loc Cert.Mlp1Ideal.main_v2)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v2) = v0 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
          ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
          ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
          ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5))
      ∧ θ_run (Cert.Mlp1RefIdeal.defs (F := Ideal)) (onTc (τ := Cert.Mlp1RefIdeal.τ) (Cert.Mlp1RefIdeal.main (F := Ideal))) ⟨m', fun _ => 0, g'⟩ (fun r => ∀ c : Dev Cert.Mlp1RefIdeal.nD,
          r.2.mem ((c.tc : Thread Cert.Mlp1RefIdeal.nD Cert.Mlp1RefIdeal.τ).loc Cert.Mlp1RefIdeal.main_v83) = v0 c
          ∧ r.2.mem ((c.tc : Thread Cert.Mlp1RefIdeal.nD Cert.Mlp1RefIdeal.τ).loc Cert.Mlp1RefIdeal.main_arg0) = m' ((c.tc : Thread Cert.Mlp1RefIdeal.nD Cert.Mlp1RefIdeal.τ).loc Cert.Mlp1RefIdeal.main_arg0)
          ∧ r.2.mem ((c.tc : Thread Cert.Mlp1RefIdeal.nD Cert.Mlp1RefIdeal.τ).loc Cert.Mlp1RefIdeal.main_arg1) = m' ((c.tc : Thread Cert.Mlp1RefIdeal.nD Cert.Mlp1RefIdeal.τ).loc Cert.Mlp1RefIdeal.main_arg1)
          ∧ r.2.mem ((c.tc : Thread Cert.Mlp1RefIdeal.nD Cert.Mlp1RefIdeal.τ).loc Cert.Mlp1RefIdeal.main_arg2) = m' ((c.tc : Thread Cert.Mlp1RefIdeal.nD Cert.Mlp1RefIdeal.τ).loc Cert.Mlp1RefIdeal.main_arg2)
          ∧ r.2.mem ((c.tc : Thread Cert.Mlp1RefIdeal.nD Cert.Mlp1RefIdeal.τ).loc Cert.Mlp1RefIdeal.main_arg3) = m' ((c.tc : Thread Cert.Mlp1RefIdeal.nD Cert.Mlp1RefIdeal.τ).loc Cert.Mlp1RefIdeal.main_arg3)
          ∧ r.2.mem ((c.tc : Thread Cert.Mlp1RefIdeal.nD Cert.Mlp1RefIdeal.τ).loc Cert.Mlp1RefIdeal.main_arg4) = m' ((c.tc : Thread Cert.Mlp1RefIdeal.nD Cert.Mlp1RefIdeal.τ).loc Cert.Mlp1RefIdeal.main_arg4)
          ∧ r.2.mem ((c.tc : Thread Cert.Mlp1RefIdeal.nD Cert.Mlp1RefIdeal.τ).loc Cert.Mlp1RefIdeal.main_arg5) = m' ((c.tc : Thread Cert.Mlp1RefIdeal.nD Cert.Mlp1RefIdeal.τ).loc Cert.Mlp1RefIdeal.main_arg5))

def algebraic_Mlp2Ideal_Mlp2RefIdeal [hMlp2Ideal : Cert.Mlp2Ideal.Facts] [hMlp2RefIdeal : Cert.Mlp2RefIdeal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.Mlp2RefIdeal.nD Cert.Mlp2RefIdeal.τ Cert.Mlp2RefIdeal.sig) → Buf (Elt Ideal) ℓ) (g' : Dev Cert.Mlp2RefIdeal.nD → PrngReg), Pre_Mlp2Ideal m →
    (∀ c : Dev Cert.Mlp2Ideal.nD,
      m' ((c.tc : Thread Cert.Mlp2RefIdeal.nD Cert.Mlp2RefIdeal.τ).loc Cert.Mlp2RefIdeal.main_arg0) = m ((c.tc : Thread Cert.Mlp2Ideal.nD Cert.Mlp2Ideal.τ).loc Cert.Mlp2Ideal.main_arg0)
      ∧ m' ((c.tc : Thread Cert.Mlp2RefIdeal.nD Cert.Mlp2RefIdeal.τ).loc Cert.Mlp2RefIdeal.main_arg1) = m ((c.tc : Thread Cert.Mlp2Ideal.nD Cert.Mlp2Ideal.τ).loc Cert.Mlp2Ideal.main_arg1)
      ∧ m' ((c.tc : Thread Cert.Mlp2RefIdeal.nD Cert.Mlp2RefIdeal.τ).loc Cert.Mlp2RefIdeal.main_arg2) = m ((c.tc : Thread Cert.Mlp2Ideal.nD Cert.Mlp2Ideal.τ).loc Cert.Mlp2Ideal.main_arg2)
      ∧ m' ((c.tc : Thread Cert.Mlp2RefIdeal.nD Cert.Mlp2RefIdeal.τ).loc Cert.Mlp2RefIdeal.main_arg3) = m ((c.tc : Thread Cert.Mlp2Ideal.nD Cert.Mlp2Ideal.τ).loc Cert.Mlp2Ideal.main_arg3)
      ∧ m' ((c.tc : Thread Cert.Mlp2RefIdeal.nD Cert.Mlp2RefIdeal.τ).loc Cert.Mlp2RefIdeal.main_arg4) = m ((c.tc : Thread Cert.Mlp2Ideal.nD Cert.Mlp2Ideal.τ).loc Cert.Mlp2Ideal.main_arg4)
      ∧ m' ((c.tc : Thread Cert.Mlp2RefIdeal.nD Cert.Mlp2RefIdeal.τ).loc Cert.Mlp2RefIdeal.main_arg5) = m ((c.tc : Thread Cert.Mlp2Ideal.nD Cert.Mlp2Ideal.τ).loc Cert.Mlp2Ideal.main_arg5)) →
    ∃ (v0 : (c : Dev Cert.Mlp2Ideal.nD) → Buf (Elt Ideal) ((c.tc : Thread Cert.Mlp2Ideal.nD Cert.Mlp2Ideal.τ).loc Cert.Mlp2Ideal.main_v2)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v2) = v0 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
          ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
          ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
          ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4)
          ∧ r.2.mem ((c.tc : Thread Cert.Mlp2Ideal.nD Cert.Mlp2Ideal.τ).loc Cert.Mlp2Ideal.main_arg5) = m ((c.tc : Thread Cert.Mlp2Ideal.nD Cert.Mlp2Ideal.τ).loc Cert.Mlp2Ideal.main_arg5))
      ∧ θ_run (Cert.Mlp2RefIdeal.defs (F := Ideal)) (onTc (τ := Cert.Mlp2RefIdeal.τ) (Cert.Mlp2RefIdeal.main (F := Ideal))) ⟨m', fun _ => 0, g'⟩ (fun r => ∀ c : Dev Cert.Mlp2RefIdeal.nD,
          r.2.mem ((c.tc : Thread Cert.Mlp2RefIdeal.nD Cert.Mlp2RefIdeal.τ).loc Cert.Mlp2RefIdeal.main_v83) = v0 c
          ∧ r.2.mem ((c.tc : Thread Cert.Mlp2RefIdeal.nD Cert.Mlp2RefIdeal.τ).loc Cert.Mlp2RefIdeal.main_arg0) = m' ((c.tc : Thread Cert.Mlp2RefIdeal.nD Cert.Mlp2RefIdeal.τ).loc Cert.Mlp2RefIdeal.main_arg0)
          ∧ r.2.mem ((c.tc : Thread Cert.Mlp2RefIdeal.nD Cert.Mlp2RefIdeal.τ).loc Cert.Mlp2RefIdeal.main_arg1) = m' ((c.tc : Thread Cert.Mlp2RefIdeal.nD Cert.Mlp2RefIdeal.τ).loc Cert.Mlp2RefIdeal.main_arg1)
          ∧ r.2.mem ((c.tc : Thread Cert.Mlp2RefIdeal.nD Cert.Mlp2RefIdeal.τ).loc Cert.Mlp2RefIdeal.main_arg2) = m' ((c.tc : Thread Cert.Mlp2RefIdeal.nD Cert.Mlp2RefIdeal.τ).loc Cert.Mlp2RefIdeal.main_arg2)
          ∧ r.2.mem ((c.tc : Thread Cert.Mlp2RefIdeal.nD Cert.Mlp2RefIdeal.τ).loc Cert.Mlp2RefIdeal.main_arg3) = m' ((c.tc : Thread Cert.Mlp2RefIdeal.nD Cert.Mlp2RefIdeal.τ).loc Cert.Mlp2RefIdeal.main_arg3)
          ∧ r.2.mem ((c.tc : Thread Cert.Mlp2RefIdeal.nD Cert.Mlp2RefIdeal.τ).loc Cert.Mlp2RefIdeal.main_arg4) = m' ((c.tc : Thread Cert.Mlp2RefIdeal.nD Cert.Mlp2RefIdeal.τ).loc Cert.Mlp2RefIdeal.main_arg4)
          ∧ r.2.mem ((c.tc : Thread Cert.Mlp2RefIdeal.nD Cert.Mlp2RefIdeal.τ).loc Cert.Mlp2RefIdeal.main_arg5) = m' ((c.tc : Thread Cert.Mlp2RefIdeal.nD Cert.Mlp2RefIdeal.τ).loc Cert.Mlp2RefIdeal.main_arg5))

def algebraic_SwaInIdeal_SwaInRefIdeal [hSwaInIdeal : Cert.SwaInIdeal.Facts] [hSwaInRefIdeal : Cert.SwaInRefIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInRefIdeal.nD Cert.SwaInRefIdeal.τ Cert.SwaInRefIdeal.sig) → Buf (Elt Ideal) ℓ) (g' : Dev Cert.SwaInRefIdeal.nD → PrngReg), Pre_SwaInIdeal m →
    (∀ c : Dev Cert.SwaInIdeal.nD,
      m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)
      ∧ m' ((c.tc : Thread Cert.SwaInRefIdeal.nD Cert.SwaInRefIdeal.τ).loc Cert.SwaInRefIdeal.main_arg2) = m ((c.tc : Thread Cert.SwaInIdeal.nD Cert.SwaInIdeal.τ).loc Cert.SwaInIdeal.main_arg2)
      ∧ m' ((c.tc : Thread Cert.SwaInRefIdeal.nD Cert.SwaInRefIdeal.τ).loc Cert.SwaInRefIdeal.main_arg3) = m ((c.tc : Thread Cert.SwaInIdeal.nD Cert.SwaInIdeal.τ).loc Cert.SwaInIdeal.main_arg3)) →
    ∃ (v0 : (c : Dev Cert.SwaInIdeal.nD) → Buf (Elt Ideal) ((c.tc : Thread Cert.SwaInIdeal.nD Cert.SwaInIdeal.τ).loc Cert.SwaInIdeal.main_v2)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v2) = v0 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
          ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2)
          ∧ r.2.mem ((c.tc : Thread Cert.SwaInIdeal.nD Cert.SwaInIdeal.τ).loc Cert.SwaInIdeal.main_arg3) = m ((c.tc : Thread Cert.SwaInIdeal.nD Cert.SwaInIdeal.τ).loc Cert.SwaInIdeal.main_arg3))
      ∧ θ_run (Cert.SwaInRefIdeal.defs (F := Ideal)) (onTc (τ := Cert.SwaInRefIdeal.τ) (Cert.SwaInRefIdeal.main (F := Ideal))) ⟨m', fun _ => 0, g'⟩ (fun r => ∀ c : Dev Cert.SwaInRefIdeal.nD,
          r.2.mem ((c.tc : Thread Cert.SwaInRefIdeal.nD Cert.SwaInRefIdeal.τ).loc Cert.SwaInRefIdeal.main_v59) = v0 c
          ∧ r.2.mem ((c.tc : Thread Cert.SwaInRefIdeal.nD Cert.SwaInRefIdeal.τ).loc Cert.SwaInRefIdeal.main_arg0) = m' ((c.tc : Thread Cert.SwaInRefIdeal.nD Cert.SwaInRefIdeal.τ).loc Cert.SwaInRefIdeal.main_arg0)
          ∧ r.2.mem ((c.tc : Thread Cert.SwaInRefIdeal.nD Cert.SwaInRefIdeal.τ).loc Cert.SwaInRefIdeal.main_arg1) = m' ((c.tc : Thread Cert.SwaInRefIdeal.nD Cert.SwaInRefIdeal.τ).loc Cert.SwaInRefIdeal.main_arg1)
          ∧ r.2.mem ((c.tc : Thread Cert.SwaInRefIdeal.nD Cert.SwaInRefIdeal.τ).loc Cert.SwaInRefIdeal.main_arg2) = m' ((c.tc : Thread Cert.SwaInRefIdeal.nD Cert.SwaInRefIdeal.τ).loc Cert.SwaInRefIdeal.main_arg2)
          ∧ r.2.mem ((c.tc : Thread Cert.SwaInRefIdeal.nD Cert.SwaInRefIdeal.τ).loc Cert.SwaInRefIdeal.main_arg3) = m' ((c.tc : Thread Cert.SwaInRefIdeal.nD Cert.SwaInRefIdeal.τ).loc Cert.SwaInRefIdeal.main_arg3))

def algebraic_RetInIdeal_RetInRefIdeal [hRetInIdeal : Cert.RetInIdeal.Facts] [hRetInRefIdeal : Cert.RetInRefIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInRefIdeal.nD Cert.RetInRefIdeal.τ Cert.RetInRefIdeal.sig) → Buf (Elt Ideal) ℓ) (g' : Dev Cert.RetInRefIdeal.nD → PrngReg), Pre_RetInIdeal m →
    (∀ c : Dev Cert.RetInIdeal.nD,
      m' ((c.tc : Thread Cert.RetInRefIdeal.nD Cert.RetInRefIdeal.τ).loc Cert.RetInRefIdeal.main_arg0) = m ((c.tc : Thread Cert.RetInIdeal.nD Cert.RetInIdeal.τ).loc Cert.RetInIdeal.main_arg0)
      ∧ m' ((c.tc : Thread Cert.RetInRefIdeal.nD Cert.RetInRefIdeal.τ).loc Cert.RetInRefIdeal.main_arg1) = m ((c.tc : Thread Cert.RetInIdeal.nD Cert.RetInIdeal.τ).loc Cert.RetInIdeal.main_arg1)
      ∧ m' ((c.tc : Thread Cert.RetInRefIdeal.nD Cert.RetInRefIdeal.τ).loc Cert.RetInRefIdeal.main_arg2) = m ((c.tc : Thread Cert.RetInIdeal.nD Cert.RetInIdeal.τ).loc Cert.RetInIdeal.main_arg2)
      ∧ m' ((c.tc : Thread Cert.RetInRefIdeal.nD Cert.RetInRefIdeal.τ).loc Cert.RetInRefIdeal.main_arg3) = m ((c.tc : Thread Cert.RetInIdeal.nD Cert.RetInIdeal.τ).loc Cert.RetInIdeal.main_arg3)) →
    ∃ (v0 : (c : Dev Cert.RetInIdeal.nD) → Buf (Elt Ideal) ((c.tc : Thread Cert.RetInIdeal.nD Cert.RetInIdeal.τ).loc Cert.RetInIdeal.main_v2)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v2) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
          ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
          ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3))
      ∧ θ_run (Cert.RetInRefIdeal.defs (F := Ideal)) (onTc (τ := Cert.RetInRefIdeal.τ) (Cert.RetInRefIdeal.main (F := Ideal))) ⟨m', fun _ => 0, g'⟩ (fun r => ∀ c : Dev Cert.RetInRefIdeal.nD,
          r.2.mem ((c.tc : Thread Cert.RetInRefIdeal.nD Cert.RetInRefIdeal.τ).loc Cert.RetInRefIdeal.main_v59) = v0 c
          ∧ r.2.mem ((c.tc : Thread Cert.RetInRefIdeal.nD Cert.RetInRefIdeal.τ).loc Cert.RetInRefIdeal.main_arg0) = m' ((c.tc : Thread Cert.RetInRefIdeal.nD Cert.RetInRefIdeal.τ).loc Cert.RetInRefIdeal.main_arg0)
          ∧ r.2.mem ((c.tc : Thread Cert.RetInRefIdeal.nD Cert.RetInRefIdeal.τ).loc Cert.RetInRefIdeal.main_arg1) = m' ((c.tc : Thread Cert.RetInRefIdeal.nD Cert.RetInRefIdeal.τ).loc Cert.RetInRefIdeal.main_arg1)
          ∧ r.2.mem ((c.tc : Thread Cert.RetInRefIdeal.nD Cert.RetInRefIdeal.τ).loc Cert.RetInRefIdeal.main_arg2) = m' ((c.tc : Thread Cert.RetInRefIdeal.nD Cert.RetInRefIdeal.τ).loc Cert.RetInRefIdeal.main_arg2)
          ∧ r.2.mem ((c.tc : Thread Cert.RetInRefIdeal.nD Cert.RetInRefIdeal.τ).loc Cert.RetInRefIdeal.main_arg3) = m' ((c.tc : Thread Cert.RetInRefIdeal.nD Cert.RetInRefIdeal.τ).loc Cert.RetInRefIdeal.main_arg3))

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)
      ∧ m' ((c.tc : Thread Cert.GdnInRefIdeal.nD Cert.GdnInRefIdeal.τ).loc Cert.GdnInRefIdeal.main_arg2) = m ((c.tc : Thread Cert.GdnInIdeal.nD Cert.GdnInIdeal.τ).loc Cert.GdnInIdeal.main_arg2)
      ∧ m' ((c.tc : Thread Cert.GdnInRefIdeal.nD Cert.GdnInRefIdeal.τ).loc Cert.GdnInRefIdeal.main_arg3) = m ((c.tc : Thread Cert.GdnInIdeal.nD Cert.GdnInIdeal.τ).loc Cert.GdnInIdeal.main_arg3)
      ∧ m' ((c.tc : Thread Cert.GdnInRefIdeal.nD Cert.GdnInRefIdeal.τ).loc Cert.GdnInRefIdeal.main_arg4) = m ((c.tc : Thread Cert.GdnInIdeal.nD Cert.GdnInIdeal.τ).loc Cert.GdnInIdeal.main_arg4)) →
    ∃ (v0 : (c : Dev Cert.GdnInIdeal.nD) → Buf (Elt Ideal) ((c.tc : Thread Cert.GdnInIdeal.nD Cert.GdnInIdeal.τ).loc Cert.GdnInIdeal.main_v5_0)) (v1 : (c : Dev Cert.GdnInIdeal.nD) → Buf (Elt Ideal) ((c.tc : Thread Cert.GdnInIdeal.nD Cert.GdnInIdeal.τ).loc Cert.GdnInIdeal.main_v5_1)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v5_0) = v0 c
          ∧ r.2.mem ((c.tc : Thread Cert.GdnInIdeal.nD Cert.GdnInIdeal.τ).loc Cert.GdnInIdeal.main_v5_1) = v1 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
          ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
          ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3)
          ∧ r.2.mem ((c.tc : Thread Cert.GdnInIdeal.nD Cert.GdnInIdeal.τ).loc Cert.GdnInIdeal.main_arg4) = m ((c.tc : Thread Cert.GdnInIdeal.nD Cert.GdnInIdeal.τ).loc Cert.GdnInIdeal.main_arg4))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v58) = v0 c
          ∧ r.2.mem ((c.tc : Thread Cert.GdnInRefIdeal.nD Cert.GdnInRefIdeal.τ).loc Cert.GdnInRefIdeal.main_v60) = v1 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1)
          ∧ r.2.mem ((c.tc : Thread Cert.GdnInRefIdeal.nD Cert.GdnInRefIdeal.τ).loc Cert.GdnInRefIdeal.main_arg2) = m' ((c.tc : Thread Cert.GdnInRefIdeal.nD Cert.GdnInRefIdeal.τ).loc Cert.GdnInRefIdeal.main_arg2)
          ∧ r.2.mem ((c.tc : Thread Cert.GdnInRefIdeal.nD Cert.GdnInRefIdeal.τ).loc Cert.GdnInRefIdeal.main_arg3) = m' ((c.tc : Thread Cert.GdnInRefIdeal.nD Cert.GdnInRefIdeal.τ).loc Cert.GdnInRefIdeal.main_arg3)
          ∧ r.2.mem ((c.tc : Thread Cert.GdnInRefIdeal.nD Cert.GdnInRefIdeal.τ).loc Cert.GdnInRefIdeal.main_arg4) = m' ((c.tc : Thread Cert.GdnInRefIdeal.nD Cert.GdnInRefIdeal.τ).loc Cert.GdnInRefIdeal.main_arg4))

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)
      ∧ m' ((c.tc : Thread Cert.LruInRefIdeal.nD Cert.LruInRefIdeal.τ).loc Cert.LruInRefIdeal.main_arg2) = m ((c.tc : Thread Cert.LruInIdeal.nD Cert.LruInIdeal.τ).loc Cert.LruInIdeal.main_arg2)
      ∧ m' ((c.tc : Thread Cert.LruInRefIdeal.nD Cert.LruInRefIdeal.τ).loc Cert.LruInRefIdeal.main_arg3) = m ((c.tc : Thread Cert.LruInIdeal.nD Cert.LruInIdeal.τ).loc Cert.LruInIdeal.main_arg3)) →
    ∃ (v0 : (c : Dev Cert.LruInIdeal.nD) → Buf (Elt Ideal) ((c.tc : Thread Cert.LruInIdeal.nD Cert.LruInIdeal.τ).loc Cert.LruInIdeal.main_v2)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v2) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1)
          ∧ r.2.mem ((c.tc : Thread Cert.LruInIdeal.nD Cert.LruInIdeal.τ).loc Cert.LruInIdeal.main_arg2) = m ((c.tc : Thread Cert.LruInIdeal.nD Cert.LruInIdeal.τ).loc Cert.LruInIdeal.main_arg2)
          ∧ r.2.mem ((c.tc : Thread Cert.LruInIdeal.nD Cert.LruInIdeal.τ).loc Cert.LruInIdeal.main_arg3) = m ((c.tc : Thread Cert.LruInIdeal.nD Cert.LruInIdeal.τ).loc Cert.LruInIdeal.main_arg3))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v59) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1)
          ∧ r.2.mem ((c.tc : Thread Cert.LruInRefIdeal.nD Cert.LruInRefIdeal.τ).loc Cert.LruInRefIdeal.main_arg2) = m' ((c.tc : Thread Cert.LruInRefIdeal.nD Cert.LruInRefIdeal.τ).loc Cert.LruInRefIdeal.main_arg2)
          ∧ r.2.mem ((c.tc : Thread Cert.LruInRefIdeal.nD Cert.LruInRefIdeal.τ).loc Cert.LruInRefIdeal.main_arg3) = m' ((c.tc : Thread Cert.LruInRefIdeal.nD Cert.LruInRefIdeal.τ).loc Cert.LruInRefIdeal.main_arg3))

def algebraic_SwaOutIdeal_SwaOutRefIdeal [hSwaOutIdeal : Cert.SwaOutIdeal.Facts] [hSwaOutRefIdeal : Cert.SwaOutRefIdeal.Facts] : Prop :=
  ∀ (m : (ℓ : Loc Cert.SwaOutIdeal.nD Cert.SwaOutIdeal.τ Cert.SwaOutIdeal.sig) → Buf (Elt Ideal) ℓ) (g : Dev Cert.SwaOutIdeal.nD → PrngReg)
    (m' : (ℓ : Loc Cert.SwaOutRefIdeal.nD Cert.SwaOutRefIdeal.τ Cert.SwaOutRefIdeal.sig) → Buf (Elt Ideal) ℓ) (g' : Dev Cert.SwaOutRefIdeal.nD → PrngReg), Pre_SwaOutIdeal m →
    (∀ c : Dev Cert.SwaOutIdeal.nD,
      m' ((c.tc : Thread Cert.SwaOutRefIdeal.nD Cert.SwaOutRefIdeal.τ).loc Cert.SwaOutRefIdeal.main_arg0) = m ((c.tc : Thread Cert.SwaOutIdeal.nD Cert.SwaOutIdeal.τ).loc Cert.SwaOutIdeal.main_arg0)
      ∧ m' ((c.tc : Thread Cert.SwaOutRefIdeal.nD Cert.SwaOutRefIdeal.τ).loc Cert.SwaOutRefIdeal.main_arg1) = m ((c.tc : Thread Cert.SwaOutIdeal.nD Cert.SwaOutIdeal.τ).loc Cert.SwaOutIdeal.main_arg1)
      ∧ m' ((c.tc : Thread Cert.SwaOutRefIdeal.nD Cert.SwaOutRefIdeal.τ).loc Cert.SwaOutRefIdeal.main_arg2) = m ((c.tc : Thread Cert.SwaOutIdeal.nD Cert.SwaOutIdeal.τ).loc Cert.SwaOutIdeal.main_arg2)
      ∧ m' ((c.tc : Thread Cert.SwaOutRefIdeal.nD Cert.SwaOutRefIdeal.τ).loc Cert.SwaOutRefIdeal.main_arg3) = m ((c.tc : Thread Cert.SwaOutIdeal.nD Cert.SwaOutIdeal.τ).loc Cert.SwaOutIdeal.main_arg3)) →
    ∃ (v0 : (c : Dev Cert.SwaOutIdeal.nD) → Buf (Elt Ideal) ((c.tc : Thread Cert.SwaOutIdeal.nD Cert.SwaOutIdeal.τ).loc Cert.SwaOutIdeal.main_v1)),
      θ_run (Cert.SwaOutIdeal.defs (F := Ideal)) (onTc (τ := Cert.SwaOutIdeal.τ) (Cert.SwaOutIdeal.main (F := Ideal))) ⟨m, fun _ => 0, g⟩ (fun r => ∀ c : Dev Cert.SwaOutIdeal.nD,
          r.2.mem ((c.tc : Thread Cert.SwaOutIdeal.nD Cert.SwaOutIdeal.τ).loc Cert.SwaOutIdeal.main_v1) = v0 c
          ∧ r.2.mem ((c.tc : Thread Cert.SwaOutIdeal.nD Cert.SwaOutIdeal.τ).loc Cert.SwaOutIdeal.main_arg0) = m ((c.tc : Thread Cert.SwaOutIdeal.nD Cert.SwaOutIdeal.τ).loc Cert.SwaOutIdeal.main_arg0)
          ∧ r.2.mem ((c.tc : Thread Cert.SwaOutIdeal.nD Cert.SwaOutIdeal.τ).loc Cert.SwaOutIdeal.main_arg1) = m ((c.tc : Thread Cert.SwaOutIdeal.nD Cert.SwaOutIdeal.τ).loc Cert.SwaOutIdeal.main_arg1)
          ∧ r.2.mem ((c.tc : Thread Cert.SwaOutIdeal.nD Cert.SwaOutIdeal.τ).loc Cert.SwaOutIdeal.main_arg2) = m ((c.tc : Thread Cert.SwaOutIdeal.nD Cert.SwaOutIdeal.τ).loc Cert.SwaOutIdeal.main_arg2)
          ∧ r.2.mem ((c.tc : Thread Cert.SwaOutIdeal.nD Cert.SwaOutIdeal.τ).loc Cert.SwaOutIdeal.main_arg3) = m ((c.tc : Thread Cert.SwaOutIdeal.nD Cert.SwaOutIdeal.τ).loc Cert.SwaOutIdeal.main_arg3))
      ∧ θ_run (Cert.SwaOutRefIdeal.defs (F := Ideal)) (onTc (τ := Cert.SwaOutRefIdeal.τ) (Cert.SwaOutRefIdeal.main (F := Ideal))) ⟨m', fun _ => 0, g'⟩ (fun r => ∀ c : Dev Cert.SwaOutRefIdeal.nD,
          r.2.mem ((c.tc : Thread Cert.SwaOutRefIdeal.nD Cert.SwaOutRefIdeal.τ).loc Cert.SwaOutRefIdeal.main_v11) = v0 c
          ∧ r.2.mem ((c.tc : Thread Cert.SwaOutRefIdeal.nD Cert.SwaOutRefIdeal.τ).loc Cert.SwaOutRefIdeal.main_arg0) = m' ((c.tc : Thread Cert.SwaOutRefIdeal.nD Cert.SwaOutRefIdeal.τ).loc Cert.SwaOutRefIdeal.main_arg0)
          ∧ r.2.mem ((c.tc : Thread Cert.SwaOutRefIdeal.nD Cert.SwaOutRefIdeal.τ).loc Cert.SwaOutRefIdeal.main_arg1) = m' ((c.tc : Thread Cert.SwaOutRefIdeal.nD Cert.SwaOutRefIdeal.τ).loc Cert.SwaOutRefIdeal.main_arg1)
          ∧ r.2.mem ((c.tc : Thread Cert.SwaOutRefIdeal.nD Cert.SwaOutRefIdeal.τ).loc Cert.SwaOutRefIdeal.main_arg2) = m' ((c.tc : Thread Cert.SwaOutRefIdeal.nD Cert.SwaOutRefIdeal.τ).loc Cert.SwaOutRefIdeal.main_arg2)
          ∧ r.2.mem ((c.tc : Thread Cert.SwaOutRefIdeal.nD Cert.SwaOutRefIdeal.τ).loc Cert.SwaOutRefIdeal.main_arg3) = m' ((c.tc : Thread Cert.SwaOutRefIdeal.nD Cert.SwaOutRefIdeal.τ).loc Cert.SwaOutRefIdeal.main_arg3))

def Claim : Prop :=
  ∃ (hSwa : Cert.Swa.Facts) (hSwaIdeal : Cert.SwaIdeal.Facts) (hSwaRefIdeal : Cert.SwaRefIdeal.Facts) (hMlp : Cert.Mlp.Facts) (hMlpIdeal : Cert.MlpIdeal.Facts) (hMlpRefIdeal : Cert.MlpRefIdeal.Facts) (hMlp0 : Cert.Mlp0.Facts) (hMlp0Ideal : Cert.Mlp0Ideal.Facts) (hMlp0RefIdeal : Cert.Mlp0RefIdeal.Facts) (hMlp1 : Cert.Mlp1.Facts) (hMlp1Ideal : Cert.Mlp1Ideal.Facts) (hMlp1RefIdeal : Cert.Mlp1RefIdeal.Facts) (hMlp2 : Cert.Mlp2.Facts) (hMlp2Ideal : Cert.Mlp2Ideal.Facts) (hMlp2RefIdeal : Cert.Mlp2RefIdeal.Facts) (hSwaIn : Cert.SwaIn.Facts) (hSwaInIdeal : Cert.SwaInIdeal.Facts) (hSwaInRefIdeal : Cert.SwaInRefIdeal.Facts) (hRetIn : Cert.RetIn.Facts) (hRetInIdeal : Cert.RetInIdeal.Facts) (hRetInRefIdeal : Cert.RetInRefIdeal.Facts) (hGdnIn : Cert.GdnIn.Facts) (hGdnInIdeal : Cert.GdnInIdeal.Facts) (hGdnInRefIdeal : Cert.GdnInRefIdeal.Facts) (hLruIn : Cert.LruIn.Facts) (hLruInIdeal : Cert.LruInIdeal.Facts) (hLruInRefIdeal : Cert.LruInRefIdeal.Facts) (hSwaOut : Cert.SwaOut.Facts) (hSwaOutIdeal : Cert.SwaOutIdeal.Facts) (hSwaOutRefIdeal : Cert.SwaOutRefIdeal.Facts),
    quiescent_Swa (hSwa := hSwa)
    ∧ quiescent_SwaIdeal (hSwaIdeal := hSwaIdeal)
    ∧ quiescent_SwaRefIdeal (hSwaRefIdeal := hSwaRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Mlp0 (hMlp0 := hMlp0)
    ∧ quiescent_Mlp0Ideal (hMlp0Ideal := hMlp0Ideal)
    ∧ quiescent_Mlp0RefIdeal (hMlp0RefIdeal := hMlp0RefIdeal)
    ∧ quiescent_Mlp1 (hMlp1 := hMlp1)
    ∧ quiescent_Mlp1Ideal (hMlp1Ideal := hMlp1Ideal)
    ∧ quiescent_Mlp1RefIdeal (hMlp1RefIdeal := hMlp1RefIdeal)
    ∧ quiescent_Mlp2 (hMlp2 := hMlp2)
    ∧ quiescent_Mlp2Ideal (hMlp2Ideal := hMlp2Ideal)
    ∧ quiescent_Mlp2RefIdeal (hMlp2RefIdeal := hMlp2RefIdeal)
    ∧ quiescent_SwaIn (hSwaIn := hSwaIn)
    ∧ quiescent_SwaInIdeal (hSwaInIdeal := hSwaInIdeal)
    ∧ quiescent_SwaInRefIdeal (hSwaInRefIdeal := hSwaInRefIdeal)
    ∧ quiescent_RetIn (hRetIn := hRetIn)
    ∧ quiescent_RetInIdeal (hRetInIdeal := hRetInIdeal)
    ∧ quiescent_RetInRefIdeal (hRetInRefIdeal := hRetInRefIdeal)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_SwaOut (hSwaOut := hSwaOut)
    ∧ quiescent_SwaOutIdeal (hSwaOutIdeal := hSwaOutIdeal)
    ∧ quiescent_SwaOutRefIdeal (hSwaOutRefIdeal := hSwaOutRefIdeal)
    ∧ preserves_Swa_SwaIdeal
    ∧ preserves_Mlp_MlpIdeal
    ∧ preserves_Mlp0_Mlp0Ideal
    ∧ preserves_Mlp1_Mlp1Ideal
    ∧ preserves_Mlp2_Mlp2Ideal
    ∧ preserves_SwaIn_SwaInIdeal
    ∧ preserves_RetIn_RetInIdeal
    ∧ preserves_GdnIn_GdnInIdeal
    ∧ preserves_LruIn_LruInIdeal
    ∧ preserves_SwaOut_SwaOutIdeal
    ∧ algebraic_SwaIdeal_SwaRefIdeal (hSwaIdeal := hSwaIdeal) (hSwaRefIdeal := hSwaRefIdeal)
    ∧ algebraic_MlpIdeal_MlpRefIdeal (hMlpIdeal := hMlpIdeal) (hMlpRefIdeal := hMlpRefIdeal)
    ∧ algebraic_Mlp0Ideal_Mlp0RefIdeal (hMlp0Ideal := hMlp0Ideal) (hMlp0RefIdeal := hMlp0RefIdeal)
    ∧ algebraic_Mlp1Ideal_Mlp1RefIdeal (hMlp1Ideal := hMlp1Ideal) (hMlp1RefIdeal := hMlp1RefIdeal)
    ∧ algebraic_Mlp2Ideal_Mlp2RefIdeal (hMlp2Ideal := hMlp2Ideal) (hMlp2RefIdeal := hMlp2RefIdeal)
    ∧ algebraic_SwaInIdeal_SwaInRefIdeal (hSwaInIdeal := hSwaInIdeal) (hSwaInRefIdeal := hSwaInRefIdeal)
    ∧ algebraic_RetInIdeal_RetInRefIdeal (hRetInIdeal := hRetInIdeal) (hRetInRefIdeal := hRetInRefIdeal)
    ∧ algebraic_GdnInIdeal_GdnInRefIdeal (hGdnInIdeal := hGdnInIdeal) (hGdnInRefIdeal := hGdnInRefIdeal)
    ∧ algebraic_LruInIdeal_LruInRefIdeal (hLruInIdeal := hLruInIdeal) (hLruInRefIdeal := hLruInRefIdeal)
    ∧ algebraic_SwaOutIdeal_SwaOutRefIdeal (hSwaOutIdeal := hSwaOutIdeal) (hSwaOutRefIdeal := hSwaOutRefIdeal)
-- ==== Swa.lean ====
abbrev S18432x1536 : Shape := ⟨2, ![18432, 1536]⟩
abbrev S16 : Shape := ⟨1, ![16]⟩
abbrev S2048 : Shape := ⟨1, ![2048]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2048x384 : Shape := ⟨2, ![2048, 384]⟩
abbrev S16384x1024 : Shape := ⟨2, ![16384, 1024]⟩
abbrev S128x1024 : Shape := ⟨2, ![128, 1024]⟩
abbrev S128x512 : Shape := ⟨2, ![128, 512]⟩
abbrev S256x512 : Shape := ⟨2, ![256, 512]⟩
abbrev S128x384 : Shape := ⟨2, ![128, 384]⟩
abbrev S128x128 : Shape := ⟨2, ![128, 128]⟩
abbrev S128x256 : Shape := ⟨2, ![128, 256]⟩
abbrev S256x256 : Shape := ⟨2, ![256, 256]⟩
abbrev S640x256 : Shape := ⟨2, ![640, 256]⟩
abbrev S640x128 : Shape := ⟨2, ![640, 128]⟩
abbrev S128x640 : Shape := ⟨2, ![128, 640]⟩
abbrev S1 : Shape := ⟨1, ![1]⟩
abbrev S128 : Shape := ⟨1, ![128]⟩
abbrev S128x1 : Shape := ⟨2, ![128, 1]⟩

abbrev nBuf : Space → Nat
  | .hbm => 89
  | .vmem => 18
  | .smem => 1
  | _ => 0

abbrev bufTy : (tb : Table) → Fin (tcTables nBuf tb) → BufTy
  | .hbm, ⟨0, _⟩ => ⟨S18432x1536, .bf16⟩
  | .hbm, ⟨1, _⟩ => ⟨S16, .f32⟩
  | .hbm, ⟨2, _⟩ => ⟨S2048, .i32⟩
  | .hbm, ⟨3, _⟩ => ⟨S_, .i32⟩
  | .hbm, ⟨4, _⟩ => ⟨S_, .i32⟩
  | .hbm, ⟨5, _⟩ => ⟨S2048, .i32⟩
  | .hbm, ⟨6, _⟩ => ⟨S2048, .i32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S_, .i32⟩
  | .hbm, ⟨37, _⟩ => ⟨S_, .i1⟩
  | .hbm, ⟨38, _⟩ => ⟨S2048, .i1⟩
  | .hbm, ⟨39, _⟩ => ⟨S2048, .i1⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S2048, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S2048x1, .f32⟩
  | .hbm, ⟨54, _⟩ => ⟨S1x16, .f32⟩
  | .hbm, ⟨55, _⟩ => ⟨S2048x16, .f32⟩
  | .hbm, ⟨56, _⟩ => ⟨S2048x16, .f32⟩
  | .hbm, ⟨57, _⟩ => ⟨S2048x16, .f32⟩
  | .hbm, ⟨58, _⟩ => ⟨S2048x1, .f32⟩
  | .hbm, ⟨59, _⟩ => ⟨S1x16, .f32⟩
  | .hbm, ⟨60, _⟩ => ⟨S2048x16, .f32⟩
  | .hbm, ⟨61, _⟩ => ⟨S2048x16, .f32⟩
  | .hbm, ⟨62, _⟩ => ⟨S2048x16, .f32⟩
  | .hbm, ⟨63, _⟩ => ⟨S_, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x64, .f32⟩
  | .hbm, ⟨70, _⟩ => ⟨S2048x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x64, .f32⟩
  | .hbm, ⟨75, _⟩ => ⟨S2048x16, .f32⟩
  | .hbm, ⟨76, _⟩ => ⟨S2048x16, .f32⟩
  | .hbm, ⟨77, _⟩ => ⟨S2048x64, .f32⟩
  | .hbm, ⟨78, _⟩ => ⟨S1x2048x1x64, .f32⟩
  | .hbm, ⟨79, _⟩ => ⟨S1x2048x2x64, .f32⟩
  | .hbm, ⟨80, _⟩ => ⟨S2048x128, .f32⟩
  | .hbm, ⟨81, _⟩ => ⟨S1x2048x1x64, .f32⟩
  | .hbm, ⟨82, _⟩ => ⟨S1x2048x2x64, .f32⟩
  | .hbm, ⟨83, _⟩ => ⟨S2048x128, .f32⟩
  | .hbm, ⟨84, _⟩ => ⟨S1x2048x1x64, .f32⟩
  | .hbm, ⟨85, _⟩ => ⟨S1x2048x2x64, .f32⟩
  | .hbm, ⟨86, _⟩ => ⟨S2048x128, .f32⟩
  | .hbm, ⟨87, _⟩ => ⟨S2048x384, .f32⟩
  | .hbm, ⟨88, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x384, .f32⟩
  | .local _ .vmem, ⟨15, _⟩ => ⟨S128x384, .f32⟩
  | .local _ .vmem, ⟨16, _⟩ => ⟨S128x1024, .bf16⟩
  | .local _ .vmem, ⟨17, _⟩ => ⟨S128x1024, .bf16⟩
  | .local _ .smem, ⟨0, _⟩ => ⟨S16, .f32⟩
  | _, _ => ⟨S18432x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_v7 : Ref sig .tc := ⟨.hbm, 48, rfl⟩
abbrev main_v8 : Ref sig .tc := ⟨.hbm, 49, rfl⟩
abbrev main_cst_1 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c15_i32 : BitVec 32 := 15#32
  let v2 : BitVec 32 := Scalar.minsi v1 c15_i32
  let v3 : BitVec 32 := Scalar.addi v0 v2
  let c2_i32 : BitVec 32 := 2#32
  let c0_i32 : BitVec 32 := 0#32
  ![v3.toNat, c2_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c2_i32 : BitVec 32 := 2#32
  let c0_i32 : BitVec 32 := 0#32
  ![v0.toNat, c2_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SwaIdeal.lean ====
variable {F : FTy → Type} [FloatOps F] [Named F]
def κ : String → Option EReal := fun
  | "log2e" => some (((Real.log 2)⁻¹ : ℝ) : EReal)
  | "qscale" => some (((8 * (Real.log 2))⁻¹ : ℝ) : EReal)
  | _ => none
-- ==== SwaRefIdeal.lean ====
abbrev S18432x1536 : Shape := ⟨2, ![18432, 1536]⟩
abbrev S16 : Shape := ⟨1, ![16]⟩
abbrev S16384x1536 : Shape := ⟨2, ![16384, 1536]⟩
abbrev S8x2048x1536 : Shape := ⟨3, ![8, 2048, 1536]⟩
abbrev S2048x1536 : Shape := ⟨2, ![2048, 1536]⟩
abbrev S8x256x1536 : Shape := ⟨3, ![8, 256, 1536]⟩
abbrev S2048 : Shape := ⟨1, ![2048]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S8x2048x1024 : Shape := ⟨3, ![8, 2048, 1024]⟩
abbrev S8x2048x16x64 : Shape := ⟨4, ![8, 2048, 16, 64]⟩
abbrev S8x2048x16x32 : Shape := ⟨4, ![8, 2048, 16, 32]⟩
abbrev S8x2048x16x16 : Shape := ⟨4, ![8, 2048, 16, 16]⟩
abbrev S1x2048x1x16 : Shape := ⟨4, ![1, 2048, 1, 16]⟩
abbrev S8x2048x256 : Shape := ⟨3, ![8, 2048, 256]⟩
abbrev S8x2048x4x64 : Shape := ⟨4, ![8, 2048, 4, 64]⟩
abbrev S8x2048x4x32 : Shape := ⟨4, ![8, 2048, 4, 32]⟩
abbrev S8x2048x4x16 : Shape := ⟨4, ![8, 2048, 4, 16]⟩
abbrev S8x256x256 : Shape := ⟨3, ![8, 256, 256]⟩
abbrev S8x256x4x64 : Shape := ⟨4, ![8, 256, 4, 64]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S16x1x1 : Shape := ⟨3, ![16, 1, 1]⟩
abbrev S1x1x384 : Shape := ⟨3, ![1, 1, 384]⟩
abbrev S16x1x384 : Shape := ⟨3, ![16, 1, 384]⟩
abbrev S1x128x384 : Shape := ⟨3, ![1, 128, 384]⟩
abbrev S16x128x384 : Shape := ⟨3, ![16, 128, 384]⟩
abbrev S16x128x256 : Shape := ⟨3, ![16, 128, 256]⟩
abbrev S16x128x640 : Shape := ⟨3, ![16, 128, 640]⟩
abbrev S8x16x128x16x64 : Shape := ⟨5, ![8, 16, 128, 16, 64]⟩
abbrev S8x2304x4x64 : Shape := ⟨4, ![8, 2304, 4, 64]⟩
abbrev S8x18x128x4x64 : Shape := ⟨5, ![8, 18, 128, 4, 64]⟩
abbrev S8x1x256x4x64 : Shape := ⟨5, ![8, 1, 256, 4, 64]⟩
abbrev S8x16x256x4x64 : Shape := ⟨5, ![8, 16, 256, 4, 64]⟩
abbrev S8x16x128x4x64 : Shape := ⟨5, ![8, 16, 128, 4, 64]⟩
abbrev S8x16x640x4x64 : Shape := ⟨5, ![8, 16, 640, 4, 64]⟩
abbrev S8x16x640x4x4x64 : Shape := ⟨6, ![8, 16, 640, 4, 4, 64]⟩
abbrev S8x16x640x16x64 : Shape := ⟨5, ![8, 16, 640, 16, 64]⟩
abbrev S8x16x16x128x640 : Shape := ⟨5, ![8, 16, 16, 128, 640]⟩
abbrev S1x16x1x128x640 : Shape := ⟨5, ![1, 16, 1, 128, 640]⟩
abbrev S1x1x16x1x1 : Shape := ⟨5, ![1, 1, 16, 1, 1]⟩
abbrev S8x16x16x128x1 : Shape := ⟨5, ![8, 16, 16, 128, 1]⟩
abbrev S8x16x16x128x641 : Shape := ⟨5, ![8, 16, 16, 128, 641]⟩
abbrev S8x16x16x128 : Shape := ⟨4, ![8, 16, 16, 128]⟩
abbrev S8x16x16x64x128 : Shape := ⟨5, ![8, 16, 16, 64, 128]⟩
abbrev S16384x1024 : Shape := ⟨2, ![16384, 1024]⟩

abbrev nBuf : Space → Nat
  | .hbm => 250
  | .vmem => 0
  | .smem => 0
  | _ => 0

abbrev hbmTy0_0 (i : Nat) : BufTy := match i % 128 with
  | 0 => ⟨S18432x1536, .bf16⟩
  | 1 => ⟨S16, .f32⟩
  | 2 => ⟨S18432x1536, .f32⟩
  | 3 => ⟨S16384x1536, .f32⟩
  | 4 => ⟨S8x2048x1536, .f32⟩
  | 5 => ⟨S2048x1536, .f32⟩
  | 6 => ⟨S8x256x1536, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048, .f32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S2048, .i32⟩
  | 34 => ⟨S2048, .i32⟩
  | 35 => ⟨S_, .i32⟩
  | 36 => ⟨S2048, .i32⟩
  | 37 => ⟨S2048, .i1⟩
  | 38 => ⟨S_, .i32⟩
  | 39 => ⟨S2048, .i32⟩
  | 40 => ⟨S2048, .i1⟩
  | 41 => ⟨S_, .i32⟩
  | 42 => ⟨S_, .i1⟩
  | 43 => ⟨S2048, .i1⟩
  | 44 => ⟨S2048, .i1⟩
  | 45 => ⟨S2048, .i1⟩
  | 46 => ⟨S2048, .i32⟩
  | 47 => ⟨S2048, .i32⟩
  | 48 => ⟨S2048, .i32⟩
  | 49 => ⟨S2048, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S2048x1, .f32⟩
  | 59 => ⟨S1x16, .f32⟩
  | 60 => ⟨S2048x16, .f32⟩
  | 61 => ⟨S2048x16, .f32⟩
  | 62 => ⟨S2048x16, .f32⟩
  | 63 => ⟨S2048x1, .f32⟩
  | 64 => ⟨S1x16, .f32⟩
  | 65 => ⟨S2048x16, .f32⟩
  | 66 => ⟨S2048x16, .f32⟩
  | 67 => ⟨S2048x16, .f32⟩
  | 68 => ⟨S8x2048x1024, .f32⟩
  | 69 => ⟨S8x2048x16x64, .f32⟩
  | 70 => ⟨S8x2048x16x32, .f32⟩
  | 71 => ⟨S8x2048x16x32, .f32⟩
  | 72 => ⟨S8x2048x16x16, .f32⟩
  | 73 => ⟨S8x2048x16x16, .f32⟩
  | 74 => ⟨S2048x16, .f32⟩
  | 75 => ⟨S1x2048x1x16, .f32⟩
  | 76 => ⟨S2048x16, .f32⟩
  | 77 => ⟨S1x2048x1x16, .f32⟩
  | 78 => ⟨S8x2048x16x16, .f32⟩
  | 79 => ⟨S8x2048x16x16, .f32⟩
  | 80 => ⟨S8x2048x16x16, .f32⟩
  | 81 => ⟨S8x2048x16x16, .f32⟩
  | 82 => ⟨S8x2048x16x16, .f32⟩
  | 83 => ⟨S8x2048x16x16, .f32⟩
  | 84 => ⟨S8x2048x16x16, .f32⟩
  | 85 => ⟨S8x2048x16x16, .f32⟩
  | 86 => ⟨S8x2048x16x16, .f32⟩
  | 87 => ⟨S8x2048x16x16, .f32⟩
  | 88 => ⟨S8x2048x16x32, .f32⟩
  | 89 => ⟨S8x2048x16x16, .f32⟩
  | 90 => ⟨S8x2048x16x16, .f32⟩
  | 91 => ⟨S2048x16, .f32⟩
  | 92 => ⟨S1x2048x1x16, .f32⟩
  | 93 => ⟨S2048x16, .f32⟩
  | 94 => ⟨S1x2048x1x16, .f32⟩
  | 95 => ⟨S8x2048x16x16, .f32⟩
  | 96 => ⟨S8x2048x16x16, .f32⟩
  | 97 => ⟨S8x2048x16x16, .f32⟩
  | 98 => ⟨S8x2048x16x16, .f32⟩
  | 99 => ⟨S8x2048x16x16, .f32⟩
  | 100 => ⟨S8x2048x16x16, .f32⟩
  | 101 => ⟨S8x2048x16x16, .f32⟩
  | 102 => ⟨S8x2048x16x16, .f32⟩
  | 103 => ⟨S8x2048x16x16, .f32⟩
  | 104 => ⟨S8x2048x16x16, .f32⟩
  | 105 => ⟨S8x2048x16x32, .f32⟩
  | 106 => ⟨S8x2048x16x64, .f32⟩
  | 107 => ⟨S8x2048x256, .f32⟩
  | 108 => ⟨S8x2048x4x64, .f32⟩
  | 109 => ⟨S8x2048x4x32, .f32⟩
  | 110 => ⟨S8x2048x4x32, .f32⟩
  | 111 => ⟨S8x2048x4x16, .f32⟩
  | 112 => ⟨S8x2048x4x16, .f32⟩
  | 113 => ⟨S2048x16, .f32⟩
  | 114 => ⟨S1x2048x1x16, .f32⟩
  | 115 => ⟨S2048x16, .f32⟩
  | 116 => ⟨S1x2048x1x16, .f32⟩
  | 117 => ⟨S8x2048x4x16, .f32⟩
  | 118 => ⟨S8x2048x4x16, .f32⟩
  | 119 => ⟨S8x2048x4x16, .f32⟩
  | 120 => ⟨S8x2048x4x16, .f32⟩
  | 121 => ⟨S8x2048x4x16, .f32⟩
  | 122 => ⟨S8x2048x4x16, .f32⟩
  | 123 => ⟨S8x2048x4x16, .f32⟩
  | 124 => ⟨S8x2048x4x16, .f32⟩
  | 125 => ⟨S8x2048x4x16, .f32⟩
  | 126 => ⟨S8x2048x4x16, .f32⟩
  | 127 => ⟨S8x2048x4x32, .f32⟩
  | _ => ⟨S18432x1536, .bf16⟩

abbrev hbmTy0_1 (i : Nat) : BufTy := match i % 128 with
  | 0 => ⟨S8x2048x4x16, .f32⟩
  | 1 => ⟨S8x2048x4x16, .f32⟩
  | 2 => ⟨S2048x16, .f32⟩
  | 3 => ⟨S1x2048x1x16, .f32⟩
  | 4 => ⟨S2048x16, .f32⟩
  | 5 => ⟨S1x2048x1x16, .f32⟩
  | 6 => ⟨S8x2048x4x16, .f32⟩
  | 7 => ⟨S8x2048x4x16, .f32⟩
  | 8 => ⟨S8x2048x4x16, .f32⟩
  | 9 => ⟨S8x2048x4x16, .f32⟩
  | 10 => ⟨S8x2048x4x16, .f32⟩
  | 11 => ⟨S8x2048x4x16, .f32⟩
  | 12 => ⟨S8x2048x4x16, .f32⟩
  | 13 => ⟨S8x2048x4x16, .f32⟩
  | 14 => ⟨S8x2048x4x16, .f32⟩
  | 15 => ⟨S8x2048x4x16, .f32⟩
  | 16 => ⟨S8x2048x4x32, .f32⟩
  | 17 => ⟨S8x2048x4x64, .f32⟩
  | 18 => ⟨S8x2048x256, .f32⟩
  | 19 => ⟨S8x2048x4x64, .f32⟩
  | 20 => ⟨S8x256x256, .f32⟩
  | 21 => ⟨S8x256x4x64, .f32⟩
  | 22 => ⟨S8x256x256, .f32⟩
  | 23 => ⟨S8x256x4x64, .f32⟩
  | 24 => ⟨S128, .i32⟩
  | 25 => ⟨S384, .i32⟩
  | 26 => ⟨S1x384, .i32⟩
  | 27 => ⟨S_, .i32⟩
  | 28 => ⟨S1x384, .i32⟩
  | 29 => ⟨S1x384, .i32⟩
  | 30 => ⟨S128x1, .i32⟩
  | 31 => ⟨S128x384, .i32⟩
  | 32 => ⟨S128x384, .i32⟩
  | 33 => ⟨S128x384, .i32⟩
  | 34 => ⟨S16, .i32⟩
  | 35 => ⟨S16x1x1, .i32⟩
  | 36 => ⟨S_, .i32⟩
  | 37 => ⟨S16x1x1, .i32⟩
  | 38 => ⟨S16x1x1, .i32⟩
  | 39 => ⟨S1x1x384, .i32⟩
  | 40 => ⟨S16x1x384, .i32⟩
  | 41 => ⟨S16x1x384, .i32⟩
  | 42 => ⟨S16x1x384, .i32⟩
  | 43 => ⟨S_, .i32⟩
  | 44 => ⟨S16x1x384, .i32⟩
  | 45 => ⟨S16x1x384, .i32⟩
  | 46 => ⟨S128x384, .i32⟩
  | 47 => ⟨S_, .i32⟩
  | 48 => ⟨S128x384, .i32⟩
  | 49 => ⟨S128x384, .i1⟩
  | 50 => ⟨S1x128x384, .i1⟩
  | 51 => ⟨S_, .i32⟩
  | 52 => ⟨S16x1x384, .i32⟩
  | 53 => ⟨S16x1x384, .i1⟩
  | 54 => ⟨S16x128x384, .i1⟩
  | 55 => ⟨S16x128x384, .i1⟩
  | 56 => ⟨S16x128x384, .i1⟩
  | 57 => ⟨S_, .i32⟩
  | 58 => ⟨S16x1x384, .i32⟩
  | 59 => ⟨S16x1x384, .i1⟩
  | 60 => ⟨S16x128x384, .i1⟩
  | 61 => ⟨S16x128x384, .i1⟩
  | 62 => ⟨S_, .i1⟩
  | 63 => ⟨S16x128x256, .i1⟩
  | 64 => ⟨S16x128x640, .i1⟩
  | 65 => ⟨S8x16x128x16x64, .f32⟩
  | 66 => ⟨S_, .i32⟩
  | 67 => ⟨S_, .f32⟩
  | 68 => ⟨S8x2304x4x64, .f32⟩
  | 69 => ⟨S8x18x128x4x64, .f32⟩
  | 70 => ⟨S8x1x256x4x64, .f32⟩
  | 71 => ⟨S8x16x256x4x64, .f32⟩
  | 72 => ⟨S8x16x128x4x64, .f32⟩
  | 73 => ⟨S8x16x128x4x64, .f32⟩
  | 74 => ⟨S8x16x128x4x64, .f32⟩
  | 75 => ⟨S8x16x640x4x64, .f32⟩
  | 76 => ⟨S8x16x640x4x4x64, .f32⟩
  | 77 => ⟨S8x16x640x16x64, .f32⟩
  | 78 => ⟨S8x16x16x128x640, .f32⟩
  | 79 => ⟨S_, .f32⟩
  | 80 => ⟨S8x16x16x128x640, .f32⟩
  | 81 => ⟨S8x16x16x128x640, .f32⟩
  | 82 => ⟨S1x16x1x128x640, .i1⟩
  | 83 => ⟨S_, .f32⟩
  | 84 => ⟨S_, .f32⟩
  | 85 => ⟨S8x16x16x128x640, .i1⟩
  | 86 => ⟨S8x16x16x128x640, .f32⟩
  | 87 => ⟨S8x16x16x128x640, .f32⟩
  | 88 => ⟨S1x1x16x1x1, .f32⟩
  | 89 => ⟨S8x16x16x128x1, .f32⟩
  | 90 => ⟨S8x16x16x128x641, .f32⟩
  | 91 => ⟨S_, .f32⟩
  | 92 => ⟨S8x16x16x128, .f32⟩
  | 93 => ⟨S8x16x16x128x1, .f32⟩
  | 94 => ⟨S8x16x16x128x641, .f32⟩
  | 95 => ⟨S8x16x16x128x641, .f32⟩
  | 96 => ⟨S8x16x16x128x641, .f32⟩
  | 97 => ⟨S_, .f32⟩
  | 98 => ⟨S8x16x16x128, .f32⟩
  | 99 => ⟨S8x16x16x128x1, .f32⟩
  | 100 => ⟨S_, .f32⟩
  | 101 => ⟨S8x16x16x128x1, .f32⟩
  | 102 => ⟨S8x16x16x128x1, .f32⟩
  | 103 => ⟨S8x16x16x128x641, .f32⟩
  | 104 => ⟨S8x16x16x128x641, .f32⟩
  | 105 => ⟨S8x16x16x128x640, .f32⟩
  | 106 => ⟨S_, .i32⟩
  | 107 => ⟨S_, .f32⟩
  | 108 => ⟨S8x2304x4x64, .f32⟩
  | 109 => ⟨S8x18x128x4x64, .f32⟩
  | 110 => ⟨S8x1x256x4x64, .f32⟩
  | 111 => ⟨S8x16x256x4x64, .f32⟩
  | 112 => ⟨S8x16x128x4x64, .f32⟩
  | 113 => ⟨S8x16x128x4x64, .f32⟩
  | 114 => ⟨S8x16x128x4x64, .f32⟩
  | 115 => ⟨S8x16x640x4x64, .f32⟩
  | 116 => ⟨S8x16x640x4x4x64, .f32⟩
  | 117 => ⟨S8x16x640x16x64, .f32⟩
  | 118 => ⟨S8x16x16x64x128, .f32⟩
  | 119 => ⟨S8x16x128x16x64, .f32⟩
  | 120 => ⟨S16384x1024, .f32⟩
  | 121 => ⟨S16384x1024, .bf16⟩
  | _ => ⟨S18432x1536, .bf16⟩

abbrev hbmTy (i : Nat) : BufTy := match i / 128 with
  | 0 => hbmTy0_0 i
  | 1 => hbmTy0_1 i
  | _ => ⟨S18432x1536, .bf16⟩

abbrev bufTy : (tb : Table) → Fin (tcTables nBuf tb) → BufTy
  | .hbm, ⟨i, _⟩ => hbmTy i
  | _, _ => ⟨S18432x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst : Ref sig .tc := ⟨.hbm, 52, rfl⟩
abbrev main_v12 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_2 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_3 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_c_4 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_5 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_c_6 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_c_7 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_c_8 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_c_9 : Ref sig .tc := ⟨.hbm, 194, rfl⟩
abbrev main_call2_v0 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_10 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_11 : Ref sig .tc := ⟨.hbm, 211, rfl⟩
abbrev main_call3_v0 : Ref sig .tc := ⟨.hbm, 212, rfl⟩
abbrev main_call3_v1 : Ref sig .tc := ⟨.hbm, 213, rfl⟩
abbrev main_call3_v2 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_cst_12 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_13 : Ref sig .tc := ⟨.hbm, 225, rfl⟩
abbrev main_v168 : Ref sig .tc := ⟨.hbm, 226, rfl⟩
abbrev main_v169 : Ref sig .tc := ⟨.hbm, 227, rfl⟩
abbrev main_cst_14 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_c_15 : Ref sig .tc := ⟨.hbm, 234, rfl⟩
abbrev main_call4_v0 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S384x1x1024 : Shape := ⟨3, ![384, 1, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x1024 : Shape := ⟨3, ![1, 1024, 1024]⟩
abbrev S1024x1 : Shape := ⟨2, ![1024, 1]⟩

abbrev nBuf : Space → Nat
  | .hbm => 9
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S384x1x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c288_i32 : BitVec 32 := 288#32
  let v2 : BitVec 32 := Scalar.addi c288_i32 v1
  let c3_i32 : BitVec 32 := 3#32
  let v3 : BitVec 32 := Scalar.addi v2 c3_i32
  let c0_i32 : BitVec 32 := 0#32
  let c0_i32_0 : BitVec 32 := 0#32
  let c0_i32_1 : BitVec 32 := 0#32
  ![v3.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c288_i32 : BitVec 32 := 288#32
  let v2 : BitVec 32 := Scalar.addi c288_i32 v1
  let c4_i32 : BitVec 32 := 4#32
  let v3 : BitVec 32 := Scalar.addi v2 c4_i32
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c288_i32 : BitVec 32 := 288#32
  let v2 : BitVec 32 := Scalar.addi c288_i32 v1
  let c5_i32 : BitVec 32 := 5#32
  let v3 : BitVec 32 := Scalar.addi v2 c5_i32
  let c0_i32 : BitVec 32 := 0#32
  let c0_i32_0 : BitVec 32 := 0#32
  let c0_i32_1 : BitVec 32 := 0#32
  ![v3.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpRefIdeal.lean ====
abbrev S16384x1024 : Shape := ⟨2, ![16384, 1024]⟩
abbrev S1024 : Shape := ⟨1, ![1024]⟩
abbrev S384x1x1024 : Shape := ⟨3, ![384, 1, 1024]⟩
abbrev S4x1024x4096 : Shape := ⟨3, ![4, 1024, 4096]⟩
abbrev S4x4096x1024 : Shape := ⟨3, ![4, 4096, 1024]⟩
abbrev S8x2048x1024 : Shape := ⟨3, ![8, 2048, 1024]⟩
abbrev S4x16x6x1024 : Shape := ⟨4, ![4, 16, 6, 1024]⟩
abbrev S1x8x6x1024 : Shape := ⟨4, ![1, 8, 6, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S384x1x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S8x2048x1024, .f32⟩
  | .hbm, ⟨7, _⟩ => ⟨S4x16x6x1024, .f32⟩
  | .hbm, ⟨8, _⟩ => ⟨S1x8x6x1024, .f32⟩
  | .hbm, ⟨9, _⟩ => ⟨S8x6x1024, .f32⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S1x1024x4096, .f32⟩
  | .hbm, ⟨43, _⟩ => ⟨S1024x4096, .f32⟩
  | .hbm, ⟨44, _⟩ => ⟨S8x2048x4096, .f32⟩
  | .hbm, ⟨45, _⟩ => ⟨S_, .f32⟩
  | .hbm, ⟨46, _⟩ => ⟨S8x2048x4096, .f32⟩
  | .hbm, ⟨47, _⟩ => ⟨S8x2048x4096, .f32⟩
  | .hbm, ⟨48, _⟩ => ⟨S8x2048x4096, .f32⟩
  | .hbm, ⟨49, _⟩ => ⟨S1x4096x1024, .f32⟩
  | .hbm, ⟨50, _⟩ => ⟨S4096x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048, .f32⟩
  | .hbm, ⟨58, _⟩ => ⟨S8x2048x1, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S8x2048x1, .f32⟩
  | .hbm, ⟨66, _⟩ => ⟨S8x2048x1024, .f32⟩
  | .hbm, ⟨67, _⟩ => ⟨S8x2048x1024, .f32⟩
  | .hbm, ⟨68, _⟩ => ⟨S1x1x1024, .f32⟩
  | .hbm, ⟨69, _⟩ => ⟨S8x2048x1024, .f32⟩
  | .hbm, ⟨70, _⟩ => ⟨S8x2048x1024, .f32⟩
  | .hbm, ⟨71, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Mlp0.lean ====
abbrev S18432x1024 : Shape := ⟨2, ![18432, 1024]⟩
abbrev S1024 : Shape := ⟨1, ![1024]⟩
abbrev S384x1x1024 : Shape := ⟨3, ![384, 1, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x1024 : Shape := ⟨3, ![1, 1024, 1024]⟩
abbrev S1024x1 : Shape := ⟨2, ![1024, 1]⟩

abbrev nBuf : Space → Nat
  | .hbm => 9
  | .vmem => 18
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S18432x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![18, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c0_i32 : BitVec 32 := 0#32
  let v2 : BitVec 32 := Scalar.addi c0_i32 v1
  let c3_i32 : BitVec 32 := 3#32
  let v3 : BitVec 32 := Scalar.addi v2 c3_i32
  let c0_i32_0 : BitVec 32 := 0#32
  let c0_i32_1 : BitVec 32 := 0#32
  let c0_i32_2 : BitVec 32 := 0#32
  ![v3.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c0_i32 : BitVec 32 := 0#32
  let v2 : BitVec 32 := Scalar.addi c0_i32 v1
  let c4_i32 : BitVec 32 := 4#32
  let v3 : BitVec 32 := Scalar.addi v2 c4_i32
  let c0_i32_0 : BitVec 32 := 0#32
  let c0_i32_1 : BitVec 32 := 0#32
  let c0_i32_2 : BitVec 32 := 0#32
  ![v3.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c0_i32 : BitVec 32 := 0#32
  let v2 : BitVec 32 := Scalar.addi c0_i32 v1
  let c5_i32 : BitVec 32 := 5#32
  let v3 : BitVec 32 := Scalar.addi v2 c5_i32
  let c0_i32_0 : BitVec 32 := 0#32
  let c0_i32_1 : BitVec 32 := 0#32
  let c0_i32_2 : BitVec 32 := 0#32
  ![v3.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Mlp0RefIdeal.lean ====
abbrev S18432x1024 : Shape := ⟨2, ![18432, 1024]⟩
abbrev S1024 : Shape := ⟨1, ![1024]⟩
abbrev S384x1x1024 : Shape := ⟨3, ![384, 1, 1024]⟩
abbrev S4x1024x4096 : Shape := ⟨3, ![4, 1024, 4096]⟩
abbrev S4x4096x1024 : Shape := ⟨3, ![4, 4096, 1024]⟩
abbrev S4x16x6x1024 : Shape := ⟨4, ![4, 16, 6, 1024]⟩
abbrev S1x16x6x1024 : Shape := ⟨4, ![1, 16, 6, 1024]⟩
abbrev S16x6x1024 : Shape := ⟨3, ![16, 6, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x1024 : Shape := ⟨2, ![16384, 1024]⟩
abbrev S8x2048x1024 : Shape := ⟨3, ![8, 2048, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 100
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x16x6x1024, .f32⟩
  | .hbm, ⟨7, _⟩ => ⟨S1x16x6x1024, .f32⟩
  | .hbm, ⟨8, _⟩ => ⟨S16x6x1024, .f32⟩
  | .hbm, ⟨9, _⟩ => ⟨S1x1024x4096, .f32⟩
  | .hbm, ⟨10, _⟩ => ⟨S1024x4096, .f32⟩
  | .hbm, ⟨11, _⟩ => ⟨S1x4096x1024, .f32⟩
  | .hbm, ⟨12, _⟩ => ⟨S4096x1024, .f32⟩
  | .hbm, ⟨13, _⟩ => ⟨S16384x1024, .f32⟩
  | .hbm, ⟨14, _⟩ => ⟨S8x2048x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x4096, .f32⟩
  | .hbm, ⟨48, _⟩ => ⟨S_, .f32⟩
  | .hbm, ⟨49, _⟩ => ⟨S8x2048x4096, .f32⟩
  | .hbm, ⟨50, _⟩ => ⟨S8x2048x4096, .f32⟩
  | .hbm, ⟨51, _⟩ => ⟨S8x2048x4096, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S2048x1024, .f32⟩
  | .hbm, ⟨57, _⟩ => ⟨S1x1x1024, .f32⟩
  | .hbm, ⟨58, _⟩ => ⟨S1024, .f32⟩
  | .hbm, ⟨59, _⟩ => ⟨S1x1x1024, .f32⟩
  | .hbm, ⟨60, _⟩ => ⟨S1024, .f32⟩
  | .hbm, ⟨61, _⟩ => ⟨S1x1x1024, .f32⟩
  | .hbm, ⟨62, _⟩ => ⟨S1024, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S1x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1x1024, .f32⟩
  | .hbm, ⟨83, _⟩ => ⟨S2048x1024, .f32⟩
  | .hbm, ⟨84, _⟩ => ⟨S2048x1024, .f32⟩
  | .hbm, ⟨85, _⟩ => ⟨S1x1024, .f32⟩
  | .hbm, ⟨86, _⟩ => ⟨S2048x1024, .f32⟩
  | .hbm, ⟨87, _⟩ => ⟨S2048x1024, .f32⟩
  | .hbm, ⟨88, _⟩ => ⟨S2048x4096, .f32⟩
  | .hbm, ⟨89, _⟩ => ⟨S_, .f32⟩
  | .hbm, ⟨90, _⟩ => ⟨S2048x4096, .f32⟩
  | .hbm, ⟨91, _⟩ => ⟨S2048x4096, .f32⟩
  | .hbm, ⟨92, _⟩ => ⟨S2048x4096, .f32⟩
  | .hbm, ⟨93, _⟩ => ⟨S2048x1024, .f32⟩
  | .hbm, ⟨94, _⟩ => ⟨S1x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S16384x1024, .f32⟩
  | .hbm, ⟨99, _⟩ => ⟨S18432x1024, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩

abbrev nD : Nat := 1
abbrev τ : Topo := Topo.v7x

variable {F : FTy → Type} [FloatOps F]
-- ==== Mlp1.lean ====
abbrev S18432x1024 : Shape := ⟨2, ![18432, 1024]⟩
abbrev S1024 : Shape := ⟨1, ![1024]⟩
abbrev S384x1x1024 : Shape := ⟨3, ![384, 1, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x1024 : Shape := ⟨3, ![1, 1024, 1024]⟩
abbrev S1024x1 : Shape := ⟨2, ![1024, 1]⟩

abbrev nBuf : Space → Nat
  | .hbm => 9
  | .vmem => 18
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S18432x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![18, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c96_i32 : BitVec 32 := 96#32
  let v2 : BitVec 32 := Scalar.addi c96_i32 v1
  let c3_i32 : BitVec 32 := 3#32
  let v3 : BitVec 32 := Scalar.addi v2 c3_i32
  let c0_i32 : BitVec 32 := 0#32
  let c0_i32_0 : BitVec 32 := 0#32
  let c0_i32_1 : BitVec 32 := 0#32
  ![v3.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c96_i32 : BitVec 32 := 96#32
  let v2 : BitVec 32 := Scalar.addi c96_i32 v1
  let c4_i32 : BitVec 32 := 4#32
  let v3 : BitVec 32 := Scalar.addi v2 c4_i32
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c96_i32 : BitVec 32 := 96#32
  let v2 : BitVec 32 := Scalar.addi c96_i32 v1
  let c5_i32 : BitVec 32 := 5#32
  let v3 : BitVec 32 := Scalar.addi v2 c5_i32
  let c0_i32 : BitVec 32 := 0#32
  let c0_i32_0 : BitVec 32 := 0#32
  let c0_i32_1 : BitVec 32 := 0#32
  ![v3.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Mlp1RefIdeal.lean ====
abbrev S18432x1024 : Shape := ⟨2, ![18432, 1024]⟩
abbrev S1024 : Shape := ⟨1, ![1024]⟩
abbrev S384x1x1024 : Shape := ⟨3, ![384, 1, 1024]⟩
abbrev S4x1024x4096 : Shape := ⟨3, ![4, 1024, 4096]⟩
abbrev S4x4096x1024 : Shape := ⟨3, ![4, 4096, 1024]⟩
abbrev S4x16x6x1024 : Shape := ⟨4, ![4, 16, 6, 1024]⟩
abbrev S1x16x6x1024 : Shape := ⟨4, ![1, 16, 6, 1024]⟩
abbrev S16x6x1024 : Shape := ⟨3, ![16, 6, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x1024 : Shape := ⟨2, ![16384, 1024]⟩
abbrev S8x2048x1024 : Shape := ⟨3, ![8, 2048, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 100
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x16x6x1024, .f32⟩
  | .hbm, ⟨7, _⟩ => ⟨S1x16x6x1024, .f32⟩
  | .hbm, ⟨8, _⟩ => ⟨S16x6x1024, .f32⟩
  | .hbm, ⟨9, _⟩ => ⟨S1x1024x4096, .f32⟩
  | .hbm, ⟨10, _⟩ => ⟨S1024x4096, .f32⟩
  | .hbm, ⟨11, _⟩ => ⟨S1x4096x1024, .f32⟩
  | .hbm, ⟨12, _⟩ => ⟨S4096x1024, .f32⟩
  | .hbm, ⟨13, _⟩ => ⟨S16384x1024, .f32⟩
  | .hbm, ⟨14, _⟩ => ⟨S8x2048x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x4096, .f32⟩
  | .hbm, ⟨48, _⟩ => ⟨S_, .f32⟩
  | .hbm, ⟨49, _⟩ => ⟨S8x2048x4096, .f32⟩
  | .hbm, ⟨50, _⟩ => ⟨S8x2048x4096, .f32⟩
  | .hbm, ⟨51, _⟩ => ⟨S8x2048x4096, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S2048x1024, .f32⟩
  | .hbm, ⟨57, _⟩ => ⟨S1x1x1024, .f32⟩
  | .hbm, ⟨58, _⟩ => ⟨S1024, .f32⟩
  | .hbm, ⟨59, _⟩ => ⟨S1x1x1024, .f32⟩
  | .hbm, ⟨60, _⟩ => ⟨S1024, .f32⟩
  | .hbm, ⟨61, _⟩ => ⟨S1x1x1024, .f32⟩
  | .hbm, ⟨62, _⟩ => ⟨S1024, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S1x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1x1024, .f32⟩
  | .hbm, ⟨83, _⟩ => ⟨S2048x1024, .f32⟩
  | .hbm, ⟨84, _⟩ => ⟨S2048x1024, .f32⟩
  | .hbm, ⟨85, _⟩ => ⟨S1x1024, .f32⟩
  | .hbm, ⟨86, _⟩ => ⟨S2048x1024, .f32⟩
  | .hbm, ⟨87, _⟩ => ⟨S2048x1024, .f32⟩
  | .hbm, ⟨88, _⟩ => ⟨S2048x4096, .f32⟩
  | .hbm, ⟨89, _⟩ => ⟨S_, .f32⟩
  | .hbm, ⟨90, _⟩ => ⟨S2048x4096, .f32⟩
  | .hbm, ⟨91, _⟩ => ⟨S2048x4096, .f32⟩
  | .hbm, ⟨92, _⟩ => ⟨S2048x4096, .f32⟩
  | .hbm, ⟨93, _⟩ => ⟨S2048x1024, .f32⟩
  | .hbm, ⟨94, _⟩ => ⟨S1x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S16384x1024, .f32⟩
  | .hbm, ⟨99, _⟩ => ⟨S18432x1024, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩

abbrev nD : Nat := 1
abbrev τ : Topo := Topo.v7x

variable {F : FTy → Type} [FloatOps F]
-- ==== Mlp2.lean ====
abbrev S18432x1024 : Shape := ⟨2, ![18432, 1024]⟩
abbrev S1024 : Shape := ⟨1, ![1024]⟩
abbrev S384x1x1024 : Shape := ⟨3, ![384, 1, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x1024 : Shape := ⟨3, ![1, 1024, 1024]⟩
abbrev S1024x1 : Shape := ⟨2, ![1024, 1]⟩

abbrev nBuf : Space → Nat
  | .hbm => 9
  | .vmem => 18
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S18432x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![18, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c192_i32 : BitVec 32 := 192#32
  let v2 : BitVec 32 := Scalar.addi c192_i32 v1
  let c3_i32 : BitVec 32 := 3#32
  let v3 : BitVec 32 := Scalar.addi v2 c3_i32
  let c0_i32 : BitVec 32 := 0#32
  let c0_i32_0 : BitVec 32 := 0#32
  let c0_i32_1 : BitVec 32 := 0#32
  ![v3.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c192_i32 : BitVec 32 := 192#32
  let v2 : BitVec 32 := Scalar.addi c192_i32 v1
  let c4_i32 : BitVec 32 := 4#32
  let v3 : BitVec 32 := Scalar.addi v2 c4_i32
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c192_i32 : BitVec 32 := 192#32
  let v2 : BitVec 32 := Scalar.addi c192_i32 v1
  let c5_i32 : BitVec 32 := 5#32
  let v3 : BitVec 32 := Scalar.addi v2 c5_i32
  let c0_i32 : BitVec 32 := 0#32
  let c0_i32_0 : BitVec 32 := 0#32
  let c0_i32_1 : BitVec 32 := 0#32
  ![v3.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Mlp2RefIdeal.lean ====
abbrev S18432x1024 : Shape := ⟨2, ![18432, 1024]⟩
abbrev S1024 : Shape := ⟨1, ![1024]⟩
abbrev S384x1x1024 : Shape := ⟨3, ![384, 1, 1024]⟩
abbrev S4x1024x4096 : Shape := ⟨3, ![4, 1024, 4096]⟩
abbrev S4x4096x1024 : Shape := ⟨3, ![4, 4096, 1024]⟩
abbrev S4x16x6x1024 : Shape := ⟨4, ![4, 16, 6, 1024]⟩
abbrev S1x16x6x1024 : Shape := ⟨4, ![1, 16, 6, 1024]⟩
abbrev S16x6x1024 : Shape := ⟨3, ![16, 6, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x1024 : Shape := ⟨2, ![16384, 1024]⟩
abbrev S8x2048x1024 : Shape := ⟨3, ![8, 2048, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 100
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x16x6x1024, .f32⟩
  | .hbm, ⟨7, _⟩ => ⟨S1x16x6x1024, .f32⟩
  | .hbm, ⟨8, _⟩ => ⟨S16x6x1024, .f32⟩
  | .hbm, ⟨9, _⟩ => ⟨S1x1024x4096, .f32⟩
  | .hbm, ⟨10, _⟩ => ⟨S1024x4096, .f32⟩
  | .hbm, ⟨11, _⟩ => ⟨S1x4096x1024, .f32⟩
  | .hbm, ⟨12, _⟩ => ⟨S4096x1024, .f32⟩
  | .hbm, ⟨13, _⟩ => ⟨S16384x1024, .f32⟩
  | .hbm, ⟨14, _⟩ => ⟨S8x2048x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x4096, .f32⟩
  | .hbm, ⟨48, _⟩ => ⟨S_, .f32⟩
  | .hbm, ⟨49, _⟩ => ⟨S8x2048x4096, .f32⟩
  | .hbm, ⟨50, _⟩ => ⟨S8x2048x4096, .f32⟩
  | .hbm, ⟨51, _⟩ => ⟨S8x2048x4096, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S2048x1024, .f32⟩
  | .hbm, ⟨57, _⟩ => ⟨S1x1x1024, .f32⟩
  | .hbm, ⟨58, _⟩ => ⟨S1024, .f32⟩
  | .hbm, ⟨59, _⟩ => ⟨S1x1x1024, .f32⟩
  | .hbm, ⟨60, _⟩ => ⟨S1024, .f32⟩
  | .hbm, ⟨61, _⟩ => ⟨S1x1x1024, .f32⟩
  | .hbm, ⟨62, _⟩ => ⟨S1024, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S1x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1x1024, .f32⟩
  | .hbm, ⟨83, _⟩ => ⟨S2048x1024, .f32⟩
  | .hbm, ⟨84, _⟩ => ⟨S2048x1024, .f32⟩
  | .hbm, ⟨85, _⟩ => ⟨S1x1024, .f32⟩
  | .hbm, ⟨86, _⟩ => ⟨S2048x1024, .f32⟩
  | .hbm, ⟨87, _⟩ => ⟨S2048x1024, .f32⟩
  | .hbm, ⟨88, _⟩ => ⟨S2048x4096, .f32⟩
  | .hbm, ⟨89, _⟩ => ⟨S_, .f32⟩
  | .hbm, ⟨90, _⟩ => ⟨S2048x4096, .f32⟩
  | .hbm, ⟨91, _⟩ => ⟨S2048x4096, .f32⟩
  | .hbm, ⟨92, _⟩ => ⟨S2048x4096, .f32⟩
  | .hbm, ⟨93, _⟩ => ⟨S2048x1024, .f32⟩
  | .hbm, ⟨94, _⟩ => ⟨S1x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S16384x1024, .f32⟩
  | .hbm, ⟨99, _⟩ => ⟨S18432x1024, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩

abbrev nD : Nat := 1
abbrev τ : Topo := Topo.v7x

variable {F : FTy → Type} [FloatOps F]
-- ==== SwaIn.lean ====
abbrev S18432x1024 : Shape := ⟨2, ![18432, 1024]⟩
abbrev S1024 : Shape := ⟨1, ![1024]⟩
abbrev S384x1x1024 : Shape := ⟨3, ![384, 1, 1024]⟩
abbrev S1024x1536 : Shape := ⟨2, ![1024, 1536]⟩
abbrev S1x1024 : Shape := ⟨2, ![1, 1024]⟩
abbrev S18432x1536 : Shape := ⟨2, ![18432, 1536]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S1024x1536, .f32⟩
  | .hbm, ⟨4, _⟩ => ⟨S1024x1536, .bf16⟩
  | .hbm, ⟨5, _⟩ => ⟨S1x1024, .f32⟩
  | .hbm, ⟨6, _⟩ => ⟨S18432x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S1024x1536, .bf16⟩
  | .local _ .vmem, ⟨9, _⟩ => ⟨S1024x1536, .bf16⟩
  | .local _ .vmem, ⟨10, _⟩ => ⟨S1024x1024, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c288_i32 : BitVec 32 := 288#32
  let v2 : BitVec 32 := Scalar.addi c288_i32 v1
  let c0_i32 : BitVec 32 := 0#32
  let v3 : BitVec 32 := Scalar.addi v2 c0_i32
  let c0_i32_0 : BitVec 32 := 0#32
  let c0_i32_1 : BitVec 32 := 0#32
  let c0_i32_2 : BitVec 32 := 0#32
  ![v3.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c288_i32 : BitVec 32 := 288#32
  let v2 : BitVec 32 := Scalar.addi c288_i32 v1
  let c1_i32 : BitVec 32 := 1#32
  let v3 : BitVec 32 := Scalar.addi v2 c1_i32
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwaInRefIdeal.lean ====
abbrev S18432x1024 : Shape := ⟨2, ![18432, 1024]⟩
abbrev S1024 : Shape := ⟨1, ![1024]⟩
abbrev S384x1x1024 : Shape := ⟨3, ![384, 1, 1024]⟩
abbrev S1024x1536 : Shape := ⟨2, ![1024, 1536]⟩
abbrev S4x16x6x1024 : Shape := ⟨4, ![4, 16, 6, 1024]⟩
abbrev S1x16x6x1024 : Shape := ⟨4, ![1, 16, 6, 1024]⟩
abbrev S16x6x1024 : Shape := ⟨3, ![16, 6, 1024]⟩
abbrev S16384x1024 : Shape := ⟨2, ![16384, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S18432x1536 : Shape := ⟨2, ![18432, 1536]⟩

abbrev nBuf : Space → Nat
  | .hbm => 72
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S1024x1536, .f32⟩
  | .hbm, ⟨4, _⟩ => ⟨S4x16x6x1024, .f32⟩
  | .hbm, ⟨5, _⟩ => ⟨S1x16x6x1024, .f32⟩
  | .hbm, ⟨6, _⟩ => ⟨S16x6x1024, .f32⟩
  | .hbm, ⟨7, _⟩ => ⟨S16384x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x1x1024, .f32⟩
  | .hbm, ⟨34, _⟩ => ⟨S8x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S1x1x1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S1x1x1024, .f32⟩
  | .hbm, ⟨64, _⟩ => ⟨S1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S16384x1024, .f32⟩
  | .hbm, ⟨69, _⟩ => ⟨S18432x1024, .f32⟩
  | .hbm, ⟨70, _⟩ => ⟨S18432x1536, .f32⟩
  | .hbm, ⟨71, _⟩ => ⟨S18432x1536, .bf16⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== RetIn.lean ====
abbrev S18432x1024 : Shape := ⟨2, ![18432, 1024]⟩
abbrev S1024 : Shape := ⟨1, ![1024]⟩
abbrev S384x1x1024 : Shape := ⟨3, ![384, 1, 1024]⟩
abbrev S1024x6144 : Shape := ⟨2, ![1024, 6144]⟩
abbrev S1x1024 : Shape := ⟨2, ![1, 1024]⟩
abbrev S18432x6144 : Shape := ⟨2, ![18432, 6144]⟩
abbrev S1024x1024 : Shape := ⟨2, ![1024, 1024]⟩
abbrev S1x1x1024 : Shape := ⟨3, ![1, 1, 1024]⟩
abbrev S1024x2048 : Shape := ⟨2, ![1024, 2048]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S1024x6144, .f32⟩
  | .hbm, ⟨4, _⟩ => ⟨S1024x6144, .bf16⟩
  | .hbm, ⟨5, _⟩ => ⟨S1x1024, .f32⟩
  | .hbm, ⟨6, _⟩ => ⟨S18432x6144, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x1024, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![18, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c96_i32 : BitVec 32 := 96#32
  let v2 : BitVec 32 := Scalar.addi c96_i32 v1
  let c0_i32 : BitVec 32 := 0#32
  let v3 : BitVec 32 := Scalar.addi v2 c0_i32
  let c0_i32_0 : BitVec 32 := 0#32
  let c0_i32_1 : BitVec 32 := 0#32
  let c0_i32_2 : BitVec 32 := 0#32
  ![v3.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c96_i32 : BitVec 32 := 96#32
  let v2 : BitVec 32 := Scalar.addi c96_i32 v1
  let c1_i32 : BitVec 32 := 1#32
  let v3 : BitVec 32 := Scalar.addi v2 c1_i32
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetInRefIdeal.lean ====
abbrev S18432x1024 : Shape := ⟨2, ![18432, 1024]⟩
abbrev S1024 : Shape := ⟨1, ![1024]⟩
abbrev S384x1x1024 : Shape := ⟨3, ![384, 1, 1024]⟩
abbrev S1024x6144 : Shape := ⟨2, ![1024, 6144]⟩
abbrev S4x16x6x1024 : Shape := ⟨4, ![4, 16, 6, 1024]⟩
abbrev S1x16x6x1024 : Shape := ⟨4, ![1, 16, 6, 1024]⟩
abbrev S16x6x1024 : Shape := ⟨3, ![16, 6, 1024]⟩
abbrev S16384x1024 : Shape := ⟨2, ![16384, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S18432x6144 : Shape := ⟨2, ![18432, 6144]⟩

abbrev nBuf : Space → Nat
  | .hbm => 72
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S1024x6144, .f32⟩
  | .hbm, ⟨4, _⟩ => ⟨S4x16x6x1024, .f32⟩
  | .hbm, ⟨5, _⟩ => ⟨S1x16x6x1024, .f32⟩
  | .hbm, ⟨6, _⟩ => ⟨S16x6x1024, .f32⟩
  | .hbm, ⟨7, _⟩ => ⟨S16384x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x1x1024, .f32⟩
  | .hbm, ⟨34, _⟩ => ⟨S8x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S1x1x1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S1x1x1024, .f32⟩
  | .hbm, ⟨64, _⟩ => ⟨S1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S16384x1024, .f32⟩
  | .hbm, ⟨69, _⟩ => ⟨S18432x1024, .f32⟩
  | .hbm, ⟨70, _⟩ => ⟨S18432x6144, .f32⟩
  | .hbm, ⟨71, _⟩ => ⟨S18432x6144, .bf16⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== GdnIn.lean ====
abbrev S16384x1024 : Shape := ⟨2, ![16384, 1024]⟩
abbrev S2048x1024 : Shape := ⟨2, ![2048, 1024]⟩
abbrev S1024 : Shape := ⟨1, ![1024]⟩
abbrev S384x1x1024 : Shape := ⟨3, ![384, 1, 1024]⟩
abbrev S1024x6208 : Shape := ⟨2, ![1024, 6208]⟩
abbrev S1024x64 : Shape := ⟨2, ![1024, 64]⟩
abbrev S_ : Shape := ⟨0, ![]⟩
abbrev S1024x128 : Shape := ⟨2, ![1024, 128]⟩
abbrev S1x1024 : Shape := ⟨2, ![1, 1024]⟩
abbrev S18432x6144 : Shape := ⟨2, ![18432, 6144]⟩
abbrev S18432x128 : Shape := ⟨2, ![18432, 128]⟩
abbrev S1024x1024 : Shape := ⟨2, ![1024, 1024]⟩
abbrev S1x1x1024 : Shape := ⟨3, ![1, 1, 1024]⟩
abbrev S1024x2048 : Shape := ⟨2, ![1024, 2048]⟩
abbrev S1024x1 : Shape := ⟨2, ![1024, 1]⟩

abbrev nBuf : Space → Nat
  | .hbm => 14
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S1024, .f32⟩
  | .hbm, ⟨3, _⟩ => ⟨S384x1x1024, .f32⟩
  | .hbm, ⟨4, _⟩ => ⟨S1024x6208, .f32⟩
  | .hbm, ⟨5, _⟩ => ⟨S1024x64, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S1024x6208, .bf16⟩
  | .hbm, ⟨11, _⟩ => ⟨S1x1024, .f32⟩
  | .hbm, ⟨12, _⟩ => ⟨S18432x6144, .bf16⟩
  | .hbm, ⟨13, _⟩ => ⟨S18432x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2048, .bf16⟩
  | .local _ .vmem, ⟨10, _⟩ => ⟨S1024x2048, .bf16⟩
  | .local _ .vmem, ⟨11, _⟩ => ⟨S1024x128, .bf16⟩
  | .local _ .vmem, ⟨12, _⟩ => ⟨S1024x2048, .bf16⟩
  | .local _ .vmem, ⟨13, _⟩ => ⟨S1024x2048, .bf16⟩
  | .local _ .vmem, ⟨14, _⟩ => ⟨S1024x128, .f32⟩
  | .local _ .vmem, ⟨15, _⟩ => ⟨S1024x128, .f32⟩
  | .local _ .vmem, ⟨16, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![18, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c0_i32 : BitVec 32 := 0#32
  let v2 : BitVec 32 := Scalar.addi c0_i32 v1
  let c0_i32_0 : BitVec 32 := 0#32
  let v3 : BitVec 32 := Scalar.addi v2 c0_i32_0
  let c0_i32_1 : BitVec 32 := 0#32
  let c0_i32_2 : BitVec 32 := 0#32
  let c0_i32_3 : BitVec 32 := 0#32
  ![v3.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c0_i32 : BitVec 32 := 0#32
  let v2 : BitVec 32 := Scalar.addi c0_i32 v1
  let c1_i32 : BitVec 32 := 1#32
  let v3 : BitVec 32 := Scalar.addi v2 c1_i32
  let c0_i32_0 : BitVec 32 := 0#32
  let c0_i32_1 : BitVec 32 := 0#32
  let c0_i32_2 : BitVec 32 := 0#32
  ![v3.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GdnInRefIdeal.lean ====
abbrev S16384x1024 : Shape := ⟨2, ![16384, 1024]⟩
abbrev S2048x1024 : Shape := ⟨2, ![2048, 1024]⟩
abbrev S1024 : Shape := ⟨1, ![1024]⟩
abbrev S384x1x1024 : Shape := ⟨3, ![384, 1, 1024]⟩
abbrev S1024x6208 : Shape := ⟨2, ![1024, 6208]⟩
abbrev S4x16x6x1024 : Shape := ⟨4, ![4, 16, 6, 1024]⟩
abbrev S1x16x6x1024 : Shape := ⟨4, ![1, 16, 6, 1024]⟩
abbrev S16x6x1024 : Shape := ⟨3, ![16, 6, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S2048 : Shape := ⟨1, ![2048]⟩
abbrev S2048x1 : Shape := ⟨2, ![2048, 1]⟩
abbrev S1x1024 : Shape := ⟨2, ![1, 1024]⟩
abbrev S18432x1024 : Shape := ⟨2, ![18432, 1024]⟩
abbrev S18432x6208 : Shape := ⟨2, ![18432, 6208]⟩
abbrev S18432x6144 : Shape := ⟨2, ![18432, 6144]⟩
abbrev S18432x64 : Shape := ⟨2, ![18432, 64]⟩
abbrev S18432x128 : Shape := ⟨2, ![18432, 128]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S1024, .f32⟩
  | .hbm, ⟨3, _⟩ => ⟨S384x1x1024, .f32⟩
  | .hbm, ⟨4, _⟩ => ⟨S1024x6208, .f32⟩
  | .hbm, ⟨5, _⟩ => ⟨S4x16x6x1024, .f32⟩
  | .hbm, ⟨6, _⟩ => ⟨S1x16x6x1024, .f32⟩
  | .hbm, ⟨7, _⟩ => ⟨S16x6x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x1x1024, .f32⟩
  | .hbm, ⟨34, _⟩ => ⟨S8x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S2048x1024, .f32⟩
  | .hbm, ⟨50, _⟩ => ⟨S2048x1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S1x1x1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1024, .f32⟩
  | .hbm, ⟨60, _⟩ => ⟨S2048x1024, .f32⟩
  | .hbm, ⟨61, _⟩ => ⟨S2048x1024, .f32⟩
  | .hbm, ⟨62, _⟩ => ⟨S1x1x1024, .f32⟩
  | .hbm, ⟨63, _⟩ => ⟨S1024, .f32⟩
  | .hbm, ⟨64, _⟩ => ⟨S1x1024, .f32⟩
  | .hbm, ⟨65, _⟩ => ⟨S2048x1024, .f32⟩
  | .hbm, ⟨66, _⟩ => ⟨S2048x1024, .f32⟩
  | .hbm, ⟨67, _⟩ => ⟨S16384x1024, .f32⟩
  | .hbm, ⟨68, _⟩ => ⟨S18432x1024, .f32⟩
  | .hbm, ⟨69, _⟩ => ⟨S18432x6208, .f32⟩
  | .hbm, ⟨70, _⟩ => ⟨S18432x6144, .f32⟩
  | .hbm, ⟨71, _⟩ => ⟨S18432x6144, .bf16⟩
  | .hbm, ⟨72, _⟩ => ⟨S18432x64, .f32⟩
  | .hbm, ⟨73, _⟩ => ⟨S_, .i32⟩
  | .hbm, ⟨74, _⟩ => ⟨S_, .f32⟩
  | .hbm, ⟨75, _⟩ => ⟨S18432x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c : Ref sig .tc := ⟨.hbm, 73, rfl⟩
abbrev main_call0_v0 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== LruIn.lean ====
abbrev S18432x1024 : Shape := ⟨2, ![18432, 1024]⟩
abbrev S1024 : Shape := ⟨1, ![1024]⟩
abbrev S384x1x1024 : Shape := ⟨3, ![384, 1, 1024]⟩
abbrev S1024x2560 : Shape := ⟨2, ![1024, 2560]⟩
abbrev S1x1024 : Shape := ⟨2, ![1, 1024]⟩
abbrev S18432x2560 : Shape := ⟨2, ![18432, 2560]⟩
abbrev S1024x1024 : Shape := ⟨2, ![1024, 1024]⟩
abbrev S1x1x1024 : Shape := ⟨3, ![1, 1, 1024]⟩
abbrev S1024x1280 : Shape := ⟨2, ![1024, 1280]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S1024x2560, .f32⟩
  | .hbm, ⟨4, _⟩ => ⟨S1024x2560, .bf16⟩
  | .hbm, ⟨5, _⟩ => ⟨S1x1024, .f32⟩
  | .hbm, ⟨6, _⟩ => ⟨S18432x2560, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1280, .bf16⟩
  | .local _ .vmem, ⟨8, _⟩ => ⟨S1024x1280, .bf16⟩
  | .local _ .vmem, ⟨9, _⟩ => ⟨S1024x1280, .bf16⟩
  | .local _ .vmem, ⟨10, _⟩ => ⟨S1024x1280, .bf16⟩
  | .local _ .vmem, ⟨11, _⟩ => ⟨S1024x1024, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![18, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c192_i32 : BitVec 32 := 192#32
  let v2 : BitVec 32 := Scalar.addi c192_i32 v1
  let c0_i32 : BitVec 32 := 0#32
  let v3 : BitVec 32 := Scalar.addi v2 c0_i32
  let c0_i32_0 : BitVec 32 := 0#32
  let c0_i32_1 : BitVec 32 := 0#32
  let c0_i32_2 : BitVec 32 := 0#32
  ![v3.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c6_i32 : BitVec 32 := 6#32
  let v1 : BitVec 32 := Scalar.muli v0 c6_i32
  let c192_i32 : BitVec 32 := 192#32
  let v2 : BitVec 32 := Scalar.addi c192_i32 v1
  let c1_i32 : BitVec 32 := 1#32
  let v3 : BitVec 32 := Scalar.addi v2 c1_i32
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LruInRefIdeal.lean ====
abbrev S18432x1024 : Shape := ⟨2, ![18432, 1024]⟩
abbrev S1024 : Shape := ⟨1, ![1024]⟩
abbrev S384x1x1024 : Shape := ⟨3, ![384, 1, 1024]⟩
abbrev S1024x2560 : Shape := ⟨2, ![1024, 2560]⟩
abbrev S4x16x6x1024 : Shape := ⟨4, ![4, 16, 6, 1024]⟩
abbrev S1x16x6x1024 : Shape := ⟨4, ![1, 16, 6, 1024]⟩
abbrev S16x6x1024 : Shape := ⟨3, ![16, 6, 1024]⟩
abbrev S16384x1024 : Shape := ⟨2, ![16384, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S18432x2560 : Shape := ⟨2, ![18432, 2560]⟩

abbrev nBuf : Space → Nat
  | .hbm => 72
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S384x1x1024, .f32⟩
  | .hbm, ⟨3, _⟩ => ⟨S1024x2560, .f32⟩
  | .hbm, ⟨4, _⟩ => ⟨S4x16x6x1024, .f32⟩
  | .hbm, ⟨5, _⟩ => ⟨S1x16x6x1024, .f32⟩
  | .hbm, ⟨6, _⟩ => ⟨S16x6x1024, .f32⟩
  | .hbm, ⟨7, _⟩ => ⟨S16384x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x1x1024, .f32⟩
  | .hbm, ⟨34, _⟩ => ⟨S8x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S1x1x1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S1x1x1024, .f32⟩
  | .hbm, ⟨64, _⟩ => ⟨S1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S16384x1024, .f32⟩
  | .hbm, ⟨69, _⟩ => ⟨S18432x1024, .f32⟩
  | .hbm, ⟨70, _⟩ => ⟨S18432x2560, .f32⟩
  | .hbm, ⟨71, _⟩ => ⟨S18432x2560, .bf16⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== SwaOut.lean ====
abbrev S16384x1024 : Shape := ⟨2, ![16384, 1024]⟩
abbrev S384x1x1024 : Shape := ⟨3, ![384, 1, 1024]⟩
abbrev S1024x1024 : Shape := ⟨2, ![1024, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S384x1x1024, .f32⟩
  | .hbm, ⟨2, _⟩ => ⟨S16384x1024, .bf16⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c6_i32 : BitVec 32 := 6#32
  let v1 : BitVec 32 := Scalar.muli v0 c6_i32
  let c288_i32 : BitVec 32 := 288#32
  let v2 : BitVec 32 := Scalar.addi c288_i32 v1
  let c2_i32 : BitVec 32 := 2#32
  let v3 : BitVec 32 := Scalar.addi v2 c2_i32
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwaOutRefIdeal.lean ====
abbrev S16384x1024 : Shape := ⟨2, ![16384, 1024]⟩
abbrev S384x1x1024 : Shape := ⟨3, ![384, 1, 1024]⟩
abbrev S1024x1024 : Shape := ⟨2, ![1024, 1024]⟩
abbrev S4x16x6x1024 : Shape := ⟨4, ![4, 16, 6, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S8x2048x1024 : Shape := ⟨3, ![8, 2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S384x1x1024, .f32⟩
  | .hbm, ⟨2, _⟩ => ⟨S16384x1024, .bf16⟩
  | .hbm, ⟨3, _⟩ => ⟨S1024x1024, .f32⟩
  | .hbm, ⟨4, _⟩ => ⟨S4x16x6x1024, .f32⟩
  | .hbm, ⟨5, _⟩ => ⟨S1x8x1x1024, .f32⟩
  | .hbm, ⟨6, _⟩ => ⟨S8x1024, .f32⟩
  | .hbm, ⟨7, _⟩ => ⟨S8x1x1024, .f32⟩
  | .hbm, ⟨8, _⟩ => ⟨S8x2048x1024, .f32⟩
  | .hbm, ⟨9, _⟩ => ⟨S16384x1024, .f32⟩
  | .hbm, ⟨10, _⟩ => ⟨S16384x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Mlp.Model.lean ====
/- The last layer's MLP and the norm after it, on one row of the residual stream, as functions of extended reals:
   what both the kernel and the reference compute. -/
module

public import Idealize.ShloMosaic.Lib.Pointwise

@[expose] public section

noncomputable section

namespace Cert.MlpModel

open Idealize.ShloMosaic

/-- The root-mean-square norm of a row with a gain, at coordinate `d`. -/
def rms (x g : Fin 1024 → EReal) (d : Fin 1024) : EReal :=
  x d * Ideal.rsqrt (Ideal.div (∑ k : Fin 1024, x k * x k) (Ideal.ofBits .f32 0x44800000#32) + Ideal.ofBits .f32 0x358637BD#32) * g d

/-- The normed row scaled and shifted by the layer's modulation. -/
def modulated (x g sh sc : Fin 1024 → EReal) (d : Fin 1024) : EReal :=
  rms x g d * (Ideal.ofBits .f32 0x3F800000#32 + sc d) + sh d

/-- The hidden unit `f`: the squared ReLU of the projection of `h` by one column of the first weight. -/
def hid (h : Fin 1024 → EReal) (w : Fin 1024 → EReal) : EReal :=
  max (∑ d : Fin 1024, h d * w d) 0 * max (∑ d : Fin 1024, h d * w d) 0

/-- The row after the MLP: residual plus gated second projection `a`. -/
def resid (x gt a : Fin 1024 → EReal) (e : Fin 1024) : EReal := x e + gt e * a e

/-- The whole row: norm, modulation, MLP, residual, final norm. -/
def row (x g sh sc gt og : Fin 1024 → EReal) (w1 : Fin 1024 → Fin 4096 → EReal) (w2 : Fin 4096 → Fin 1024 → EReal)
    (e : Fin 1024) : EReal :=
  rms (resid x gt fun e => ∑ f : Fin 4096, hid (modulated x g sh sc) (fun d => w1 d f) * w2 f e) og e

end Cert.MlpModel

end
-- ==== Proof.Mlp.Block.lean ====
/- What the MLP kernel leaves in its scratch and in its output block at each point of a row tile's run, and the
   payloads read at an index. -/
module

public import proofs.«01_k».proof.Proof.Gen.MlpIdeal.Frame
public import proofs.«01_k».proof.Proof.Mlp.Model
public import Idealize.ShloMosaic.Lib.Pipeline.ValueKit
public import Idealize.ShloMosaic.Lib.Pipeline.ReadBack

@[expose] public section

set_option maxRecDepth 16384

noncomputable section

namespace Cert.MlpIdeal.Hand

open Cert.MlpIdeal Cert.MlpIdeal.Gen Cert.MlpModel Idealize.ShloMosaic Idealize.ShloMosaic.TcCoe Idealize.SL.Sem
open Idealize.ShloMosaic.Pipeline (Dat)

section AnyInstance
variable {F : FTy → Type} [FloatOps F]
variable (m : (ℓ : Loc nD τ sig) → Buf (Elt F) ℓ) (c : Dev nD)

/-- The first point of a run leaves the modulated normed rows in the first scratch. -/
theorem rows_first (t : Fin cfg0.N) (h0 : t.val % 4 = 0) (h1 : ¬t.val % 4 = 3) :
    (outsAt0 m c t.val t.isLt).2.1 = k0_pay1 (iblk m c 0 t) (iblk m c 1 t) (iblk m c 2 t) (iblk m c 3 t) := by
  rw [outsAt0_A m c t h0 h1]; frame_out

/-- The first point of a run leaves its own product, added to zero, in the accumulator. -/
theorem acc_first (t : Fin cfg0.N) (h0 : t.val % 4 = 0) (h1 : ¬t.val % 4 = 3) :
    (outsAt0 m c t.val t.isLt).2.2
      = k0_pay3 (k0_pay1 (iblk m c 0 t) (iblk m c 1 t) (iblk m c 2 t) (iblk m c 3 t)) (iblk m c 5 t) k0_pay2 (iblk m c 6 t) := by
  rw [outsAt0_A m c t h0 h1]; frame_out

/-- A middle point keeps the rows. -/
theorem rows_mid (t : Fin cfg0.N) (h0 : ¬t.val % 4 = 0) (h1 : ¬t.val % 4 = 3) :
    (outsAt0 m c t.val t.isLt).2.1 = (outsAt0 m c (t.val - 1) (Nat.lt_of_le_of_lt (Nat.sub_le _ _) t.isLt)).2.1 := by
  rw [outsAt0_B m c t h0 h1]; rfl

/-- A middle point adds its product to the accumulator. -/
theorem acc_mid (t : Fin cfg0.N) (h0 : ¬t.val % 4 = 0) (h1 : ¬t.val % 4 = 3) :
    (outsAt0 m c t.val t.isLt).2.2
      = k0_pay3 (outsAt0 m c (t.val - 1) (Nat.lt_of_le_of_lt (Nat.sub_le _ _) t.isLt)).2.1 (iblk m c 5 t)
          (outsAt0 m c (t.val - 1) (Nat.lt_of_le_of_lt (Nat.sub_le _ _) t.isLt)).2.2 (iblk m c 6 t) := by
  rw [outsAt0_B m c t h0 h1]; frame_out; simp only [read_unread_whole]

/-- The last point of a run writes the output block. -/
theorem out_last (t : Fin cfg0.N) (h0 : ¬t.val % 4 = 0) (h1 : t.val % 4 = 3) :
    (outsAt0 m c t.val t.isLt).1
      = k0_pay4 (iblk m c 0 t) (iblk m c 4 t)
          (k0_pay3 (outsAt0 m c (t.val - 1) (Nat.lt_of_le_of_lt (Nat.sub_le _ _) t.isLt)).2.1 (iblk m c 5 t)
            (outsAt0 m c (t.val - 1) (Nat.lt_of_le_of_lt (Nat.sub_le _ _) t.isLt)).2.2 (iblk m c 6 t)) (iblk m c 7 t) := by
  rw [outsAt0_C m c t h0 h1]; frame_out; simp only [read_unread_whole]

end AnyInstance

/-- The rows' payload at an index. -/
theorem pay1_apply (x : Vec Ideal S1024x1024 .f32) (g : Vec Ideal S1x1024 .f32) (sh sc : Vec Ideal S1x1x1024 .f32)
    (r d : Fin 1024) :
    k0_pay1 x g sh sc (ix2 r d) = modulated (fun k => x (ix2 r k)) (fun k => g (ix2 0 k)) (fun k => sh (ix3 0 0 k))
      (fun k => sc (ix3 0 0 k)) d := by
  pointwise [k0_pay1, modulated, rms]

/-- One point's product: the tile of hidden units times the tile of the second weight. -/
def part (h : Vec Ideal S1024x1024 .bf16) (w1 w2 : Vec Ideal S1x1024x1024 .f32) (r e : Fin 1024) : EReal :=
  ∑ f : Fin 1024, hid (fun d => h (ix2 r d)) (fun d => w1 (ix3 0 d f)) * w2 (ix3 0 f e)

/-- The accumulation's payload at an index. -/
theorem pay3_apply (h : Vec Ideal S1024x1024 .bf16) (w1 : Vec Ideal S1x1024x1024 .f32) (a : Vec Ideal S1024x1024 .f32)
    (w2 : Vec Ideal S1x1024x1024 .f32) (r e : Fin 1024) :
    k0_pay3 h w1 a w2 (ix2 r e) = a (ix2 r e) + part h w1 w2 r e := by
  pointwise [k0_pay3, part, hid]

/-- The zero block at an index. -/
theorem pay2_apply (r e : Fin 1024) : k0_pay2 (F := Ideal) (ix2 r e) = 0 := by
  pointwise [k0_pay2]

/-- The output's payload at an index. -/
theorem pay4_apply (x : Vec Ideal S1024x1024 .f32) (gt : Vec Ideal S1x1x1024 .f32) (a : Vec Ideal S1024x1024 .f32)
    (og : Vec Ideal S1x1024 .f32) (r e : Fin 1024) :
    k0_pay4 x gt a og (ix2 r e)
      = rms (resid (fun k => x (ix2 r k)) (fun k => gt (ix3 0 0 k)) (fun k => a (ix2 r k))) (fun k => og (ix2 0 k)) e := by
  pointwise [k0_pay4, rms, resid]

end Cert.MlpIdeal.Hand

end
-- ==== Proof.Mlp.Reads.lean ====
/- The MLP kernel's block reads at coordinates of its arguments. -/
module

public import proofs.«01_k».proof.Proof.Mlp.Block

@[expose] public section

set_option maxRecDepth 16384

noncomputable section

namespace Cert.MlpIdeal.Hand

open Cert.MlpIdeal Cert.MlpIdeal.Gen Cert.MlpModel Idealize.ShloMosaic Idealize.ShloMosaic.TcCoe Idealize.SL.Sem
open Idealize.ShloMosaic.Pipeline (Dat)

theorem idx0 : ∀ t : Fin cfg0.N, win0_0.index t = ![t.val / 4, 0] :=
  (by decide +kernel : ∀ t : Fin grid0.N, win0_0.index t = ![t.val / 4, 0])

theorem idx1 : ∀ t : Fin cfg0.N, win0_1.index t = ![0, 0] :=
  (by decide +kernel : ∀ t : Fin grid0.N, win0_1.index t = ![0, 0])

theorem idx2 : ∀ t : Fin cfg0.N, win0_2.index t = ![288 + t.val / 8 * 6 + 3, 0, 0] :=
  (by decide +kernel : ∀ t : Fin grid0.N, win0_2.index t = ![288 + t.val / 8 * 6 + 3, 0, 0])

theorem idx3 : ∀ t : Fin cfg0.N, win0_3.index t = ![288 + t.val / 8 * 6 + 4, 0, 0] :=
  (by decide +kernel : ∀ t : Fin grid0.N, win0_3.index t = ![288 + t.val / 8 * 6 + 4, 0, 0])

theorem idx4 : ∀ t : Fin cfg0.N, win0_4.index t = ![288 + t.val / 8 * 6 + 5, 0, 0] :=
  (by decide +kernel : ∀ t : Fin grid0.N, win0_4.index t = ![288 + t.val / 8 * 6 + 5, 0, 0])

theorem idx5 : ∀ t : Fin cfg0.N, win0_5.index t = ![3, 0, t.val % 4] :=
  (by decide +kernel : ∀ t : Fin grid0.N, win0_5.index t = ![3, 0, t.val % 4])

theorem idx6 : ∀ t : Fin cfg0.N, win0_6.index t = ![3, t.val % 4, 0] :=
  (by decide +kernel : ∀ t : Fin grid0.N, win0_6.index t = ![3, t.val % 4, 0])

theorem idx7 : ∀ t : Fin cfg0.N, win0_7.index t = ![0, 0] :=
  (by decide +kernel : ∀ t : Fin grid0.N, win0_7.index t = ![0, 0])

theorem idx8 : ∀ t : Fin cfg0.N, win0_8.index t = ![t.val / 4, 0] :=
  (by decide +kernel : ∀ t : Fin grid0.N, win0_8.index t = ![t.val / 4, 0])

variable (m : (ℓ : Loc nD τ sig) → Buf (Elt Ideal) ℓ) (c : Dev nD)

/-- The stream. -/
abbrev argX : Vec Ideal S16384x1024 .f32 := m ((c : Thread nD τ).loc main_arg0)
/-- The gain of the first norm. -/
abbrev argG : Vec Ideal S1024 .f32 := m ((c : Thread nD τ).loc main_arg1)
/-- The modulation. -/
abbrev argM : Vec Ideal S384x1x1024 .f32 := m ((c : Thread nD τ).loc main_arg2)
/-- The first weight. -/
abbrev argA : Vec Ideal S4x1024x4096 .f32 := m ((c : Thread nD τ).loc main_arg3)
/-- The second weight. -/
abbrev argB : Vec Ideal S4x4096x1024 .f32 := m ((c : Thread nD τ).loc main_arg4)
/-- The gain of the last norm. -/
abbrev argO : Vec Ideal S1024 .f32 := m ((c : Thread nD τ).loc main_arg5)

/-- The grid has 64 points. -/
theorem lt64 (t : Fin cfg0.N) : t.val < 64 := lt_of_lt_of_eq t.isLt (show cfg0.N = 64 from N_0)

/-- Row `r` of tile `q` in the stream. -/
abbrev tileRow (q : Fin 16) (r : Fin 1024) : Fin 16384 := ⟨q.val * 1024 + r.val, by omega⟩

/-- Modulation vector number `w` of the batch that tile `q` lies in. -/
abbrev tileMod (q : Fin 16) (w : Fin 6) : Fin 384 := ⟨288 + q.val / 2 * 6 + w.val, by omega⟩

/-- Hidden unit `f` of chunk `s`. -/
abbrev chunk (s : Fin 4) (f : Fin 1024) : Fin 4096 := ⟨s.val * 1024 + f.val, by omega⟩

/-- The tile of a point. -/
abbrev tile (t : Fin cfg0.N) : Fin 16 := ⟨t.val / 4, by have := lt64 t; omega⟩

/-- The chunk of a point. -/
abbrev chunkOf (t : Fin cfg0.N) : Fin 4 := ⟨t.val % 4, Nat.mod_lt _ (by decide)⟩

theorem read0 (t : Fin cfg0.N) (r d : Fin 1024) : iblk m c 0 t (ix2 r d) = argX m c (ix2 (tileRow (tile t) r) d) := by
  have := lt64 t
  blk_ext [iblk, V, idx0 t]

theorem read2 (t : Fin cfg0.N) (d : Fin 1024) : iblk m c 2 t (ix3 0 0 d) = argM m c (ix3 (tileMod (tile t) 3) 0 d) := by
  have := lt64 t
  blk_ext [iblk, V, idx2 t]

theorem read3 (t : Fin cfg0.N) (d : Fin 1024) : iblk m c 3 t (ix3 0 0 d) = argM m c (ix3 (tileMod (tile t) 4) 0 d) := by
  have := lt64 t
  blk_ext [iblk, V, idx3 t]

theorem read4 (t : Fin cfg0.N) (d : Fin 1024) : iblk m c 4 t (ix3 0 0 d) = argM m c (ix3 (tileMod (tile t) 5) 0 d) := by
  have := lt64 t
  blk_ext [iblk, V, idx4 t]

theorem read5 (t : Fin cfg0.N) (d f : Fin 1024) : iblk m c 5 t (ix3 0 d f) = argA m c (ix3 3 d (chunk (chunkOf t) f)) := by
  have := lt64 t
  blk_ext [iblk, V, idx5 t]

theorem read6 (t : Fin cfg0.N) (f e : Fin 1024) : iblk m c 6 t (ix3 0 f e) = argB m c (ix3 3 (chunk (chunkOf t) f) e) := by
  have := lt64 t
  blk_ext [iblk, V, idx6 t]

theorem read1 (t : Fin cfg0.N) (d : Fin 1024) : iblk m c 1 t (ix2 0 d) = argG m c (ix1 d) := by
  blk_ext! [iblk, V, idx1 t]

theorem read7 (t : Fin cfg0.N) (d : Fin 1024) : iblk m c 7 t (ix2 0 d) = argO m c (ix1 d) := by
  blk_ext! [iblk, V, idx7 t]

end Cert.MlpIdeal.Hand

end
-- ==== Proof.Mlp.Array.lean ====
/- The MLP kernel's accumulation over a row tile's four points, and its result array. -/
module

public import proofs.«01_k».proof.Proof.Mlp.Reads

@[expose] public section

set_option maxRecDepth 16384

noncomputable section

namespace Cert.MlpIdeal.Hand

open Cert.MlpIdeal Cert.MlpIdeal.Gen Cert.MlpModel Idealize.ShloMosaic Idealize.ShloMosaic.TcCoe Idealize.SL.Sem
open Idealize.ShloMosaic.Pipeline (Dat)

variable (m : (ℓ : Loc nD τ sig) → Buf (Elt Ideal) ℓ) (c : Dev nD)

/-- Row `r` of tile `q`, normed and modulated. -/
def hrow (q : Fin 16) (r : Fin 1024) : Fin 1024 → EReal :=
  modulated (fun k => argX m c (ix2 (tileRow q r) k)) (fun k => argG m c (ix1 k))
    (fun k => argM m c (ix3 (tileMod q 3) 0 k)) (fun k => argM m c (ix3 (tileMod q 4) 0 k))

/-- Chunk `s`'s contribution to the second projection. -/
def contrib (q : Fin 16) (s : Fin 4) (r e : Fin 1024) : EReal :=
  ∑ f : Fin 1024, hid (hrow m c q r) (fun d => argA m c (ix3 3 d (chunk s f))) * argB m c (ix3 3 (chunk s f) e)

/-- One point's payload, over rows that hold the tile's normed rows. -/
theorem part_eq (t : Fin cfg0.N) (h : Vec Ideal S1024x1024 .bf16) (r e : Fin 1024)
    (hh : ∀ d, h (ix2 r d) = hrow m c (tile t) r d) :
    part h (iblk m c 5 t) (iblk m c 6 t) r e = contrib m c (tile t) (chunkOf t) r e := by
  unfold part contrib
  refine Finset.sum_congr rfl fun f _ => ?_
  rw [read6 m c t f e]
  congr 2
  · exact funext hh
  · exact funext fun d => read5 m c t d f

/-- The first payload is the tile's normed rows. -/
theorem rows_pay (t : Fin cfg0.N) (r d : Fin 1024) :
    k0_pay1 (iblk m c 0 t) (iblk m c 1 t) (iblk m c 2 t) (iblk m c 3 t) (ix2 r d) = hrow m c (tile t) r d := by
  rw [pay1_apply]
  simp only [read0, read1, read2, read3]
  rfl

/-- The scratch after a point, the run's last excepted: the tile's normed rows, and the chunks so far summed. -/
theorem held : ∀ (n : ℕ) (hn : n < cfg0.N), n % 4 ≠ 3 → ∀ r e : Fin 1024,
    (outsAt0 m c n hn).2.1 (ix2 r e) = hrow m c (tile ⟨n, hn⟩) r e
    ∧ (outsAt0 m c n hn).2.2 (ix2 r e)
        = 0 + contrib m c (tile ⟨n, hn⟩) 0 r e + (if 1 ≤ n % 4 then contrib m c (tile ⟨n, hn⟩) 1 r e else 0)
          + (if 2 ≤ n % 4 then contrib m c (tile ⟨n, hn⟩) 2 r e else 0) := by
  intro n
  induction n with
  | zero =>
    intro hn h3 r e
    have hA := rows_first m c ⟨0, hn⟩ rfl h3
    have hB := acc_first m c ⟨0, hn⟩ rfl h3
    refine ⟨(congrFun hA _).trans (rows_pay m c ⟨0, hn⟩ r e), (congrFun hB _).trans ?_⟩
    rw [pay3_apply, pay2_apply, part_eq m c ⟨0, hn⟩ _ r e fun d => rows_pay m c ⟨0, hn⟩ r d]
    simp [chunkOf]
  | succ n ih =>
    intro hn h3 r e
    by_cases h0 : (n + 1) % 4 = 0
    · have hA := rows_first m c ⟨n + 1, hn⟩ h0 h3
      have hB := acc_first m c ⟨n + 1, hn⟩ h0 h3
      refine ⟨(congrFun hA _).trans (rows_pay m c ⟨n + 1, hn⟩ r e), (congrFun hB _).trans ?_⟩
      rw [pay3_apply, pay2_apply, part_eq m c ⟨n + 1, hn⟩ _ r e fun d => rows_pay m c ⟨n + 1, hn⟩ r d]
      simp [chunkOf, h0]
    · have hA := rows_mid m c ⟨n + 1, hn⟩ h0 h3
      have hB := acc_mid m c ⟨n + 1, hn⟩ h0 h3
      have hn' : n < cfg0.N := Nat.lt_of_succ_lt hn
      have hq : tile ⟨n, hn'⟩ = tile ⟨n + 1, hn⟩ := Fin.ext (by show n / 4 = (n + 1) / 4; omega)
      have IH := ih hn' (by omega)
      rw [hq] at IH
      refine ⟨(congrFun hA _).trans (IH r e).1, (congrFun hB _).trans ?_⟩
      rw [pay3_apply]
      refine (congrArg₂ (· + ·) (IH r e).2 (part_eq m c ⟨n + 1, hn⟩ _ r e fun d => (IH r d).1)).trans ?_
      have hc : (n + 1) % 4 = 1 ∨ (n + 1) % 4 = 2 := by omega
      rcases hc with hc | hc
      · have hk : chunkOf ⟨n + 1, hn⟩ = 1 := Fin.ext hc
        have hp : n % 4 = 0 := by omega
        rw [hk]; simp [hc, hp]
      · have hk : chunkOf ⟨n + 1, hn⟩ = 2 := Fin.ext hc
        have hp : n % 4 = 1 := by omega
        rw [hk]; simp [hc, hp]

/-- The four chunks are the whole hidden axis. -/
theorem chunks (q : Fin 16) (r e : Fin 1024) :
    0 + contrib m c q 0 r e + contrib m c q 1 r e + contrib m c q 2 r e + contrib m c q 3 r e
      = ∑ f : Fin 4096, hid (hrow m c q r) (fun d => argA m c (ix3 3 d f)) * argB m c (ix3 3 f e) := by
  rw [zero_add, ← Fin.sum_univ_four (fun s => contrib m c q s r e)]
  unfold contrib
  exact Fin.sum_mul_add_fin 4 1024 fun f : Fin 4096 =>
    hid (hrow m c q r) (fun d => argA m c (ix3 3 d f)) * argB m c (ix3 3 f e)

/-- What the kernel leaves at row `r` of tile `q`, coordinate `e`. -/
def outRow (q : Fin 16) (r e : Fin 1024) : EReal :=
  row (fun k => argX m c (ix2 (tileRow q r) k)) (fun k => argG m c (ix1 k))
    (fun k => argM m c (ix3 (tileMod q 3) 0 k)) (fun k => argM m c (ix3 (tileMod q 4) 0 k))
    (fun k => argM m c (ix3 (tileMod q 5) 0 k)) (fun k => argO m c (ix1 k)) (fun d f => argA m c (ix3 3 d f))
    (fun f e => argB m c (ix3 3 f e)) e

/-- The output block of a tile's last point. -/
theorem out_block (t : Fin cfg0.N) (h3 : t.val % 4 = 3) (r e : Fin 1024) :
    (outsAt0 m c t.val t.isLt).1 (ix2 r e) = outRow m c (tile t) r e := by
  have hO := out_last m c t (by omega) h3
  have hn' : t.val - 1 < cfg0.N := Nat.lt_of_le_of_lt (Nat.sub_le _ _) t.isLt
  have hq : tile ⟨t.val - 1, hn'⟩ = tile t := Fin.ext (by show (t.val - 1) / 4 = t.val / 4; omega)
  have H := held m c (t.val - 1) hn' (by omega)
  rw [hq] at H
  have hk : chunkOf t = 3 := Fin.ext h3
  have hp : (t.val - 1) % 4 = 2 := by omega
  have acc : ∀ k : Fin 1024, k0_pay3 (outsAt0 m c (t.val - 1) hn').2.1 (iblk m c 5 t)
      (outsAt0 m c (t.val - 1) hn').2.2 (iblk m c 6 t) (ix2 r k)
      = ∑ f : Fin 4096, hid (hrow m c (tile t) r) (fun d => argA m c (ix3 3 d f)) * argB m c (ix3 3 f k) := fun k => by
    rw [pay3_apply, part_eq m c t _ r k fun d => (H r d).1, hk, ← chunks]
    refine (congrArg (· + _) (H r k).2).trans ?_
    simp [hp]
  refine (congrFun hO _).trans ?_
  rw [pay4_apply]
  simp only [read0, read4, read7, acc]
  rfl

/-- The kernel's result array. -/
def result : Vec Ideal S16384x1024 .f32 := fun i =>
  outRow m c ⟨(i 0).val / 1024, by have := (i 0).isLt; have : (i 0).val < 16384 := this; omega⟩
    ⟨(i 0).val % 1024, Nat.mod_lt _ (by decide)⟩ (i 1)

/-- The result array at row `r` of tile `q`. -/
theorem result_apply (q : Fin 16) (r e : Fin 1024) : result m c (ix2 (tileRow q r) e) = outRow m c q r e := by
  have h1 : (⟨(q.val * 1024 + r.val) / 1024, by omega⟩ : Fin 16) = q := Fin.ext (by show _ / _ = _; omega)
  have h2 : (⟨(q.val * 1024 + r.val) % 1024, by omega⟩ : Fin 1024) = r := Fin.ext (by show _ % _ = _; omega)
  show outRow m c ⟨(q.val * 1024 + r.val) / 1024, _⟩ ⟨(q.val * 1024 + r.val) % 1024, _⟩ e = _
  rw [h1, h2]

/-- The output window's array after the run. -/
theorem final : (dats m 0 c).arrAt 8 cfg0.N = result m c := by
  refine (dats m 0 c).arrAt_eq_of_covers 8 _ (by decide +kernel) fun t hf y => ?_
  have h3 : t.val % 4 = 3 := (flush0_8 t).mp hf
  have := lt64 t
  obtain ⟨r, e, rfl⟩ : ∃ r e : Fin 1024, y = ix2 r e := ⟨y 0, y 1, by funext a; fin_cases a <;> rfl⟩
  have key : ((cfg0.win 8).blk t).view.emb (ix2 r e) = ix2 (tileRow (tile t) r) e := by
    blk_ext [idx8 t]
  blk_simp
  rw [after0_8]
  exact (out_block m c t h3 r e).trans ((result_apply m c (tile t) r e).symm.trans (congrArg (result m c) key.symm))

variable (ρ : Dev nD → PrngReg)

/-- The kernel's run: the result array, the arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 8).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).2 main_arg5 (Pipeline.mem_restRefs_of main_arg5 (by decide) (by decide))).trans (V_main_arg5 m c)⟩)
    (run_main m ρ)

end Cert.MlpIdeal.Hand

end
-- ==== Proof.Mlp.Ref.lean ====
/- The MLP reference read at an index: the model's row. -/
module

public import proofs.«01_k».proof.Proof.Gen.MlpRefIdeal.Read
public import proofs.«01_k».proof.Proof.Mlp.Model

@[expose] public section

set_option maxRecDepth 16384

noncomputable section

namespace Cert.MlpRefIdeal.Hand

open Cert.MlpRefIdeal Cert.MlpRefIdeal.Gen Cert.MlpRefIdeal.Read Cert.MlpModel Idealize.ShloMosaic Idealize.ShloMosaic.TcCoe
open Idealize.SL.Sem

variable (x : Vec Ideal S16384x1024 .f32) (g : Vec Ideal S1024 .f32) (md : Vec Ideal S384x1x1024 .f32)
  (w1 : Vec Ideal S4x1024x4096 .f32) (w2 : Vec Ideal S4x4096x1024 .f32) (og : Vec Ideal S1024 .f32)

/-- Row `l` of batch `b` in the flat stream. -/
abbrev flat (b : Fin 8) (l : Fin 2048) : Fin 16384 := ⟨b.val * 2048 + l.val, by omega⟩

/-- Row of the modulation array: batch `b`'s vector number `w` of the last layer. -/
abbrev modRow (b : Fin 8) (w : Fin 6) : Fin 384 := ⟨288 + b.val * 6 + w.val, by omega⟩

/-- The stream at batch `b`, row `l`. -/
theorem stream_apply (b : Fin 8) (l : Fin 2048) (d : Fin 1024) : val_main_v0 x (ix3 b l d) = x (ix2 (flat b l) d) := by
  pointwise [val_main_v0]

/-- The shift. -/
theorem shift_apply (b : Fin 8) (d : Fin 1024) : val_main_v6 md (ix3 b 0 d) = md (ix3 (modRow b 3) 0 d) := by
  pointwise [val_main_v6, val_main_v5, val_main_v4, val_main_v3, val_main_v2, val_main_v1]
  rfl

/-- The scale. -/
theorem scale_apply (b : Fin 8) (d : Fin 1024) : val_main_v9 md (ix3 b 0 d) = md (ix3 (modRow b 4) 0 d) := by
  pointwise [val_main_v9, val_main_v8, val_main_v7, val_main_v3, val_main_v2, val_main_v1]
  rfl

/-- The gate. -/
theorem gate_apply (b : Fin 8) (d : Fin 1024) : val_main_v12 md (ix3 b 0 d) = md (ix3 (modRow b 5) 0 d) := by
  pointwise [val_main_v12, val_main_v11, val_main_v10, val_main_v3, val_main_v2, val_main_v1]
  rfl

/-- The modulated normed row. -/
theorem modulated_apply (b : Fin 8) (l : Fin 2048) (d : Fin 1024) :
    val_main_v31 x g md (ix3 b l d) = modulated (fun k => x (ix2 (flat b l) k)) (fun k => g (ix1 k))
      (fun k => md (ix3 (modRow b 3) 0 k)) (fun k => md (ix3 (modRow b 4) 0 k)) d := by
  pointwise [val_main_v31, val_main_v30, val_main_v29, val_main_v28, val_main_v27, val_main_v26, val_main_cst_2,
    val_main_v25, val_main_v24, val_main_v23, val_main_v22, val_main_v21, val_main_v20, val_main_v19, val_main_v18,
    val_main_cst_1, val_main_v17, val_main_v16, val_main_cst_0, val_main_v15, val_main_v14, val_main_cst, val_main_v13,
    modulated, rms]
  simp only [stream_apply, shift_apply, scale_apply, zero_add]

/-- The squared hidden unit. -/
theorem hid_apply (b : Fin 8) (l : Fin 2048) (f : Fin 4096) :
    val_main_v37 x g md w1 (ix3 b l f) = hid (modulated (fun k => x (ix2 (flat b l) k)) (fun k => g (ix1 k))
      (fun k => md (ix3 (modRow b 3) 0 k)) (fun k => md (ix3 (modRow b 4) 0 k))) (fun d => w1 (ix3 3 d f)) := by
  pointwise [val_main_v37, val_main_v36, val_main_v35, val_main_cst_3, val_main_v34, val_main_v33, val_main_v32, hid]
  simp only [modulated_apply]

/-- The row after the MLP. -/
theorem resid_apply (b : Fin 8) (l : Fin 2048) (e : Fin 1024) :
    val_main_v43 x g md w1 w2 (ix3 b l e) = resid (fun k => x (ix2 (flat b l) k)) (fun k => md (ix3 (modRow b 5) 0 k))
      (fun e => ∑ f : Fin 4096, hid (modulated (fun k => x (ix2 (flat b l) k)) (fun k => g (ix1 k))
        (fun k => md (ix3 (modRow b 3) 0 k)) (fun k => md (ix3 (modRow b 4) 0 k))) (fun d => w1 (ix3 3 d f)) * w2 (ix3 3 f e)) e := by
  pointwise [val_main_v43, val_main_v42, val_main_v41, val_main_v40, val_main_v39, val_main_v38, resid]
  simp only [hid_apply, stream_apply, gate_apply]

/-- The reference's result at a row and a coordinate. -/
theorem result_apply (b : Fin 8) (l : Fin 2048) (e : Fin 1024) :
    val_main_v57 x g md w1 w2 og (ix2 (flat b l) e) = row (fun k => x (ix2 (flat b l) k)) (fun k => g (ix1 k))
        (fun k => md (ix3 (modRow b 3) 0 k)) (fun k => md (ix3 (modRow b 4) 0 k)) (fun k => md (ix3 (modRow b 5) 0 k))
        (fun k => og (ix1 k)) (fun d f => w1 (ix3 3 d f)) (fun f e => w2 (ix3 3 f e)) e := by
  have hb : (b.val * 2048 + l.val) / 2048 = b.val := by omega
  have hl : (b.val * 2048 + l.val) % 2048 = l.val := by omega
  pointwise [val_main_v57, val_main_v56, val_main_v55, val_main_v54, val_main_v53, val_main_v52, val_main_v51,
    val_main_v50, val_main_v49, val_main_cst_6, val_main_v48, val_main_v47, val_main_cst_5, val_main_v46, val_main_v45,
    val_main_cst_4, val_main_v44, row, rms]
  simp only [resid_apply, zero_add, hb, hl, Fin.eta]

end Cert.MlpRefIdeal.Hand

end
-- ==== Proof.Mlp.Equal.lean ====
/- The MLP kernel and its reference end with the same array. -/
module

public import proofs.«01_k».proof.Defs
public import proofs.«01_k».proof.Proof.Mlp.Array
public import proofs.«01_k».proof.Proof.Mlp.Ref
public import proofs.«01_k».proof.Proof.Gen.MlpRefIdeal.Run

@[expose] public section

set_option maxRecDepth 16384

noncomputable section

namespace Cert.MlpIdeal.Hand

open Cert.MlpIdeal.Gen Cert.MlpModel Idealize.ShloMosaic Idealize.ShloMosaic.TcCoe Idealize.SL.Sem

/-- The kernel's result array is the reference's, at the kernel's arguments. -/
theorem result_eq (m : (ℓ : Loc nD τ sig) → Buf (Elt Ideal) ℓ) (c : Dev nD) :
    result m c = MlpRefIdeal.Read.val_main_v57 (argX m c) (argG m c) (argM m c) (argA m c) (argB m c) (argO m c) := by
  funext i
  obtain ⟨R, e, rfl⟩ : ∃ (R : Fin 16384) (e : Fin 1024), i = ix2 R e := ⟨i 0, i 1, by funext a; fin_cases a <;> rfl⟩
  have hk := result_apply m c ⟨R.val / 1024, by omega⟩ ⟨R.val % 1024, by omega⟩ e
  have hr := MlpRefIdeal.Hand.result_apply (argX m c) (argG m c) (argM m c) (argA m c) (argB m c) (argO m c)
    ⟨R.val / 2048, by omega⟩ ⟨R.val % 2048, by omega⟩ e
  have e1 : tileRow ⟨R.val / 1024, by omega⟩ ⟨R.val % 1024, by omega⟩ = R := Fin.ext (by show _ / _ * _ + _ % _ = _; omega)
  have e2 : MlpRefIdeal.Hand.flat ⟨R.val / 2048, by omega⟩ ⟨R.val % 2048, by omega⟩ = R :=
    Fin.ext (by show _ / _ * _ + _ % _ = _; omega)
  have e3 : ∀ w : Fin 6, tileMod ⟨R.val / 1024, by omega⟩ w = MlpRefIdeal.Hand.modRow ⟨R.val / 2048, by omega⟩ w :=
    fun w => Fin.ext (by show 288 + R.val / 1024 / 2 * 6 + w.val = 288 + R.val / 2048 * 6 + w.val; omega)
  unfold outRow at hk
  rw [e1] at hk
  rw [e2] at hr
  rw [hk, hr]
  simp only [e3]

/-- The value claim of the MLP. -/
theorem claim : Cert.algebraic_MlpIdeal_MlpRefIdeal (hMlpIdeal := MlpIdeal.Gen.facts) (hMlpRefIdeal := MlpRefIdeal.Gen.facts) := by
  intro m g m' g' _ hagree
  refine ⟨fun c => result m c, run m g, ?_⟩
  refine (θ_run _ _ _).mono (fun r h c => ?_) (MlpRefIdeal.Value.run m' g')
  obtain ⟨h0, hrest⟩ := h c
  refine ⟨h0.trans ?_, hrest⟩
  obtain ⟨a0, a1, a2, a3, a4, a5⟩ := hagree c
  rw [MlpRefIdeal.Read.val_main_v57_eq m' c, a0, a1, a2, a3, a4, a5]
  exact (result_eq m c).symm

end Cert.MlpIdeal.Hand

end
-- ==== Proof.Mlp0.Block.lean ====
/- What the MLP kernel of layer 0 leaves in its scratch and in its output block at each point of a row tile's run, and the
   payloads read at an index. -/
module

public import proofs.«01_k».proof.Proof.Gen.Mlp0Ideal.Frame
public import proofs.«01_k».proof.Proof.Mlp.Model
public import Idealize.ShloMosaic.Lib.Pipeline.ValueKit
public import Idealize.ShloMosaic.Lib.Pipeline.ReadBack

@[expose] public section

set_option maxRecDepth 16384

noncomputable section

namespace Cert.Mlp0Ideal.Hand

open Cert.Mlp0Ideal Cert.Mlp0Ideal.Gen Cert.MlpModel Idealize.ShloMosaic Idealize.ShloMosaic.TcCoe Idealize.SL.Sem
open Idealize.ShloMosaic.Pipeline (Dat)

section AnyInstance
variable {F : FTy → Type} [FloatOps F]
variable (m : (ℓ : Loc nD τ sig) → Buf (Elt F) ℓ) (c : Dev nD)

/-- The first point of a run leaves the modulated normed rows in the first scratch. -/
theorem rows_first (t : Fin cfg0.N) (h0 : t.val % 4 = 0) (h1 : ¬t.val % 4 = 3) :
    (outsAt0 m c t.val t.isLt).2.1 = k0_pay1 (iblk m c 0 t) (iblk m c 1 t) (iblk m c 2 t) (iblk m c 3 t) := by
  rw [outsAt0_A m c t h0 h1]; frame_out

/-- The first point of a run leaves its own product, added to zero, in the accumulator. -/
theorem acc_first (t : Fin cfg0.N) (h0 : t.val % 4 = 0) (h1 : ¬t.val % 4 = 3) :
    (outsAt0 m c t.val t.isLt).2.2
      = k0_pay3 (k0_pay1 (iblk m c 0 t) (iblk m c 1 t) (iblk m c 2 t) (iblk m c 3 t)) (iblk m c 5 t) k0_pay2 (iblk m c 6 t) := by
  rw [outsAt0_A m c t h0 h1]; frame_out

/-- A middle point keeps the rows. -/
theorem rows_mid (t : Fin cfg0.N) (h0 : ¬t.val % 4 = 0) (h1 : ¬t.val % 4 = 3) :
    (outsAt0 m c t.val t.isLt).2.1 = (outsAt0 m c (t.val - 1) (Nat.lt_of_le_of_lt (Nat.sub_le _ _) t.isLt)).2.1 := by
  rw [outsAt0_B m c t h0 h1]; rfl

/-- A middle point adds its product to the accumulator. -/
theorem acc_mid (t : Fin cfg0.N) (h0 : ¬t.val % 4 = 0) (h1 : ¬t.val % 4 = 3) :
    (outsAt0 m c t.val t.isLt).2.2
      = k0_pay3 (outsAt0 m c (t.val - 1) (Nat.lt_of_le_of_lt (Nat.sub_le _ _) t.isLt)).2.1 (iblk m c 5 t)
          (outsAt0 m c (t.val - 1) (Nat.lt_of_le_of_lt (Nat.sub_le _ _) t.isLt)).2.2 (iblk m c 6 t) := by
  rw [outsAt0_B m c t h0 h1]; frame_out; simp only [read_unread_whole]

/-- The last point of a run writes the output block. -/
theorem out_last (t : Fin cfg0.N) (h0 : ¬t.val % 4 = 0) (h1 : t.val % 4 = 3) :
    (outsAt0 m c t.val t.isLt).1
      = k0_pay4 (iblk m c 0 t) (iblk m c 4 t)
          (k0_pay3 (outsAt0 m c (t.val - 1) (Nat.lt_of_le_of_lt (Nat.sub_le _ _) t.isLt)).2.1 (iblk m c 5 t)
            (outsAt0 m c (t.val - 1) (Nat.lt_of_le_of_lt (Nat.sub_le _ _) t.isLt)).2.2 (iblk m c 6 t)) := by
  rw [outsAt0_C m c t h0 h1]; frame_out; simp only [read_unread_whole]

end AnyInstance

/-- The rows' payload at an index. -/
theorem pay1_apply (x : Vec Ideal S1024x1024 .f32) (g : Vec Ideal S1x1024 .f32) (sh sc : Vec Ideal S1x1x1024 .f32)
    (r d : Fin 1024) :
    k0_pay1 x g sh sc (ix2 r d) = modulated (fun k => x (ix2 r k)) (fun k => g (ix2 0 k)) (fun k => sh (ix3 0 0 k))
      (fun k => sc (ix3 0 0 k)) d := by
  pointwise [k0_pay1, modulated, rms]

/-- One point's product: the tile of hidden units times the tile of the second weight. -/
def part (h : Vec Ideal S1024x1024 .bf16) (w1 w2 : Vec Ideal S1x1024x1024 .f32) (r e : Fin 1024) : EReal :=
  ∑ f : Fin 1024, hid (fun d => h (ix2 r d)) (fun d => w1 (ix3 0 d f)) * w2 (ix3 0 f e)

/-- The accumulation's payload at an index. -/
theorem pay3_apply (h : Vec Ideal S1024x1024 .bf16) (w1 : Vec Ideal S1x1024x1024 .f32) (a : Vec Ideal S1024x1024 .f32)
    (w2 : Vec Ideal S1x1024x1024 .f32) (r e : Fin 1024) :
    k0_pay3 h w1 a w2 (ix2 r e) = a (ix2 r e) + part h w1 w2 r e := by
  pointwise [k0_pay3, part, hid]

/-- The zero block at an index. -/
theorem pay2_apply (r e : Fin 1024) : k0_pay2 (F := Ideal) (ix2 r e) = 0 := by
  pointwise [k0_pay2]

/-- The output's payload at an index. -/
theorem pay4_apply (x : Vec Ideal S1024x1024 .f32) (gt : Vec Ideal S1x1x1024 .f32) (a : Vec Ideal S1024x1024 .f32)
    (r e : Fin 1024) :
    k0_pay4 x gt a (ix2 r e) = resid (fun k => x (ix2 r k)) (fun k => gt (ix3 0 0 k)) (fun k => a (ix2 r k)) e := by
  pointwise [k0_pay4, resid]

end Cert.Mlp0Ideal.Hand

end
-- ==== Proof.Mlp0.Reads.lean ====
/- The block reads of the MLP kernel of layer 0 at coordinates of its arguments. -/
module

public import proofs.«01_k».proof.Proof.Mlp0.Block

@[expose] public section

set_option maxRecDepth 16384

noncomputable section

namespace Cert.Mlp0Ideal.Hand

open Cert.Mlp0Ideal Cert.Mlp0Ideal.Gen Cert.MlpModel Idealize.ShloMosaic Idealize.ShloMosaic.TcCoe Idealize.SL.Sem
open Idealize.ShloMosaic.Pipeline (Dat)

theorem idx0 : ∀ t : Fin cfg0.N, win0_0.index t = ![t.val / 4, 0] :=
  (by decide +kernel : ∀ t : Fin grid0.N, win0_0.index t = ![t.val / 4, 0])

theorem idx1 : ∀ t : Fin cfg0.N, win0_1.index t = ![0, 0] :=
  (by decide +kernel : ∀ t : Fin grid0.N, win0_1.index t = ![0, 0])

theorem idx2 : ∀ t : Fin cfg0.N, win0_2.index t = ![0 + t.val / 8 * 6 + 3, 0, 0] :=
  (by decide +kernel : ∀ t : Fin grid0.N, win0_2.index t = ![0 + t.val / 8 * 6 + 3, 0, 0])

theorem idx3 : ∀ t : Fin cfg0.N, win0_3.index t = ![0 + t.val / 8 * 6 + 4, 0, 0] :=
  (by decide +kernel : ∀ t : Fin grid0.N, win0_3.index t = ![0 + t.val / 8 * 6 + 4, 0, 0])

theorem idx4 : ∀ t : Fin cfg0.N, win0_4.index t = ![0 + t.val / 8 * 6 + 5, 0, 0] :=
  (by decide +kernel : ∀ t : Fin grid0.N, win0_4.index t = ![0 + t.val / 8 * 6 + 5, 0, 0])

theorem idx5 : ∀ t : Fin cfg0.N, win0_5.index t = ![0, 0, t.val % 4] :=
  (by decide +kernel : ∀ t : Fin grid0.N, win0_5.index t = ![0, 0, t.val % 4])

theorem idx6 : ∀ t : Fin cfg0.N, win0_6.index t = ![0, t.val % 4, 0] :=
  (by decide +kernel : ∀ t : Fin grid0.N, win0_6.index t = ![0, t.val % 4, 0])

theorem idx8 : ∀ t : Fin cfg0.N, win0_8.index t = ![t.val / 4, 0] :=
  (by decide +kernel : ∀ t : Fin grid0.N, win0_8.index t = ![t.val / 4, 0])

variable (m : (ℓ : Loc nD τ sig) → Buf (Elt Ideal) ℓ) (c : Dev nD)

/-- The stream. -/
abbrev argX : Vec Ideal S18432x1024 .f32 := m ((c : Thread nD τ).loc main_arg0)
/-- The gain of the first norm. -/
abbrev argG : Vec Ideal S1024 .f32 := m ((c : Thread nD τ).loc main_arg1)
/-- The modulation. -/
abbrev argM : Vec Ideal S384x1x1024 .f32 := m ((c : Thread nD τ).loc main_arg2)
/-- The first weight. -/
abbrev argA : Vec Ideal S4x1024x4096 .f32 := m ((c : Thread nD τ).loc main_arg3)
/-- The second weight. -/
abbrev argB : Vec Ideal S4x4096x1024 .f32 := m ((c : Thread nD τ).loc main_arg4)
/-- The grid has 72 points. -/
theorem lt72 (t : Fin cfg0.N) : t.val < 72 := lt_of_lt_of_eq t.isLt (show cfg0.N = 72 from N_0)

/-- Row `r` of tile `q` in the stream. -/
abbrev tileRow (q : Fin 18) (r : Fin 1024) : Fin 18432 := ⟨q.val * 1024 + r.val, by omega⟩

/-- Modulation vector number `w` of the batch that tile `q` lies in. -/
abbrev tileMod (q : Fin 18) (w : Fin 6) : Fin 384 := ⟨0 + q.val / 2 * 6 + w.val, by omega⟩

/-- Hidden unit `f` of chunk `s`. -/
abbrev chunk (s : Fin 4) (f : Fin 1024) : Fin 4096 := ⟨s.val * 1024 + f.val, by omega⟩

/-- The tile of a point. -/
abbrev tile (t : Fin cfg0.N) : Fin 18 := ⟨t.val / 4, by have := lt72 t; omega⟩

/-- The chunk of a point. -/
abbrev chunkOf (t : Fin cfg0.N) : Fin 4 := ⟨t.val % 4, Nat.mod_lt _ (by decide)⟩

theorem read0 (t : Fin cfg0.N) (r d : Fin 1024) : iblk m c 0 t (ix2 r d) = argX m c (ix2 (tileRow (tile t) r) d) := by
  have := lt72 t
  blk_ext [iblk, V, idx0 t]

theorem read2 (t : Fin cfg0.N) (d : Fin 1024) : iblk m c 2 t (ix3 0 0 d) = argM m c (ix3 (tileMod (tile t) 3) 0 d) := by
  have := lt72 t
  blk_ext [iblk, V, idx2 t]

theorem read3 (t : Fin cfg0.N) (d : Fin 1024) : iblk m c 3 t (ix3 0 0 d) = argM m c (ix3 (tileMod (tile t) 4) 0 d) := by
  have := lt72 t
  blk_ext [iblk, V, idx3 t]

theorem read4 (t : Fin cfg0.N) (d : Fin 1024) : iblk m c 4 t (ix3 0 0 d) = argM m c (ix3 (tileMod (tile t) 5) 0 d) := by
  have := lt72 t
  blk_ext [iblk, V, idx4 t]

theorem read5 (t : Fin cfg0.N) (d f : Fin 1024) : iblk m c 5 t (ix3 0 d f) = argA m c (ix3 0 d (chunk (chunkOf t) f)) := by
  have := lt72 t
  blk_ext [iblk, V, idx5 t]

theorem read6 (t : Fin cfg0.N) (f e : Fin 1024) : iblk m c 6 t (ix3 0 f e) = argB m c (ix3 0 (chunk (chunkOf t) f) e) := by
  have := lt72 t
  blk_ext [iblk, V, idx6 t]

theorem read1 (t : Fin cfg0.N) (d : Fin 1024) : iblk m c 1 t (ix2 0 d) = argG m c (ix1 d) := by
  blk_ext! [iblk, V, idx1 t]

end Cert.Mlp0Ideal.Hand

end
-- ==== Proof.Mlp0.Array.lean ====
/- The accumulation of the MLP kernel of layer 0 over a row tile's four points, and its result array. -/
module

public import proofs.«01_k».proof.Proof.Mlp0.Reads

@[expose] public section

set_option maxRecDepth 16384

noncomputable section

namespace Cert.Mlp0Ideal.Hand

open Cert.Mlp0Ideal Cert.Mlp0Ideal.Gen Cert.MlpModel Idealize.ShloMosaic Idealize.ShloMosaic.TcCoe Idealize.SL.Sem
open Idealize.ShloMosaic.Pipeline (Dat)

variable (m : (ℓ : Loc nD τ sig) → Buf (Elt Ideal) ℓ) (c : Dev nD)

/-- Row `r` of tile `q`, normed and modulated. -/
def hrow (q : Fin 18) (r : Fin 1024) : Fin 1024 → EReal :=
  modulated (fun k => argX m c (ix2 (tileRow q r) k)) (fun k => argG m c (ix1 k))
    (fun k => argM m c (ix3 (tileMod q 3) 0 k)) (fun k => argM m c (ix3 (tileMod q 4) 0 k))

/-- Chunk `s`'s contribution to the second projection. -/
def contrib (q : Fin 18) (s : Fin 4) (r e : Fin 1024) : EReal :=
  ∑ f : Fin 1024, hid (hrow m c q r) (fun d => argA m c (ix3 0 d (chunk s f))) * argB m c (ix3 0 (chunk s f) e)

/-- One point's payload, over rows that hold the tile's normed rows. -/
theorem part_eq (t : Fin cfg0.N) (h : Vec Ideal S1024x1024 .bf16) (r e : Fin 1024)
    (hh : ∀ d, h (ix2 r d) = hrow m c (tile t) r d) :
    part h (iblk m c 5 t) (iblk m c 6 t) r e = contrib m c (tile t) (chunkOf t) r e := by
  unfold part contrib
  refine Finset.sum_congr rfl fun f _ => ?_
  rw [read6 m c t f e]
  congr 2
  · exact funext hh
  · exact funext fun d => read5 m c t d f

/-- The first payload is the tile's normed rows. -/
theorem rows_pay (t : Fin cfg0.N) (r d : Fin 1024) :
    k0_pay1 (iblk m c 0 t) (iblk m c 1 t) (iblk m c 2 t) (iblk m c 3 t) (ix2 r d) = hrow m c (tile t) r d := by
  rw [pay1_apply]
  simp only [read0, read1, read2, read3]
  rfl

/-- The scratch after a point, the run's last excepted: the tile's normed rows, and the chunks so far summed. -/
theorem held : ∀ (n : ℕ) (hn : n < cfg0.N), n % 4 ≠ 3 → ∀ r e : Fin 1024,
    (outsAt0 m c n hn).2.1 (ix2 r e) = hrow m c (tile ⟨n, hn⟩) r e
    ∧ (outsAt0 m c n hn).2.2 (ix2 r e)
        = 0 + contrib m c (tile ⟨n, hn⟩) 0 r e + (if 1 ≤ n % 4 then contrib m c (tile ⟨n, hn⟩) 1 r e else 0)
          + (if 2 ≤ n % 4 then contrib m c (tile ⟨n, hn⟩) 2 r e else 0) := by
  intro n
  induction n with
  | zero =>
    intro hn h3 r e
    have hA := rows_first m c ⟨0, hn⟩ rfl h3
    have hB := acc_first m c ⟨0, hn⟩ rfl h3
    refine ⟨(congrFun hA _).trans (rows_pay m c ⟨0, hn⟩ r e), (congrFun hB _).trans ?_⟩
    rw [pay3_apply, pay2_apply, part_eq m c ⟨0, hn⟩ _ r e fun d => rows_pay m c ⟨0, hn⟩ r d]
    simp [chunkOf]
  | succ n ih =>
    intro hn h3 r e
    by_cases h0 : (n + 1) % 4 = 0
    · have hA := rows_first m c ⟨n + 1, hn⟩ h0 h3
      have hB := acc_first m c ⟨n + 1, hn⟩ h0 h3
      refine ⟨(congrFun hA _).trans (rows_pay m c ⟨n + 1, hn⟩ r e), (congrFun hB _).trans ?_⟩
      rw [pay3_apply, pay2_apply, part_eq m c ⟨n + 1, hn⟩ _ r e fun d => rows_pay m c ⟨n + 1, hn⟩ r d]
      simp [chunkOf, h0]
    · have hA := rows_mid m c ⟨n + 1, hn⟩ h0 h3
      have hB := acc_mid m c ⟨n + 1, hn⟩ h0 h3
      have hn' : n < cfg0.N := Nat.lt_of_succ_lt hn
      have hq : tile ⟨n, hn'⟩ = tile ⟨n + 1, hn⟩ := Fin.ext (by show n / 4 = (n + 1) / 4; omega)
      have IH := ih hn' (by omega)
      rw [hq] at IH
      refine ⟨(congrFun hA _).trans (IH r e).1, (congrFun hB _).trans ?_⟩
      rw [pay3_apply]
      refine (congrArg₂ (· + ·) (IH r e).2 (part_eq m c ⟨n + 1, hn⟩ _ r e fun d => (IH r d).1)).trans ?_
      have hc : (n + 1) % 4 = 1 ∨ (n + 1) % 4 = 2 := by omega
      rcases hc with hc | hc
      · have hk : chunkOf ⟨n + 1, hn⟩ = 1 := Fin.ext hc
        have hp : n % 4 = 0 := by omega
        rw [hk]; simp [hc, hp]
      · have hk : chunkOf ⟨n + 1, hn⟩ = 2 := Fin.ext hc
        have hp : n % 4 = 1 := by omega
        rw [hk]; simp [hc, hp]

/-- The four chunks are the whole hidden axis. -/
theorem chunks (q : Fin 18) (r e : Fin 1024) :
    0 + contrib m c q 0 r e + contrib m c q 1 r e + contrib m c q 2 r e + contrib m c q 3 r e
      = ∑ f : Fin 4096, hid (hrow m c q r) (fun d => argA m c (ix3 0 d f)) * argB m c (ix3 0 f e) := by
  rw [zero_add, ← Fin.sum_univ_four (fun s => contrib m c q s r e)]
  unfold contrib
  exact Fin.sum_mul_add_fin 4 1024 fun f : Fin 4096 =>
    hid (hrow m c q r) (fun d => argA m c (ix3 0 d f)) * argB m c (ix3 0 f e)

/-- What the kernel leaves at row `r` of tile `q`, coordinate `e`. -/
def outRow (q : Fin 18) (r e : Fin 1024) : EReal :=
  resid (fun k => argX m c (ix2 (tileRow q r) k)) (fun k => argM m c (ix3 (tileMod q 5) 0 k))
    (fun e => ∑ f : Fin 4096, hid (hrow m c q r) (fun d => argA m c (ix3 0 d f)) * argB m c (ix3 0 f e)) e

/-- The output block of a tile's last point. -/
theorem out_block (t : Fin cfg0.N) (h3 : t.val % 4 = 3) (r e : Fin 1024) :
    (outsAt0 m c t.val t.isLt).1 (ix2 r e) = outRow m c (tile t) r e := by
  have hO := out_last m c t (by omega) h3
  have hn' : t.val - 1 < cfg0.N := Nat.lt_of_le_of_lt (Nat.sub_le _ _) t.isLt
  have hq : tile ⟨t.val - 1, hn'⟩ = tile t := Fin.ext (by show (t.val - 1) / 4 = t.val / 4; omega)
  have H := held m c (t.val - 1) hn' (by omega)
  rw [hq] at H
  have hk : chunkOf t = 3 := Fin.ext h3
  have hp : (t.val - 1) % 4 = 2 := by omega
  have acc : ∀ k : Fin 1024, k0_pay3 (outsAt0 m c (t.val - 1) hn').2.1 (iblk m c 5 t)
      (outsAt0 m c (t.val - 1) hn').2.2 (iblk m c 6 t) (ix2 r k)
      = ∑ f : Fin 4096, hid (hrow m c (tile t) r) (fun d => argA m c (ix3 0 d f)) * argB m c (ix3 0 f k) := fun k => by
    rw [pay3_apply, part_eq m c t _ r k fun d => (H r d).1, hk, ← chunks]
    refine (congrArg (· + _) (H r k).2).trans ?_
    simp [hp]
  refine (congrFun hO _).trans ?_
  rw [pay4_apply]
  simp only [read0, read4, acc]
  rfl

/-- The kernel's result array. -/
def result : Vec Ideal S18432x1024 .f32 := fun i =>
  outRow m c ⟨(i 0).val / 1024, by have := (i 0).isLt; have : (i 0).val < 18432 := this; omega⟩
    ⟨(i 0).val % 1024, Nat.mod_lt _ (by decide)⟩ (i 1)

/-- The result array at row `r` of tile `q`. -/
theorem result_apply (q : Fin 18) (r e : Fin 1024) : result m c (ix2 (tileRow q r) e) = outRow m c q r e := by
  have h1 : (⟨(q.val * 1024 + r.val) / 1024, by omega⟩ : Fin 18) = q := Fin.ext (by show _ / _ = _; omega)
  have h2 : (⟨(q.val * 1024 + r.val) % 1024, by omega⟩ : Fin 1024) = r := Fin.ext (by show _ % _ = _; omega)
  show outRow m c ⟨(q.val * 1024 + r.val) / 1024, _⟩ ⟨(q.val * 1024 + r.val) % 1024, _⟩ e = _
  rw [h1, h2]

/-- The output window's array after the run. -/
theorem final : (dats m 0 c).arrAt 8 cfg0.N = result m c := by
  refine (dats m 0 c).arrAt_eq_of_covers 8 _ (by decide +kernel) fun t hf y => ?_
  have h3 : t.val % 4 = 3 := (flush0_8 t).mp hf
  have := lt72 t
  obtain ⟨r, e, rfl⟩ : ∃ r e : Fin 1024, y = ix2 r e := ⟨y 0, y 1, by funext a; fin_cases a <;> rfl⟩
  have key : ((cfg0.win 8).blk t).view.emb (ix2 r e) = ix2 (tileRow (tile t) r) e := by
    blk_ext [idx8 t]
  blk_simp
  rw [after0_8]
  exact (out_block m c t h3 r e).trans ((result_apply m c (tile t) r e).symm.trans (congrArg (result m c) key.symm))

variable (ρ : Dev nD → PrngReg)

/-- The kernel's run: the result array, the arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 8).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).2 main_arg5 (Pipeline.mem_restRefs_of main_arg5 (by decide) (by decide))).trans (V_main_arg5 m c)⟩)
    (run_main m ρ)

end Cert.Mlp0Ideal.Hand

end
-- ==== Proof.Mlp0.Ref.lean ====
/- The reference of the MLP of layer 0 read at an index. -/
module

public import proofs.«01_k».proof.Proof.Gen.Mlp0RefIdeal.Read
public import proofs.«01_k».proof.Proof.Mlp.Model

@[expose] public section

set_option maxRecDepth 16384

noncomputable section

namespace Cert.Mlp0RefIdeal.Hand

open Cert.Mlp0RefIdeal Cert.Mlp0RefIdeal.Gen Cert.Mlp0RefIdeal.Read Cert.MlpModel Idealize.ShloMosaic Idealize.ShloMosaic.TcCoe
open Idealize.SL.Sem

variable (x : Vec Ideal S18432x1024 .f32) (g : Vec Ideal S1024 .f32) (md : Vec Ideal S384x1x1024 .f32)
  (w1 : Vec Ideal S4x1024x4096 .f32) (w2 : Vec Ideal S4x4096x1024 .f32)

/-- Row of the modulation array: vector number `v` of the batch that row `R` lies in (of the context, past the batches). -/
abbrev modRow (R : Fin 18432) (v : Fin 6) : Fin 384 := ⟨0 + R.val / 2048 * 6 + v.val, by omega⟩

/-- Row `R` of the stream, normed and modulated. -/
def hrow (R : Fin 18432) : Fin 1024 → EReal :=
  modulated (fun k => x (ix2 R k)) (fun k => g (ix1 k)) (fun k => md (ix3 (modRow R 3) 0 k)) (fun k => md (ix3 (modRow R 4) 0 k))

/-- Row `R` of the stream after the MLP. -/
def orow (R : Fin 18432) : Fin 1024 → EReal :=
  resid (fun k => x (ix2 R k)) (fun k => md (ix3 (modRow R 5) 0 k))
    (fun e => ∑ f : Fin 4096, hid (hrow x g md R) (fun d => w1 (ix3 0 d f)) * w2 (ix3 0 f e))

/-- Row `l` of batch `b` in the stream. -/
abbrev flat (b : Fin 8) (l : Fin 2048) : Fin 18432 := ⟨b.val * 2048 + l.val, by omega⟩

/-- Row `r` of the context in the stream. -/
abbrev ctx (r : Fin 2048) : Fin 18432 := ⟨16384 + r.val, by omega⟩

/-- The layer's modulation vectors. -/
theorem vec_apply (b : Fin 16) (v : Fin 6) (d : Fin 1024) :
    val_main_v2 md (ix3 b v d) = md (ix3 ⟨0 + b.val * 6 + v.val, by omega⟩ 0 d) := by
  pointwise [val_main_v2, val_main_v1, val_main_v0]

/-- The layer's weights. -/
theorem w1_apply (d : Fin 1024) (f : Fin 4096) : val_main_v4 w1 (ix2 d f) = w1 (ix3 0 d f) := by
  pointwise [val_main_v4, val_main_v3]

theorem w2_apply (f : Fin 4096) (e : Fin 1024) : val_main_v6 w2 (ix2 f e) = w2 (ix3 0 f e) := by
  pointwise [val_main_v6, val_main_v5]

/-- The latent rows. -/
theorem stream_apply (b : Fin 8) (l : Fin 2048) (d : Fin 1024) : val_main_v8 x (ix3 b l d) = x (ix2 (flat b l) d) := by
  pointwise [val_main_v8, val_main_v7]

/-- The shift, the scale and the gate of the latent rows. -/
theorem shift_apply (b : Fin 8) (l : Fin 2048) (d : Fin 1024) : val_main_v11 md (ix3 b 0 d) = md (ix3 (modRow (flat b l) 3) 0 d) := by
  have e : (b.val * 2048 + l.val) / 2048 = b.val := by omega
  pointwise [val_main_v11, val_main_v10, val_main_v9]
  refine (vec_apply md _ _ d).trans (congrArg (fun a => md (ix3 a 0 d)) (Fin.ext ?_))
  simp [e]

theorem scale_apply (b : Fin 8) (l : Fin 2048) (d : Fin 1024) : val_main_v14 md (ix3 b 0 d) = md (ix3 (modRow (flat b l) 4) 0 d) := by
  have e : (b.val * 2048 + l.val) / 2048 = b.val := by omega
  pointwise [val_main_v14, val_main_v13, val_main_v12]
  refine (vec_apply md _ _ d).trans (congrArg (fun a => md (ix3 a 0 d)) (Fin.ext ?_))
  simp [e]

theorem gate_apply (b : Fin 8) (l : Fin 2048) (d : Fin 1024) : val_main_v17 md (ix3 b 0 d) = md (ix3 (modRow (flat b l) 5) 0 d) := by
  have e : (b.val * 2048 + l.val) / 2048 = b.val := by omega
  pointwise [val_main_v17, val_main_v16, val_main_v15]
  refine (vec_apply md _ _ d).trans (congrArg (fun a => md (ix3 a 0 d)) (Fin.ext ?_))
  simp [e]

/-- A latent row, normed and modulated. -/
theorem lat_apply (b : Fin 8) (l : Fin 2048) (d : Fin 1024) : val_main_v36 x g md (ix3 b l d) = hrow x g md (flat b l) d := by
  pointwise [val_main_v36, val_main_v35, val_main_v34, val_main_v33, val_main_v32, val_main_v31, val_main_cst_2,
    val_main_v30, val_main_v29, val_main_v28, val_main_v27, val_main_v26, val_main_v25, val_main_v24, val_main_v23,
    val_main_cst_1, val_main_v22, val_main_v21, val_main_cst_0, val_main_v20, val_main_v19, val_main_cst, val_main_v18,
    hrow, modulated, rms]
  simp only [stream_apply, shift_apply md b l, scale_apply md b l, zero_add]

/-- A latent row's squared hidden unit. -/
theorem hid_apply (b : Fin 8) (l : Fin 2048) (f : Fin 4096) :
    val_main_v40 x g md w1 (ix3 b l f) = hid (hrow x g md (flat b l)) (fun d => w1 (ix3 0 d f)) := by
  pointwise [val_main_v40, val_main_v39, val_main_v38, val_main_cst_3, val_main_v37, hid]
  simp only [lat_apply, w1_apply]

/-- A latent row after the MLP. -/
theorem out_apply (b : Fin 8) (l : Fin 2048) (e : Fin 1024) :
    val_main_v44 x g md w1 w2 (ix3 b l e) = orow x g md w1 w2 (flat b l) e := by
  pointwise [val_main_v44, val_main_v43, val_main_v42, val_main_v41, orow, resid]
  simp only [hid_apply, w2_apply, stream_apply, gate_apply md b l]

/-- The context rows. -/
theorem cstream_apply (r : Fin 2048) (d : Fin 1024) : val_main_v45 x (ix2 r d) = x (ix2 (ctx r) d) := by
  pointwise [val_main_v45]

/-- The shift, the scale and the gate of the context rows. -/
theorem cshift_apply (r : Fin 2048) (d : Fin 1024) : val_main_v47 md (ix1 d) = md (ix3 (modRow (ctx r) 3) 0 d) := by
  have e : (16384 + r.val) / 2048 = 8 := by omega
  pointwise [val_main_v47, val_main_v46]
  refine (vec_apply md _ _ d).trans (congrArg (fun a => md (ix3 a 0 d)) (Fin.ext ?_))
  simp [e]

theorem cscale_apply (r : Fin 2048) (d : Fin 1024) : val_main_v49 md (ix1 d) = md (ix3 (modRow (ctx r) 4) 0 d) := by
  have e : (16384 + r.val) / 2048 = 8 := by omega
  pointwise [val_main_v49, val_main_v48]
  refine (vec_apply md _ _ d).trans (congrArg (fun a => md (ix3 a 0 d)) (Fin.ext ?_))
  simp [e]

theorem cgate_apply (r : Fin 2048) (d : Fin 1024) : val_main_v51 md (ix1 d) = md (ix3 (modRow (ctx r) 5) 0 d) := by
  have e : (16384 + r.val) / 2048 = 8 := by omega
  pointwise [val_main_v51, val_main_v50]
  refine (vec_apply md _ _ d).trans (congrArg (fun a => md (ix3 a 0 d)) (Fin.ext ?_))
  simp [e]

/-- A context row, normed and modulated. -/
theorem ctx_apply (r : Fin 2048) (d : Fin 1024) : val_main_v72 x g md (ix2 r d) = hrow x g md (ctx r) d := by
  pointwise [val_main_v72, val_main_v71, val_main_v70, val_main_v69, val_main_v68, val_main_v67, val_main_v66, val_main_v65,
    val_main_cst_7, val_main_v64, val_main_v63, val_main_v62, val_main_v61, val_main_v60, val_main_v59, val_main_v58,
    val_main_v57, val_main_cst_6, val_main_v56, val_main_v55, val_main_cst_5, val_main_v54, val_main_v53, val_main_cst_4,
    val_main_v52, hrow, modulated, rms]
  simp only [cstream_apply, cshift_apply md r, cscale_apply md r, zero_add]

/-- A context row's squared hidden unit. -/
theorem chid_apply (r : Fin 2048) (f : Fin 4096) :
    val_main_v76 x g md w1 (ix2 r f) = hid (hrow x g md (ctx r)) (fun d => w1 (ix3 0 d f)) := by
  pointwise [val_main_v76, val_main_v75, val_main_v74, val_main_cst_8, val_main_v73, hid]
  simp only [ctx_apply, w1_apply]

/-- A context row after the MLP. -/
theorem cout_apply (r : Fin 2048) (e : Fin 1024) :
    val_main_v81 x g md w1 w2 (ix2 r e) = orow x g md w1 w2 (ctx r) e := by
  pointwise [val_main_v81, val_main_v80, val_main_v79, val_main_v78, val_main_v77, orow, resid]
  simp only [chid_apply, w2_apply, cstream_apply, cgate_apply md r]

/-- The two parts joined. -/
theorem cat_apply (A : FVec Ideal S16384x1024 .f32) (B : FVec Ideal S2048x1024 .f32) (h : Fin 18432 → Fin 1024 → EReal)
    (hA : ∀ (r : Fin 16384) d, A (ix2 r d) = h ⟨r.val, by omega⟩ d) (hB : ∀ r d, B (ix2 r d) = h (ctx r) d) (R : Fin 18432)
    (d : Fin 1024) :
    concatenate S18432x1024 0 [⟨S16384x1024, A⟩, ⟨S2048x1024, B⟩] concatenates_S16384x1024_S2048x1024_S18432x1024_d0 (ix2 R d)
      = h R d := by
  pointwise []
  by_cases h1 : R.val < 16384
  · rw [dif_pos h1]; exact hA _ d
  · rw [dif_neg h1]
    refine (hB _ d).trans (congrArg (fun a => h a d) (Fin.ext ?_))
    show 16384 + (R.val - 16384) = R.val
    omega

/-- The reference's result. -/
theorem result_apply (R : Fin 18432) (e : Fin 1024) : val_main_v83 x g md w1 w2 (ix2 R e) = orow x g md w1 w2 R e := by
  unfold val_main_v83
  refine cat_apply _ _ (orow x g md w1 w2) (fun r e => ?_) (fun r e => cout_apply x g md w1 w2 r e) R e
  have e2 : flat ⟨r.val / 2048, by omega⟩ ⟨r.val % 2048, by omega⟩ = ⟨r.val, by omega⟩ :=
    Fin.ext (by show r.val / 2048 * 2048 + r.val % 2048 = r.val; omega)
  pointwise [val_main_v82]
  exact (out_apply x g md w1 w2 _ _ e).trans (congrArg (fun a => orow x g md w1 w2 a e) e2)

end Cert.Mlp0RefIdeal.Hand

end
-- ==== Proof.Mlp0.Equal.lean ====
/- The MLP kernel of layer 0 and its reference end with the same array. -/
module

public import proofs.«01_k».proof.Defs
public import proofs.«01_k».proof.Proof.Mlp0.Array
public import proofs.«01_k».proof.Proof.Mlp0.Ref
public import proofs.«01_k».proof.Proof.Gen.Mlp0RefIdeal.Run

@[expose] public section

set_option maxRecDepth 16384

noncomputable section

namespace Cert.Mlp0Ideal.Hand

open Cert.Mlp0Ideal.Gen Cert.MlpModel Idealize.ShloMosaic Idealize.ShloMosaic.TcCoe Idealize.SL.Sem

/-- The kernel's result array is the reference's, at the kernel's arguments. -/
theorem result_eq (m : (ℓ : Loc nD τ sig) → Buf (Elt Ideal) ℓ) (c : Dev nD) :
    result m c = Mlp0RefIdeal.Read.val_main_v83 (argX m c) (argG m c) (argM m c) (argA m c) (argB m c) := by
  funext i
  obtain ⟨R, e, rfl⟩ : ∃ (R : Fin 18432) (e : Fin 1024), i = ix2 R e := ⟨i 0, i 1, by funext a; fin_cases a <;> rfl⟩
  have hk := result_apply m c ⟨R.val / 1024, by omega⟩ ⟨R.val % 1024, by omega⟩ e
  have e1 : tileRow ⟨R.val / 1024, by omega⟩ ⟨R.val % 1024, by omega⟩ = R :=
    Fin.ext (by show R.val / 1024 * 1024 + R.val % 1024 = R.val; omega)
  have e3 : ∀ w : Fin 6, tileMod ⟨R.val / 1024, by omega⟩ w = Mlp0RefIdeal.Hand.modRow R w :=
    fun w => Fin.ext (by show 0 + R.val / 1024 / 2 * 6 + w.val = 0 + R.val / 2048 * 6 + w.val; omega)
  unfold outRow hrow at hk
  rw [e1] at hk
  rw [hk, Mlp0RefIdeal.Hand.result_apply]
  unfold Mlp0RefIdeal.Hand.orow Mlp0RefIdeal.Hand.hrow
  simp only [e3]

/-- The value claim of the MLP of layer 0. -/
theorem claim : Cert.algebraic_Mlp0Ideal_Mlp0RefIdeal (hMlp0Ideal := Mlp0Ideal.Gen.facts)
    (hMlp0RefIdeal := Mlp0RefIdeal.Gen.facts) := by
  intro m g m' g' _ hagree
  refine ⟨fun c => result m c, run m g, ?_⟩
  refine (θ_run _ _ _).mono (fun r h c => ?_) (Mlp0RefIdeal.Value.run m' g')
  obtain ⟨h0, hrest⟩ := h c
  refine ⟨h0.trans ?_, hrest⟩
  obtain ⟨a0, a1, a2, a3, a4, a5⟩ := hagree c
  rw [Mlp0RefIdeal.Read.val_main_v83_eq m' c, a0, a1, a2, a3, a4]
  exact (result_eq m c).symm

end Cert.Mlp0Ideal.Hand

end
-- ==== Proof.Mlp1.Block.lean ====
/- What the MLP kernel of layer 1 leaves in its scratch and in its output block at each point of a row tile's run, and the
   payloads read at an index. -/
module

public import proofs.«01_k».proof.Proof.Gen.Mlp1Ideal.Frame
public import proofs.«01_k».proof.Proof.Mlp.Model
public import Idealize.ShloMosaic.Lib.Pipeline.ValueKit
public import Idealize.ShloMosaic.Lib.Pipeline.ReadBack

@[expose] public section

set_option maxRecDepth 16384

noncomputable section

namespace Cert.Mlp1Ideal.Hand

open Cert.Mlp1Ideal Cert.Mlp1Ideal.Gen Cert.MlpModel Idealize.ShloMosaic Idealize.ShloMosaic.TcCoe Idealize.SL.Sem
open Idealize.ShloMosaic.Pipeline (Dat)

section AnyInstance
variable {F : FTy → Type} [FloatOps F]
variable (m : (ℓ : Loc nD τ sig) → Buf (Elt F) ℓ) (c : Dev nD)

/-- The first point of a run leaves the modulated normed rows in the first scratch. -/
theorem rows_first (t : Fin cfg0.N) (h0 : t.val % 4 = 0) (h1 : ¬t.val % 4 = 3) :
    (outsAt0 m c t.val t.isLt).2.1 = k0_pay1 (iblk m c 0 t) (iblk m c 1 t) (iblk m c 2 t) (iblk m c 3 t) := by
  rw [outsAt0_A m c t h0 h1]; frame_out

/-- The first point of a run leaves its own product, added to zero, in the accumulator. -/
theorem acc_first (t : Fin cfg0.N) (h0 : t.val % 4 = 0) (h1 : ¬t.val % 4 = 3) :
    (outsAt0 m c t.val t.isLt).2.2
      = k0_pay3 (k0_pay1 (iblk m c 0 t) (iblk m c 1 t) (iblk m c 2 t) (iblk m c 3 t)) (iblk m c 5 t) k0_pay2 (iblk m c 6 t) := by
  rw [outsAt0_A m c t h0 h1]; frame_out

/-- A middle point keeps the rows. -/
theorem rows_mid (t : Fin cfg0.N) (h0 : ¬t.val % 4 = 0) (h1 : ¬t.val % 4 = 3) :
    (outsAt0 m c t.val t.isLt).2.1 = (outsAt0 m c (t.val - 1) (Nat.lt_of_le_of_lt (Nat.sub_le _ _) t.isLt)).2.1 := by
  rw [outsAt0_B m c t h0 h1]; rfl

/-- A middle point adds its product to the accumulator. -/
theorem acc_mid (t : Fin cfg0.N) (h0 : ¬t.val % 4 = 0) (h1 : ¬t.val % 4 = 3) :
    (outsAt0 m c t.val t.isLt).2.2
      = k0_pay3 (outsAt0 m c (t.val - 1) (Nat.lt_of_le_of_lt (Nat.sub_le _ _) t.isLt)).2.1 (iblk m c 5 t)
          (outsAt0 m c (t.val - 1) (Nat.lt_of_le_of_lt (Nat.sub_le _ _) t.isLt)).2.2 (iblk m c 6 t) := by
  rw [outsAt0_B m c t h0 h1]; frame_out; simp only [read_unread_whole]

/-- The last point of a run writes the output block. -/
theorem out_last (t : Fin cfg0.N) (h0 : ¬t.val % 4 = 0) (h1 : t.val % 4 = 3) :
    (outsAt0 m c t.val t.isLt).1
      = k0_pay4 (iblk m c 0 t) (iblk m c 4 t)
          (k0_pay3 (outsAt0 m c (t.val - 1) (Nat.lt_of_le_of_lt (Nat.sub_le _ _) t.isLt)).2.1 (iblk m c 5 t)
            (outsAt0 m c (t.val - 1) (Nat.lt_of_le_of_lt (Nat.sub_le _ _) t.isLt)).2.2 (iblk m c 6 t)) := by
  rw [outsAt0_C m c t h0 h1]; frame_out; simp only [read_unread_whole]

end AnyInstance

/-- The rows' payload at an index. -/
theorem pay1_apply (x : Vec Ideal S1024x1024 .f32) (g : Vec Ideal S1x1024 .f32) (sh sc : Vec Ideal S1x1x1024 .f32)
    (r d : Fin 1024) :
    k0_pay1 x g sh sc (ix2 r d) = modulated (fun k => x (ix2 r k)) (fun k => g (ix2 0 k)) (fun k => sh (ix3 0 0 k))
      (fun k => sc (ix3 0 0 k)) d := by
  pointwise [k0_pay1, modulated, rms]

/-- One point's product: the tile of hidden units times the tile of the second weight. -/
def part (h : Vec Ideal S1024x1024 .bf16) (w1 w2 : Vec Ideal S1x1024x1024 .f32) (r e : Fin 1024) : EReal :=
  ∑ f : Fin 1024, hid (fun d => h (ix2 r d)) (fun d => w1 (ix3 0 d f)) * w2 (ix3 0 f e)

/-- The accumulation's payload at an index. -/
theorem pay3_apply (h : Vec Ideal S1024x1024 .bf16) (w1 : Vec Ideal S1x1024x1024 .f32) (a : Vec Ideal S1024x1024 .f32)
    (w2 : Vec Ideal S1x1024x1024 .f32) (r e : Fin 1024) :
    k0_pay3 h w1 a w2 (ix2 r e) = a (ix2 r e) + part h w1 w2 r e := by
  pointwise [k0_pay3, part, hid]

/-- The zero block at an index. -/
theorem pay2_apply (r e : Fin 1024) : k0_pay2 (F := Ideal) (ix2 r e) = 0 := by
  pointwise [k0_pay2]

/-- The output's payload at an index. -/
theorem pay4_apply (x : Vec Ideal S1024x1024 .f32) (gt : Vec Ideal S1x1x1024 .f32) (a : Vec Ideal S1024x1024 .f32)
    (r e : Fin 1024) :
    k0_pay4 x gt a (ix2 r e) = resid (fun k => x (ix2 r k)) (fun k => gt (ix3 0 0 k)) (fun k => a (ix2 r k)) e := by
  pointwise [k0_pay4, resid]

end Cert.Mlp1Ideal.Hand

end
-- ==== Proof.Mlp1.Reads.lean ====
/- The block reads of the MLP kernel of layer 1 at coordinates of its arguments. -/
module

public import proofs.«01_k».proof.Proof.Mlp1.Block

@[expose] public section

set_option maxRecDepth 16384

noncomputable section

namespace Cert.Mlp1Ideal.Hand

open Cert.Mlp1Ideal Cert.Mlp1Ideal.Gen Cert.MlpModel Idealize.ShloMosaic Idealize.ShloMosaic.TcCoe Idealize.SL.Sem
open Idealize.ShloMosaic.Pipeline (Dat)

theorem idx0 : ∀ t : Fin cfg0.N, win0_0.index t = ![t.val / 4, 0] :=
  (by decide +kernel : ∀ t : Fin grid0.N, win0_0.index t = ![t.val / 4, 0])

theorem idx1 : ∀ t : Fin cfg0.N, win0_1.index t = ![0, 0] :=
  (by decide +kernel : ∀ t : Fin grid0.N, win0_1.index t = ![0, 0])

theorem idx2 : ∀ t : Fin cfg0.N, win0_2.index t = ![96 + t.val / 8 * 6 + 3, 0, 0] :=
  (by decide +kernel : ∀ t : Fin grid0.N, win0_2.index t = ![96 + t.val / 8 * 6 + 3, 0, 0])

theorem idx3 : ∀ t : Fin cfg0.N, win0_3.index t = ![96 + t.val / 8 * 6 + 4, 0, 0] :=
  (by decide +kernel : ∀ t : Fin grid0.N, win0_3.index t = ![96 + t.val / 8 * 6 + 4, 0, 0])

theorem idx4 : ∀ t : Fin cfg0.N, win0_4.index t = ![96 + t.val / 8 * 6 + 5, 0, 0] :=
  (by decide +kernel : ∀ t : Fin grid0.N, win0_4.index t = ![96 + t.val / 8 * 6 + 5, 0, 0])

theorem idx5 : ∀ t : Fin cfg0.N, win0_5.index t = ![1, 0, t.val % 4] :=
  (by decide +kernel : ∀ t : Fin grid0.N, win0_5.index t = ![1, 0, t.val % 4])

theorem idx6 : ∀ t : Fin cfg0.N, win0_6.index t = ![1, t.val % 4, 0] :=
  (by decide +kernel : ∀ t : Fin grid0.N, win0_6.index t = ![1, t.val % 4, 0])

theorem idx8 : ∀ t : Fin cfg0.N, win0_8.index t = ![t.val / 4, 0] :=
  (by decide +kernel : ∀ t : Fin grid0.N, win0_8.index t = ![t.val / 4, 0])

variable (m : (ℓ : Loc nD τ sig) → Buf (Elt Ideal) ℓ) (c : Dev nD)

/-- The stream. -/
abbrev argX : Vec Ideal S18432x1024 .f32 := m ((c : Thread nD τ).loc main_arg0)
/-- The gain of the first norm. -/
abbrev argG : Vec Ideal S1024 .f32 := m ((c : Thread nD τ).loc main_arg1)
/-- The modulation. -/
abbrev argM : Vec Ideal S384x1x1024 .f32 := m ((c : Thread nD τ).loc main_arg2)
/-- The first weight. -/
abbrev argA : Vec Ideal S4x1024x4096 .f32 := m ((c : Thread nD τ).loc main_arg3)
/-- The second weight. -/
abbrev argB : Vec Ideal S4x4096x1024 .f32 := m ((c : Thread nD τ).loc main_arg4)
/-- The grid has 72 points. -/
theorem lt72 (t : Fin cfg0.N) : t.val < 72 := lt_of_lt_of_eq t.isLt (show cfg0.N = 72 from N_0)

/-- Row `r` of tile `q` in the stream. -/
abbrev tileRow (q : Fin 18) (r : Fin 1024) : Fin 18432 := ⟨q.val * 1024 + r.val, by omega⟩

/-- Modulation vector number `w` of the batch that tile `q` lies in. -/
abbrev tileMod (q : Fin 18) (w : Fin 6) : Fin 384 := ⟨96 + q.val / 2 * 6 + w.val, by omega⟩

/-- Hidden unit `f` of chunk `s`. -/
abbrev chunk (s : Fin 4) (f : Fin 1024) : Fin 4096 := ⟨s.val * 1024 + f.val, by omega⟩

/-- The tile of a point. -/
abbrev tile (t : Fin cfg0.N) : Fin 18 := ⟨t.val / 4, by have := lt72 t; omega⟩

/-- The chunk of a point. -/
abbrev chunkOf (t : Fin cfg0.N) : Fin 4 := ⟨t.val % 4, Nat.mod_lt _ (by decide)⟩

theorem read0 (t : Fin cfg0.N) (r d : Fin 1024) : iblk m c 0 t (ix2 r d) = argX m c (ix2 (tileRow (tile t) r) d) := by
  have := lt72 t
  blk_ext [iblk, V, idx0 t]

theorem read2 (t : Fin cfg0.N) (d : Fin 1024) : iblk m c 2 t (ix3 0 0 d) = argM m c (ix3 (tileMod (tile t) 3) 0 d) := by
  have := lt72 t
  blk_ext [iblk, V, idx2 t]

theorem read3 (t : Fin cfg0.N) (d : Fin 1024) : iblk m c 3 t (ix3 0 0 d) = argM m c (ix3 (tileMod (tile t) 4) 0 d) := by
  have := lt72 t
  blk_ext [iblk, V, idx3 t]

theorem read4 (t : Fin cfg0.N) (d : Fin 1024) : iblk m c 4 t (ix3 0 0 d) = argM m c (ix3 (tileMod (tile t) 5) 0 d) := by
  have := lt72 t
  blk_ext [iblk, V, idx4 t]

theorem read5 (t : Fin cfg0.N) (d f : Fin 1024) : iblk m c 5 t (ix3 0 d f) = argA m c (ix3 1 d (chunk (chunkOf t) f)) := by
  have := lt72 t
  blk_ext [iblk, V, idx5 t]

theorem read6 (t : Fin cfg0.N) (f e : Fin 1024) : iblk m c 6 t (ix3 0 f e) = argB m c (ix3 1 (chunk (chunkOf t) f) e) := by
  have := lt72 t
  blk_ext [iblk, V, idx6 t]

theorem read1 (t : Fin cfg0.N) (d : Fin 1024) : iblk m c 1 t (ix2 0 d) = argG m c (ix1 d) := by
  blk_ext! [iblk, V, idx1 t]

end Cert.Mlp1Ideal.Hand

end
-- ==== Proof.Mlp1.Array.lean ====
/- The accumulation of the MLP kernel of layer 1 over a row tile's four points, and its result array. -/
module

public import proofs.«01_k».proof.Proof.Mlp1.Reads

@[expose] public section

set_option maxRecDepth 16384

noncomputable section

namespace Cert.Mlp1Ideal.Hand

open Cert.Mlp1Ideal Cert.Mlp1Ideal.Gen Cert.MlpModel Idealize.ShloMosaic Idealize.ShloMosaic.TcCoe Idealize.SL.Sem
open Idealize.ShloMosaic.Pipeline (Dat)

variable (m : (ℓ : Loc nD τ sig) → Buf (Elt Ideal) ℓ) (c : Dev nD)

/-- Row `r` of tile `q`, normed and modulated. -/
def hrow (q : Fin 18) (r : Fin 1024) : Fin 1024 → EReal :=
  modulated (fun k => argX m c (ix2 (tileRow q r) k)) (fun k => argG m c (ix1 k))
    (fun k => argM m c (ix3 (tileMod q 3) 0 k)) (fun k => argM m c (ix3 (tileMod q 4) 0 k))

/-- Chunk `s`'s contribution to the second projection. -/
def contrib (q : Fin 18) (s : Fin 4) (r e : Fin 1024) : EReal :=
  ∑ f : Fin 1024, hid (hrow m c q r) (fun d => argA m c (ix3 1 d (chunk s f))) * argB m c (ix3 1 (chunk s f) e)

/-- One point's payload, over rows that hold the tile's normed rows. -/
theorem part_eq (t : Fin cfg0.N) (h : Vec Ideal S1024x1024 .bf16) (r e : Fin 1024)
    (hh : ∀ d, h (ix2 r d) = hrow m c (tile t) r d) :
    part h (iblk m c 5 t) (iblk m c 6 t) r e = contrib m c (tile t) (chunkOf t) r e := by
  unfold part contrib
  refine Finset.sum_congr rfl fun f _ => ?_
  rw [read6 m c t f e]
  congr 2
  · exact funext hh
  · exact funext fun d => read5 m c t d f

/-- The first payload is the tile's normed rows. -/
theorem rows_pay (t : Fin cfg0.N) (r d : Fin 1024) :
    k0_pay1 (iblk m c 0 t) (iblk m c 1 t) (iblk m c 2 t) (iblk m c 3 t) (ix2 r d) = hrow m c (tile t) r d := by
  rw [pay1_apply]
  simp only [read0, read1, read2, read3]
  rfl

/-- The scratch after a point, the run's last excepted: the tile's normed rows, and the chunks so far summed. -/
theorem held : ∀ (n : ℕ) (hn : n < cfg0.N), n % 4 ≠ 3 → ∀ r e : Fin 1024,
    (outsAt0 m c n hn).2.1 (ix2 r e) = hrow m c (tile ⟨n, hn⟩) r e
    ∧ (outsAt0 m c n hn).2.2 (ix2 r e)
        = 0 + contrib m c (tile ⟨n, hn⟩) 0 r e + (if 1 ≤ n % 4 then contrib m c (tile ⟨n, hn⟩) 1 r e else 0)
          + (if 2 ≤ n % 4 then contrib m c (tile ⟨n, hn⟩) 2 r e else 0) := by
  intro n
  induction n with
  | zero =>
    intro hn h3 r e
    have hA := rows_first m c ⟨0, hn⟩ rfl h3
    have hB := acc_first m c ⟨0, hn⟩ rfl h3
    refine ⟨(congrFun hA _).trans (rows_pay m c ⟨0, hn⟩ r e), (congrFun hB _).trans ?_⟩
    rw [pay3_apply, pay2_apply, part_eq m c ⟨0, hn⟩ _ r e fun d => rows_pay m c ⟨0, hn⟩ r d]
    simp [chunkOf]
  | succ n ih =>
    intro hn h3 r e
    by_cases h0 : (n + 1) % 4 = 0
    · have hA := rows_first m c ⟨n + 1, hn⟩ h0 h3
      have hB := acc_first m c ⟨n + 1, hn⟩ h0 h3
      refine ⟨(congrFun hA _).trans (rows_pay m c ⟨n + 1, hn⟩ r e), (congrFun hB _).trans ?_⟩
      rw [pay3_apply, pay2_apply, part_eq m c ⟨n + 1, hn⟩ _ r e fun d => rows_pay m c ⟨n + 1, hn⟩ r d]
      simp [chunkOf, h0]
    · have hA := rows_mid m c ⟨n + 1, hn⟩ h0 h3
      have hB := acc_mid m c ⟨n + 1, hn⟩ h0 h3
      have hn' : n < cfg0.N := Nat.lt_of_succ_lt hn
      have hq : tile ⟨n, hn'⟩ = tile ⟨n + 1, hn⟩ := Fin.ext (by show n / 4 = (n + 1) / 4; omega)
      have IH := ih hn' (by omega)
      rw [hq] at IH
      refine ⟨(congrFun hA _).trans (IH r e).1, (congrFun hB _).trans ?_⟩
      rw [pay3_apply]
      refine (congrArg₂ (· + ·) (IH r e).2 (part_eq m c ⟨n + 1, hn⟩ _ r e fun d => (IH r d).1)).trans ?_
      have hc : (n + 1) % 4 = 1 ∨ (n + 1) % 4 = 2 := by omega
      rcases hc with hc | hc
      · have hk : chunkOf ⟨n + 1, hn⟩ = 1 := Fin.ext hc
        have hp : n % 4 = 0 := by omega
        rw [hk]; simp [hc, hp]
      · have hk : chunkOf ⟨n + 1, hn⟩ = 2 := Fin.ext hc
        have hp : n % 4 = 1 := by omega
        rw [hk]; simp [hc, hp]

/-- The four chunks are the whole hidden axis. -/
theorem chunks (q : Fin 18) (r e : Fin 1024) :
    0 + contrib m c q 0 r e + contrib m c q 1 r e + contrib m c q 2 r e + contrib m c q 3 r e
      = ∑ f : Fin 4096, hid (hrow m c q r) (fun d => argA m c (ix3 1 d f)) * argB m c (ix3 1 f e) := by
  rw [zero_add, ← Fin.sum_univ_four (fun s => contrib m c q s r e)]
  unfold contrib
  exact Fin.sum_mul_add_fin 4 1024 fun f : Fin 4096 =>
    hid (hrow m c q r) (fun d => argA m c (ix3 1 d f)) * argB m c (ix3 1 f e)

/-- What the kernel leaves at row `r` of tile `q`, coordinate `e`. -/
def outRow (q : Fin 18) (r e : Fin 1024) : EReal :=
  resid (fun k => argX m c (ix2 (tileRow q r) k)) (fun k => argM m c (ix3 (tileMod q 5) 0 k))
    (fun e => ∑ f : Fin 4096, hid (hrow m c q r) (fun d => argA m c (ix3 1 d f)) * argB m c (ix3 1 f e)) e

/-- The output block of a tile's last point. -/
theorem out_block (t : Fin cfg0.N) (h3 : t.val % 4 = 3) (r e : Fin 1024) :
    (outsAt0 m c t.val t.isLt).1 (ix2 r e) = outRow m c (tile t) r e := by
  have hO := out_last m c t (by omega) h3
  have hn' : t.val - 1 < cfg0.N := Nat.lt_of_le_of_lt (Nat.sub_le _ _) t.isLt
  have hq : tile ⟨t.val - 1, hn'⟩ = tile t := Fin.ext (by show (t.val - 1) / 4 = t.val / 4; omega)
  have H := held m c (t.val - 1) hn' (by omega)
  rw [hq] at H
  have hk : chunkOf t = 3 := Fin.ext h3
  have hp : (t.val - 1) % 4 = 2 := by omega
  have acc : ∀ k : Fin 1024, k0_pay3 (outsAt0 m c (t.val - 1) hn').2.1 (iblk m c 5 t)
      (outsAt0 m c (t.val - 1) hn').2.2 (iblk m c 6 t) (ix2 r k)
      = ∑ f : Fin 4096, hid (hrow m c (tile t) r) (fun d => argA m c (ix3 1 d f)) * argB m c (ix3 1 f k) := fun k => by
    rw [pay3_apply, part_eq m c t _ r k fun d => (H r d).1, hk, ← chunks]
    refine (congrArg (· + _) (H r k).2).trans ?_
    simp [hp]
  refine (congrFun hO _).trans ?_
  rw [pay4_apply]
  simp only [read0, read4, acc]
  rfl

/-- The kernel's result array. -/
def result : Vec Ideal S18432x1024 .f32 := fun i =>
  outRow m c ⟨(i 0).val / 1024, by have := (i 0).isLt; have : (i 0).val < 18432 := this; omega⟩
    ⟨(i 0).val % 1024, Nat.mod_lt _ (by decide)⟩ (i 1)

/-- The result array at row `r` of tile `q`. -/
theorem result_apply (q : Fin 18) (r e : Fin 1024) : result m c (ix2 (tileRow q r) e) = outRow m c q r e := by
  have h1 : (⟨(q.val * 1024 + r.val) / 1024, by omega⟩ : Fin 18) = q := Fin.ext (by show _ / _ = _; omega)
  have h2 : (⟨(q.val * 1024 + r.val) % 1024, by omega⟩ : Fin 1024) = r := Fin.ext (by show _ % _ = _; omega)
  show outRow m c ⟨(q.val * 1024 + r.val) / 1024, _⟩ ⟨(q.val * 1024 + r.val) % 1024, _⟩ e = _
  rw [h1, h2]

/-- The output window's array after the run. -/
theorem final : (dats m 0 c).arrAt 8 cfg0.N = result m c := by
  refine (dats m 0 c).arrAt_eq_of_covers 8 _ (by decide +kernel) fun t hf y => ?_
  have h3 : t.val % 4 = 3 := (flush0_8 t).mp hf
  have := lt72 t
  obtain ⟨r, e, rfl⟩ : ∃ r e : Fin 1024, y = ix2 r e := ⟨y 0, y 1, by funext a; fin_cases a <;> rfl⟩
  have key : ((cfg0.win 8).blk t).view.emb (ix2 r e) = ix2 (tileRow (tile t) r) e := by
    blk_ext [idx8 t]
  blk_simp
  rw [after0_8]
  exact (out_block m c t h3 r e).trans ((result_apply m c (tile t) r e).symm.trans (congrArg (result m c) key.symm))

variable (ρ : Dev nD → PrngReg)

/-- The kernel's run: the result array, the arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 8).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).2 main_arg5 (Pipeline.mem_restRefs_of main_arg5 (by decide) (by decide))).trans (V_main_arg5 m c)⟩)
    (run_main m ρ)

end Cert.Mlp1Ideal.Hand

end
-- ==== Proof.Mlp1.Ref.lean ====
/- The reference of the MLP of layer 1 read at an index. -/
module

public import proofs.«01_k».proof.Proof.Gen.Mlp1RefIdeal.Read
public import proofs.«01_k».proof.Proof.Mlp.Model

@[expose] public section

set_option maxRecDepth 16384

noncomputable section

namespace Cert.Mlp1RefIdeal.Hand

open Cert.Mlp1RefIdeal Cert.Mlp1RefIdeal.Gen Cert.Mlp1RefIdeal.Read Cert.MlpModel Idealize.ShloMosaic Idealize.ShloMosaic.TcCoe
open Idealize.SL.Sem

variable (x : Vec Ideal S18432x1024 .f32) (g : Vec Ideal S1024 .f32) (md : Vec Ideal S384x1x1024 .f32)
  (w1 : Vec Ideal S4x1024x4096 .f32) (w2 : Vec Ideal S4x4096x1024 .f32)

/-- Row of the modulation array: vector number `v` of the batch that row `R` lies in (of the context, past the batches). -/
abbrev modRow (R : Fin 18432) (v : Fin 6) : Fin 384 := ⟨96 + R.val / 2048 * 6 + v.val, by omega⟩

/-- Row `R` of the stream, normed and modulated. -/
def hrow (R : Fin 18432) : Fin 1024 → EReal :=
  modulated (fun k => x (ix2 R k)) (fun k => g (ix1 k)) (fun k => md (ix3 (modRow R 3) 0 k)) (fun k => md (ix3 (modRow R 4) 0 k))

/-- Row `R` of the stream after the MLP. -/
def orow (R : Fin 18432) : Fin 1024 → EReal :=
  resid (fun k => x (ix2 R k)) (fun k => md (ix3 (modRow R 5) 0 k))
    (fun e => ∑ f : Fin 4096, hid (hrow x g md R) (fun d => w1 (ix3 1 d f)) * w2 (ix3 1 f e))

/-- Row `l` of batch `b` in the stream. -/
abbrev flat (b : Fin 8) (l : Fin 2048) : Fin 18432 := ⟨b.val * 2048 + l.val, by omega⟩

/-- Row `r` of the context in the stream. -/
abbrev ctx (r : Fin 2048) : Fin 18432 := ⟨16384 + r.val, by omega⟩

/-- The layer's modulation vectors. -/
theorem vec_apply (b : Fin 16) (v : Fin 6) (d : Fin 1024) :
    val_main_v2 md (ix3 b v d) = md (ix3 ⟨96 + b.val * 6 + v.val, by omega⟩ 0 d) := by
  pointwise [val_main_v2, val_main_v1, val_main_v0]

/-- The layer's weights. -/
theorem w1_apply (d : Fin 1024) (f : Fin 4096) : val_main_v4 w1 (ix2 d f) = w1 (ix3 1 d f) := by
  pointwise [val_main_v4, val_main_v3]

theorem w2_apply (f : Fin 4096) (e : Fin 1024) : val_main_v6 w2 (ix2 f e) = w2 (ix3 1 f e) := by
  pointwise [val_main_v6, val_main_v5]

/-- The latent rows. -/
theorem stream_apply (b : Fin 8) (l : Fin 2048) (d : Fin 1024) : val_main_v8 x (ix3 b l d) = x (ix2 (flat b l) d) := by
  pointwise [val_main_v8, val_main_v7]

/-- The shift, the scale and the gate of the latent rows. -/
theorem shift_apply (b : Fin 8) (l : Fin 2048) (d : Fin 1024) : val_main_v11 md (ix3 b 0 d) = md (ix3 (modRow (flat b l) 3) 0 d) := by
  have e : (b.val * 2048 + l.val) / 2048 = b.val := by omega
  pointwise [val_main_v11, val_main_v10, val_main_v9]
  refine (vec_apply md _ _ d).trans (congrArg (fun a => md (ix3 a 0 d)) (Fin.ext ?_))
  simp [e]

theorem scale_apply (b : Fin 8) (l : Fin 2048) (d : Fin 1024) : val_main_v14 md (ix3 b 0 d) = md (ix3 (modRow (flat b l) 4) 0 d) := by
  have e : (b.val * 2048 + l.val) / 2048 = b.val := by omega
  pointwise [val_main_v14, val_main_v13, val_main_v12]
  refine (vec_apply md _ _ d).trans (congrArg (fun a => md (ix3 a 0 d)) (Fin.ext ?_))
  simp [e]

theorem gate_apply (b : Fin 8) (l : Fin 2048) (d : Fin 1024) : val_main_v17 md (ix3 b 0 d) = md (ix3 (modRow (flat b l) 5) 0 d) := by
  have e : (b.val * 2048 + l.val) / 2048 = b.val := by omega
  pointwise [val_main_v17, val_main_v16, val_main_v15]
  refine (vec_apply md _ _ d).trans (congrArg (fun a => md (ix3 a 0 d)) (Fin.ext ?_))
  simp [e]

/-- A latent row, normed and modulated. -/
theorem lat_apply (b : Fin 8) (l : Fin 2048) (d : Fin 1024) : val_main_v36 x g md (ix3 b l d) = hrow x g md (flat b l) d := by
  pointwise [val_main_v36, val_main_v35, val_main_v34, val_main_v33, val_main_v32, val_main_v31, val_main_cst_2,
    val_main_v30, val_main_v29, val_main_v28, val_main_v27, val_main_v26, val_main_v25, val_main_v24, val_main_v23,
    val_main_cst_1, val_main_v22, val_main_v21, val_main_cst_0, val_main_v20, val_main_v19, val_main_cst, val_main_v18,
    hrow, modulated, rms]
  simp only [stream_apply, shift_apply md b l, scale_apply md b l, zero_add]

/-- A latent row's squared hidden unit. -/
theorem hid_apply (b : Fin 8) (l : Fin 2048) (f : Fin 4096) :
    val_main_v40 x g md w1 (ix3 b l f) = hid (hrow x g md (flat b l)) (fun d => w1 (ix3 1 d f)) := by
  pointwise [val_main_v40, val_main_v39, val_main_v38, val_main_cst_3, val_main_v37, hid]
  simp only [lat_apply, w1_apply]

/-- A latent row after the MLP. -/
theorem out_apply (b : Fin 8) (l : Fin 2048) (e : Fin 1024) :
    val_main_v44 x g md w1 w2 (ix3 b l e) = orow x g md w1 w2 (flat b l) e := by
  pointwise [val_main_v44, val_main_v43, val_main_v42, val_main_v41, orow, resid]
  simp only [hid_apply, w2_apply, stream_apply, gate_apply md b l]

/-- The context rows. -/
theorem cstream_apply (r : Fin 2048) (d : Fin 1024) : val_main_v45 x (ix2 r d) = x (ix2 (ctx r) d) := by
  pointwise [val_main_v45]

/-- The shift, the scale and the gate of the context rows. -/
theorem cshift_apply (r : Fin 2048) (d : Fin 1024) : val_main_v47 md (ix1 d) = md (ix3 (modRow (ctx r) 3) 0 d) := by
  have e : (16384 + r.val) / 2048 = 8 := by omega
  pointwise [val_main_v47, val_main_v46]
  refine (vec_apply md _ _ d).trans (congrArg (fun a => md (ix3 a 0 d)) (Fin.ext ?_))
  simp [e]

theorem cscale_apply (r : Fin 2048) (d : Fin 1024) : val_main_v49 md (ix1 d) = md (ix3 (modRow (ctx r) 4) 0 d) := by
  have e : (16384 + r.val) / 2048 = 8 := by omega
  pointwise [val_main_v49, val_main_v48]
  refine (vec_apply md _ _ d).trans (congrArg (fun a => md (ix3 a 0 d)) (Fin.ext ?_))
  simp [e]

theorem cgate_apply (r : Fin 2048) (d : Fin 1024) : val_main_v51 md (ix1 d) = md (ix3 (modRow (ctx r) 5) 0 d) := by
  have e : (16384 + r.val) / 2048 = 8 := by omega
  pointwise [val_main_v51, val_main_v50]
  refine (vec_apply md _ _ d).trans (congrArg (fun a => md (ix3 a 0 d)) (Fin.ext ?_))
  simp [e]

/-- A context row, normed and modulated. -/
theorem ctx_apply (r : Fin 2048) (d : Fin 1024) : val_main_v72 x g md (ix2 r d) = hrow x g md (ctx r) d := by
  pointwise [val_main_v72, val_main_v71, val_main_v70, val_main_v69, val_main_v68, val_main_v67, val_main_v66, val_main_v65,
    val_main_cst_7, val_main_v64, val_main_v63, val_main_v62, val_main_v61, val_main_v60, val_main_v59, val_main_v58,
    val_main_v57, val_main_cst_6, val_main_v56, val_main_v55, val_main_cst_5, val_main_v54, val_main_v53, val_main_cst_4,
    val_main_v52, hrow, modulated, rms]
  simp only [cstream_apply, cshift_apply md r, cscale_apply md r, zero_add]

/-- A context row's squared hidden unit. -/
theorem chid_apply (r : Fin 2048) (f : Fin 4096) :
    val_main_v76 x g md w1 (ix2 r f) = hid (hrow x g md (ctx r)) (fun d => w1 (ix3 1 d f)) := by
  pointwise [val_main_v76, val_main_v75, val_main_v74, val_main_cst_8, val_main_v73, hid]
  simp only [ctx_apply, w1_apply]

/-- A context row after the MLP. -/
theorem cout_apply (r : Fin 2048) (e : Fin 1024) :
    val_main_v81 x g md w1 w2 (ix2 r e) = orow x g md w1 w2 (ctx r) e := by
  pointwise [val_main_v81, val_main_v80, val_main_v79, val_main_v78, val_main_v77, orow, resid]
  simp only [chid_apply, w2_apply, cstream_apply, cgate_apply md r]

/-- The two parts joined. -/
theorem cat_apply (A : FVec Ideal S16384x1024 .f32) (B : FVec Ideal S2048x1024 .f32) (h : Fin 18432 → Fin 1024 → EReal)
    (hA : ∀ (r : Fin 16384) d, A (ix2 r d) = h ⟨r.val, by omega⟩ d) (hB : ∀ r d, B (ix2 r d) = h (ctx r) d) (R : Fin 18432)
    (d : Fin 1024) :
    concatenate S18432x1024 0 [⟨S16384x1024, A⟩, ⟨S2048x1024, B⟩] concatenates_S16384x1024_S2048x1024_S18432x1024_d0 (ix2 R d)
      = h R d := by
  pointwise []
  by_cases h1 : R.val < 16384
  · rw [dif_pos h1]; exact hA _ d
  · rw [dif_neg h1]
    refine (hB _ d).trans (congrArg (fun a => h a d) (Fin.ext ?_))
    show 16384 + (R.val - 16384) = R.val
    omega

/-- The reference's result. -/
theorem result_apply (R : Fin 18432) (e : Fin 1024) : val_main_v83 x g md w1 w2 (ix2 R e) = orow x g md w1 w2 R e := by
  unfold val_main_v83
  refine cat_apply _ _ (orow x g md w1 w2) (fun r e => ?_) (fun r e => cout_apply x g md w1 w2 r e) R e
  have e2 : flat ⟨r.val / 2048, by omega⟩ ⟨r.val % 2048, by omega⟩ = ⟨r.val, by omega⟩ :=
    Fin.ext (by show r.val / 2048 * 2048 + r.val % 2048 = r.val; omega)
  pointwise [val_main_v82]
  exact (out_apply x g md w1 w2 _ _ e).trans (congrArg (fun a => orow x g md w1 w2 a e) e2)

end Cert.Mlp1RefIdeal.Hand

end
-- ==== Proof.Mlp1.Equal.lean ====
/- The MLP kernel of layer 1 and its reference end with the same array. -/
module

public import proofs.«01_k».proof.Defs
public import proofs.«01_k».proof.Proof.Mlp1.Array
public import proofs.«01_k».proof.Proof.Mlp1.Ref
public import proofs.«01_k».proof.Proof.Gen.Mlp1RefIdeal.Run

@[expose] public section

set_option maxRecDepth 16384

noncomputable section

namespace Cert.Mlp1Ideal.Hand

open Cert.Mlp1Ideal.Gen Cert.MlpModel Idealize.ShloMosaic Idealize.ShloMosaic.TcCoe Idealize.SL.Sem

/-- The kernel's result array is the reference's, at the kernel's arguments. -/
theorem result_eq (m : (ℓ : Loc nD τ sig) → Buf (Elt Ideal) ℓ) (c : Dev nD) :
    result m c = Mlp1RefIdeal.Read.val_main_v83 (argX m c) (argG m c) (argM m c) (argA m c) (argB m c) := by
  funext i
  obtain ⟨R, e, rfl⟩ : ∃ (R : Fin 18432) (e : Fin 1024), i = ix2 R e := ⟨i 0, i 1, by funext a; fin_cases a <;> rfl⟩
  have hk := result_apply m c ⟨R.val / 1024, by omega⟩ ⟨R.val % 1024, by omega⟩ e
  have e1 : tileRow ⟨R.val / 1024, by omega⟩ ⟨R.val % 1024, by omega⟩ = R :=
    Fin.ext (by show R.val / 1024 * 1024 + R.val % 1024 = R.val; omega)
  have e3 : ∀ w : Fin 6, tileMod ⟨R.val / 1024, by omega⟩ w = Mlp1RefIdeal.Hand.modRow R w :=
    fun w => Fin.ext (by show 96 + R.val / 1024 / 2 * 6 + w.val = 96 + R.val / 2048 * 6 + w.val; omega)
  unfold outRow hrow at hk
  rw [e1] at hk
  rw [hk, Mlp1RefIdeal.Hand.result_apply]
  unfold Mlp1RefIdeal.Hand.orow Mlp1RefIdeal.Hand.hrow
  simp only [e3]

/-- The value claim of the MLP of layer 1. -/
theorem claim : Cert.algebraic_Mlp1Ideal_Mlp1RefIdeal (hMlp1Ideal := Mlp1Ideal.Gen.facts)
    (hMlp1RefIdeal := Mlp1RefIdeal.Gen.facts) := by
  intro m g m' g' _ hagree
  refine ⟨fun c => result m c, run m g, ?_⟩
  refine (θ_run _ _ _).mono (fun r h c => ?_) (Mlp1RefIdeal.Value.run m' g')
  obtain ⟨h0, hrest⟩ := h c
  refine ⟨h0.trans ?_, hrest⟩
  obtain ⟨a0, a1, a2, a3, a4, a5⟩ := hagree c
  rw [Mlp1RefIdeal.Read.val_main_v83_eq m' c, a0, a1, a2, a3, a4]
  exact (result_eq m c).symm

end Cert.Mlp1Ideal.Hand

end
-- ==== Proof.Mlp2.Block.lean ====
/- What the MLP kernel of layer 2 leaves in its scratch and in its output block at each point of a row tile's run, and the
   payloads read at an index. -/
module

public import proofs.«01_k».proof.Proof.Gen.Mlp2Ideal.Frame
public import proofs.«01_k».proof.Proof.Mlp.Model
public import Idealize.ShloMosaic.Lib.Pipeline.ValueKit
public import Idealize.ShloMosaic.Lib.Pipeline.ReadBack

@[expose] public section

set_option maxRecDepth 16384

noncomputable section

namespace Cert.Mlp2Ideal.Hand

open Cert.Mlp2Ideal Cert.Mlp2Ideal.Gen Cert.MlpModel Idealize.ShloMosaic Idealize.ShloMosaic.TcCoe Idealize.SL.Sem
open Idealize.ShloMosaic.Pipeline (Dat)

section AnyInstance
variable {F : FTy → Type} [FloatOps F]
variable (m : (ℓ : Loc nD τ sig) → Buf (Elt F) ℓ) (c : Dev nD)

/-- The first point of a run leaves the modulated normed rows in the first scratch. -/
theorem rows_first (t : Fin cfg0.N) (h0 : t.val % 4 = 0) (h1 : ¬t.val % 4 = 3) :
    (outsAt0 m c t.val t.isLt).2.1 = k0_pay1 (iblk m c 0 t) (iblk m c 1 t) (iblk m c 2 t) (iblk m c 3 t) := by
  rw [outsAt0_A m c t h0 h1]; frame_out

/-- The first point of a run leaves its own product, added to zero, in the accumulator. -/
theorem acc_first (t : Fin cfg0.N) (h0 : t.val % 4 = 0) (h1 : ¬t.val % 4 = 3) :
    (outsAt0 m c t.val t.isLt).2.2
      = k0_pay3 (k0_pay1 (iblk m c 0 t) (iblk m c 1 t) (iblk m c 2 t) (iblk m c 3 t)) (iblk m c 5 t) k0_pay2 (iblk m c 6 t) := by
  rw [outsAt0_A m c t h0 h1]; frame_out

/-- A middle point keeps the rows. -/
theorem rows_mid (t : Fin cfg0.N) (h0 : ¬t.val % 4 = 0) (h1 : ¬t.val % 4 = 3) :
    (outsAt0 m c t.val t.isLt).2.1 = (outsAt0 m c (t.val - 1) (Nat.lt_of_le_of_lt (Nat.sub_le _ _) t.isLt)).2.1 := by
  rw [outsAt0_B m c t h0 h1]; rfl

/-- A middle point adds its product to the accumulator. -/
theorem acc_mid (t : Fin cfg0.N) (h0 : ¬t.val % 4 = 0) (h1 : ¬t.val % 4 = 3) :
    (outsAt0 m c t.val t.isLt).2.2
      = k0_pay3 (outsAt0 m c (t.val - 1) (Nat.lt_of_le_of_lt (Nat.sub_le _ _) t.isLt)).2.1 (iblk m c 5 t)
          (outsAt0 m c (t.val - 1) (Nat.lt_of_le_of_lt (Nat.sub_le _ _) t.isLt)).2.2 (iblk m c 6 t) := by
  rw [outsAt0_B m c t h0 h1]; frame_out; simp only [read_unread_whole]

/-- The last point of a run writes the output block. -/
theorem out_last (t : Fin cfg0.N) (h0 : ¬t.val % 4 = 0) (h1 : t.val % 4 = 3) :
    (outsAt0 m c t.val t.isLt).1
      = k0_pay4 (iblk m c 0 t) (iblk m c 4 t)
          (k0_pay3 (outsAt0 m c (t.val - 1) (Nat.lt_of_le_of_lt (Nat.sub_le _ _) t.isLt)).2.1 (iblk m c 5 t)
            (outsAt0 m c (t.val - 1) (Nat.lt_of_le_of_lt (Nat.sub_le _ _) t.isLt)).2.2 (iblk m c 6 t)) := by
  rw [outsAt0_C m c t h0 h1]; frame_out; simp only [read_unread_whole]

end AnyInstance

/-- The rows' payload at an index. -/
theorem pay1_apply (x : Vec Ideal S1024x1024 .f32) (g : Vec Ideal S1x1024 .f32) (sh sc : Vec Ideal S1x1x1024 .f32)
    (r d : Fin 1024) :
    k0_pay1 x g sh sc (ix2 r d) = modulated (fun k => x (ix2 r k)) (fun k => g (ix2 0 k)) (fun k => sh (ix3 0 0 k))
      (fun k => sc (ix3 0 0 k)) d := by
  pointwise [k0_pay1, modulated, rms]

/-- One point's product: the tile of hidden units times the tile of the second weight. -/
def part (h : Vec Ideal S1024x1024 .bf16) (w1 w2 : Vec Ideal S1x1024x1024 .f32) (r e : Fin 1024) : EReal :=
  ∑ f : Fin 1024, hid (fun d => h (ix2 r d)) (fun d => w1 (ix3 0 d f)) * w2 (ix3 0 f e)

/-- The accumulation's payload at an index. -/
theorem pay3_apply (h : Vec Ideal S1024x1024 .bf16) (w1 : Vec Ideal S1x1024x1024 .f32) (a : Vec Ideal S1024x1024 .f32)
    (w2 : Vec Ideal S1x1024x1024 .f32) (r e : Fin 1024) :
    k0_pay3 h w1 a w2 (ix2 r e) = a (ix2 r e) + part h w1 w2 r e := by
  pointwise [k0_pay3, part, hid]

/-- The zero block at an index. -/
theorem pay2_apply (r e : Fin 1024) : k0_pay2 (F := Ideal) (ix2 r e) = 0 := by
  pointwise [k0_pay2]

/-- The output's payload at an index. -/
theorem pay4_apply (x : Vec Ideal S1024x1024 .f32) (gt : Vec Ideal S1x1x1024 .f32) (a : Vec Ideal S1024x1024 .f32)
    (r e : Fin 1024) :
    k0_pay4 x gt a (ix2 r e) = resid (fun k => x (ix2 r k)) (fun k => gt (ix3 0 0 k)) (fun k => a (ix2 r k)) e := by
  pointwise [k0_pay4, resid]

end Cert.Mlp2Ideal.Hand

end
-- ==== Proof.Mlp2.Reads.lean ====
/- The block reads of the MLP kernel of layer 2 at coordinates of its arguments. -/
module

public import proofs.«01_k».proof.Proof.Mlp2.Block

@[expose] public section

set_option maxRecDepth 16384

noncomputable section

namespace Cert.Mlp2Ideal.Hand

open Cert.Mlp2Ideal Cert.Mlp2Ideal.Gen Cert.MlpModel Idealize.ShloMosaic Idealize.ShloMosaic.TcCoe Idealize.SL.Sem
open Idealize.ShloMosaic.Pipeline (Dat)

theorem idx0 : ∀ t : Fin cfg0.N, win0_0.index t = ![t.val / 4, 0] :=
  (by decide +kernel : ∀ t : Fin grid0.N, win0_0.index t = ![t.val / 4, 0])

theorem idx1 : ∀ t : Fin cfg0.N, win0_1.index t = ![0, 0] :=
  (by decide +kernel : ∀ t : Fin grid0.N, win0_1.index t = ![0, 0])

theorem idx2 : ∀ t : Fin cfg0.N, win0_2.index t = ![192 + t.val / 8 * 6 + 3, 0, 0] :=
  (by decide +kernel : ∀ t : Fin grid0.N, win0_2.index t = ![192 + t.val / 8 * 6 + 3, 0, 0])

theorem idx3 : ∀ t : Fin cfg0.N, win0_3.index t = ![192 + t.val / 8 * 6 + 4, 0, 0] :=
  (by decide +kernel : ∀ t : Fin grid0.N, win0_3.index t = ![192 + t.val / 8 * 6 + 4, 0, 0])

theorem idx4 : ∀ t : Fin cfg0.N, win0_4.index t = ![192 + t.val / 8 * 6 + 5, 0, 0] :=
  (by decide +kernel : ∀ t : Fin grid0.N, win0_4.index t = ![192 + t.val / 8 * 6 + 5, 0, 0])

theorem idx5 : ∀ t : Fin cfg0.N, win0_5.index t = ![2, 0, t.val % 4] :=
  (by decide +kernel : ∀ t : Fin grid0.N, win0_5.index t = ![2, 0, t.val % 4])

theorem idx6 : ∀ t : Fin cfg0.N, win0_6.index t = ![2, t.val % 4, 0] :=
  (by decide +kernel : ∀ t : Fin grid0.N, win0_6.index t = ![2, t.val % 4, 0])

theorem idx8 : ∀ t : Fin cfg0.N, win0_8.index t = ![t.val / 4, 0] :=
  (by decide +kernel : ∀ t : Fin grid0.N, win0_8.index t = ![t.val / 4, 0])

variable (m : (ℓ : Loc nD τ sig) → Buf (Elt Ideal) ℓ) (c : Dev nD)

/-- The stream. -/
abbrev argX : Vec Ideal S18432x1024 .f32 := m ((c : Thread nD τ).loc main_arg0)
/-- The gain of the first norm. -/
abbrev argG : Vec Ideal S1024 .f32 := m ((c : Thread nD τ).loc main_arg1)
/-- The modulation. -/
abbrev argM : Vec Ideal S384x1x1024 .f32 := m ((c : Thread nD τ).loc main_arg2)
/-- The first weight. -/
abbrev argA : Vec Ideal S4x1024x4096 .f32 := m ((c : Thread nD τ).loc main_arg3)
/-- The second weight. -/
abbrev argB : Vec Ideal S4x4096x1024 .f32 := m ((c : Thread nD τ).loc main_arg4)
/-- The grid has 72 points. -/
theorem lt72 (t : Fin cfg0.N) : t.val < 72 := lt_of_lt_of_eq t.isLt (show cfg0.N = 72 from N_0)

/-- Row `r` of tile `q` in the stream. -/
abbrev tileRow (q : Fin 18) (r : Fin 1024) : Fin 18432 := ⟨q.val * 1024 + r.val, by omega⟩

/-- Modulation vector number `w` of the batch that tile `q` lies in. -/
abbrev tileMod (q : Fin 18) (w : Fin 6) : Fin 384 := ⟨192 + q.val / 2 * 6 + w.val, by omega⟩

/-- Hidden unit `f` of chunk `s`. -/
abbrev chunk (s : Fin 4) (f : Fin 1024) : Fin 4096 := ⟨s.val * 1024 + f.val, by omega⟩

/-- The tile of a point. -/
abbrev tile (t : Fin cfg0.N) : Fin 18 := ⟨t.val / 4, by have := lt72 t; omega⟩

/-- The chunk of a point. -/
abbrev chunkOf (t : Fin cfg0.N) : Fin 4 := ⟨t.val % 4, Nat.mod_lt _ (by decide)⟩

theorem read0 (t : Fin cfg0.N) (r d : Fin 1024) : iblk m c 0 t (ix2 r d) = argX m c (ix2 (tileRow (tile t) r) d) := by
  have := lt72 t
  blk_ext [iblk, V, idx0 t]

theorem read2 (t : Fin cfg0.N) (d : Fin 1024) : iblk m c 2 t (ix3 0 0 d) = argM m c (ix3 (tileMod (tile t) 3) 0 d) := by
  have := lt72 t
  blk_ext [iblk, V, idx2 t]

theorem read3 (t : Fin cfg0.N) (d : Fin 1024) : iblk m c 3 t (ix3 0 0 d) = argM m c (ix3 (tileMod (tile t) 4) 0 d) := by
  have := lt72 t
  blk_ext [iblk, V, idx3 t]

theorem read4 (t : Fin cfg0.N) (d : Fin 1024) : iblk m c 4 t (ix3 0 0 d) = argM m c (ix3 (tileMod (tile t) 5) 0 d) := by
  have := lt72 t
  blk_ext [iblk, V, idx4 t]

theorem read5 (t : Fin cfg0.N) (d f : Fin 1024) : iblk m c 5 t (ix3 0 d f) = argA m c (ix3 2 d (chunk (chunkOf t) f)) := by
  have := lt72 t
  blk_ext [iblk, V, idx5 t]

theorem read6 (t : Fin cfg0.N) (f e : Fin 1024) : iblk m c 6 t (ix3 0 f e) = argB m c (ix3 2 (chunk (chunkOf t) f) e) := by
  have := lt72 t
  blk_ext [iblk, V, idx6 t]

theorem read1 (t : Fin cfg0.N) (d : Fin 1024) : iblk m c 1 t (ix2 0 d) = argG m c (ix1 d) := by
  blk_ext! [iblk, V, idx1 t]

end Cert.Mlp2Ideal.Hand

end
-- ==== Proof.Mlp2.Array.lean ====
/- The accumulation of the MLP kernel of layer 2 over a row tile's four points, and its result array. -/
module

public import proofs.«01_k».proof.Proof.Mlp2.Reads

@[expose] public section

set_option maxRecDepth 16384

noncomputable section

namespace Cert.Mlp2Ideal.Hand

open Cert.Mlp2Ideal Cert.Mlp2Ideal.Gen Cert.MlpModel Idealize.ShloMosaic Idealize.ShloMosaic.TcCoe Idealize.SL.Sem
open Idealize.ShloMosaic.Pipeline (Dat)

variable (m : (ℓ : Loc nD τ sig) → Buf (Elt Ideal) ℓ) (c : Dev nD)

/-- Row `r` of tile `q`, normed and modulated. -/
def hrow (q : Fin 18) (r : Fin 1024) : Fin 1024 → EReal :=
  modulated (fun k => argX m c (ix2 (tileRow q r) k)) (fun k => argG m c (ix1 k))
    (fun k => argM m c (ix3 (tileMod q 3) 0 k)) (fun k => argM m c (ix3 (tileMod q 4) 0 k))

/-- Chunk `s`'s contribution to the second projection. -/
def contrib (q : Fin 18) (s : Fin 4) (r e : Fin 1024) : EReal :=
  ∑ f : Fin 1024, hid (hrow m c q r) (fun d => argA m c (ix3 2 d (chunk s f))) * argB m c (ix3 2 (chunk s f) e)

/-- One point's payload, over rows that hold the tile's normed rows. -/
theorem part_eq (t : Fin cfg0.N) (h : Vec Ideal S1024x1024 .bf16) (r e : Fin 1024)
    (hh : ∀ d, h (ix2 r d) = hrow m c (tile t) r d) :
    part h (iblk m c 5 t) (iblk m c 6 t) r e = contrib m c (tile t) (chunkOf t) r e := by
  unfold part contrib
  refine Finset.sum_congr rfl fun f _ => ?_
  rw [read6 m c t f e]
  congr 2
  · exact funext hh
  · exact funext fun d => read5 m c t d f

/-- The first payload is the tile's normed rows. -/
theorem rows_pay (t : Fin cfg0.N) (r d : Fin 1024) :
    k0_pay1 (iblk m c 0 t) (iblk m c 1 t) (iblk m c 2 t) (iblk m c 3 t) (ix2 r d) = hrow m c (tile t) r d := by
  rw [pay1_apply]
  simp only [read0, read1, read2, read3]
  rfl

/-- The scratch after a point, the run's last excepted: the tile's normed rows, and the chunks so far summed. -/
theorem held : ∀ (n : ℕ) (hn : n < cfg0.N), n % 4 ≠ 3 → ∀ r e : Fin 1024,
    (outsAt0 m c n hn).2.1 (ix2 r e) = hrow m c (tile ⟨n, hn⟩) r e
    ∧ (outsAt0 m c n hn).2.2 (ix2 r e)
        = 0 + contrib m c (tile ⟨n, hn⟩) 0 r e + (if 1 ≤ n % 4 then contrib m c (tile ⟨n, hn⟩) 1 r e else 0)
          + (if 2 ≤ n % 4 then contrib m c (tile ⟨n, hn⟩) 2 r e else 0) := by
  intro n
  induction n with
  | zero =>
    intro hn h3 r e
    have hA := rows_first m c ⟨0, hn⟩ rfl h3
    have hB := acc_first m c ⟨0, hn⟩ rfl h3
    refine ⟨(congrFun hA _).trans (rows_pay m c ⟨0, hn⟩ r e), (congrFun hB _).trans ?_⟩
    rw [pay3_apply, pay2_apply, part_eq m c ⟨0, hn⟩ _ r e fun d => rows_pay m c ⟨0, hn⟩ r d]
    simp [chunkOf]
  | succ n ih =>
    intro hn h3 r e
    by_cases h0 : (n + 1) % 4 = 0
    · have hA := rows_first m c ⟨n + 1, hn⟩ h0 h3
      have hB := acc_first m c ⟨n + 1, hn⟩ h0 h3
      refine ⟨(congrFun hA _).trans (rows_pay m c ⟨n + 1, hn⟩ r e), (congrFun hB _).trans ?_⟩
      rw [pay3_apply, pay2_apply, part_eq m c ⟨n + 1, hn⟩ _ r e fun d => rows_pay m c ⟨n + 1, hn⟩ r d]
      simp [chunkOf, h0]
    · have hA := rows_mid m c ⟨n + 1, hn⟩ h0 h3
      have hB := acc_mid m c ⟨n + 1, hn⟩ h0 h3
      have hn' : n < cfg0.N := Nat.lt_of_succ_lt hn
      have hq : tile ⟨n, hn'⟩ = tile ⟨n + 1, hn⟩ := Fin.ext (by show n / 4 = (n + 1) / 4; omega)
      have IH := ih hn' (by omega)
      rw [hq] at IH
      refine ⟨(congrFun hA _).trans (IH r e).1, (congrFun hB _).trans ?_⟩
      rw [pay3_apply]
      refine (congrArg₂ (· + ·) (IH r e).2 (part_eq m c ⟨n + 1, hn⟩ _ r e fun d => (IH r d).1)).trans ?_
      have hc : (n + 1) % 4 = 1 ∨ (n + 1) % 4 = 2 := by omega
      rcases hc with hc | hc
      · have hk : chunkOf ⟨n + 1, hn⟩ = 1 := Fin.ext hc
        have hp : n % 4 = 0 := by omega
        rw [hk]; simp [hc, hp]
      · have hk : chunkOf ⟨n + 1, hn⟩ = 2 := Fin.ext hc
        have hp : n % 4 = 1 := by omega
        rw [hk]; simp [hc, hp]

/-- The four chunks are the whole hidden axis. -/
theorem chunks (q : Fin 18) (r e : Fin 1024) :
    0 + contrib m c q 0 r e + contrib m c q 1 r e + contrib m c q 2 r e + contrib m c q 3 r e
      = ∑ f : Fin 4096, hid (hrow m c q r) (fun d => argA m c (ix3 2 d f)) * argB m c (ix3 2 f e) := by
  rw [zero_add, ← Fin.sum_univ_four (fun s => contrib m c q s r e)]
  unfold contrib
  exact Fin.sum_mul_add_fin 4 1024 fun f : Fin 4096 =>
    hid (hrow m c q r) (fun d => argA m c (ix3 2 d f)) * argB m c (ix3 2 f e)

/-- What the kernel leaves at row `r` of tile `q`, coordinate `e`. -/
def outRow (q : Fin 18) (r e : Fin 1024) : EReal :=
  resid (fun k => argX m c (ix2 (tileRow q r) k)) (fun k => argM m c (ix3 (tileMod q 5) 0 k))
    (fun e => ∑ f : Fin 4096, hid (hrow m c q r) (fun d => argA m c (ix3 2 d f)) * argB m c (ix3 2 f e)) e

/-- The output block of a tile's last point. -/
theorem out_block (t : Fin cfg0.N) (h3 : t.val % 4 = 3) (r e : Fin 1024) :
    (outsAt0 m c t.val t.isLt).1 (ix2 r e) = outRow m c (tile t) r e := by
  have hO := out_last m c t (by omega) h3
  have hn' : t.val - 1 < cfg0.N := Nat.lt_of_le_of_lt (Nat.sub_le _ _) t.isLt
  have hq : tile ⟨t.val - 1, hn'⟩ = tile t := Fin.ext (by show (t.val - 1) / 4 = t.val / 4; omega)
  have H := held m c (t.val - 1) hn' (by omega)
  rw [hq] at H
  have hk : chunkOf t = 3 := Fin.ext h3
  have hp : (t.val - 1) % 4 = 2 := by omega
  have acc : ∀ k : Fin 1024, k0_pay3 (outsAt0 m c (t.val - 1) hn').2.1 (iblk m c 5 t)
      (outsAt0 m c (t.val - 1) hn').2.2 (iblk m c 6 t) (ix2 r k)
      = ∑ f : Fin 4096, hid (hrow m c (tile t) r) (fun d => argA m c (ix3 2 d f)) * argB m c (ix3 2 f k) := fun k => by
    rw [pay3_apply, part_eq m c t _ r k fun d => (H r d).1, hk, ← chunks]
    refine (congrArg (· + _) (H r k).2).trans ?_
    simp [hp]
  refine (congrFun hO _).trans ?_
  rw [pay4_apply]
  simp only [read0, read4, acc]
  rfl

/-- The kernel's result array. -/
def result : Vec Ideal S18432x1024 .f32 := fun i =>
  outRow m c ⟨(i 0).val / 1024, by have := (i 0).isLt; have : (i 0).val < 18432 := this; omega⟩
    ⟨(i 0).val % 1024, Nat.mod_lt _ (by decide)⟩ (i 1)

/-- The result array at row `r` of tile `q`. -/
theorem result_apply (q : Fin 18) (r e : Fin 1024) : result m c (ix2 (tileRow q r) e) = outRow m c q r e := by
  have h1 : (⟨(q.val * 1024 + r.val) / 1024, by omega⟩ : Fin 18) = q := Fin.ext (by show _ / _ = _; omega)
  have h2 : (⟨(q.val * 1024 + r.val) % 1024, by omega⟩ : Fin 1024) = r := Fin.ext (by show _ % _ = _; omega)
  show outRow m c ⟨(q.val * 1024 + r.val) / 1024, _⟩ ⟨(q.val * 1024 + r.val) % 1024, _⟩ e = _
  rw [h1, h2]

/-- The output window's array after the run. -/
theorem final : (dats m 0 c).arrAt 8 cfg0.N = result m c := by
  refine (dats m 0 c).arrAt_eq_of_covers 8 _ (by decide +kernel) fun t hf y => ?_
  have h3 : t.val % 4 = 3 := (flush0_8 t).mp hf
  have := lt72 t
  obtain ⟨r, e, rfl⟩ : ∃ r e : Fin 1024, y = ix2 r e := ⟨y 0, y 1, by funext a; fin_cases a <;> rfl⟩
  have key : ((cfg0.win 8).blk t).view.emb (ix2 r e) = ix2 (tileRow (tile t) r) e := by
    blk_ext [idx8 t]
  blk_simp
  rw [after0_8]
  exact (out_block m c t h3 r e).trans ((result_apply m c (tile t) r e).symm.trans (congrArg (result m c) key.symm))

variable (ρ : Dev nD → PrngReg)

/-- The kernel's run: the result array, the arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 8).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).2 main_arg5 (Pipeline.mem_restRefs_of main_arg5 (by decide) (by decide))).trans (V_main_arg5 m c)⟩)
    (run_main m ρ)

end Cert.Mlp2Ideal.Hand

end
-- ==== Proof.Mlp2.Ref.lean ====
/- The reference of the MLP of layer 2 read at an index. -/
module

public import proofs.«01_k».proof.Proof.Gen.Mlp2RefIdeal.Read
public import proofs.«01_k».proof.Proof.Mlp.Model

@[expose] public section

set_option maxRecDepth 16384

noncomputable section

namespace Cert.Mlp2RefIdeal.Hand

open Cert.Mlp2RefIdeal Cert.Mlp2RefIdeal.Gen Cert.Mlp2RefIdeal.Read Cert.MlpModel Idealize.ShloMosaic Idealize.ShloMosaic.TcCoe
open Idealize.SL.Sem

variable (x : Vec Ideal S18432x1024 .f32) (g : Vec Ideal S1024 .f32) (md : Vec Ideal S384x1x1024 .f32)
  (w1 : Vec Ideal S4x1024x4096 .f32) (w2 : Vec Ideal S4x4096x1024 .f32)

/-- Row of the modulation array: vector number `v` of the batch that row `R` lies in (of the context, past the batches). -/
abbrev modRow (R : Fin 18432) (v : Fin 6) : Fin 384 := ⟨192 + R.val / 2048 * 6 + v.val, by omega⟩

/-- Row `R` of the stream, normed and modulated. -/
def hrow (R : Fin 18432) : Fin 1024 → EReal :=
  modulated (fun k => x (ix2 R k)) (fun k => g (ix1 k)) (fun k => md (ix3 (modRow R 3) 0 k)) (fun k => md (ix3 (modRow R 4) 0 k))

/-- Row `R` of the stream after the MLP. -/
def orow (R : Fin 18432) : Fin 1024 → EReal :=
  resid (fun k => x (ix2 R k)) (fun k => md (ix3 (modRow R 5) 0 k))
    (fun e => ∑ f : Fin 4096, hid (hrow x g md R) (fun d => w1 (ix3 2 d f)) * w2 (ix3 2 f e))

/-- Row `l` of batch `b` in the stream. -/
abbrev flat (b : Fin 8) (l : Fin 2048) : Fin 18432 := ⟨b.val * 2048 + l.val, by omega⟩

/-- Row `r` of the context in the stream. -/
abbrev ctx (r : Fin 2048) : Fin 18432 := ⟨16384 + r.val, by omega⟩

/-- The layer's modulation vectors. -/
theorem vec_apply (b : Fin 16) (v : Fin 6) (d : Fin 1024) :
    val_main_v2 md (ix3 b v d) = md (ix3 ⟨192 + b.val * 6 + v.val, by omega⟩ 0 d) := by
  pointwise [val_main_v2, val_main_v1, val_main_v0]

/-- The layer's weights. -/
theorem w1_apply (d : Fin 1024) (f : Fin 4096) : val_main_v4 w1 (ix2 d f) = w1 (ix3 2 d f) := by
  pointwise [val_main_v4, val_main_v3]

theorem w2_apply (f : Fin 4096) (e : Fin 1024) : val_main_v6 w2 (ix2 f e) = w2 (ix3 2 f e) := by
  pointwise [val_main_v6, val_main_v5]

/-- The latent rows. -/
theorem stream_apply (b : Fin 8) (l : Fin 2048) (d : Fin 1024) : val_main_v8 x (ix3 b l d) = x (ix2 (flat b l) d) := by
  pointwise [val_main_v8, val_main_v7]

/-- The shift, the scale and the gate of the latent rows. -/
theorem shift_apply (b : Fin 8) (l : Fin 2048) (d : Fin 1024) : val_main_v11 md (ix3 b 0 d) = md (ix3 (modRow (flat b l) 3) 0 d) := by
  have e : (b.val * 2048 + l.val) / 2048 = b.val := by omega
  pointwise [val_main_v11, val_main_v10, val_main_v9]
  refine (vec_apply md _ _ d).trans (congrArg (fun a => md (ix3 a 0 d)) (Fin.ext ?_))
  simp [e]

theorem scale_apply (b : Fin 8) (l : Fin 2048) (d : Fin 1024) : val_main_v14 md (ix3 b 0 d) = md (ix3 (modRow (flat b l) 4) 0 d) := by
  have e : (b.val * 2048 + l.val) / 2048 = b.val := by omega
  pointwise [val_main_v14, val_main_v13, val_main_v12]
  refine (vec_apply md _ _ d).trans (congrArg (fun a => md (ix3 a 0 d)) (Fin.ext ?_))
  simp [e]

theorem gate_apply (b : Fin 8) (l : Fin 2048) (d : Fin 1024) : val_main_v17 md (ix3 b 0 d) = md (ix3 (modRow (flat b l) 5) 0 d) := by
  have e : (b.val * 2048 + l.val) / 2048 = b.val := by omega
  pointwise [val_main_v17, val_main_v16, val_main_v15]
  refine (vec_apply md _ _ d).trans (congrArg (fun a => md (ix3 a 0 d)) (Fin.ext ?_))
  simp [e]

/-- A latent row, normed and modulated. -/
theorem lat_apply (b : Fin 8) (l : Fin 2048) (d : Fin 1024) : val_main_v36 x g md (ix3 b l d) = hrow x g md (flat b l) d := by
  pointwise [val_main_v36, val_main_v35, val_main_v34, val_main_v33, val_main_v32, val_main_v31, val_main_cst_2,
    val_main_v30, val_main_v29, val_main_v28, val_main_v27, val_main_v26, val_main_v25, val_main_v24, val_main_v23,
    val_main_cst_1, val_main_v22, val_main_v21, val_main_cst_0, val_main_v20, val_main_v19, val_main_cst, val_main_v18,
    hrow, modulated, rms]
  simp only [stream_apply, shift_apply md b l, scale_apply md b l, zero_add]

/-- A latent row's squared hidden unit. -/
theorem hid_apply (b : Fin 8) (l : Fin 2048) (f : Fin 4096) :
    val_main_v40 x g md w1 (ix3 b l f) = hid (hrow x g md (flat b l)) (fun d => w1 (ix3 2 d f)) := by
  pointwise [val_main_v40, val_main_v39, val_main_v38, val_main_cst_3, val_main_v37, hid]
  simp only [lat_apply, w1_apply]

/-- A latent row after the MLP. -/
theorem out_apply (b : Fin 8) (l : Fin 2048) (e : Fin 1024) :
    val_main_v44 x g md w1 w2 (ix3 b l e) = orow x g md w1 w2 (flat b l) e := by
  pointwise [val_main_v44, val_main_v43, val_main_v42, val_main_v41, orow, resid]
  simp only [hid_apply, w2_apply, stream_apply, gate_apply md b l]

/-- The context rows. -/
theorem cstream_apply (r : Fin 2048) (d : Fin 1024) : val_main_v45 x (ix2 r d) = x (ix2 (ctx r) d) := by
  pointwise [val_main_v45]

/-- The shift, the scale and the gate of the context rows. -/
theorem cshift_apply (r : Fin 2048) (d : Fin 1024) : val_main_v47 md (ix1 d) = md (ix3 (modRow (ctx r) 3) 0 d) := by
  have e : (16384 + r.val) / 2048 = 8 := by omega
  pointwise [val_main_v47, val_main_v46]
  refine (vec_apply md _ _ d).trans (congrArg (fun a => md (ix3 a 0 d)) (Fin.ext ?_))
  simp [e]

theorem cscale_apply (r : Fin 2048) (d : Fin 1024) : val_main_v49 md (ix1 d) = md (ix3 (modRow (ctx r) 4) 0 d) := by
  have e : (16384 + r.val) / 2048 = 8 := by omega
  pointwise [val_main_v49, val_main_v48]
  refine (vec_apply md _ _ d).trans (congrArg (fun a => md (ix3 a 0 d)) (Fin.ext ?_))
  simp [e]

theorem cgate_apply (r : Fin 2048) (d : Fin 1024) : val_main_v51 md (ix1 d) = md (ix3 (modRow (ctx r) 5) 0 d) := by
  have e : (16384 + r.val) / 2048 = 8 := by omega
  pointwise [val_main_v51, val_main_v50]
  refine (vec_apply md _ _ d).trans (congrArg (fun a => md (ix3 a 0 d)) (Fin.ext ?_))
  simp [e]

/-- A context row, normed and modulated. -/
theorem ctx_apply (r : Fin 2048) (d : Fin 1024) : val_main_v72 x g md (ix2 r d) = hrow x g md (ctx r) d := by
  pointwise [val_main_v72, val_main_v71, val_main_v70, val_main_v69, val_main_v68, val_main_v67, val_main_v66, val_main_v65,
    val_main_cst_7, val_main_v64, val_main_v63, val_main_v62, val_main_v61, val_main_v60, val_main_v59, val_main_v58,
    val_main_v57, val_main_cst_6, val_main_v56, val_main_v55, val_main_cst_5, val_main_v54, val_main_v53, val_main_cst_4,
    val_main_v52, hrow, modulated, rms]
  simp only [cstream_apply, cshift_apply md r, cscale_apply md r, zero_add]

/-- A context row's squared hidden unit. -/
theorem chid_apply (r : Fin 2048) (f : Fin 4096) :
    val_main_v76 x g md w1 (ix2 r f) = hid (hrow x g md (ctx r)) (fun d => w1 (ix3 2 d f)) := by
  pointwise [val_main_v76, val_main_v75, val_main_v74, val_main_cst_8, val_main_v73, hid]
  simp only [ctx_apply, w1_apply]

/-- A context row after the MLP. -/
theorem cout_apply (r : Fin 2048) (e : Fin 1024) :
    val_main_v81 x g md w1 w2 (ix2 r e) = orow x g md w1 w2 (ctx r) e := by
  pointwise [val_main_v81, val_main_v80, val_main_v79, val_main_v78, val_main_v77, orow, resid]
  simp only [chid_apply, w2_apply, cstream_apply, cgate_apply md r]

/-- The two parts joined. -/
theorem cat_apply (A : FVec Ideal S16384x1024 .f32) (B : FVec Ideal S2048x1024 .f32) (h : Fin 18432 → Fin 1024 → EReal)
    (hA : ∀ (r : Fin 16384) d, A (ix2 r d) = h ⟨r.val, by omega⟩ d) (hB : ∀ r d, B (ix2 r d) = h (ctx r) d) (R : Fin 18432)
    (d : Fin 1024) :
    concatenate S18432x1024 0 [⟨S16384x1024, A⟩, ⟨S2048x1024, B⟩] concatenates_S16384x1024_S2048x1024_S18432x1024_d0 (ix2 R d)
      = h R d := by
  pointwise []
  by_cases h1 : R.val < 16384
  · rw [dif_pos h1]; exact hA _ d
  · rw [dif_neg h1]
    refine (hB _ d).trans (congrArg (fun a => h a d) (Fin.ext ?_))
    show 16384 + (R.val - 16384) = R.val
    omega

/-- The reference's result. -/
theorem result_apply (R : Fin 18432) (e : Fin 1024) : val_main_v83 x g md w1 w2 (ix2 R e) = orow x g md w1 w2 R e := by
  unfold val_main_v83
  refine cat_apply _ _ (orow x g md w1 w2) (fun r e => ?_) (fun r e => cout_apply x g md w1 w2 r e) R e
  have e2 : flat ⟨r.val / 2048, by omega⟩ ⟨r.val % 2048, by omega⟩ = ⟨r.val, by omega⟩ :=
    Fin.ext (by show r.val / 2048 * 2048 + r.val % 2048 = r.val; omega)
  pointwise [val_main_v82]
  exact (out_apply x g md w1 w2 _ _ e).trans (congrArg (fun a => orow x g md w1 w2 a e) e2)

end Cert.Mlp2RefIdeal.Hand

end
-- ==== Proof.Mlp2.Equal.lean ====
/- The MLP kernel of layer 2 and its reference end with the same array. -/
module

public import proofs.«01_k».proof.Defs
public import proofs.«01_k».proof.Proof.Mlp2.Array
public import proofs.«01_k».proof.Proof.Mlp2.Ref
public import proofs.«01_k».proof.Proof.Gen.Mlp2RefIdeal.Run

@[expose] public section

set_option maxRecDepth 16384

noncomputable section

namespace Cert.Mlp2Ideal.Hand

open Cert.Mlp2Ideal.Gen Cert.MlpModel Idealize.ShloMosaic Idealize.ShloMosaic.TcCoe Idealize.SL.Sem

/-- The kernel's result array is the reference's, at the kernel's arguments. -/
theorem result_eq (m : (ℓ : Loc nD τ sig) → Buf (Elt Ideal) ℓ) (c : Dev nD) :
    result m c = Mlp2RefIdeal.Read.val_main_v83 (argX m c) (argG m c) (argM m c) (argA m c) (argB m c) := by
  funext i
  obtain ⟨R, e, rfl⟩ : ∃ (R : Fin 18432) (e : Fin 1024), i = ix2 R e := ⟨i 0, i 1, by funext a; fin_cases a <;> rfl⟩
  have hk := result_apply m c ⟨R.val / 1024, by omega⟩ ⟨R.val % 1024, by omega⟩ e
  have e1 : tileRow ⟨R.val / 1024, by omega⟩ ⟨R.val % 1024, by omega⟩ = R :=
    Fin.ext (by show R.val / 1024 * 1024 + R.val % 1024 = R.val; omega)
  have e3 : ∀ w : Fin 6, tileMod ⟨R.val / 1024, by omega⟩ w = Mlp2RefIdeal.Hand.modRow R w :=
    fun w => Fin.ext (by show 192 + R.val / 1024 / 2 * 6 + w.val = 192 + R.val / 2048 * 6 + w.val; omega)
  unfold outRow hrow at hk
  rw [e1] at hk
  rw [hk, Mlp2RefIdeal.Hand.result_apply]
  unfold Mlp2RefIdeal.Hand.orow Mlp2RefIdeal.Hand.hrow
  simp only [e3]

/-- The value claim of the MLP of layer 2. -/
theorem claim : Cert.algebraic_Mlp2Ideal_Mlp2RefIdeal (hMlp2Ideal := Mlp2Ideal.Gen.facts)
    (hMlp2RefIdeal := Mlp2RefIdeal.Gen.facts) := by
  intro m g m' g' _ hagree
  refine ⟨fun c => result m c, run m g, ?_⟩
  refine (θ_run _ _ _).mono (fun r h c => ?_) (Mlp2RefIdeal.Value.run m' g')
  obtain ⟨h0, hrest⟩ := h c
  refine ⟨h0.trans ?_, hrest⟩
  obtain ⟨a0, a1, a2, a3, a4, a5⟩ := hagree c
  rw [Mlp2RefIdeal.Read.val_main_v83_eq m' c, a0, a1, a2, a3, a4]
  exact (result_eq m c).symm

end Cert.Mlp2Ideal.Hand

end
-- ==== Proof.Swa.Model.lean ====
module

public import Idealize.ShloMosaic.Lib.Pointwise
public import Idealize.ShloMosaic.PureOps.Ideal.Laws

@[expose] public section

set_option maxRecDepth 16384

noncomputable section

namespace Cert.SwaModel

open Idealize.ShloMosaic

/-- The kernel's row maximum. -/
def kMax {n : Nat} (s : Fin n → EReal) (sink : EReal) : EReal := max (Finset.univ.fold max ⊥ s) sink

/-- Softmax attention with a sink logit, in base two, the value sum scaled once. -/
def kernelOut {n : Nat} (s : Fin n → EReal) (sink : EReal) (v : Fin n → EReal) : EReal :=
  (∑ j, Ideal.exp2 (s j - kMax s sink) * v j)
    * Ideal.div 1 ((∑ j, Ideal.exp2 (s j - kMax s sink)) + Ideal.exp2 (sink - kMax s sink))

/-- The same in base `e`, each probability scaled. -/
def refOut {n : Nat} (s : Fin n → EReal) (sink : EReal) (v : Fin n → EReal) : EReal :=
  ∑ j, (Ideal.exp (s j - kMax s sink)
    * Ideal.div 1 ((∑ j, Ideal.exp (s j - kMax s sink)) + Ideal.exp (sink - kMax s sink))) * v j

/-- `1 / ln 2`. -/
abbrev l2e : EReal := (((Real.log 2)⁻¹ : ℝ) : EReal)

theorem l2e_pos : (0 : ℝ) < (Real.log 2)⁻¹ := inv_pos.mpr (Real.log_pos (by norm_num))

theorem l2e_mul_bot : l2e * ⊥ = ⊥ := EReal.coe_mul_bot_of_pos l2e_pos

theorem l2e_mul_top : l2e * ⊤ = ⊤ := EReal.coe_mul_top_of_pos l2e_pos

/-- The change of base. -/
theorem exp2_l2e (y : EReal) : Ideal.exp2 (l2e * y) = Ideal.exp y := by
  induction y using EReal.rec with
  | bot => rw [l2e_mul_bot]; rfl
  | top => rw [l2e_mul_top]; rfl
  | coe r =>
    rw [← EReal.coe_mul]
    show ((Real.rpow 2 ((Real.log 2)⁻¹ * r) : ℝ) : EReal) = ((Real.exp r : ℝ) : EReal)
    congr 1
    show (2 : ℝ) ^ ((Real.log 2)⁻¹ * r) = Real.exp r
    rw [Real.rpow_def_of_pos (by norm_num), ← mul_assoc, mul_inv_cancel₀ (Real.log_pos (by norm_num)).ne', one_mul]

theorem l2e_mul_sub (x y : EReal) : l2e * x - l2e * y = l2e * (x - y) := by
  rw [sub_eq_add_neg, sub_eq_add_neg, EReal.left_distrib_of_nonneg_of_ne_top (EReal.coe_nonneg.mpr l2e_pos.le) (EReal.coe_ne_top _),
    mul_neg]

theorem l2e_mul_max (x y : EReal) : l2e * max x y = max (l2e * x) (l2e * y) :=
  (show Monotone (fun z : EReal => l2e * z) from fun a b h => mul_le_mul_of_nonneg_left h (EReal.coe_nonneg.mpr l2e_pos.le)).map_max

theorem l2e_mul_fold {n : Nat} (s : Fin n → EReal) :
    Finset.univ.fold max ⊥ (fun j => l2e * s j) = l2e * Finset.univ.fold max ⊥ s := by
  have h := Finset.fold_hom (op := max) (op' := max) (m := fun z : EReal => l2e * z) (b := ⊥) (s := (Finset.univ : Finset (Fin n))) (f := s)
    (fun x y => l2e_mul_max x y)
  rw [l2e_mul_bot] at h
  exact h

theorem exp_nonneg (y : EReal) : 0 ≤ Ideal.exp y := by
  induction y using EReal.rec with
  | bot => exact le_refl _
  | top => exact le_top
  | coe r => exact EReal.coe_nonneg.mpr (Real.exp_pos r).le

theorem sum_mul_nonneg {n : Nat} (f : Fin n → EReal) {w : EReal} (h0 : 0 ≤ w) (ht : w ≠ ⊤) : (∑ j, f j) * w = ∑ j, f j * w := by
  classical
  induction (Finset.univ : Finset (Fin n)) using Finset.induction_on with
  | empty => simp
  | insert a s ha ih => rw [Finset.sum_insert ha, Finset.sum_insert ha, EReal.right_distrib_of_nonneg_of_ne_top h0 ht, ih]

theorem mul_sum_nonneg {n : Nat} (f : Fin n → EReal) {w : EReal} (h0 : 0 ≤ w) (ht : w ≠ ⊤) : w * (∑ j, f j) = ∑ j, w * f j := by
  rw [mul_comm, sum_mul_nonneg f h0 ht]
  exact Finset.sum_congr rfl fun j _ => mul_comm _ _

/-- One scale of the value sum is a scale of each probability. -/
theorem scale_sum {n : Nat} (e v : Fin n → EReal) (es : EReal) (he : ∀ j, 0 ≤ e j) (hes : 0 ≤ es) :
    (∑ j, e j * v j) * Ideal.div 1 ((∑ j, e j) + es) = ∑ j, (e j * Ideal.div 1 ((∑ j, e j) + es)) * v j := by
  have hs : 0 ≤ ∑ j, e j := Finset.sum_nonneg fun j _ => he j
  by_cases hz : (∑ j, e j) + es = 0
  · have h0 : ∑ j, e j = 0 := le_antisymm (by rw [← hz]; exact le_add_of_nonneg_right hes) hs
    have hj : ∀ j, e j = 0 := fun j => (Finset.sum_eq_zero_iff_of_nonneg (fun j _ => he j)).mp h0 j (Finset.mem_univ j)
    simp [hj]
  · have hw : Ideal.div 1 ((∑ j, e j) + es) = ((∑ j, e j) + es)⁻¹ := by rw [Ideal.div, if_neg hz, one_mul]
    have hp : 0 ≤ (∑ j, e j) + es := add_nonneg hs hes
    rw [hw, sum_mul_nonneg _ (EReal.inv_nonneg_of_nonneg hp) (by
      intro ht
      generalize (∑ j, e j) + es = Z at hz hp ht
      induction Z using EReal.rec with
      | bot => simp at hp
      | top => simp at ht
      | coe r => rw [← EReal.coe_inv] at ht; exact EReal.coe_ne_top _ ht)]
    exact Finset.sum_congr rfl fun j _ => mul_right_comm _ _ _

/-- The kernel's row is the reference's: scores and sink in base two are `1 / ln 2` times those in base `e`, and values differ
only where a key is not attended. -/
theorem kernelOut_eq {n : Nat} (sk sr : Fin n → EReal) (sink : EReal) (vk vr : Fin n → EReal)
    (hs : ∀ j, sk j = l2e * sr j) (hv : ∀ j, sr j = ⊥ ∨ vk j = vr j) : kernelOut sk (sink * l2e) vk = refOut sr sink vr := by
  have hm : kMax sk (sink * l2e) = l2e * kMax sr sink := by
    rw [kMax, kMax, l2e_mul_max, ← l2e_mul_fold, mul_comm sink, funext hs]
  have he : ∀ j, Ideal.exp2 (sk j - kMax sk (sink * l2e)) = Ideal.exp (sr j - kMax sr sink) := fun j => by
    rw [hm, hs, l2e_mul_sub, exp2_l2e]
  have hes : Ideal.exp2 (sink * l2e - kMax sk (sink * l2e)) = Ideal.exp (sink - kMax sr sink) := by
    rw [hm, mul_comm sink, l2e_mul_sub, exp2_l2e]
  have hev : ∀ j, Ideal.exp (sr j - kMax sr sink) * vk j = Ideal.exp (sr j - kMax sr sink) * vr j := fun j => by
    rcases hv j with h | h
    · rw [h, EReal.bot_sub]
      show (0 : EReal) * vk j = 0 * vr j
      rw [zero_mul, zero_mul]
    · rw [h]
  unfold kernelOut refOut
  simp only [he, hes, hev]
  exact scale_sum _ _ _ (fun j => exp_nonneg _) (exp_nonneg _)

/-- A head's row turned by its position's angles: the first half of its lanes by the row's, the second by the column's. -/
def rope (x : Fin 64 → EReal) (cr sr cc sc : Fin 16 → EReal) (d : Fin 64) : EReal :=
  if h : d.val < 16 then x ⟨d.val, by omega⟩ * cr ⟨d.val, by omega⟩ - x ⟨16 + d.val, by omega⟩ * sr ⟨d.val, by omega⟩
  else if h : d.val < 32 then
    x ⟨d.val, by omega⟩ * cr ⟨d.val - 16, by omega⟩ + x ⟨d.val - 16, by omega⟩ * sr ⟨d.val - 16, by omega⟩
  else if h : d.val < 48 then
    x ⟨d.val, by omega⟩ * cc ⟨d.val - 32, by omega⟩ - x ⟨16 + d.val, by omega⟩ * sc ⟨d.val - 32, by omega⟩
  else x ⟨d.val, by omega⟩ * cc ⟨d.val - 48, by omega⟩ + x ⟨d.val - 16, by omega⟩ * sc ⟨d.val - 48, by omega⟩

theorem fold_max_castSucc {n : Nat} (f : Fin (n + 1) → EReal) :
    Finset.univ.fold max ⊥ f = max (Finset.univ.fold max ⊥ fun j => f (Fin.castSucc j)) (f (Fin.last n)) := by
  rw [Fin.univ_castSuccEmb, Finset.fold_cons, Finset.fold_map, max_comm]
  rfl

/-- Values where no key is attended do not matter. -/
theorem refOut_congr {n : Nat} (s : Fin n → EReal) (sink : EReal) (v v' : Fin n → EReal) (h : ∀ j, s j = ⊥ ∨ v j = v' j) :
    refOut s sink v = refOut s sink v' := by
  refine Finset.sum_congr rfl fun j _ => ?_
  rcases h j with h | h
  · rw [h, EReal.bot_sub]
    show (0 : EReal) * _ * _ = 0 * _ * _
    rw [zero_mul, zero_mul, zero_mul]
  · rw [h]

/-- Which of the 640 keys row `r` of block `n` attends: the window's part of the blocks beside it, its own block, the context. -/
def ok (n : Fin 16) (r : Fin 128) (j : Fin 640) : Bool :=
  if j.val < 128 then decide (0 < n.val ∧ r.val ≤ j.val)
  else if j.val < 256 then true
  else if j.val < 384 then decide (n.val < 15 ∧ j.val ≤ r.val + 256)
  else true

variable (x : Fin 18432 → Fin 1536 → EReal) (cr sr cc sc : Fin 2048 → Fin 16 → EReal) (sink : Fin 16 → EReal)

/-- A query head's turned lanes. -/
def qLat (b : Fin 8) (l : Fin 2048) (h : Fin 16) (d : Fin 64) : EReal :=
  rope (fun d => x ⟨b.val * 2048 + l.val, by omega⟩ ⟨h.val * 64 + d.val, by omega⟩) (cr l) (sr l) (cc l) (sc l) d

/-- A key head's turned lanes. -/
def kLat (b : Fin 8) (l : Fin 2048) (g : Fin 4) (d : Fin 64) : EReal :=
  rope (fun d => x ⟨b.val * 2048 + l.val, by omega⟩ ⟨1024 + (g.val * 64 + d.val), by omega⟩) (cr l) (sr l) (cc l) (sc l) d

/-- The four pieces of a block's keys. -/
def pick (p c n : Fin 128 → EReal) (t : Fin 256 → EReal) (j : Fin 640) : EReal :=
  if h : j.val < 128 then p ⟨j.val, h⟩
  else if h : j.val < 256 then c ⟨j.val - 128, by omega⟩
  else if h : j.val < 384 then n ⟨j.val - 256, by omega⟩
  else t ⟨j.val - 384, by omega⟩

/-- Position `r` of the block before block `n`, of it, and of the block after it, held inside the sequence. -/
abbrev prevPos (n : Fin 16) (r : Fin 128) : Fin 2048 := ⟨(n.val - 1) * 128 + r.val, by omega⟩
abbrev curPos (n : Fin 16) (r : Fin 128) : Fin 2048 := ⟨n.val * 128 + r.val, by omega⟩
abbrev nextPos (n : Fin 16) (r : Fin 128) : Fin 2048 := ⟨min (n.val + 1) 15 * 128 + r.val, by omega⟩

/-- A block's keys. -/
def key (b : Fin 8) (n : Fin 16) (g : Fin 4) (d : Fin 64) : Fin 640 → EReal :=
  pick (fun r => kLat x cr sr cc sc b (prevPos n r) g d) (fun r => kLat x cr sr cc sc b (curPos n r) g d)
    (fun r => kLat x cr sr cc sc b (nextPos n r) g d)
    (fun r => x ⟨16384 + (b.val * 256 + r.val), by omega⟩ ⟨1024 + (g.val * 64 + d.val), by omega⟩)

/-- A block's values. -/
def value (b : Fin 8) (n : Fin 16) (g : Fin 4) (d : Fin 64) : Fin 640 → EReal :=
  pick (fun r => x ⟨b.val * 2048 + (prevPos n r).val, by omega⟩ ⟨1280 + (g.val * 64 + d.val), by omega⟩)
    (fun r => x ⟨b.val * 2048 + (curPos n r).val, by omega⟩ ⟨1280 + (g.val * 64 + d.val), by omega⟩)
    (fun r => x ⟨b.val * 2048 + (nextPos n r).val, by omega⟩ ⟨1280 + (g.val * 64 + d.val), by omega⟩)
    (fun r => x ⟨16384 + (b.val * 256 + r.val), by omega⟩ ⟨1280 + (g.val * 64 + d.val), by omega⟩)

/-- The key head of a query head. -/
abbrev kvHead (h : Fin 16) : Fin 4 := ⟨h.val / 4, by omega⟩

/-- A head's attention output at a position and a lane. -/
def attn (b : Fin 8) (n : Fin 16) (r : Fin 128) (h : Fin 16) (d : Fin 64) : EReal :=
  refOut (fun j => if ok n r j then
      (∑ e : Fin 64, qLat x cr sr cc sc b (curPos n r) h e * key x cr sr cc sc b n (kvHead h) e j) * ((1 / 8 : ℝ) : EReal) else ⊥)
    (sink h) (value x b n (kvHead h) d)

/-- The same from queries scaled beforehand, in base two. -/
theorem attn_eq (b : Fin 8) (n : Fin 16) (r : Fin 128) (h : Fin 16) (d : Fin 64) :
    kernelOut (fun j => if ok n r j then
        ∑ e : Fin 64, (qLat x cr sr cc sc b (curPos n r) h e * (((8 * Real.log 2)⁻¹ : ℝ) : EReal)) * key x cr sr cc sc b n (kvHead h) e j else ⊥)
      (sink h * l2e) (value x b n (kvHead h) d) = attn x cr sr cc sc sink b n r h d := by
  refine kernelOut_eq _ _ _ _ _ (fun j => ?_) (fun j => Or.inr rfl)
  by_cases hj : ok n r j = true
  · rw [if_pos hj, if_pos hj, mul_comm (∑ e, _) _, ← mul_assoc, ← EReal.coe_mul,
      mul_sum_nonneg _ (EReal.coe_nonneg.mpr (mul_nonneg l2e_pos.le (by norm_num))) (EReal.coe_ne_top _)]
    refine Finset.sum_congr rfl fun e _ => ?_
    have hc : (8 * Real.log 2)⁻¹ = (Real.log 2)⁻¹ * (1 / 8) := by rw [mul_inv]; ring
    rw [hc, mul_comm (qLat _ _ _ _ _ _ _ _ _) _, mul_assoc]
  · rw [if_neg hj, if_neg hj, l2e_mul_bot]

end Cert.SwaModel

end
-- ==== Proof.Swa.Vec.lean ====
module

public import proofs.«01_k».proof.Proof.Gen.SwaIdeal.Frame
public import proofs.«01_k».proof.Proof.Swa.Model
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.KernelVsHost

@[expose] public section

set_option maxRecDepth 16384

noncomputable section

namespace Cert.SwaIdeal.Hand

open Cert.SwaIdeal Cert.SwaIdeal.Gen Cert.SwaModel Idealize.ShloMosaic Idealize.ShloMosaic.TcCoe Idealize.SL.Sem
open Idealize.ShloMosaic.Pipeline (Dat)

/-! ## A column's operations -/

/-- Scores with the sides masked. -/
def maskV (M : FVec Ideal S128x640 .f32) (mp mn : IVec S128x128 1) : FVec Ideal S128x640 .f32 :=
  concatenate S128x640 1 [⟨S128x128, select mp (extractStridedSlice S128x128 ![0, 0] M slices_S128x640_o0_0_S128x128)
      (broadcast S128x128 (Scalar.ofBits .f32 0xFF800000#32))⟩,
    ⟨S128x128, extractStridedSlice S128x128 ![0, 128] M slices_S128x640_o0_128_S128x128⟩,
    ⟨S128x128, select mn (extractStridedSlice S128x128 ![0, 256] M slices_S128x640_o0_256_S128x128)
      (broadcast S128x128 (Scalar.ofBits .f32 0xFF800000#32))⟩,
    ⟨S128x256, extractStridedSlice S128x256 ![0, 384] M slices_S128x640_o0_384_S128x256⟩]
    concatenates_S128x128_S128x128_S128x128_S128x256_S128x640_d1

/-- Scores. -/
def dotV (q : FVec Ideal S128x128 .bf16) (k : FVec Ideal S640x128 .bf16) : FVec Ideal S128x640 .f32 :=
  matmul dot_S128x128_S640x128_S128x640_1_1_0_0_n_n none q k (constant S128x640 .f32 0x00000000#32)

/-- The row maximum with the sink. -/
def maxV (sc : FVec Ideal S128x640 .f32) (s : EReal) : FVec Ideal S128x1 .f32 :=
  maximumf (shapeCast S128x1 (multiReduction .maximumf [1] S128 sc 0xFF800000#32 reduces_S128x640_S128 (.inl rfl) rfl) shapeCasts_S128_S128x1)
    (broadcast S128x1 (s : Ideal .f32))

/-- The exponentials. -/
def expV (sc : FVec Ideal S128x640 .f32) (mx : FVec Ideal S128x1 .f32) : FVec Ideal S128x640 .bf16 :=
  truncf .bf16 (exp2 (subf sc (broadcastTo S128x640 mx broadcasts_S128x1_S128x640))) bitsLt_bf16_f32

/-- The sink's exponential. -/
def sinkV (s : EReal) (mx : FVec Ideal S128x1 .f32) : FVec Ideal S128x1 .f32 := exp2 (subf (broadcast S128x1 (s : Ideal .f32)) mx)

/-- The weighted values, with the sum of the weights at one lane. -/
def numV (e : FVec Ideal S128x640 .bf16) (v : FVec Ideal S640x128 .bf16) : FVec Ideal S128x128 .f32 :=
  matmul dot_S128x640_S640x128_S128x128_1_0_0_1_n_n none e v (constant S128x128 .f32 0x00000000#32)

/-- The two halves scaled and joined. -/
def joinV (low : IVec S128x128 1) (a b : FVec Ideal S128x128 .f32) (x y : FVec Ideal S128x1 .f32) : FVec Ideal S128x128 .bf16 :=
  truncf .bf16 (select low
    (mulf a (broadcastTo S128x128 (divf (broadcast S128x1 (Scalar.ofBits .f32 0x3F800000#32))
      (addf (extractStridedSlice S128x1 ![0, 64] a slices_S128x128_o0_64_S128x1) x)) broadcasts_S128x1_S128x128))
    (mulf b (broadcastTo S128x128 (divf (broadcast S128x1 (Scalar.ofBits .f32 0x3F800000#32))
      (addf (extractStridedSlice S128x1 ![0, 0] b slices_S128x128_o0_0_S128x1) y)) broadcasts_S128x1_S128x128))) bitsLt_bf16_f32

/-- A column of two heads. -/
def colV (low : IVec S128x128 1) (q : FVec Ideal S128x128 .bf16) (kl kh vl vh : FVec Ideal S640x128 .bf16) (mp mn : IVec S128x128 1)
    (s1 s2 : EReal) : FVec Ideal S128x128 .bf16 :=
  joinV low (numV (expV (maskV (dotV q kl) mp mn) (maxV (maskV (dotV q kl) mp mn) s1)) vl)
    (numV (expV (maskV (dotV q kh) mp mn) (maxV (maskV (dotV q kh) mp mn) s2)) vh)
    (sinkV s1 (maxV (maskV (dotV q kl) mp mn) s1)) (sinkV s2 (maxV (maskV (dotV q kh) mp mn) s2))

theorem neg_inf : Ideal.ofBits .f32 0xFF800000#32 = ⊥ := by simp [Ideal.ofBits, Ideal.ieee]

theorem sel (p : Prop) [Decidable p] {α : Type} (a b : α) : Scalar.select (if p then 1#1 else 0#1) a b = if p then a else b := by
  by_cases h : p <;> simp [h, Scalar.select]

/-- Which keys a row attends, from the two side masks. -/
def okV (P N : Fin 128 → Fin 128 → Bool) (r : Fin 128) (j : Fin 640) : Bool :=
  if h : j.val < 128 then P r ⟨j.val, h⟩
  else if h : j.val < 256 then true
  else if h : j.val < 384 then N r ⟨j.val - 256, by omega⟩ else true

theorem catV_apply (A B C : FVec Ideal S128x128 .f32) (D : FVec Ideal S128x256 .f32) (r : Fin 128) (j : Fin 640) :
    concatenate S128x640 1 [⟨S128x128, A⟩, ⟨S128x128, B⟩, ⟨S128x128, C⟩, ⟨S128x256, D⟩]
        concatenates_S128x128_S128x128_S128x128_S128x256_S128x640_d1 (ix2 r j)
      = if h : j.val < 128 then A (ix2 r ⟨j.val, h⟩) else if h : j.val - 128 < 128 then B (ix2 r ⟨j.val - 128, h⟩)
        else if h : j.val - 128 - 128 < 128 then C (ix2 r ⟨j.val - 128 - 128, h⟩) else D (ix2 r ⟨j.val - 128 - 128 - 128, by omega⟩) := by
  pointwise []

theorem sideV_apply (msk : IVec S128x128 1) (p : Bool) (A : FVec Ideal S128x128 .f32) (r l : Fin 128)
    (hm : msk (ix2 r l) = if p then 1#1 else 0#1) :
    select msk A (broadcast S128x128 (Scalar.ofBits .f32 0xFF800000#32)) (ix2 r l) = if p then A (ix2 r l) else ⊥ := by
  pointwise []
  rw [hm, sel, neg_inf]

theorem maskV_apply (M : FVec Ideal S128x640 .f32) (mp mn : IVec S128x128 1) (P N : Fin 128 → Fin 128 → Bool)
    (hp : ∀ r j, mp (ix2 r j) = if P r j then 1#1 else 0#1) (hn : ∀ r j, mn (ix2 r j) = if N r j then 1#1 else 0#1)
    (r : Fin 128) (j : Fin 640) : maskV M mp mn (ix2 r j) = if okV P N r j then M (ix2 r j) else ⊥ := by
  have hs : ∀ (o : Nat) (h : S128x640.Slices ![0, o] S128x128) (l : Fin 128) (ho : o + l.val < 640),
      extractStridedSlice S128x128 ![0, o] M h (ix2 r l) = M (ix2 r ⟨o + l.val, ho⟩) := fun o h l ho =>
    extractStridedSlice_apply ![0, o] M h (ix2 r l) (ix2 r ⟨o + l.val, ho⟩) (by intro a; fin_cases a <;> simp [ix2])
  have ht : ∀ (h : S128x640.Slices ![0, 384] S128x256) (l : Fin 256) (ho : 384 + l.val < 640),
      extractStridedSlice S128x256 ![0, 384] M h (ix2 r l) = M (ix2 r ⟨384 + l.val, ho⟩) := fun h l ho =>
    extractStridedSlice_apply ![0, 384] M h (ix2 r l) (ix2 r ⟨384 + l.val, ho⟩) (by intro a; fin_cases a <;> simp [ix2])
  rw [maskV, catV_apply]
  unfold okV
  by_cases h1 : j.val < 128
  · rw [dif_pos h1, dif_pos h1, sideV_apply mp _ _ _ _ (hp r ⟨j.val, h1⟩), hs _ _ _ (by show 0 + j.val < 640; omega)]
    refine if_congr Iff.rfl (congrArg M (congrArg (ix2 r) (Fin.ext (by show 0 + j.val = j.val; omega)))) rfl
  · by_cases h2 : j.val < 256
    · rw [dif_neg h1, dif_pos (show j.val - 128 < 128 by omega), dif_neg h1, dif_pos h2, if_pos rfl, hs _ _ _ (by show 128 + (j.val - 128) < 640; omega)]
      exact congrArg M (congrArg (ix2 r) (Fin.ext (by show 128 + (j.val - 128) = j.val; omega)))
    · by_cases h3 : j.val < 384
      · rw [dif_neg h1, dif_neg (show ¬ j.val - 128 < 128 by omega), dif_pos (show j.val - 128 - 128 < 128 by omega), dif_neg h1, dif_neg h2,
          dif_pos h3, sideV_apply mn _ _ _ _ (hn r ⟨j.val - 128 - 128, by omega⟩), hs _ _ _ (by show 256 + (j.val - 128 - 128) < 640; omega)]
        refine if_congr ?_ (congrArg M (congrArg (ix2 r) (Fin.ext (by show 256 + (j.val - 128 - 128) = j.val; omega)))) rfl
        simp only [Nat.sub_sub]
      · rw [dif_neg h1, dif_neg (show ¬ j.val - 128 < 128 by omega), dif_neg (show ¬ j.val - 128 - 128 < 128 by omega), dif_neg h1,
          dif_neg h2, dif_neg h3, if_pos rfl, ht _ _ (by show 384 + (j.val - 128 - 128 - 128) < 640; omega)]
        exact congrArg M (congrArg (ix2 r) (Fin.ext (by show 384 + (j.val - 128 - 128 - 128) = j.val; omega)))

theorem dotV_apply (q : FVec Ideal S128x128 .bf16) (k : FVec Ideal S640x128 .bf16) (r : Fin 128) (j : Fin 640) :
    dotV q k (ix2 r j) = ∑ l : Fin 128, q (ix2 r l) * k (ix2 j l) := by
  pointwise [dotV]

theorem maxV_apply (sc : FVec Ideal S128x640 .f32) (s : EReal) (r : Fin 128) :
    maxV sc s (ix2 r 0) = kMax (fun j => sc (ix2 r j)) s := by
  pointwise [maxV, kMax]
  rw [neg_inf]

theorem expV_apply (sc : FVec Ideal S128x640 .f32) (mx : FVec Ideal S128x1 .f32) (r : Fin 128) (j : Fin 640) :
    expV sc mx (ix2 r j) = Ideal.exp2 (sc (ix2 r j) - mx (ix2 r 0)) := by
  pointwise [expV]
  rfl

theorem sinkV_apply (s : EReal) (mx : FVec Ideal S128x1 .f32) (r : Fin 128) : sinkV s mx (ix2 r 0) = Ideal.exp2 (s - mx (ix2 r 0)) := by
  pointwise [sinkV]
  rfl

theorem numV_apply (e : FVec Ideal S128x640 .bf16) (v : FVec Ideal S640x128 .bf16) (r l : Fin 128) :
    numV e v (ix2 r l) = ∑ j : Fin 640, e (ix2 r j) * v (ix2 j l) := by
  pointwise [numV]

theorem joinV_apply (low : IVec S128x128 1) (a b : FVec Ideal S128x128 .f32) (x y : FVec Ideal S128x1 .f32) (r l : Fin 128)
    (hl : low (ix2 r l) = if l.val < 64 then 1#1 else 0#1) :
    joinV low a b x y (ix2 r l) = if l.val < 64 then a (ix2 r l) * Ideal.div 1 (a (ix2 r 64) + x (ix2 r 0))
      else b (ix2 r l) * Ideal.div 1 (b (ix2 r 0) + y (ix2 r 0)) := by
  pointwise [joinV]
  rw [hl, sel]

/-- A key slab's halves, each in the lanes of its own half or turned to the other, zero beyond. -/
def natV (msk : IVec S640x128 1) (S : FVec Ideal S640x128 .f32) : FVec Ideal S640x128 .f32 :=
  select msk S (broadcast S640x128 (Scalar.ofBits .f32 0x00000000#32))

/-- A slab turned by half its lanes. -/
def turnV (S : FVec Ideal S640x128 .f32) : FVec Ideal S640x128 .f32 := dynamicRotate 1 64#32 none S rotates_S640x128_d1

/-- A one at a lane. -/
def oneV (n : BitVec 32) (S : FVec Ideal S640x128 .f32) : FVec Ideal S640x128 .f32 :=
  select (cmpi .eq (iota .tc S640x128 32 [1] iota_S640x128_d1_w32) (broadcast S640x128 n)) (broadcast S640x128 (Scalar.ofBits .f32 0x3F800000#32)) S

theorem turnV_apply (S : FVec Ideal S640x128 .f32) (j : Fin 640) (l : Fin 128) :
    turnV S (ix2 j l) = S (ix2 j ⟨(l.val + 64) % 128, Nat.mod_lt _ (by decide)⟩) := by
  refine dynamicRotate_apply 1 64#32 S rotates_S640x128_d1 _ _ fun b => ?_
  fin_cases b
  · rfl
  · show (l.val + 64) % 128 = if (1 : Fin 2) = 1 then (l.val + 128 - 64 % 128) % 128 else _
    rw [if_pos rfl]
    omega

theorem natV_apply (msk : IVec S640x128 1) (p : Fin 128 → Bool) (S : FVec Ideal S640x128 .f32) (j : Fin 640) (l : Fin 128)
    (hm : msk (ix2 j l) = if p l then 1#1 else 0#1) : natV msk S (ix2 j l) = if p l then S (ix2 j l) else 0 := by
  pointwise [natV]
  rw [hm, sel]

theorem eq64 : ∀ l : Fin 128, IntOp.cmpi .eq (BitVec.ofNat 32 l.val) 64#32 = if l.val = 64 then 1#1 else 0#1 := by decide +kernel
theorem eq0 : ∀ l : Fin 128, IntOp.cmpi .eq (BitVec.ofNat 32 l.val) 0#32 = if l.val = 0 then 1#1 else 0#1 := by decide +kernel
theorem lt64' : ∀ l : Fin 128, IntOp.cmpi .slt (BitVec.ofNat 32 l.val) 64#32 = if decide (l.val < 64) then 1#1 else 0#1 := by decide +kernel
theorem ge64' : ∀ l : Fin 128, IntOp.xori (IntOp.cmpi .slt (BitVec.ofNat 32 l.val) 64#32) 1#1 = if decide (64 ≤ l.val) then 1#1 else 0#1 := by decide +kernel

theorem low640 (j : Fin 640) (l : Fin 128) : k0_pay36 (ix2 j l) = if decide (l.val < 64) then 1#1 else 0#1 := by
  pointwise [k0_pay36]
  exact lt64' l

theorem high640 (j : Fin 640) (l : Fin 128) : k0_pay65 k0_pay36 (ix2 j l) = if decide (64 ≤ l.val) then 1#1 else 0#1 := by
  pointwise [k0_pay36, k0_pay65]
  exact ge64' l

theorem low128 (r l : Fin 128) : k0_pay37 (ix2 r l) = if l.val < 64 then 1#1 else 0#1 := by
  pointwise [k0_pay37]
  exact (lt64' l).trans (by simp)

theorem oneV64 (S : FVec Ideal S640x128 .f32) (j : Fin 640) (l : Fin 128) : oneV 64#32 S (ix2 j l) = if l.val = 64 then 1 else S (ix2 j l) := by
  pointwise [oneV]
  rw [eq64, sel]

theorem oneV0 (S : FVec Ideal S640x128 .f32) (j : Fin 640) (l : Fin 128) : oneV 0#32 S (ix2 j l) = if l.val = 0 then 1 else S (ix2 j l) := by
  pointwise [oneV]
  rw [eq0, sel]

/-- A column read at a lane of its first head. -/
theorem colV_lo (low : IVec S128x128 1) (q : FVec Ideal S128x128 .bf16) (kl kh vl vh : FVec Ideal S640x128 .bf16) (mp mn : IVec S128x128 1)
    (s1 s2 : EReal) (P N : Fin 128 → Fin 128 → Bool) (kk vv : Fin 640 → Fin 64 → EReal)
    (hl : ∀ r l : Fin 128, low (ix2 r l) = if l.val < 64 then 1#1 else 0#1)
    (hp : ∀ r j, mp (ix2 r j) = if P r j then 1#1 else 0#1) (hn : ∀ r j, mn (ix2 r j) = if N r j then 1#1 else 0#1)
    (hk : ∀ (j : Fin 640) (l : Fin 128), kl (ix2 j l) = if h : l.val < 64 then kk j ⟨l.val, h⟩ else 0)
    (hv : ∀ (j : Fin 640) (d : Fin 64), vl (ix2 j ⟨d.val, by omega⟩) = vv j d) (hv1 : ∀ j : Fin 640, vl (ix2 j 64) = 1)
    (r : Fin 128) (d : Fin 64) :
    colV low q kl kh vl vh mp mn s1 s2 (ix2 r ⟨d.val, by omega⟩)
      = kernelOut (fun j => if okV P N r j then ∑ e : Fin 64, q (ix2 r ⟨e.val, by omega⟩) * kk j e else ⊥) s1 (fun j => vv j d) := by
  have hd : ∀ j : Fin 640, dotV q kl (ix2 r j) = ∑ e : Fin 64, q (ix2 r ⟨e.val, by omega⟩) * kk j e := fun j => by
    rw [dotV_apply, show (∑ l : Fin 128, q (ix2 r l) * kl (ix2 j l)) = ∑ l : Fin (64 + 64), q (ix2 r l) * kl (ix2 j l) from rfl,
      Fin.sum_univ_add]
    rw [Finset.sum_eq_zero (s := Finset.univ) (f := fun i : Fin 64 => q (ix2 r (Fin.natAdd 64 i)) * kl (ix2 j (Fin.natAdd 64 i))) (fun i _ => by
      rw [hk, dif_neg (by show ¬ 64 + i.val < 64; omega), mul_zero]), add_zero]
    refine Finset.sum_congr rfl fun e _ => ?_
    rw [hk, dif_pos (show (Fin.castAdd 64 e).val < 64 from e.isLt)]
    rfl
  rw [colV, joinV_apply _ _ _ _ _ _ _ (hl _ _), if_pos d.isLt]
  simp only [numV_apply, expV_apply, sinkV_apply, maxV_apply, maskV_apply _ mp mn P N hp hn, hd, hv, hv1, mul_one]
  rfl

/-- A column read at a lane of its second head. -/
theorem colV_hi (low : IVec S128x128 1) (q : FVec Ideal S128x128 .bf16) (kl kh vl vh : FVec Ideal S640x128 .bf16) (mp mn : IVec S128x128 1)
    (s1 s2 : EReal) (P N : Fin 128 → Fin 128 → Bool) (kk vv : Fin 640 → Fin 64 → EReal)
    (hl : ∀ r l : Fin 128, low (ix2 r l) = if l.val < 64 then 1#1 else 0#1)
    (hp : ∀ r j, mp (ix2 r j) = if P r j then 1#1 else 0#1) (hn : ∀ r j, mn (ix2 r j) = if N r j then 1#1 else 0#1)
    (hk : ∀ (j : Fin 640) (l : Fin 128), kh (ix2 j l) = if h : 64 ≤ l.val then kk j ⟨l.val - 64, by omega⟩ else 0)
    (hv : ∀ (j : Fin 640) (d : Fin 64), vh (ix2 j ⟨64 + d.val, by omega⟩) = vv j d) (hv1 : ∀ j : Fin 640, vh (ix2 j 0) = 1)
    (r : Fin 128) (d : Fin 64) :
    colV low q kl kh vl vh mp mn s1 s2 (ix2 r ⟨64 + d.val, by omega⟩)
      = kernelOut (fun j => if okV P N r j then ∑ e : Fin 64, q (ix2 r ⟨64 + e.val, by omega⟩) * kk j e else ⊥) s2 (fun j => vv j d) := by
  have hd : ∀ j : Fin 640, dotV q kh (ix2 r j) = ∑ e : Fin 64, q (ix2 r ⟨64 + e.val, by omega⟩) * kk j e := fun j => by
    rw [dotV_apply, show (∑ l : Fin 128, q (ix2 r l) * kh (ix2 j l)) = ∑ l : Fin (64 + 64), q (ix2 r l) * kh (ix2 j l) from rfl,
      Fin.sum_univ_add]
    rw [Finset.sum_eq_zero (s := Finset.univ) (f := fun i : Fin 64 => q (ix2 r (Fin.castAdd 64 i)) * kh (ix2 j (Fin.castAdd 64 i))) (fun i _ => by
      rw [hk, dif_neg (by show ¬ 64 ≤ i.val; omega), mul_zero]), zero_add]
    refine Finset.sum_congr rfl fun e _ => ?_
    rw [hk, dif_pos (show 64 ≤ (Fin.natAdd 64 e).val from Nat.le_add_right _ _)]
    exact congrArg₂ (· * ·) rfl (congrArg (kk j) (Fin.ext (by show 64 + e.val - 64 = e.val; omega)))
  rw [colV, joinV_apply _ _ _ _ _ _ _ (hl _ _), if_neg (by show ¬ 64 + d.val < 64; omega)]
  simp only [numV_apply, expV_apply, sinkV_apply, maxV_apply, maskV_apply _ mp mn P N hp hn, hd, hv, hv1, mul_one]
  rfl

/-! ## The slabs of each key head -/

abbrev narrow (S : FVec Ideal S640x128 .f32) : FVec Ideal S640x128 .bf16 := truncf .bf16 S bitsLt_bf16_f32

theorem narrow_apply (S : FVec Ideal S640x128 .f32) (i : S640x128.Idx) : narrow S i = S i := rfl

section Even
variable (S : FVec Ideal S640x128 .f32) (j : Fin 640)

theorem even_kl (l : Fin 128) : narrow (natV k0_pay36 S) (ix2 j l) = if h : l.val < 64 then S (ix2 j ⟨l.val, by omega⟩) else 0 := by
  rw [narrow_apply, natV_apply _ (fun l => decide (l.val < 64)) S j l (low640 j l)]
  by_cases h : l.val < 64 <;> simp [h]

theorem even_kh (l : Fin 128) : narrow (turnV (natV k0_pay36 S)) (ix2 j l) = if h : 64 ≤ l.val then S (ix2 j ⟨l.val - 64, by omega⟩) else 0 := by
  rw [narrow_apply, turnV_apply, natV_apply _ (fun l => decide (l.val < 64)) S j _ (low640 j _)]
  by_cases h : 64 ≤ l.val
  · rw [dif_pos h, if_pos (decide_eq_true (by show (l.val + 64) % 128 < 64; omega))]
    exact congrArg S (congrArg (ix2 j) (Fin.ext (by show (l.val + 64) % 128 = l.val - 64; omega)))
  · rw [dif_neg h, if_neg (fun h' => h (by have := of_decide_eq_true h'; have : (l.val + 64) % 128 < 64 := this; omega))]

theorem even_vl (d : Fin 64) : narrow (oneV 64#32 (natV k0_pay36 S)) (ix2 j ⟨d.val, by omega⟩) = S (ix2 j ⟨d.val, by omega⟩) := by
  rw [narrow_apply, oneV64, if_neg (by show ¬ d.val = 64; omega), natV_apply _ (fun l => decide (l.val < 64)) S j _ (low640 j _),
    if_pos (decide_eq_true d.isLt)]

theorem even_vl1 : narrow (oneV 64#32 (natV k0_pay36 S)) (ix2 j 64) = 1 := by
  rw [narrow_apply, oneV64, if_pos (show (64 : Fin 128).val = 64 from rfl)]

theorem even_vh (d : Fin 64) : narrow (oneV 0#32 (turnV (natV k0_pay36 S))) (ix2 j ⟨64 + d.val, by omega⟩) = S (ix2 j ⟨d.val, by omega⟩) := by
  rw [narrow_apply, oneV0, if_neg (by show ¬ 64 + d.val = 0; omega), turnV_apply, natV_apply _ (fun l => decide (l.val < 64)) S j _ (low640 j _),
    if_pos (decide_eq_true (by show (64 + d.val + 64) % 128 < 64; omega))]
  exact congrArg S (congrArg (ix2 j) (Fin.ext (by show (64 + d.val + 64) % 128 = d.val; omega)))

theorem even_vh1 : narrow (oneV 0#32 (turnV (natV k0_pay36 S))) (ix2 j 0) = 1 := by
  rw [narrow_apply, oneV0, if_pos (show (0 : Fin 128).val = 0 from rfl)]

theorem odd_kl (l : Fin 128) : narrow (turnV (natV (k0_pay65 k0_pay36) S)) (ix2 j l) = if h : l.val < 64 then S (ix2 j ⟨64 + l.val, by omega⟩) else 0 := by
  rw [narrow_apply, turnV_apply, natV_apply _ (fun l => decide (64 ≤ l.val)) S j _ (high640 j _)]
  by_cases h : l.val < 64
  · rw [dif_pos h, if_pos (decide_eq_true (by show 64 ≤ (l.val + 64) % 128; omega))]
    exact congrArg S (congrArg (ix2 j) (Fin.ext (by show (l.val + 64) % 128 = 64 + l.val; omega)))
  · rw [dif_neg h, if_neg (fun h' => h (by have := of_decide_eq_true h'; have : 64 ≤ (l.val + 64) % 128 := this; omega))]

theorem odd_kh (l : Fin 128) : narrow (natV (k0_pay65 k0_pay36) S) (ix2 j l) = if h : 64 ≤ l.val then S (ix2 j ⟨64 + (l.val - 64), by omega⟩) else 0 := by
  rw [narrow_apply, natV_apply _ (fun l => decide (64 ≤ l.val)) S j l (high640 j l)]
  by_cases h : 64 ≤ l.val
  · rw [dif_pos h, if_pos (decide_eq_true h)]
    exact congrArg S (congrArg (ix2 j) (Fin.ext (by show l.val = 64 + (l.val - 64); omega)))
  · rw [dif_neg h, if_neg (fun h' => h (of_decide_eq_true h'))]

theorem odd_vl (d : Fin 64) : narrow (oneV 64#32 (turnV (natV (k0_pay65 k0_pay36) S))) (ix2 j ⟨d.val, by omega⟩) = S (ix2 j ⟨64 + d.val, by omega⟩) := by
  rw [narrow_apply, oneV64, if_neg (by show ¬ d.val = 64; omega), turnV_apply, natV_apply _ (fun l => decide (64 ≤ l.val)) S j _ (high640 j _),
    if_pos (decide_eq_true (by show 64 ≤ (d.val + 64) % 128; omega))]
  exact congrArg S (congrArg (ix2 j) (Fin.ext (by show (d.val + 64) % 128 = 64 + d.val; omega)))

theorem odd_vl1 : narrow (oneV 64#32 (turnV (natV (k0_pay65 k0_pay36) S))) (ix2 j 64) = 1 := by
  rw [narrow_apply, oneV64, if_pos (show (64 : Fin 128).val = 64 from rfl)]

theorem odd_vh (d : Fin 64) : narrow (oneV 0#32 (natV (k0_pay65 k0_pay36) S)) (ix2 j ⟨64 + d.val, by omega⟩) = S (ix2 j ⟨64 + d.val, by omega⟩) := by
  rw [narrow_apply, oneV0, if_neg (by show ¬ 64 + d.val = 0; omega), natV_apply _ (fun l => decide (64 ≤ l.val)) S j _ (high640 j _),
    if_pos (decide_eq_true (by show 64 ≤ 64 + d.val; omega))]

theorem odd_vh1 : narrow (oneV 0#32 (natV (k0_pay65 k0_pay36) S)) (ix2 j 0) = 1 := by
  rw [narrow_apply, oneV0, if_pos (show (0 : Fin 128).val = 0 from rfl)]

end Even

end Cert.SwaIdeal.Hand

end
-- ==== Proof.Swa.Pieces.lean ====
module

public import proofs.«01_k».proof.Proof.Gen.SwaIdeal.Frame
public import proofs.«01_k».proof.Proof.Swa.Vec
public import Idealize.ShloMosaic.Lib.Pipeline.ValueKit
public import Idealize.ShloMosaic.Lib.Pipeline.ReadBack

@[expose] public section

set_option maxRecDepth 16384

noncomputable section

namespace Cert.SwaIdeal.Hand

open Cert.SwaIdeal Cert.SwaIdeal.Gen Cert.SwaModel Idealize.ShloMosaic Idealize.ShloMosaic.TcCoe Idealize.SL.Sem
open Idealize.ShloMosaic.Pipeline (Dat)

variable (m : (ℓ : Loc nD τ sig) → Buf (Elt Ideal) ℓ) (c : Dev nD)

/-- The turned and scaled queries of a point. -/
abbrev Qt (t : Fin cfg0.N) : FVec Ideal S128x1024 .f32 := kernelRun0_A.sl.r_11 c (ms0_1 t) (hs0_1 t) (ms0_7 t) (hs0_7 t) (X0_1 m c t) (iblk m c 7 t)
/-- The keys of a point. -/
abbrev Kt (t : Fin cfg0.N) : FVec Ideal S640x256 .f32 := kernelRun0_A.sl.r_24 c (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 2 t) (iblk m c 3 t) (iblk m c 4 t) (iblk m c 5 t) (iblk m c 6 t) (iblk m c 7 t) (iblk m c 8 t)
/-- The values of a point. -/
abbrev Vt (t : Fin cfg0.N) : FVec Ideal S640x256 .f32 := kernelRun0_A.sl.r_25 c (ms0_2 t) (hs0_2 t) (ms0_3 t) (hs0_3 t) (ms0_4 t) (hs0_4 t) (ms0_5 t) (hs0_5 t) (iblk m c 2 t) (iblk m c 3 t) (iblk m c 4 t) (iblk m c 5 t)
/-- The side masks of a point. -/
abbrev mPrev (t : Fin cfg0.N) : IVec S128x128 1 := k0_pay34 (BitVec.ofNat 32 (grid0.coords t 1).val)
abbrev mNext (t : Fin cfg0.N) : IVec S128x128 1 := k0_pay35 (BitVec.ofNat 32 (grid0.coords t 1).val)

abbrev slab0 (K : FVec Ideal S640x256 .f32) : FVec Ideal S640x128 .f32 := extractStridedSlice S640x128 ![0, 0] K slices_S640x256_o0_0_S640x128
abbrev slab1 (K : FVec Ideal S640x256 .f32) : FVec Ideal S640x128 .f32 := extractStridedSlice S640x128 ![0, 128] K slices_S640x256_o0_128_S640x128

/-- A sink logit in base two. -/
abbrev sinkOf (t : Fin cfg0.N) (h : Nat) (hb : ∀ a, ![h] a + S1.size a ≤ S16.size a) : EReal :=
  Scalar.mulf (F := Ideal) (φ := .f32) (View.readAt (Elt Ideal) (ms0_0 t).view (Rect.unit (s := S16) ![h] S1.size hb).toLoadRect ((hs0_0 t).unread (iblk m c 0 t)) (Shape.Idx.first (s := S1) (by decide)))
    (Named.named κ "log2e" 0x3FB8AA3B#32)

abbrev evenCol (q : FVec Ideal S128x128 .bf16) (S T : FVec Ideal S640x128 .f32) (mp mn : IVec S128x128 1) (s1 s2 : EReal) : FVec Ideal S128x128 .bf16 :=
  colV k0_pay37 q (narrow (natV k0_pay36 S)) (narrow (turnV (natV k0_pay36 S))) (narrow (oneV 64#32 (natV k0_pay36 T)))
    (narrow (oneV 0#32 (turnV (natV k0_pay36 T)))) mp mn s1 s2

abbrev oddCol (q : FVec Ideal S128x128 .bf16) (S T : FVec Ideal S640x128 .f32) (mp mn : IVec S128x128 1) (s1 s2 : EReal) : FVec Ideal S128x128 .bf16 :=
  colV k0_pay37 q (narrow (turnV (natV (k0_pay65 k0_pay36) S))) (narrow (natV (k0_pay65 k0_pay36) S))
    (narrow (oneV 64#32 (turnV (natV (k0_pay65 k0_pay36) T)))) (narrow (oneV 0#32 (natV (k0_pay65 k0_pay36) T))) mp mn s1 s2

abbrev qCol (o : Nat) (h : S128x1024.Slices ![0, o] S128x128) (Q : FVec Ideal S128x1024 .f32) : FVec Ideal S128x128 .bf16 :=
  truncf .bf16 (extractStridedSlice S128x128 ![0, o] Q h) bitsLt_bf16_f32

/-- What a point leaves in its block: eight columns of two heads. -/
theorem out_eq (t : Fin cfg0.N) (y : S128x1024.Idx) (v : Elt Ideal .bf16)
    (h0 : ∀ x : S128x128.Idx, (y 0).val = (x 0).val → (y 1).val = 0 + (x 1).val →
      evenCol (qCol 0 slices_S128x1024_o0_0_S128x128 (Qt m c t)) (slab0 (Kt m c t)) (slab0 (Vt m c t)) (mPrev t) (mNext t)
        (sinkOf m c t 0 inb_S16_S1_0) (sinkOf m c t 1 inb_S16_S1_1) x = v)
    (h1 : ∀ x : S128x128.Idx, (y 0).val = (x 0).val → (y 1).val = 128 + (x 1).val →
      evenCol (qCol 128 slices_S128x1024_o0_128_S128x128 (Qt m c t)) (slab0 (Kt m c t)) (slab0 (Vt m c t)) (mPrev t) (mNext t)
        (sinkOf m c t 2 inb_S16_S1_2) (sinkOf m c t 3 inb_S16_S1_3) x = v)
    (h2 : ∀ x : S128x128.Idx, (y 0).val = (x 0).val → (y 1).val = 256 + (x 1).val →
      oddCol (qCol 256 slices_S128x1024_o0_256_S128x128 (Qt m c t)) (slab0 (Kt m c t)) (slab0 (Vt m c t)) (mPrev t) (mNext t)
        (sinkOf m c t 4 inb_S16_S1_4) (sinkOf m c t 5 inb_S16_S1_5) x = v)
    (h3 : ∀ x : S128x128.Idx, (y 0).val = (x 0).val → (y 1).val = 384 + (x 1).val →
      oddCol (qCol 384 slices_S128x1024_o0_384_S128x128 (Qt m c t)) (slab0 (Kt m c t)) (slab0 (Vt m c t)) (mPrev t) (mNext t)
        (sinkOf m c t 6 inb_S16_S1_6) (sinkOf m c t 7 inb_S16_S1_7) x = v)
    (h4 : ∀ x : S128x128.Idx, (y 0).val = (x 0).val → (y 1).val = 512 + (x 1).val →
      evenCol (qCol 512 slices_S128x1024_o0_512_S128x128 (Qt m c t)) (slab1 (Kt m c t)) (slab1 (Vt m c t)) (mPrev t) (mNext t)
        (sinkOf m c t 8 inb_S16_S1_8) (sinkOf m c t 9 inb_S16_S1_9) x = v)
    (h5 : ∀ x : S128x128.Idx, (y 0).val = (x 0).val → (y 1).val = 640 + (x 1).val →
      evenCol (qCol 640 slices_S128x1024_o0_640_S128x128 (Qt m c t)) (slab1 (Kt m c t)) (slab1 (Vt m c t)) (mPrev t) (mNext t)
        (sinkOf m c t 10 inb_S16_S1_10) (sinkOf m c t 11 inb_S16_S1_11) x = v)
    (h6 : ∀ x : S128x128.Idx, (y 0).val = (x 0).val → (y 1).val = 768 + (x 1).val →
      oddCol (qCol 768 slices_S128x1024_o0_768_S128x128 (Qt m c t)) (slab1 (Kt m c t)) (slab1 (Vt m c t)) (mPrev t) (mNext t)
        (sinkOf m c t 12 inb_S16_S1_12) (sinkOf m c t 13 inb_S16_S1_13) x = v)
    (h7 : ∀ x : S128x128.Idx, (y 0).val = (x 0).val → (y 1).val = 896 + (x 1).val →
      oddCol (qCol 896 slices_S128x1024_o0_896_S128x128 (Qt m c t)) (slab1 (Kt m c t)) (slab1 (Vt m c t)) (mPrev t) (mNext t)
        (sinkOf m c t 14 inb_S16_S1_14) (sinkOf m c t 15 inb_S16_S1_15) x = v)
    : outsAt0 m c t y = v := by
  unfold outsAt0 out0_A_9
  refine (congrFun (View.read_writes_junk_eq_canon _ _) y).trans ?_
  refine View.canon_eq_of_allAt _ y v (cover0_A_9 _ _ _ _ _ _ _ _ _ _ _ _ _ _ _ _ _ _ _ _ _ _ _ _ _ _ _ _ _ _ _ y) ?_
  unfold kernelRun0_A
  dsimp only
  intro p hp x hx
  simp only [List.mem_cons, List.not_mem_nil, or_false] at hp
  have e0 := congrArg (fun z : S128x1024.Idx => (z 0).val) hx
  have e1 := congrArg (fun z : S128x1024.Idx => (z 1).val) hx
  dsimp only at e0 e1
  rcases hp with rfl | rfl | rfl | rfl | rfl | rfl | rfl | rfl
  · exact h7 x (e0.symm.trans (by show 0 + 1 * (x 0).val = _; omega)) (e1.symm.trans (by show 896 + 1 * (x 1).val = _; omega))
  · exact h6 x (e0.symm.trans (by show 0 + 1 * (x 0).val = _; omega)) (e1.symm.trans (by show 768 + 1 * (x 1).val = _; omega))
  · exact h5 x (e0.symm.trans (by show 0 + 1 * (x 0).val = _; omega)) (e1.symm.trans (by show 640 + 1 * (x 1).val = _; omega))
  · exact h4 x (e0.symm.trans (by show 0 + 1 * (x 0).val = _; omega)) (e1.symm.trans (by show 512 + 1 * (x 1).val = _; omega))
  · exact h3 x (e0.symm.trans (by show 0 + 1 * (x 0).val = _; omega)) (e1.symm.trans (by show 384 + 1 * (x 1).val = _; omega))
  · exact h2 x (e0.symm.trans (by show 0 + 1 * (x 0).val = _; omega)) (e1.symm.trans (by show 256 + 1 * (x 1).val = _; omega))
  · exact h1 x (e0.symm.trans (by show 0 + 1 * (x 0).val = _; omega)) (e1.symm.trans (by show 128 + 1 * (x 1).val = _; omega))
  · exact h0 x (e0.symm.trans (by show 0 + 1 * (x 0).val = _; omega)) (e1.symm.trans (by show 0 + 1 * (x 1).val = _; omega))

end Cert.SwaIdeal.Hand

end
-- ==== Proof.Swa.Rope.lean ====
/- The rotary turn of a column of two heads, and the concatenations of the kernel's queries, keys and values. -/
module

public import proofs.«01_k».proof.Proof.Swa.Pieces

@[expose] public section

set_option maxRecDepth 16384

noncomputable section

namespace Cert.SwaIdeal.Hand

open Cert.SwaIdeal Cert.SwaIdeal.Gen Cert.SwaModel Idealize.ShloMosaic Idealize.ShloMosaic.TcCoe Idealize.SL.Sem

/-- A column turned by three tables. -/
def ropeV (v a b c : FVec Ideal S128x128 .f32) : FVec Ideal S128x128 .f32 :=
  addf (addf (mulf v a) (mulf (dynamicRotate 1 112#32 none v rotates_S128x128_d1) b)) (mulf (dynamicRotate 1 16#32 none v rotates_S128x128_d1) c)

theorem rot112 (v : FVec Ideal S128x128 .f32) (r l : Fin 128) :
    dynamicRotate 1 112#32 none v rotates_S128x128_d1 (ix2 r l) = v (ix2 r ⟨(l.val + 16) % 128, Nat.mod_lt _ (by decide)⟩) := by
  refine dynamicRotate_apply 1 112#32 v rotates_S128x128_d1 _ _ fun b => ?_
  fin_cases b
  · rfl
  · show (l.val + 16) % 128 = if (1 : Fin 2) = 1 then (l.val + 128 - 112 % 128) % 128 else _
    rw [if_pos rfl]
    omega

theorem rot16 (v : FVec Ideal S128x128 .f32) (r l : Fin 128) :
    dynamicRotate 1 16#32 none v rotates_S128x128_d1 (ix2 r l) = v (ix2 r ⟨(l.val + 112) % 128, Nat.mod_lt _ (by decide)⟩) := by
  refine dynamicRotate_apply 1 16#32 v rotates_S128x128_d1 _ _ fun b => ?_
  fin_cases b
  · rfl
  · show (l.val + 112) % 128 = if (1 : Fin 2) = 1 then (l.val + 128 - 16 % 128) % 128 else _
    rw [if_pos rfl]
    omega

theorem ropeV_apply (v a b c : FVec Ideal S128x128 .f32) (r l : Fin 128) : ropeV v a b c (ix2 r l)
    = v (ix2 r l) * a (ix2 r l) + v (ix2 r ⟨(l.val + 16) % 128, Nat.mod_lt _ (by decide)⟩) * b (ix2 r l)
      + v (ix2 r ⟨(l.val + 112) % 128, Nat.mod_lt _ (by decide)⟩) * c (ix2 r l) := by
  refine Eq.trans ?_ (congrArg₂ (· + ·) (congrArg₂ (· + ·) rfl (congrArg (· * _) (rot112 v r l))) (congrArg (· * _) (rot16 v r l)))
  rfl

/-- The three tables of a position. -/
def tabA (cr cc : Fin 16 → EReal) (l : Fin 64) : EReal :=
  if l.val < 32 then cr ⟨l.val % 16, Nat.mod_lt _ (by decide)⟩ else cc ⟨l.val % 16, Nat.mod_lt _ (by decide)⟩
def tabB (sr sc : Fin 16 → EReal) (l : Fin 64) : EReal :=
  if l.val < 16 then -sr ⟨l.val % 16, Nat.mod_lt _ (by decide)⟩ else if l.val < 32 then 0
  else if l.val < 48 then -sc ⟨l.val % 16, Nat.mod_lt _ (by decide)⟩ else 0
def tabC (sr sc : Fin 16 → EReal) (l : Fin 64) : EReal :=
  if l.val < 16 then 0 else if l.val < 32 then sr ⟨l.val % 16, Nat.mod_lt _ (by decide)⟩
  else if l.val < 48 then 0 else sc ⟨l.val % 16, Nat.mod_lt _ (by decide)⟩

/-- The turn by the tables is the rotary turn. -/
theorem turn_eq (x : Fin 64 → EReal) (y z : EReal) (cr sr cc sc : Fin 16 → EReal) (d : Fin 64)
    (hy : ∀ h : d.val + 16 < 64, y = x ⟨16 + d.val, by omega⟩) (hz : ∀ h : 16 ≤ d.val, z = x ⟨d.val - 16, by omega⟩) :
    x d * tabA cr cc d + y * tabB sr sc d + z * tabC sr sc d = rope x cr sr cc sc d := by
  unfold tabA tabB tabC rope
  by_cases h1 : d.val < 16
  · have e : (⟨d.val % 16, Nat.mod_lt _ (by decide)⟩ : Fin 16) = ⟨d.val, h1⟩ := Fin.ext (Nat.mod_eq_of_lt h1)
    rw [if_pos (show d.val < 32 by omega), if_pos h1, if_pos h1, dif_pos h1, mul_zero, add_zero, mul_neg, hy (by omega), e]
    rfl
  · by_cases h2 : d.val < 32
    · have e : (⟨d.val % 16, Nat.mod_lt _ (by decide)⟩ : Fin 16) = ⟨d.val - 16, by omega⟩ := Fin.ext (by show d.val % 16 = d.val - 16; omega)
      rw [if_pos h2, if_neg h1, if_pos h2, if_neg h1, if_pos h2, dif_neg h1, dif_pos h2, mul_zero, add_zero, hz (by omega), e]
    · by_cases h3 : d.val < 48
      · have e : (⟨d.val % 16, Nat.mod_lt _ (by decide)⟩ : Fin 16) = ⟨d.val - 32, by omega⟩ := Fin.ext (by show d.val % 16 = d.val - 32; omega)
        rw [if_neg h2, if_neg h1, if_neg h2, if_pos h3, if_neg h1, if_neg h2, if_pos h3, dif_neg h1, dif_neg h2, dif_pos h3, mul_zero,
          add_zero, mul_neg, hy (by omega), e]
        rfl
      · have e : (⟨d.val % 16, Nat.mod_lt _ (by decide)⟩ : Fin 16) = ⟨d.val - 48, by omega⟩ := Fin.ext (by show d.val % 16 = d.val - 48; omega)
        rw [if_neg h2, if_neg h1, if_neg h2, if_neg h3, if_neg h1, if_neg h2, if_neg h3, dif_neg h1, dif_neg h2, dif_neg h3, mul_zero,
          add_zero, hz (by omega), e]

/-- The three parts of a table block. -/
abbrev tA (T : FVec Ideal S128x384 .f32) : FVec Ideal S128x128 .f32 := extractStridedSlice S128x128 ![0, 0] T slices_S128x384_o0_0_S128x128
abbrev tB (T : FVec Ideal S128x384 .f32) : FVec Ideal S128x128 .f32 := extractStridedSlice S128x128 ![0, 128] T slices_S128x384_o0_128_S128x128
abbrev tC (T : FVec Ideal S128x384 .f32) : FVec Ideal S128x128 .f32 := extractStridedSlice S128x128 ![0, 256] T slices_S128x384_o0_256_S128x128

/-- What a table block holds. -/
structure IsTab (T : FVec Ideal S128x384 .f32) (cr sr cc sc : Fin 128 → Fin 16 → EReal) : Prop where
  a : ∀ (r : Fin 128) (o : Fin 2) (d : Fin 64), T (ix2 r ⟨0 + (o.val * 64 + d.val), by omega⟩) = tabA (cr r) (cc r) d
  b : ∀ (r : Fin 128) (o : Fin 2) (d : Fin 64), T (ix2 r ⟨128 + (o.val * 64 + d.val), by omega⟩) = tabB (sr r) (sc r) d
  c : ∀ (r : Fin 128) (o : Fin 2) (d : Fin 64), T (ix2 r ⟨256 + (o.val * 64 + d.val), by omega⟩) = tabC (sr r) (sc r) d

theorem tslice (T : FVec Ideal S128x384 .f32) (o : Nat) (h : S128x384.Slices ![0, o] S128x128) (r l : Fin 128) (ho : o + l.val < 384) :
    extractStridedSlice S128x128 ![0, o] T h (ix2 r l) = T (ix2 r ⟨o + l.val, ho⟩) :=
  extractStridedSlice_apply ![0, o] T h (ix2 r l) (ix2 r ⟨o + l.val, ho⟩) (by intro a; fin_cases a <;> simp [ix2])

/-- A column of two heads, turned. -/
theorem ropeV_eq (v : FVec Ideal S128x128 .f32) (T : FVec Ideal S128x384 .f32) (cr sr cc sc : Fin 128 → Fin 16 → EReal)
    (hT : IsTab T cr sr cc sc) (r : Fin 128) (o : Fin 2) (d : Fin 64) :
    ropeV v (tA T) (tB T) (tC T) (ix2 r ⟨o.val * 64 + d.val, by omega⟩)
      = rope (fun e => v (ix2 r ⟨o.val * 64 + e.val, by omega⟩)) (cr r) (sr r) (cc r) (sc r) d := by
  rw [ropeV_apply]
  unfold tA tB tC
  rw [tslice _ _ _ _ _ (by show 0 + (o.val * 64 + d.val) < 384; omega), tslice _ _ _ _ _ (by show 128 + (o.val * 64 + d.val) < 384; omega),
    tslice _ _ _ _ _ (by show 256 + (o.val * 64 + d.val) < 384; omega)]
  refine (congrArg₂ (· + ·) (congrArg₂ (· + ·) (congrArg (_ * ·) (hT.a r o d)) (congrArg (_ * ·) (hT.b r o d))) (congrArg (_ * ·) (hT.c r o d))).trans ?_
  refine turn_eq (fun e : Fin 64 => v (ix2 r ⟨o.val * 64 + e.val, by omega⟩)) _ _ (cr r) (sr r) (cc r) (sc r) d (fun h => ?_) (fun h => ?_)
  · exact congrArg v (congrArg (ix2 r) (Fin.ext (by show (o.val * 64 + d.val + 16) % 128 = o.val * 64 + (16 + d.val); omega)))
  · exact congrArg v (congrArg (ix2 r) (Fin.ext (by show (o.val * 64 + d.val + 112) % 128 = o.val * 64 + (d.val - 16); omega)))

theorem cat8_apply (A0 A1 A2 A3 A4 A5 A6 A7 : FVec Ideal S128x128 .f32) (r : Fin 128) (p : Fin 8) (l : Fin 128) :
    concatenate S128x1024 1 [⟨S128x128, A0⟩, ⟨S128x128, A1⟩, ⟨S128x128, A2⟩, ⟨S128x128, A3⟩, ⟨S128x128, A4⟩, ⟨S128x128, A5⟩,
        ⟨S128x128, A6⟩, ⟨S128x128, A7⟩] concatenates_S128x128_S128x128_S128x128_S128x128_S128x128_S128x128_S128x128_S128x128_S128x1024_d1
      (ix2 r ⟨p.val * 128 + l.val, by omega⟩) = (![A0, A1, A2, A3, A4, A5, A6, A7] p) (ix2 r l) := by
  pointwise []
  obtain ⟨p, hp⟩ := p
  dsimp only
  have hl := l.isLt
  interval_cases p
  · rw [dif_pos (show (0 * 128 + l.val < 128) by omega)]
    exact congrArg A0 (congrArg (ix2 r) (Fin.ext (by show 0 * 128 + l.val = l.val; omega)))
  · rw [dif_neg (show ¬ (1 * 128 + l.val < 128) by omega), dif_pos (show (1 * 128 + l.val - 128 < 128) by omega)]
    exact congrArg A1 (congrArg (ix2 r) (Fin.ext (by show 1 * 128 + l.val - 128 = l.val; omega)))
  · rw [dif_neg (show ¬ (2 * 128 + l.val < 128) by omega), dif_neg (show ¬ (2 * 128 + l.val - 128 < 128) by omega), dif_pos (show (2 * 128 + l.val - 128 - 128 < 128) by omega)]
    exact congrArg A2 (congrArg (ix2 r) (Fin.ext (by show 2 * 128 + l.val - 128 - 128 = l.val; omega)))
  · rw [dif_neg (show ¬ (3 * 128 + l.val < 128) by omega), dif_neg (show ¬ (3 * 128 + l.val - 128 < 128) by omega), dif_neg (show ¬ (3 * 128 + l.val - 128 - 128 < 128) by omega), dif_pos (show (3 * 128 + l.val - 128 - 128 - 128 < 128) by omega)]
    exact congrArg A3 (congrArg (ix2 r) (Fin.ext (by show 3 * 128 + l.val - 128 - 128 - 128 = l.val; omega)))
  · rw [dif_neg (show ¬ (4 * 128 + l.val < 128) by omega), dif_neg (show ¬ (4 * 128 + l.val - 128 < 128) by omega), dif_neg (show ¬ (4 * 128 + l.val - 128 - 128 < 128) by omega), dif_neg (show ¬ (4 * 128 + l.val - 128 - 128 - 128 < 128) by omega), dif_pos (show (4 * 128 + l.val - 128 - 128 - 128 - 128 < 128) by omega)]
    exact congrArg A4 (congrArg (ix2 r) (Fin.ext (by show 4 * 128 + l.val - 128 - 128 - 128 - 128 = l.val; omega)))
  · rw [dif_neg (show ¬ (5 * 128 + l.val < 128) by omega), dif_neg (show ¬ (5 * 128 + l.val - 128 < 128) by omega), dif_neg (show ¬ (5 * 128 + l.val - 128 - 128 < 128) by omega), dif_neg (show ¬ (5 * 128 + l.val - 128 - 128 - 128 < 128) by omega), dif_neg (show ¬ (5 * 128 + l.val - 128 - 128 - 128 - 128 < 128) by omega), dif_pos (show (5 * 128 + l.val - 128 - 128 - 128 - 128 - 128 < 128) by omega)]
    exact congrArg A5 (congrArg (ix2 r) (Fin.ext (by show 5 * 128 + l.val - 128 - 128 - 128 - 128 - 128 = l.val; omega)))
  · rw [dif_neg (show ¬ (6 * 128 + l.val < 128) by omega), dif_neg (show ¬ (6 * 128 + l.val - 128 < 128) by omega), dif_neg (show ¬ (6 * 128 + l.val - 128 - 128 < 128) by omega), dif_neg (show ¬ (6 * 128 + l.val - 128 - 128 - 128 < 128) by omega), dif_neg (show ¬ (6 * 128 + l.val - 128 - 128 - 128 - 128 < 128) by omega), dif_neg (show ¬ (6 * 128 + l.val - 128 - 128 - 128 - 128 - 128 < 128) by omega), dif_pos (show (6 * 128 + l.val - 128 - 128 - 128 - 128 - 128 - 128 < 128) by omega)]
    exact congrArg A6 (congrArg (ix2 r) (Fin.ext (by show 6 * 128 + l.val - 128 - 128 - 128 - 128 - 128 - 128 = l.val; omega)))
  · rw [dif_neg (show ¬ (7 * 128 + l.val < 128) by omega), dif_neg (show ¬ (7 * 128 + l.val - 128 < 128) by omega), dif_neg (show ¬ (7 * 128 + l.val - 128 - 128 < 128) by omega), dif_neg (show ¬ (7 * 128 + l.val - 128 - 128 - 128 < 128) by omega), dif_neg (show ¬ (7 * 128 + l.val - 128 - 128 - 128 - 128 < 128) by omega), dif_neg (show ¬ (7 * 128 + l.val - 128 - 128 - 128 - 128 - 128 < 128) by omega), dif_neg (show ¬ (7 * 128 + l.val - 128 - 128 - 128 - 128 - 128 - 128 < 128) by omega)]
    exact congrArg A7 (congrArg (ix2 r) (Fin.ext (by show 7 * 128 + l.val - 128 - 128 - 128 - 128 - 128 - 128 - 128 = l.val; omega)))

theorem cat2_apply (A B : FVec Ideal S128x128 .f32) (r : Fin 128) (p : Fin 2) (l : Fin 128) :
    concatenate S128x256 1 [⟨S128x128, A⟩, ⟨S128x128, B⟩] concatenates_S128x128_S128x128_S128x256_d1
      (ix2 r ⟨p.val * 128 + l.val, by omega⟩) = (![A, B] p) (ix2 r l) := by
  pointwise []
  obtain ⟨p, hp⟩ := p
  dsimp only
  have hl := l.isLt
  interval_cases p
  · split_ifs <;> first | (exfalso; omega) | exact congrArg A (congrArg (ix2 r) (Fin.ext (by dsimp only; omega)))
  · split_ifs <;> first | (exfalso; omega) | exact congrArg B (congrArg (ix2 r) (Fin.ext (by dsimp only; omega)))

theorem rows_apply {φ : FTy} (A B C : FVec Ideal S128x256 φ) (D : FVec Ideal S256x256 φ) (j : Fin 640) (l : Fin 256) :
    concatenate S640x256 0 [⟨S128x256, A⟩, ⟨S128x256, B⟩, ⟨S128x256, C⟩, ⟨S256x256, D⟩]
        concatenates_S128x256_S128x256_S128x256_S256x256_S640x256_d0 (ix2 j l)
      = pick (fun r => A (ix2 r l)) (fun r => B (ix2 r l)) (fun r => C (ix2 r l)) (fun r => D (ix2 r l)) j := by
  pointwise [pick]
  by_cases h1 : j.val < 128
  · rw [dif_pos h1, dif_pos h1]
  · by_cases h2 : j.val < 256
    · rw [dif_neg h1, dif_neg h1, dif_pos (show j.val - 128 < 128 by omega), dif_pos h2]
    · by_cases h3 : j.val < 384
      · rw [dif_neg h1, dif_neg h1, dif_neg (show ¬ j.val - 128 < 128 by omega), dif_neg h2, dif_pos (show j.val - 128 - 128 < 128 by omega), dif_pos h3]
        exact congrArg (fun a => C (ix2 a l)) (Fin.ext (by show j.val - 128 - 128 = j.val - 256; omega))
      · rw [dif_neg h1, dif_neg h1, dif_neg (show ¬ j.val - 128 < 128 by omega), dif_neg h2, dif_neg (show ¬ j.val - 128 - 128 < 128 by omega), dif_neg h3]
        exact congrArg (fun a => D (ix2 a l)) (Fin.ext (by show j.val - 128 - 128 - 128 = j.val - 384; omega))

theorem coords1 : ∀ t : Fin cfg0.N, (grid0.coords t 1).val = t.val % 16 :=
  (by decide +kernel : ∀ t : Fin grid0.N, (grid0.coords t 1).val = t.val % 16)

theorem side_prev : ∀ r j : Fin 128, IntOp.cmpi .sge (IntOp.subi (IntOp.subi (BitVec.ofNat 32 j.val) 128#32) (BitVec.ofNat 32 r.val)) 4294967168#32
    = if r.val ≤ j.val then 1#1 else 0#1 := by decide +kernel

theorem side_next : ∀ r j : Fin 128, IntOp.cmpi .sle (IntOp.subi (IntOp.addi (BitVec.ofNat 32 j.val) 128#32) (BitVec.ofNat 32 r.val)) 128#32
    = if j.val ≤ r.val then 1#1 else 0#1 := by decide +kernel

theorem first_ok : ∀ n : Fin 16, Scalar.cmpi .sgt (BitVec.ofNat 32 n.val) 0#32 = if 0 < n.val then 1#1 else 0#1 := by decide +kernel

theorem last_ok : ∀ n : Fin 16, Scalar.cmpi .slt (BitVec.ofNat 32 n.val) 15#32 = if n.val < 15 then 1#1 else 0#1 := by decide +kernel

/-- The query block of a point. -/
abbrev qb (t : Fin cfg0.N) : Fin 16 := ⟨t.val % 16, Nat.mod_lt _ (by decide)⟩

theorem and_bits (p q : Prop) [Decidable p] [Decidable q] :
    IntOp.andi (if p then 1#1 else 0#1) (if q then 1#1 else 0#1) = if decide (q ∧ p) then 1#1 else 0#1 := by
  by_cases hp : p <;> by_cases hq : q <;> simp [hp, hq, IntOp.andi]

theorem mPrev_apply (t : Fin cfg0.N) (r j : Fin 128) :
    mPrev t (ix2 r j) = if decide (0 < (qb t).val ∧ r.val ≤ j.val) then 1#1 else 0#1 := by
  unfold mPrev
  pointwise [k0_pay34]
  rw [coords1 t]
  exact (congrArg₂ IntOp.andi (side_prev r j) (first_ok (qb t))).trans (and_bits _ _)

theorem mNext_apply (t : Fin cfg0.N) (r j : Fin 128) :
    mNext t (ix2 r j) = if decide ((qb t).val < 15 ∧ j.val ≤ r.val) then 1#1 else 0#1 := by
  unfold mNext
  pointwise [k0_pay35]
  rw [coords1 t]
  exact (congrArg₂ IntOp.andi (side_next r j) (last_ok (qb t))).trans (and_bits _ _)

theorem okV_eq (n : Fin 16) (r : Fin 128) (j : Fin 640) :
    okV (fun r j => decide (0 < n.val ∧ r.val ≤ j.val)) (fun r j => decide (n.val < 15 ∧ j.val ≤ r.val)) r j = ok n r j := by
  unfold okV ok
  dsimp only
  split_ifs
  · rfl
  · rfl
  · exact decide_eq_decide.mpr (and_congr Iff.rfl (by omega))
  · rfl

end Cert.SwaIdeal.Hand

end
-- ==== Proof.Swa.Ref.lean ====
module

public import proofs.«01_k».proof.Proof.Gen.SwaRefIdeal
public import proofs.«01_k».proof.Proof.Gen.SwaRefIdeal.Read
public import proofs.«01_k».proof.Proof.Swa.Model

@[expose] public section

set_option maxRecDepth 16384

noncomputable section

namespace Cert.SwaRefIdeal.Hand

open Cert.SwaRefIdeal Cert.SwaRefIdeal.Gen Cert.SwaRefIdeal.Read Cert.SwaModel Idealize.ShloMosaic Idealize.ShloMosaic.TcCoe
open Idealize.SL.Sem

variable (x : Vec Ideal S18432x1536 .bf16) (sk : Vec Ideal S16 .f32)

/-- Row `l` of batch `b`. -/
abbrev flat (b : Fin 8) (l : Fin 2048) : Fin 18432 := ⟨b.val * 2048 + l.val, by omega⟩

/-- The tables. -/
abbrev cr (l : Fin 2048) (i : Fin 16) : EReal := Ideal.cos (val_main_v20 (F := Ideal) (ix2 l i))
abbrev sr (l : Fin 2048) (i : Fin 16) : EReal := Ideal.sin (val_main_v20 (F := Ideal) (ix2 l i))
abbrev cc (l : Fin 2048) (i : Fin 16) : EReal := Ideal.cos (val_main_v25 (F := Ideal) (ix2 l i))
abbrev sc (l : Fin 2048) (i : Fin 16) : EReal := Ideal.sin (val_main_v25 (F := Ideal) (ix2 l i))

theorem lat_apply (b : Fin 8) (l : Fin 2048) (e : Fin 1536) : val_main_v2 x (ix3 b l e) = x (ix2 (flat b l) e) := by
  pointwise [val_main_v2, val_main_v1, val_main_v0]

theorem heads_apply (b : Fin 8) (l : Fin 2048) (h : Fin 16) (d : Fin 64) :
    val_main_v27 x (ix4 b l h d) = x (ix2 (flat b l) ⟨h.val * 64 + d.val, by omega⟩) := by
  pointwise [val_main_v27, val_main_v26]
  rw [lat_apply]

theorem ix4_of {n0 n1 n2 n3 : Nat} {a a' : Fin n0} {b b' : Fin n1} {c c' : Fin n2} {d d' : Fin n3} (ha : a = a') (hb : b = b')
    (hc : c = c') (hd : d = d') : ix4 a b c d = ix4 a' b' c' d' := by rw [ha, hb, hc, hd]

theorem v40_at (b : Fin 8) (l : Fin 2048) (h : Fin 16) (i : Fin 16) :
    val_main_v40 x (ix4 b l h i) = val_main_v27 x (ix4 b l h ⟨i.val, by omega⟩) * cr l i
      - val_main_v27 x (ix4 b l h ⟨16 + i.val, by omega⟩) * sr l i := by
  unfold cr sr
  simp only [val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply]
  generalize val_main_v27 x = X
  generalize val_main_v20 (F := Ideal) = A
  show X _ * Ideal.cos (A _) - X _ * Ideal.sin (A _) = _
  exact congrArg₂ (· - ·)
    (congrArg₂ (· * ·) (congrArg X ((eq_ix4 _).trans (ix4_of rfl rfl rfl rfl))) (congrArg (fun j => Ideal.cos (A j)) ((eq_ix2 _).trans rfl)))
    (congrArg₂ (· * ·) (congrArg X ((eq_ix4 _).trans (ix4_of rfl rfl rfl rfl))) (congrArg (fun j => Ideal.sin (A j)) ((eq_ix2 _).trans rfl)))

theorem v45_at (b : Fin 8) (l : Fin 2048) (h : Fin 16) (i : Fin 16) :
    val_main_v45 x (ix4 b l h i) = val_main_v27 x (ix4 b l h ⟨16 + i.val, by omega⟩) * cr l i
      + val_main_v27 x (ix4 b l h ⟨i.val, by omega⟩) * sr l i := by
  unfold cr sr
  simp only [val_main_v45_apply, val_main_v44_apply, val_main_v43_apply, val_main_v42_apply, val_main_v41_apply, val_main_v35_apply, val_main_v34_apply, val_main_v33_apply, val_main_v32_apply, val_main_v31_apply, val_main_v30_apply, val_main_v28_apply]
  generalize val_main_v27 x = X
  generalize val_main_v20 (F := Ideal) = A
  show X _ * Ideal.cos (A _) + X _ * Ideal.sin (A _) = _
  exact congrArg₂ (· + ·)
    (congrArg₂ (· * ·) (congrArg X ((eq_ix4 _).trans (ix4_of rfl rfl rfl rfl))) (congrArg (fun j => Ideal.cos (A j)) ((eq_ix2 _).trans rfl)))
    (congrArg₂ (· * ·) (congrArg X ((eq_ix4 _).trans (ix4_of rfl rfl rfl rfl))) (congrArg (fun j => Ideal.sin (A j)) ((eq_ix2 _).trans rfl)))

theorem v57_at (b : Fin 8) (l : Fin 2048) (h : Fin 16) (i : Fin 16) :
    val_main_v57 x (ix4 b l h i) = val_main_v27 x (ix4 b l h ⟨32 + i.val, by omega⟩) * cc l i
      - val_main_v27 x (ix4 b l h ⟨48 + i.val, by omega⟩) * sc l i := by
  unfold cc sc
  simp only [val_main_v57_apply, val_main_v56_apply, val_main_v55_apply, val_main_v54_apply, val_main_v53_apply, val_main_v52_apply, val_main_v51_apply, val_main_v50_apply, val_main_v49_apply, val_main_v48_apply, val_main_v47_apply, val_main_v29_apply]
  generalize val_main_v27 x = X
  generalize val_main_v25 (F := Ideal) = A
  show X _ * Ideal.cos (A _) - X _ * Ideal.sin (A _) = _
  exact congrArg₂ (· - ·)
    (congrArg₂ (· * ·) (congrArg X ((eq_ix4 _).trans (ix4_of rfl rfl rfl rfl))) (congrArg (fun j => Ideal.cos (A j)) ((eq_ix2 _).trans rfl)))
    (congrArg₂ (· * ·) (congrArg X ((eq_ix4 _).trans (ix4_of rfl rfl rfl (Fin.ext (Nat.add_assoc 32 16 _).symm)))) (congrArg (fun j => Ideal.sin (A j)) ((eq_ix2 _).trans rfl)))

theorem v62_at (b : Fin 8) (l : Fin 2048) (h : Fin 16) (i : Fin 16) :
    val_main_v62 x (ix4 b l h i) = val_main_v27 x (ix4 b l h ⟨48 + i.val, by omega⟩) * cc l i
      + val_main_v27 x (ix4 b l h ⟨32 + i.val, by omega⟩) * sc l i := by
  unfold cc sc
  simp only [val_main_v62_apply, val_main_v61_apply, val_main_v60_apply, val_main_v59_apply, val_main_v58_apply, val_main_v52_apply, val_main_v51_apply, val_main_v50_apply, val_main_v49_apply, val_main_v48_apply, val_main_v47_apply, val_main_v29_apply]
  generalize val_main_v27 x = X
  generalize val_main_v25 (F := Ideal) = A
  show X _ * Ideal.cos (A _) + X _ * Ideal.sin (A _) = _
  exact congrArg₂ (· + ·)
    (congrArg₂ (· * ·) (congrArg X ((eq_ix4 _).trans (ix4_of rfl rfl rfl (Fin.ext (Nat.add_assoc 32 16 _).symm)))) (congrArg (fun j => Ideal.cos (A j)) ((eq_ix2 _).trans rfl)))
    (congrArg₂ (· * ·) (congrArg X ((eq_ix4 _).trans (ix4_of rfl rfl rfl rfl))) (congrArg (fun j => Ideal.sin (A j)) ((eq_ix2 _).trans rfl)))

theorem v79_at (b : Fin 8) (l : Fin 2048) (h : Fin 4) (i : Fin 16) :
    val_main_v79 x (ix4 b l h i) = val_main_v66 x (ix4 b l h ⟨i.val, by omega⟩) * cr l i
      - val_main_v66 x (ix4 b l h ⟨16 + i.val, by omega⟩) * sr l i := by
  unfold cr sr
  simp only [val_main_v79_apply, val_main_v78_apply, val_main_v77_apply, val_main_v76_apply, val_main_v75_apply, val_main_v74_apply, val_main_v73_apply, val_main_v72_apply, val_main_v71_apply, val_main_v70_apply, val_main_v69_apply, val_main_v67_apply]
  generalize val_main_v66 x = X
  generalize val_main_v20 (F := Ideal) = A
  show X _ * Ideal.cos (A _) - X _ * Ideal.sin (A _) = _
  exact congrArg₂ (· - ·)
    (congrArg₂ (· * ·) (congrArg X ((eq_ix4 _).trans (ix4_of rfl rfl rfl rfl))) (congrArg (fun j => Ideal.cos (A j)) ((eq_ix2 _).trans rfl)))
    (congrArg₂ (· * ·) (congrArg X ((eq_ix4 _).trans (ix4_of rfl rfl rfl rfl))) (congrArg (fun j => Ideal.sin (A j)) ((eq_ix2 _).trans rfl)))

theorem v84_at (b : Fin 8) (l : Fin 2048) (h : Fin 4) (i : Fin 16) :
    val_main_v84 x (ix4 b l h i) = val_main_v66 x (ix4 b l h ⟨16 + i.val, by omega⟩) * cr l i
      + val_main_v66 x (ix4 b l h ⟨i.val, by omega⟩) * sr l i := by
  unfold cr sr
  simp only [val_main_v84_apply, val_main_v83_apply, val_main_v82_apply, val_main_v81_apply, val_main_v80_apply, val_main_v74_apply, val_main_v73_apply, val_main_v72_apply, val_main_v71_apply, val_main_v70_apply, val_main_v69_apply, val_main_v67_apply]
  generalize val_main_v66 x = X
  generalize val_main_v20 (F := Ideal) = A
  show X _ * Ideal.cos (A _) + X _ * Ideal.sin (A _) = _
  exact congrArg₂ (· + ·)
    (congrArg₂ (· * ·) (congrArg X ((eq_ix4 _).trans (ix4_of rfl rfl rfl rfl))) (congrArg (fun j => Ideal.cos (A j)) ((eq_ix2 _).trans rfl)))
    (congrArg₂ (· * ·) (congrArg X ((eq_ix4 _).trans (ix4_of rfl rfl rfl rfl))) (congrArg (fun j => Ideal.sin (A j)) ((eq_ix2 _).trans rfl)))

theorem v96_at (b : Fin 8) (l : Fin 2048) (h : Fin 4) (i : Fin 16) :
    val_main_v96 x (ix4 b l h i) = val_main_v66 x (ix4 b l h ⟨32 + i.val, by omega⟩) * cc l i
      - val_main_v66 x (ix4 b l h ⟨48 + i.val, by omega⟩) * sc l i := by
  unfold cc sc
  simp only [val_main_v96_apply, val_main_v95_apply, val_main_v94_apply, val_main_v93_apply, val_main_v92_apply, val_main_v91_apply, val_main_v90_apply, val_main_v89_apply, val_main_v88_apply, val_main_v87_apply, val_main_v86_apply, val_main_v68_apply]
  generalize val_main_v66 x = X
  generalize val_main_v25 (F := Ideal) = A
  show X _ * Ideal.cos (A _) - X _ * Ideal.sin (A _) = _
  exact congrArg₂ (· - ·)
    (congrArg₂ (· * ·) (congrArg X ((eq_ix4 _).trans (ix4_of rfl rfl rfl rfl))) (congrArg (fun j => Ideal.cos (A j)) ((eq_ix2 _).trans rfl)))
    (congrArg₂ (· * ·) (congrArg X ((eq_ix4 _).trans (ix4_of rfl rfl rfl (Fin.ext (Nat.add_assoc 32 16 _).symm)))) (congrArg (fun j => Ideal.sin (A j)) ((eq_ix2 _).trans rfl)))

theorem v101_at (b : Fin 8) (l : Fin 2048) (h : Fin 4) (i : Fin 16) :
    val_main_v101 x (ix4 b l h i) = val_main_v66 x (ix4 b l h ⟨48 + i.val, by omega⟩) * cc l i
      + val_main_v66 x (ix4 b l h ⟨32 + i.val, by omega⟩) * sc l i := by
  unfold cc sc
  simp only [val_main_v101_apply, val_main_v100_apply, val_main_v99_apply, val_main_v98_apply, val_main_v97_apply, val_main_v91_apply, val_main_v90_apply, val_main_v89_apply, val_main_v88_apply, val_main_v87_apply, val_main_v86_apply, val_main_v68_apply]
  generalize val_main_v66 x = X
  generalize val_main_v25 (F := Ideal) = A
  show X _ * Ideal.cos (A _) + X _ * Ideal.sin (A _) = _
  exact congrArg₂ (· + ·)
    (congrArg₂ (· * ·) (congrArg X ((eq_ix4 _).trans (ix4_of rfl rfl rfl (Fin.ext (Nat.add_assoc 32 16 _).symm)))) (congrArg (fun j => Ideal.cos (A j)) ((eq_ix2 _).trans rfl)))
    (congrArg₂ (· * ·) (congrArg X ((eq_ix4 _).trans (ix4_of rfl rfl rfl rfl))) (congrArg (fun j => Ideal.sin (A j)) ((eq_ix2 _).trans rfl)))

theorem v46_at (b : Fin 8) (l : Fin 2048) (h : Fin 16) (i : Fin 32) :
    val_main_v46 x (ix4 b l h i) = if h' : i.val < 16 then val_main_v40 x (ix4 b l h ⟨i.val, h'⟩)
      else val_main_v45 x (ix4 b l h ⟨i.val - 16, by omega⟩) := by
  unfold val_main_v46
  generalize val_main_v40 x = X
  generalize val_main_v45 x = A
  pointwise []

theorem v63_at (b : Fin 8) (l : Fin 2048) (h : Fin 16) (i : Fin 32) :
    val_main_v63 x (ix4 b l h i) = if h' : i.val < 16 then val_main_v57 x (ix4 b l h ⟨i.val, h'⟩)
      else val_main_v62 x (ix4 b l h ⟨i.val - 16, by omega⟩) := by
  unfold val_main_v63
  generalize val_main_v57 x = X
  generalize val_main_v62 x = A
  pointwise []

theorem v64_at (b : Fin 8) (l : Fin 2048) (h : Fin 16) (i : Fin 64) :
    val_main_v64 x (ix4 b l h i) = if h' : i.val < 32 then val_main_v46 x (ix4 b l h ⟨i.val, h'⟩)
      else val_main_v63 x (ix4 b l h ⟨i.val - 32, by omega⟩) := by
  unfold val_main_v64
  generalize val_main_v46 x = X
  generalize val_main_v63 x = A
  pointwise []

theorem v85_at (b : Fin 8) (l : Fin 2048) (h : Fin 4) (i : Fin 32) :
    val_main_v85 x (ix4 b l h i) = if h' : i.val < 16 then val_main_v79 x (ix4 b l h ⟨i.val, h'⟩)
      else val_main_v84 x (ix4 b l h ⟨i.val - 16, by omega⟩) := by
  unfold val_main_v85
  generalize val_main_v79 x = X
  generalize val_main_v84 x = A
  pointwise []

theorem v102_at (b : Fin 8) (l : Fin 2048) (h : Fin 4) (i : Fin 32) :
    val_main_v102 x (ix4 b l h i) = if h' : i.val < 16 then val_main_v96 x (ix4 b l h ⟨i.val, h'⟩)
      else val_main_v101 x (ix4 b l h ⟨i.val - 16, by omega⟩) := by
  unfold val_main_v102
  generalize val_main_v96 x = X
  generalize val_main_v101 x = A
  pointwise []

theorem v103_at (b : Fin 8) (l : Fin 2048) (h : Fin 4) (i : Fin 64) :
    val_main_v103 x (ix4 b l h i) = if h' : i.val < 32 then val_main_v85 x (ix4 b l h ⟨i.val, h'⟩)
      else val_main_v102 x (ix4 b l h ⟨i.val - 32, by omega⟩) := by
  unfold val_main_v103
  generalize val_main_v85 x = X
  generalize val_main_v102 x = A
  pointwise []

theorem kheads_apply (b : Fin 8) (l : Fin 2048) (h : Fin 4) (d : Fin 64) :
    val_main_v66 x (ix4 b l h d) = x (ix2 (flat b l) ⟨1024 + (h.val * 64 + d.val), by omega⟩) := by
  pointwise [val_main_v66, val_main_v65]
  rw [lat_apply]

theorem q_apply (b : Fin 8) (l : Fin 2048) (h : Fin 16) (d : Fin 64) :
    val_main_v64 x (ix4 b l h d) = qLat (fun i e => x (ix2 i e)) cr sr cc sc b l h d := by
  rw [v64_at, qLat, rope]
  by_cases h1 : d.val < 16
  · rw [dif_pos (show d.val < 32 by omega), v46_at, dif_pos (show d.val < 16 from h1), dif_pos h1, v40_at, heads_apply, heads_apply]
  · by_cases h2 : d.val < 32
    · rw [dif_pos h2, v46_at, dif_neg (show ¬ d.val < 16 from h1), dif_neg h1, dif_pos h2, v45_at, heads_apply, heads_apply]
      simp only [show 16 + (d.val - 16) = d.val by omega]
    · by_cases h3 : d.val < 48
      · rw [dif_neg h2, v63_at, dif_pos (show d.val - 32 < 16 by omega), dif_neg h1, dif_neg h2, dif_pos h3, v57_at, heads_apply, heads_apply]
        simp only [show 32 + (d.val - 32) = d.val by omega, show 48 + (d.val - 32) = 16 + d.val by omega]
      · rw [dif_neg h2, v63_at, dif_neg (show ¬ d.val - 32 < 16 by omega), dif_neg h1, dif_neg h2, dif_neg h3, v62_at, heads_apply, heads_apply]
        simp only [show d.val - 32 - 16 = d.val - 48 by omega, show 48 + (d.val - 48) = d.val by omega,
          show 32 + (d.val - 48) = d.val - 16 by omega]

theorem k_apply (b : Fin 8) (l : Fin 2048) (h : Fin 4) (d : Fin 64) :
    val_main_v103 x (ix4 b l h d) = kLat (fun i e => x (ix2 i e)) cr sr cc sc b l h d := by
  rw [v103_at, kLat, rope]
  by_cases h1 : d.val < 16
  · rw [dif_pos (show d.val < 32 by omega), v85_at, dif_pos (show d.val < 16 from h1), dif_pos h1, v79_at, kheads_apply, kheads_apply]
  · by_cases h2 : d.val < 32
    · rw [dif_pos h2, v85_at, dif_neg (show ¬ d.val < 16 from h1), dif_neg h1, dif_pos h2, v84_at, kheads_apply, kheads_apply]
      simp only [show 16 + (d.val - 16) = d.val by omega]
    · by_cases h3 : d.val < 48
      · rw [dif_neg h2, v102_at, dif_pos (show d.val - 32 < 16 by omega), dif_neg h1, dif_neg h2, dif_pos h3, v96_at, kheads_apply, kheads_apply]
        simp only [show 32 + (d.val - 32) = d.val by omega, show 48 + (d.val - 32) = 16 + d.val by omega]
      · rw [dif_neg h2, v102_at, dif_neg (show ¬ d.val - 32 < 16 by omega), dif_neg h1, dif_neg h2, dif_neg h3, v101_at, kheads_apply, kheads_apply]
        simp only [show d.val - 32 - 16 = d.val - 48 by omega, show 48 + (d.val - 48) = d.val by omega,
          show 32 + (d.val - 48) = d.val - 16 by omega]

end Cert.SwaRefIdeal.Hand

end
-- ==== Proof.Swa.Table.lean ====
/- The kernel's rotary table, which its host lines compute. -/
module

public import proofs.«01_k».proof.Proof.Swa.Rope
public import proofs.«01_k».proof.Proof.Swa.Ref
public import Idealize.ShloMosaic.Lib.StableHlo.RunRead

@[expose] public section

set_option maxRecDepth 16384

noncomputable section

namespace Cert.SwaIdeal.Hand

open Cert.SwaIdeal Cert.SwaIdeal.Gen Cert.SwaModel Idealize.ShloMosaic Idealize.ShloMosaic.TcCoe Idealize.SL.Sem
open Idealize.ShloMosaic.Pipeline (Dat)

open Cert.SwaRefIdeal.Read

variable (m : (ℓ : Loc nD τ sig) → Buf (Elt Ideal) ℓ) (c : Dev nD)

/-- Four parts side by side, twice. -/
def wide (a b c d : FVec Ideal S2048x16 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x16, a⟩, ⟨S2048x16, b⟩, ⟨S2048x16, c⟩, ⟨S2048x16, d⟩]
      concatenates_S2048x16_S2048x16_S2048x16_S2048x16_S2048x64_d1) shapeCasts_S2048x64_S1x2048x1x64)) shapeCasts_S1x2048x2x64_S2048x128

abbrev zeros : FVec Ideal S2048x16 .f32 := broadcastInDim S2048x16 ![] bcast_S_S2048x16 (constant S_ .f32 0x00000000#32)

/-- The table of the two angles. -/
def tabV (p q : FVec Ideal S2048x16 .f32) : FVec Ideal S2048x384 .f32 :=
  concatenate S2048x384 1 [⟨S2048x128, wide (Host.cos p) (Host.cos p) (Host.cos q) (Host.cos q)⟩,
    ⟨S2048x128, wide (Host.negf (Host.sin p)) zeros (Host.negf (Host.sin q)) zeros⟩,
    ⟨S2048x128, wide zeros (Host.sin p) zeros (Host.sin q)⟩] concatenates_S2048x128_S2048x128_S2048x128_S2048x384_d1

theorem wide_congr {a b c d a' b' c' d' : FVec Ideal S2048x16 .f32} (ha : a = a') (hb : b = b') (hc : c = c') (hd : d = d') :
    shapeCast S2048x128 (broadcastInDim S1x2048x2x64 ![0, 1, 2, 3] bcast_S1x2048x1x64_S1x2048x2x64_0_1_2_3
      (shapeCast S1x2048x1x64 (concatenate S2048x64 1 [⟨S2048x16, a⟩, ⟨S2048x16, b⟩, ⟨S2048x16, c⟩, ⟨S2048x16, d⟩]
        concatenates_S2048x16_S2048x16_S2048x16_S2048x16_S2048x64_d1) shapeCasts_S2048x64_S1x2048x1x64)) shapeCasts_S1x2048x2x64_S2048x128
      = wide a' b' c' d' := by
  subst ha hb hc hd
  rfl

theorem cat3_congr {a b c a' b' c' : FVec Ideal S2048x128 .f32} (ha : a = a') (hb : b = b') (hc : c = c') :
    concatenate S2048x384 1 [⟨S2048x128, a⟩, ⟨S2048x128, b⟩, ⟨S2048x128, c⟩] concatenates_S2048x128_S2048x128_S2048x128_S2048x384_d1
      = concatenate S2048x384 1 [⟨S2048x128, a'⟩, ⟨S2048x128, b'⟩, ⟨S2048x128, c'⟩]
        concatenates_S2048x128_S2048x128_S2048x128_S2048x384_d1 := by
  subst ha hb hc
  rfl

variable (W : Valuation τ sig (Elt Ideal))

/-- A buffer of the valuation. -/
abbrev at_ (b : Ref sig .tc) : b.ty.Contents (Elt Ideal) := W (Proc.tc.devRef b)

theorem seg0 : at_ (StableHlo.after hostOps0 W) main_v0 = val_main_v5 (F := Ideal) ∧ at_ (StableHlo.after hostOps0 W) main_c = val_main_c (F := Ideal) := by
  unfold at_
  constructor
  · after_reads_simp
    rfl
  · after_reads_simp
    rfl

theorem seg1 (h0 : at_ W main_v0 = val_main_v5 (F := Ideal)) (hc : at_ W main_c = val_main_c (F := Ideal)) :
    at_ (StableHlo.after hostOps0_1 W) main_v1 = val_main_v6 (F := Ideal) ∧ at_ (StableHlo.after hostOps0_1 W) main_v0 = val_main_v5 (F := Ideal) := by
  unfold at_ at *
  constructor
  · after_reads_simp
    rw [h0, hc]
    rfl
  · after_reads_simp
    exact h0

theorem seg2 (h0 : at_ W main_v0 = val_main_v5 (F := Ideal)) (h1 : at_ W main_v1 = val_main_v6 (F := Ideal)) :
    at_ (StableHlo.after hostOps0_2 W) main_v2 = val_main_v7 (F := Ideal) ∧ at_ (StableHlo.after hostOps0_2 W) main_v0 = val_main_v5 (F := Ideal)
      ∧ at_ (StableHlo.after hostOps0_2 W) main_c_0 = val_main_c_0 (F := Ideal) := by
  unfold at_ at *
  refine ⟨?_, ?_, ?_⟩
  · after_reads_simp
    rw [h1]
    rfl
  · after_reads_simp
    exact h0
  · after_reads_simp
    rfl

theorem seg3 (h0 : at_ W main_v0 = val_main_v5 (F := Ideal)) (h2 : at_ W main_v2 = val_main_v7 (F := Ideal))
    (hc : at_ W main_c_0 = val_main_c_0 (F := Ideal)) :
    at_ (StableHlo.after hostOps0_3 W) main_v3 = val_main_v8 (F := Ideal) ∧ at_ (StableHlo.after hostOps0_3 W) main_v2 = val_main_v7 (F := Ideal) := by
  unfold at_ at *
  constructor
  · after_reads_simp
    rw [h0, hc]
    rfl
  · after_reads_simp
    exact h2

theorem seg4 (h2 : at_ W main_v2 = val_main_v7 (F := Ideal)) (h3 : at_ W main_v3 = val_main_v8 (F := Ideal)) :
    at_ (StableHlo.after hostOps0_4 W) main_v44 = tabV (val_main_v20 (F := Ideal)) (val_main_v25 (F := Ideal)) := by
  unfold at_ at *
  after_reads_simp
  refine cat3_congr ?_ ?_ ?_
  · change StableHlo.upto _ _ _ (Proc.tc.devRef main_v37) = _
    after_reads_simp
    refine wide_congr ?_ ?_ ?_ ?_
    · change StableHlo.upto _ _ _ (Proc.tc.devRef main_v22) = _
      after_reads_simp
      rw [h2]
      rfl
    · change StableHlo.upto _ _ _ (Proc.tc.devRef main_v23) = _
      after_reads_simp
      rw [h2]
      rfl
    · change StableHlo.upto _ _ _ (Proc.tc.devRef main_v24) = _
      after_reads_simp
      rw [h3]
      rfl
    · change StableHlo.upto _ _ _ (Proc.tc.devRef main_v25) = _
      after_reads_simp
      rw [h3]
      rfl
  · change StableHlo.upto _ _ _ (Proc.tc.devRef main_v40) = _
    after_reads_simp
    refine wide_congr ?_ ?_ ?_ ?_
    · change StableHlo.upto _ _ _ (Proc.tc.devRef main_v28) = _
      after_reads_simp
      rw [h2]
      rfl
    · change StableHlo.upto _ _ _ (Proc.tc.devRef main_v21) = _
      after_reads_simp
    · change StableHlo.upto _ _ _ (Proc.tc.devRef main_v30) = _
      after_reads_simp
      rw [h3]
      rfl
    · change StableHlo.upto _ _ _ (Proc.tc.devRef main_v21) = _
      after_reads_simp
  · change StableHlo.upto _ _ _ (Proc.tc.devRef main_v43) = _
    after_reads_simp
    refine wide_congr ?_ ?_ ?_ ?_
    · change StableHlo.upto _ _ _ (Proc.tc.devRef main_v21) = _
      after_reads_simp
    · change StableHlo.upto _ _ _ (Proc.tc.devRef main_v32) = _
      after_reads_simp
      rw [h2]
      rfl
    · change StableHlo.upto _ _ _ (Proc.tc.devRef main_v21) = _
      after_reads_simp
    · change StableHlo.upto _ _ _ (Proc.tc.devRef main_v33) = _
      after_reads_simp
      rw [h3]
      rfl

theorem table_eq : (V m c main_v44 : FVec Ideal S2048x384 .f32) = tabV (val_main_v20 (F := Ideal)) (val_main_v25 (F := Ideal)) := by
  show StableHlo.after (hostOps0 ++ (hostOps0_1 ++ (hostOps0_2 ++ (hostOps0_3 ++ (hostOps0_4 ++ []))))) (fun b => m (c, b)) (Proc.tc.devRef main_v44) = _
  rw [List.append_nil, StableHlo.after_append, StableHlo.after_append, StableHlo.after_append, StableHlo.after_append]
  obtain ⟨a0, ac⟩ := seg0 (fun b => m (c, b))
  obtain ⟨b1, b0⟩ := seg1 _ a0 ac
  obtain ⟨c2, c0, cc⟩ := seg2 _ b0 b1
  obtain ⟨d3, d2⟩ := seg3 _ c0 c2 cc
  exact seg4 _ d2 d3

theorem wide_apply (a b c d : FVec Ideal S2048x16 .f32) (l : Fin 2048) (o : Fin 2) (e : Fin 64) :
    wide a b c d (ix2 l ⟨o.val * 64 + e.val, by omega⟩)
      = if h : e.val < 16 then a (ix2 l ⟨e.val, h⟩) else if h : e.val - 16 < 16 then b (ix2 l ⟨e.val - 16, h⟩)
        else if h : e.val - 16 - 16 < 16 then c (ix2 l ⟨e.val - 16 - 16, h⟩) else d (ix2 l ⟨e.val - 16 - 16 - 16, by omega⟩) := by
  pointwise [wide]

theorem cat3_apply (A B C : FVec Ideal S2048x128 .f32) (l : Fin 2048) (e : Fin 384) :
    concatenate S2048x384 1 [⟨S2048x128, A⟩, ⟨S2048x128, B⟩, ⟨S2048x128, C⟩] concatenates_S2048x128_S2048x128_S2048x128_S2048x384_d1 (ix2 l e)
      = if h : e.val < 128 then A (ix2 l ⟨e.val, h⟩) else if h : e.val - 128 < 128 then B (ix2 l ⟨e.val - 128, h⟩)
        else C (ix2 l ⟨e.val - 128 - 128, by omega⟩) := by
  pointwise []

theorem zeros_apply (i : S2048x16.Idx) : zeros i = 0 := by
  obtain ⟨a, b, rfl⟩ : ∃ (a : Fin 2048) (b : Fin 16), i = ix2 a b := ⟨i 0, i 1, by funext a; fin_cases a <;> rfl⟩
  pointwise [zeros]

section
open Cert.SwaRefIdeal.Hand (cr sr cc sc)

theorem wide_eq (a b c d : FVec Ideal S2048x16 .f32) (l : Fin 2048) (o : Fin 2) (e : Fin 64) (he : e.val / 16 < 4) :
    wide a b c d (ix2 l ⟨o.val * 64 + e.val, by omega⟩)
      = (![a, b, c, d] ⟨e.val / 16, he⟩) (ix2 l ⟨e.val % 16, Nat.mod_lt _ (by decide)⟩) := by
  rw [wide_apply]
  by_cases h1 : e.val < 16
  · have q : (⟨e.val / 16, he⟩ : Fin 4) = 0 := Fin.ext (by show e.val / 16 = 0; omega)
    rw [dif_pos h1, q]
    exact congrArg (fun z => a (ix2 l z)) (Fin.ext (by show e.val = e.val % 16; omega))
  · by_cases h2 : e.val - 16 < 16
    · have q : (⟨e.val / 16, he⟩ : Fin 4) = 1 := Fin.ext (by show e.val / 16 = 1; omega)
      rw [dif_neg h1, dif_pos h2, q]
      exact congrArg (fun z => b (ix2 l z)) (Fin.ext (by show e.val - 16 = e.val % 16; omega))
    · by_cases h3 : e.val - 16 - 16 < 16
      · have q : (⟨e.val / 16, he⟩ : Fin 4) = 2 := Fin.ext (by show e.val / 16 = 2; omega)
        rw [dif_neg h1, dif_neg h2, dif_pos h3, q]
        exact congrArg (fun z => c (ix2 l z)) (Fin.ext (by show e.val - 16 - 16 = e.val % 16; omega))
      · have q : (⟨e.val / 16, he⟩ : Fin 4) = 3 := Fin.ext (by show e.val / 16 = 3; omega)
        rw [dif_neg h1, dif_neg h2, dif_neg h3, q]
        exact congrArg (fun z => d (ix2 l z)) (Fin.ext (by show e.val - 16 - 16 - 16 = e.val % 16; omega))

/-- Which quarter a coordinate lies in. -/
theorem quarter (e : Fin 64) (he : e.val / 16 < 4) {α : Type} (a b c d : α) :
    ![a, b, c, d] ⟨e.val / 16, he⟩ = if e.val < 16 then a else if e.val < 32 then b else if e.val < 48 then c else d := by
  by_cases h1 : e.val < 16
  · rw [if_pos h1, show (⟨e.val / 16, he⟩ : Fin 4) = 0 from Fin.ext (by show e.val / 16 = 0; omega)]; rfl
  · by_cases h2 : e.val < 32
    · rw [if_neg h1, if_pos h2, show (⟨e.val / 16, he⟩ : Fin 4) = 1 from Fin.ext (by show e.val / 16 = 1; omega)]; rfl
    · by_cases h3 : e.val < 48
      · rw [if_neg h1, if_neg h2, if_pos h3, show (⟨e.val / 16, he⟩ : Fin 4) = 2 from Fin.ext (by show e.val / 16 = 2; omega)]; rfl
      · rw [if_neg h1, if_neg h2, if_neg h3, show (⟨e.val / 16, he⟩ : Fin 4) = 3 from Fin.ext (by show e.val / 16 = 3; omega)]; rfl

theorem table_a (l : Fin 2048) (o : Fin 2) (e : Fin 64) :
    (V m c main_v44 : FVec Ideal S2048x384 .f32) (ix2 l ⟨0 + (o.val * 64 + e.val), by omega⟩) = tabA (cr l) (cc l) e := by
  rw [table_eq, tabV, cat3_apply, dif_pos (show 0 + (o.val * 64 + e.val) < 128 by omega)]
  refine (congrArg _ (congrArg (ix2 l) (Fin.ext (by show 0 + (o.val * 64 + e.val) = o.val * 64 + e.val; omega)))).trans
    ((wide_eq _ _ _ _ l o e (by omega)).trans ?_)
  rw [quarter]
  unfold tabA
  split_ifs <;> first | rfl | (exfalso; omega)

theorem table_b (l : Fin 2048) (o : Fin 2) (e : Fin 64) :
    (V m c main_v44 : FVec Ideal S2048x384 .f32) (ix2 l ⟨128 + (o.val * 64 + e.val), by omega⟩) = tabB (sr l) (sc l) e := by
  rw [table_eq, tabV, cat3_apply, dif_neg (show ¬ 128 + (o.val * 64 + e.val) < 128 by omega),
    dif_pos (show 128 + (o.val * 64 + e.val) - 128 < 128 by omega)]
  refine (congrArg _ (congrArg (ix2 l) (Fin.ext (by show 128 + (o.val * 64 + e.val) - 128 = o.val * 64 + e.val; omega)))).trans
    ((wide_eq _ _ _ _ l o e (by omega)).trans ?_)
  rw [quarter]
  unfold tabB
  split_ifs <;> first | rfl | exact zeros_apply _ | (exfalso; omega)

theorem table_c (l : Fin 2048) (o : Fin 2) (e : Fin 64) :
    (V m c main_v44 : FVec Ideal S2048x384 .f32) (ix2 l ⟨256 + (o.val * 64 + e.val), by omega⟩) = tabC (sr l) (sc l) e := by
  rw [table_eq, tabV, cat3_apply, dif_neg (show ¬ 256 + (o.val * 64 + e.val) < 128 by omega),
    dif_neg (show ¬ 256 + (o.val * 64 + e.val) - 128 < 128 by omega)]
  refine (congrArg _ (congrArg (ix2 l) (Fin.ext (by show 256 + (o.val * 64 + e.val) - 128 - 128 = o.val * 64 + e.val; omega)))).trans
    ((wide_eq _ _ _ _ l o e (by omega)).trans ?_)
  rw [quarter]
  unfold tabC
  split_ifs <;> first | rfl | exact zeros_apply _ | (exfalso; omega)

end

end Cert.SwaIdeal.Hand

end
-- ==== Proof.Swa.Reads.lean ====
/- The block reads of the attention kernel at coordinates of its arguments. -/
module

public import proofs.«01_k».proof.Proof.Swa.Table

@[expose] public section

set_option maxRecDepth 16384

noncomputable section

namespace Cert.SwaIdeal.Hand

open Cert.SwaIdeal Cert.SwaIdeal.Gen Cert.SwaModel Idealize.ShloMosaic Idealize.ShloMosaic.TcCoe Idealize.SL.Sem
open Idealize.ShloMosaic.Pipeline (Dat)

theorem idx0 : ∀ t : Fin cfg0.N, win0_0.index t = ![0] :=
  (by decide +kernel : ∀ t : Fin grid0.N, win0_0.index t = ![0])

theorem idx1 : ∀ t : Fin cfg0.N, win0_1.index t = ![t.val, 0] :=
  (by decide +kernel : ∀ t : Fin grid0.N, win0_1.index t = ![t.val, 0])

theorem idx2 : ∀ t : Fin cfg0.N, win0_2.index t = ![(t.val / 16 * 16 + (t.val % 16 - 1)), 2] :=
  (by decide +kernel : ∀ t : Fin grid0.N, win0_2.index t = ![(t.val / 16 * 16 + (t.val % 16 - 1)), 2])

theorem idx3 : ∀ t : Fin cfg0.N, win0_3.index t = ![t.val, 2] :=
  (by decide +kernel : ∀ t : Fin grid0.N, win0_3.index t = ![t.val, 2])

theorem idx4 : ∀ t : Fin cfg0.N, win0_4.index t = ![(t.val / 16 * 16 + min (t.val % 16 + 1) 15), 2] :=
  (by decide +kernel : ∀ t : Fin grid0.N, win0_4.index t = ![(t.val / 16 * 16 + min (t.val % 16 + 1) 15), 2])

theorem idx5 : ∀ t : Fin cfg0.N, win0_5.index t = ![64 + t.val / 16, 2] :=
  (by decide +kernel : ∀ t : Fin grid0.N, win0_5.index t = ![64 + t.val / 16, 2])

theorem idx6 : ∀ t : Fin cfg0.N, win0_6.index t = ![t.val % 16 - 1, 0] :=
  (by decide +kernel : ∀ t : Fin grid0.N, win0_6.index t = ![t.val % 16 - 1, 0])

theorem idx7 : ∀ t : Fin cfg0.N, win0_7.index t = ![t.val % 16, 0] :=
  (by decide +kernel : ∀ t : Fin grid0.N, win0_7.index t = ![t.val % 16, 0])

theorem idx8 : ∀ t : Fin cfg0.N, win0_8.index t = ![min (t.val % 16 + 1) 15, 0] :=
  (by decide +kernel : ∀ t : Fin grid0.N, win0_8.index t = ![min (t.val % 16 + 1) 15, 0])

theorem idx9 : ∀ t : Fin cfg0.N, win0_9.index t = ![t.val, 0] :=
  (by decide +kernel : ∀ t : Fin grid0.N, win0_9.index t = ![t.val, 0])

variable (m : (ℓ : Loc nD τ sig) → Buf (Elt Ideal) ℓ) (c : Dev nD)

/-- The stream. -/
abbrev argX : Vec Ideal S18432x1536 .bf16 := m ((c : Thread nD τ).loc main_arg0)
/-- The sink logits. -/
abbrev argS : Vec Ideal S16 .f32 := m ((c : Thread nD τ).loc main_arg1)

/-- The grid has 128 points. -/
theorem lt128 (t : Fin cfg0.N) : t.val < 128 := lt_of_lt_of_eq t.isLt (show cfg0.N = 128 from N_0)

/-- The batch of a point. -/
abbrev bt (t : Fin cfg0.N) : Fin 8 := ⟨t.val / 16, by have := lt128 t; omega⟩

theorem blk2 (t : Fin cfg0.N) (A : Vec Ideal S18432x1536 .bf16) (r : Fin 128) (l : Fin 512) :
    ((cfg0.win 2).blk t).view.read (Elt Ideal) A (ix2 r l) = A (ix2 ⟨(bt t).val * 2048 + (prevPos (qb t) r).val, by omega⟩ ⟨1024 + l.val, by omega⟩) := by
  have := lt128 t
  blk_ext [idx2 t]

theorem blk3 (t : Fin cfg0.N) (A : Vec Ideal S18432x1536 .bf16) (r : Fin 128) (l : Fin 512) :
    ((cfg0.win 3).blk t).view.read (Elt Ideal) A (ix2 r l) = A (ix2 ⟨(bt t).val * 2048 + (curPos (qb t) r).val, by omega⟩ ⟨1024 + l.val, by omega⟩) := by
  have := lt128 t
  blk_ext [idx3 t]

theorem blk4 (t : Fin cfg0.N) (A : Vec Ideal S18432x1536 .bf16) (r : Fin 128) (l : Fin 512) :
    ((cfg0.win 4).blk t).view.read (Elt Ideal) A (ix2 r l) = A (ix2 ⟨(bt t).val * 2048 + (nextPos (qb t) r).val, by omega⟩ ⟨1024 + l.val, by omega⟩) := by
  have := lt128 t
  blk_ext [idx4 t]

theorem blk5 (t : Fin cfg0.N) (A : Vec Ideal S18432x1536 .bf16) (r : Fin 256) (l : Fin 512) :
    ((cfg0.win 5).blk t).view.read (Elt Ideal) A (ix2 r l) = A (ix2 ⟨16384 + ((bt t).val * 256 + r.val), by omega⟩ ⟨1024 + l.val, by omega⟩) := by
  have := lt128 t
  blk_ext [idx5 t]

theorem blk6 (t : Fin cfg0.N) (A : Vec Ideal S2048x384 .f32) (r : Fin 128) (l : Fin 384) :
    ((cfg0.win 6).blk t).view.read (Elt Ideal) A (ix2 r l) = A (ix2 (prevPos (qb t) r) l) := by
  have := lt128 t
  blk_ext [idx6 t]

theorem blk7 (t : Fin cfg0.N) (A : Vec Ideal S2048x384 .f32) (r : Fin 128) (l : Fin 384) :
    ((cfg0.win 7).blk t).view.read (Elt Ideal) A (ix2 r l) = A (ix2 (curPos (qb t) r) l) := by
  have := lt128 t
  blk_ext [idx7 t]

theorem blk8 (t : Fin cfg0.N) (A : Vec Ideal S2048x384 .f32) (r : Fin 128) (l : Fin 384) :
    ((cfg0.win 8).blk t).view.read (Elt Ideal) A (ix2 r l) = A (ix2 (nextPos (qb t) r) l) := by
  have := lt128 t
  blk_ext [idx8 t]

theorem blk0 (t : Fin cfg0.N) (A : Vec Ideal S16 .f32) (h : Fin 16) :
    ((cfg0.win 0).blk t).view.read (Elt Ideal) A (ix1 h) = A (ix1 h) := by
  have := lt128 t
  blk_ext [idx0 t]

theorem blk1 (t : Fin cfg0.N) (A : Vec Ideal S18432x1536 .bf16) (d : (cfg0.win 1).block.Idx → Elt Ideal (cfg0.win 1).elt) (r : Fin 128) (l : Fin 1024) :
    (cfg0.win 1).fill (cfg0.grid.coords t) d (((cfg0.win 1).blk t).view.read (Elt Ideal) A) (ix2 r l)
      = A (ix2 ⟨(bt t).val * 2048 + (curPos (qb t) r).val, by omega⟩ ⟨l.val, by omega⟩) := by
  have := lt128 t
  unfold Pipeline.Window.fill
  rw [dif_pos (moved0_1 t (ix2 r l))]
  blk_ext [idx1 t]

end Cert.SwaIdeal.Hand

end
-- ==== Proof.Swa.Vals.lean ====
/- The queries, keys, values and sink logits of a point at coordinates of the kernel's arguments. -/
module

public import proofs.«01_k».proof.Proof.Swa.Reads
public import Idealize.ShloMosaic.Lib.WholeRead

@[expose] public section

set_option maxRecDepth 16384

noncomputable section

namespace Cert.SwaIdeal.Hand

open Cert.SwaIdeal Cert.SwaIdeal.Gen Cert.SwaModel Idealize.ShloMosaic Idealize.ShloMosaic.TcCoe Idealize.SL.Sem
open Cert.SwaRefIdeal.Hand (cr sr cc sc)
open Idealize.ShloMosaic.Pipeline (Dat)

theorem qslice (X : FVec Ideal S128x1024 .f32) (o : Nat) (h : S128x1024.Slices ![0, o] S128x128) (r l : Fin 128) (ho : o + l.val < 1024) :
    extractStridedSlice S128x128 ![0, o] X h (ix2 r l) = X (ix2 r ⟨o + l.val, ho⟩) :=
  extractStridedSlice_apply ![0, o] X h (ix2 r l) (ix2 r ⟨o + l.val, ho⟩) (by intro a; fin_cases a <;> simp [ix2])

theorem kslice (X : FVec Ideal S128x256 .f32) (o : Nat) (h : S128x256.Slices ![0, o] S128x128) (r l : Fin 128) (ho : o + l.val < 256) :
    extractStridedSlice S128x128 ![0, o] X h (ix2 r l) = X (ix2 r ⟨o + l.val, ho⟩) :=
  extractStridedSlice_apply ![0, o] X h (ix2 r l) (ix2 r ⟨o + l.val, ho⟩) (by intro a; fin_cases a <;> simp [ix2])

/-- The query block, turned column by column, scaled. -/
def queryV (X : FVec Ideal S128x1024 .f32) (T : FVec Ideal S128x384 .f32) : FVec Ideal S128x1024 .f32 :=
  mulf (concatenate S128x1024 1 [⟨S128x128, (ropeV (extractStridedSlice S128x128 ![0, 0] X slices_S128x1024_o0_0_S128x128) (tA T) (tB T) (tC T))⟩, ⟨S128x128, (ropeV (extractStridedSlice S128x128 ![0, 128] X slices_S128x1024_o0_128_S128x128) (tA T) (tB T) (tC T))⟩, ⟨S128x128, (ropeV (extractStridedSlice S128x128 ![0, 256] X slices_S128x1024_o0_256_S128x128) (tA T) (tB T) (tC T))⟩, ⟨S128x128, (ropeV (extractStridedSlice S128x128 ![0, 384] X slices_S128x1024_o0_384_S128x128) (tA T) (tB T) (tC T))⟩, ⟨S128x128, (ropeV (extractStridedSlice S128x128 ![0, 512] X slices_S128x1024_o0_512_S128x128) (tA T) (tB T) (tC T))⟩, ⟨S128x128, (ropeV (extractStridedSlice S128x128 ![0, 640] X slices_S128x1024_o0_640_S128x128) (tA T) (tB T) (tC T))⟩, ⟨S128x128, (ropeV (extractStridedSlice S128x128 ![0, 768] X slices_S128x1024_o0_768_S128x128) (tA T) (tB T) (tC T))⟩, ⟨S128x128, (ropeV (extractStridedSlice S128x128 ![0, 896] X slices_S128x1024_o0_896_S128x128) (tA T) (tB T) (tC T))⟩] concatenates_S128x128_S128x128_S128x128_S128x128_S128x128_S128x128_S128x128_S128x128_S128x1024_d1)
    (broadcast S128x1024 (Named.named (F := Ideal) (φ := .f32) κ "qscale" 0x3E38AA3B#32))

/-- A key block, turned column by column. -/
def turnKV (X : FVec Ideal S128x256 .f32) (T : FVec Ideal S128x384 .f32) : FVec Ideal S128x256 .f32 :=
  concatenate S128x256 1 [⟨S128x128, (ropeV (extractStridedSlice S128x128 ![0, 0] X slices_S128x256_o0_0_S128x128) (tA T) (tB T) (tC T))⟩,
    ⟨S128x128, (ropeV (extractStridedSlice S128x128 ![0, 128] X slices_S128x256_o0_128_S128x128) (tA T) (tB T) (tC T))⟩] concatenates_S128x128_S128x128_S128x256_d1

section Vals
variable (T : FVec Ideal S128x384 .f32) (cr sr cc sc : Fin 128 → Fin 16 → EReal) (hT : IsTab T cr sr cc sc)
include hT

theorem qcol (X : FVec Ideal S128x1024 .f32) (o' : Nat) (h : S128x1024.Slices ![0, o'] S128x128) (ho : o' + 128 ≤ 1024) (r : Fin 128) (o : Fin 2) (d : Fin 64) :
    ropeV (extractStridedSlice S128x128 ![0, o'] X h) (tA T) (tB T) (tC T) (ix2 r ⟨o.val * 64 + d.val, by omega⟩)
      = rope (fun e => X (ix2 r ⟨o' + (o.val * 64 + e.val), by omega⟩)) (cr r) (sr r) (cc r) (sc r) d := by
  rw [ropeV_eq _ T cr sr cc sc hT r o d]
  exact congrArg (fun f => rope f (cr r) (sr r) (cc r) (sc r) d) (funext fun e => qslice X o' h r _ _)

theorem kcol (X : FVec Ideal S128x256 .f32) (o' : Nat) (h : S128x256.Slices ![0, o'] S128x128) (ho : o' + 128 ≤ 256) (r : Fin 128) (o : Fin 2) (d : Fin 64) :
    ropeV (extractStridedSlice S128x128 ![0, o'] X h) (tA T) (tB T) (tC T) (ix2 r ⟨o.val * 64 + d.val, by omega⟩)
      = rope (fun e => X (ix2 r ⟨o' + (o.val * 64 + e.val), by omega⟩)) (cr r) (sr r) (cc r) (sc r) d := by
  rw [ropeV_eq _ T cr sr cc sc hT r o d]
  exact congrArg (fun f => rope f (cr r) (sr r) (cc r) (sc r) d) (funext fun e => kslice X o' h r _ _)

theorem queryV_apply (X : FVec Ideal S128x1024 .f32) (r : Fin 128) (h : Fin 16) (d : Fin 64) :
    queryV X T (ix2 r ⟨h.val * 64 + d.val, by omega⟩)
      = rope (fun e => X (ix2 r ⟨h.val * 64 + e.val, by omega⟩)) (cr r) (sr r) (cc r) (sc r) d * (((8 * Real.log 2)⁻¹ : ℝ) : EReal) := by
  have hs : Named.named (F := Ideal) (φ := .f32) κ "qscale" 0x3E38AA3B#32 = (((8 * Real.log 2)⁻¹ : ℝ) : EReal) :=
    IdealRules.named_const.ideal_named_scalar _ _ _ _ rfl
  have e : (⟨h.val * 64 + d.val, by omega⟩ : Fin 1024) = ⟨(⟨h.val / 2, by omega⟩ : Fin 8).val * 128 + (⟨(⟨h.val % 2, by omega⟩ : Fin 2).val * 64 + d.val, by show h.val % 2 * 64 + d.val < 128; omega⟩ : Fin 128).val, by show h.val / 2 * 128 + (h.val % 2 * 64 + d.val) < 1024; omega⟩ :=
    Fin.ext (by show h.val * 64 + d.val = h.val / 2 * 128 + (h.val % 2 * 64 + d.val); omega)
  refine congrArg₂ (· * ·) ?_ hs
  rw [e, cat8_apply]
  have hx : ∀ (p : Fin 8), p.val = h.val / 2 → rope (fun e => X (ix2 r ⟨p.val * 128 + ((⟨h.val % 2, by omega⟩ : Fin 2).val * 64 + e.val), by show p.val * 128 + (h.val % 2 * 64 + e.val) < 1024; omega⟩)) (cr r) (sr r) (cc r) (sc r) d
      = rope (fun e => X (ix2 r ⟨h.val * 64 + e.val, by omega⟩)) (cr r) (sr r) (cc r) (sc r) d := fun p hp =>
    congrArg (fun f => rope f (cr r) (sr r) (cc r) (sc r) d) (funext fun e => congrArg X (congrArg (ix2 r) (Fin.ext (by
      show p.val * 128 + (h.val % 2 * 64 + e.val) = h.val * 64 + e.val; omega))))
  generalize hp : (⟨h.val / 2, by omega⟩ : Fin 8) = p
  have hp' : p.val = h.val / 2 := by rw [← hp]
  refine Eq.trans ?_ (hx p hp')
  clear hx hp hp' e
  fin_cases p
  · exact qcol T cr sr cc sc hT X 0 slices_S128x1024_o0_0_S128x128 (by decide) r ⟨h.val % 2, by omega⟩ d
  · exact qcol T cr sr cc sc hT X 128 slices_S128x1024_o0_128_S128x128 (by decide) r ⟨h.val % 2, by omega⟩ d
  · exact qcol T cr sr cc sc hT X 256 slices_S128x1024_o0_256_S128x128 (by decide) r ⟨h.val % 2, by omega⟩ d
  · exact qcol T cr sr cc sc hT X 384 slices_S128x1024_o0_384_S128x128 (by decide) r ⟨h.val % 2, by omega⟩ d
  · exact qcol T cr sr cc sc hT X 512 slices_S128x1024_o0_512_S128x128 (by decide) r ⟨h.val % 2, by omega⟩ d
  · exact qcol T cr sr cc sc hT X 640 slices_S128x1024_o0_640_S128x128 (by decide) r ⟨h.val % 2, by omega⟩ d
  · exact qcol T cr sr cc sc hT X 768 slices_S128x1024_o0_768_S128x128 (by decide) r ⟨h.val % 2, by omega⟩ d
  · exact qcol T cr sr cc sc hT X 896 slices_S128x1024_o0_896_S128x128 (by decide) r ⟨h.val % 2, by omega⟩ d

theorem turnKV_apply (X : FVec Ideal S128x256 .f32) (r : Fin 128) (g : Fin 4) (d : Fin 64) :
    turnKV X T (ix2 r ⟨g.val * 64 + d.val, by omega⟩)
      = rope (fun e => X (ix2 r ⟨g.val * 64 + e.val, by omega⟩)) (cr r) (sr r) (cc r) (sc r) d := by
  have e : (⟨g.val * 64 + d.val, by omega⟩ : Fin 256) = ⟨(⟨g.val / 2, by omega⟩ : Fin 2).val * 128 + (⟨(⟨g.val % 2, by omega⟩ : Fin 2).val * 64 + d.val, by show g.val % 2 * 64 + d.val < 128; omega⟩ : Fin 128).val, by show g.val / 2 * 128 + (g.val % 2 * 64 + d.val) < 256; omega⟩ :=
    Fin.ext (by show g.val * 64 + d.val = g.val / 2 * 128 + (g.val % 2 * 64 + d.val); omega)
  unfold turnKV
  rw [e, cat2_apply]
  have hx : ∀ (p : Fin 2), p.val = g.val / 2 → rope (fun e => X (ix2 r ⟨p.val * 128 + ((⟨g.val % 2, by omega⟩ : Fin 2).val * 64 + e.val), by show p.val * 128 + (g.val % 2 * 64 + e.val) < 256; omega⟩)) (cr r) (sr r) (cc r) (sc r) d
      = rope (fun e => X (ix2 r ⟨g.val * 64 + e.val, by omega⟩)) (cr r) (sr r) (cc r) (sc r) d := fun p hp =>
    congrArg (fun f => rope f (cr r) (sr r) (cc r) (sc r) d) (funext fun e => congrArg X (congrArg (ix2 r) (Fin.ext (by
      show p.val * 128 + (g.val % 2 * 64 + e.val) = g.val * 64 + e.val; omega))))
  generalize hp : (⟨g.val / 2, by omega⟩ : Fin 2) = p
  have hp' : p.val = g.val / 2 := by rw [← hp]
  refine Eq.trans ?_ (hx p hp')
  clear hx hp hp' e
  fin_cases p
  · exact kcol T cr sr cc sc hT X 0 slices_S128x256_o0_0_S128x128 (by decide) r ⟨g.val % 2, by omega⟩ d
  · exact kcol T cr sr cc sc hT X 128 slices_S128x256_o0_128_S128x128 (by decide) r ⟨g.val % 2, by omega⟩ d

end Vals

variable (m : (ℓ : Loc nD τ sig) → Buf (Elt Ideal) ℓ) (c : Dev nD) (t : Fin cfg0.N)

/-- The prev table block. -/
def tabPrev : FVec Ideal S128x384 .f32 :=
  shapeCast S128x384 (View.readAt (Elt Ideal) (ms0_6 t).view (Rect.unit ![0, 0] S128x384.size inb_S128x384_S128x384_0_0).toLoadRect ((hs0_6 t).unread (iblk m c 6 t))) shapeCasts_S128x384_S128x384

theorem tabPrev_apply (r : Fin 128) (l : Fin 384) : tabPrev m c t (ix2 r l) = (V m c main_v44 : FVec Ideal S2048x384 .f32) (ix2 (prevPos (qb t) r) l) := by
  unfold tabPrev
  refine (congrArg _ (Shape.reshapeEquiv_self _ _)).trans ?_
  rw [Memref.IsWhole.readAt_unread]
  refine Eq.trans (congrArg (iblk m c 6 t) (a₂ := ix2 r l) ?_) (blk6 t (V m c main_v44) r l)
  funext a
  fin_cases a
  · exact Fin.ext (by show 0 + 1 * r.val = r.val; omega)
  · exact Fin.ext (by show 0 + 1 * l.val = l.val; omega)

theorem isTabPrev : IsTab (tabPrev m c t) (fun r => cr (prevPos (qb t) r)) (fun r => sr (prevPos (qb t) r))
    (fun r => cc (prevPos (qb t) r)) (fun r => sc (prevPos (qb t) r)) :=
  ⟨fun r o d => (tabPrev_apply m c t r _).trans (table_a m c _ o d), fun r o d => (tabPrev_apply m c t r _).trans (table_b m c _ o d),
    fun r o d => (tabPrev_apply m c t r _).trans (table_c m c _ o d)⟩

/-- The cur table block. -/
def tabCur : FVec Ideal S128x384 .f32 :=
  shapeCast S128x384 (View.readAt (Elt Ideal) (ms0_7 t).view (Rect.unit ![0, 0] S128x384.size inb_S128x384_S128x384_0_0).toLoadRect ((hs0_7 t).unread (iblk m c 7 t))) shapeCasts_S128x384_S128x384

theorem tabCur_apply (r : Fin 128) (l : Fin 384) : tabCur m c t (ix2 r l) = (V m c main_v44 : FVec Ideal S2048x384 .f32) (ix2 (curPos (qb t) r) l) := by
  unfold tabCur
  refine (congrArg _ (Shape.reshapeEquiv_self _ _)).trans ?_
  rw [Memref.IsWhole.readAt_unread]
  refine Eq.trans (congrArg (iblk m c 7 t) (a₂ := ix2 r l) ?_) (blk7 t (V m c main_v44) r l)
  funext a
  fin_cases a
  · exact Fin.ext (by show 0 + 1 * r.val = r.val; omega)
  · exact Fin.ext (by show 0 + 1 * l.val = l.val; omega)

theorem isTabCur : IsTab (tabCur m c t) (fun r => cr (curPos (qb t) r)) (fun r => sr (curPos (qb t) r))
    (fun r => cc (curPos (qb t) r)) (fun r => sc (curPos (qb t) r)) :=
  ⟨fun r o d => (tabCur_apply m c t r _).trans (table_a m c _ o d), fun r o d => (tabCur_apply m c t r _).trans (table_b m c _ o d),
    fun r o d => (tabCur_apply m c t r _).trans (table_c m c _ o d)⟩

/-- The next table block. -/
def tabNext : FVec Ideal S128x384 .f32 :=
  shapeCast S128x384 (View.readAt (Elt Ideal) (ms0_8 t).view (Rect.unit ![0, 0] S128x384.size inb_S128x384_S128x384_0_0).toLoadRect ((hs0_8 t).unread (iblk m c 8 t))) shapeCasts_S128x384_S128x384

theorem tabNext_apply (r : Fin 128) (l : Fin 384) : tabNext m c t (ix2 r l) = (V m c main_v44 : FVec Ideal S2048x384 .f32) (ix2 (nextPos (qb t) r) l) := by
  unfold tabNext
  refine (congrArg _ (Shape.reshapeEquiv_self _ _)).trans ?_
  rw [Memref.IsWhole.readAt_unread]
  refine Eq.trans (congrArg (iblk m c 8 t) (a₂ := ix2 r l) ?_) (blk8 t (V m c main_v44) r l)
  funext a
  fin_cases a
  · exact Fin.ext (by show 0 + 1 * r.val = r.val; omega)
  · exact Fin.ext (by show 0 + 1 * l.val = l.val; omega)

theorem isTabNext : IsTab (tabNext m c t) (fun r => cr (nextPos (qb t) r)) (fun r => sr (nextPos (qb t) r))
    (fun r => cc (nextPos (qb t) r)) (fun r => sc (nextPos (qb t) r)) :=
  ⟨fun r o d => (tabNext_apply m c t r _).trans (table_a m c _ o d), fun r o d => (tabNext_apply m c t r _).trans (table_b m c _ o d),
    fun r o d => (tabNext_apply m c t r _).trans (table_c m c _ o d)⟩

/-- The key half of the prev block. -/
def keyPrev : FVec Ideal S128x256 .bf16 :=
  View.readAt (Elt Ideal) (ms0_2 t).view (Rect.unit (s := S128x512) ![0, 0] S128x256.size inb_S128x512_S128x256_0_0).toLoadRect ((hs0_2 t).unread (iblk m c 2 t))

theorem keyPrev_apply (r : Fin 128) (l : Fin 256) : keyPrev m c t (ix2 r l)
    = argX m c (ix2 ⟨(bt t).val * 2048 + (prevPos (qb t) r).val, by omega⟩ ⟨1024 + l.val, by omega⟩) := by
  unfold keyPrev
  rw [Memref.IsWhole.readAt_unread]
  refine Eq.trans (congrArg (iblk m c 2 t) (a₂ := ix2 r ⟨0 + l.val, by omega⟩) ?_) ((blk2 t (V m c main_arg0) r ⟨0 + l.val, by omega⟩).trans ?_)
  · funext a
    fin_cases a
    · exact Fin.ext (by show 0 + 1 * r.val = r.val; omega)
    · exact Fin.ext (by show 0 + 1 * l.val = 0 + l.val; omega)
  · rw [V_main_arg0]
    exact congrArg (argX m c) (congrArg (ix2 _) (Fin.ext (by show 1024 + (0 + l.val) = 1024 + l.val; omega)))

/-- The val half of the prev block. -/
def valPrev : FVec Ideal S128x256 .bf16 :=
  View.readAt (Elt Ideal) (ms0_2 t).view (Rect.unit (s := S128x512) ![0, 256] S128x256.size inb_S128x512_S128x256_0_256).toLoadRect ((hs0_2 t).unread (iblk m c 2 t))

theorem valPrev_apply (r : Fin 128) (l : Fin 256) : valPrev m c t (ix2 r l)
    = argX m c (ix2 ⟨(bt t).val * 2048 + (prevPos (qb t) r).val, by omega⟩ ⟨1280 + l.val, by omega⟩) := by
  unfold valPrev
  rw [Memref.IsWhole.readAt_unread]
  refine Eq.trans (congrArg (iblk m c 2 t) (a₂ := ix2 r ⟨256 + l.val, by omega⟩) ?_) ((blk2 t (V m c main_arg0) r ⟨256 + l.val, by omega⟩).trans ?_)
  · funext a
    fin_cases a
    · exact Fin.ext (by show 0 + 1 * r.val = r.val; omega)
    · exact Fin.ext (by show 256 + 1 * l.val = 256 + l.val; omega)
  · rw [V_main_arg0]
    exact congrArg (argX m c) (congrArg (ix2 _) (Fin.ext (by show 1024 + (256 + l.val) = 1280 + l.val; omega)))

/-- The key half of the cur block. -/
def keyCur : FVec Ideal S128x256 .bf16 :=
  View.readAt (Elt Ideal) (ms0_3 t).view (Rect.unit (s := S128x512) ![0, 0] S128x256.size inb_S128x512_S128x256_0_0).toLoadRect ((hs0_3 t).unread (iblk m c 3 t))

theorem keyCur_apply (r : Fin 128) (l : Fin 256) : keyCur m c t (ix2 r l)
    = argX m c (ix2 ⟨(bt t).val * 2048 + (curPos (qb t) r).val, by omega⟩ ⟨1024 + l.val, by omega⟩) := by
  unfold keyCur
  rw [Memref.IsWhole.readAt_unread]
  refine Eq.trans (congrArg (iblk m c 3 t) (a₂ := ix2 r ⟨0 + l.val, by omega⟩) ?_) ((blk3 t (V m c main_arg0) r ⟨0 + l.val, by omega⟩).trans ?_)
  · funext a
    fin_cases a
    · exact Fin.ext (by show 0 + 1 * r.val = r.val; omega)
    · exact Fin.ext (by show 0 + 1 * l.val = 0 + l.val; omega)
  · rw [V_main_arg0]
    exact congrArg (argX m c) (congrArg (ix2 _) (Fin.ext (by show 1024 + (0 + l.val) = 1024 + l.val; omega)))

/-- The val half of the cur block. -/
def valCur : FVec Ideal S128x256 .bf16 :=
  View.readAt (Elt Ideal) (ms0_3 t).view (Rect.unit (s := S128x512) ![0, 256] S128x256.size inb_S128x512_S128x256_0_256).toLoadRect ((hs0_3 t).unread (iblk m c 3 t))

theorem valCur_apply (r : Fin 128) (l : Fin 256) : valCur m c t (ix2 r l)
    = argX m c (ix2 ⟨(bt t).val * 2048 + (curPos (qb t) r).val, by omega⟩ ⟨1280 + l.val, by omega⟩) := by
  unfold valCur
  rw [Memref.IsWhole.readAt_unread]
  refine Eq.trans (congrArg (iblk m c 3 t) (a₂ := ix2 r ⟨256 + l.val, by omega⟩) ?_) ((blk3 t (V m c main_arg0) r ⟨256 + l.val, by omega⟩).trans ?_)
  · funext a
    fin_cases a
    · exact Fin.ext (by show 0 + 1 * r.val = r.val; omega)
    · exact Fin.ext (by show 256 + 1 * l.val = 256 + l.val; omega)
  · rw [V_main_arg0]
    exact congrArg (argX m c) (congrArg (ix2 _) (Fin.ext (by show 1024 + (256 + l.val) = 1280 + l.val; omega)))

/-- The key half of the next block. -/
def keyNext : FVec Ideal S128x256 .bf16 :=
  View.readAt (Elt Ideal) (ms0_4 t).view (Rect.unit (s := S128x512) ![0, 0] S128x256.size inb_S128x512_S128x256_0_0).toLoadRect ((hs0_4 t).unread (iblk m c 4 t))

theorem keyNext_apply (r : Fin 128) (l : Fin 256) : keyNext m c t (ix2 r l)
    = argX m c (ix2 ⟨(bt t).val * 2048 + (nextPos (qb t) r).val, by omega⟩ ⟨1024 + l.val, by omega⟩) := by
  unfold keyNext
  rw [Memref.IsWhole.readAt_unread]
  refine Eq.trans (congrArg (iblk m c 4 t) (a₂ := ix2 r ⟨0 + l.val, by omega⟩) ?_) ((blk4 t (V m c main_arg0) r ⟨0 + l.val, by omega⟩).trans ?_)
  · funext a
    fin_cases a
    · exact Fin.ext (by show 0 + 1 * r.val = r.val; omega)
    · exact Fin.ext (by show 0 + 1 * l.val = 0 + l.val; omega)
  · rw [V_main_arg0]
    exact congrArg (argX m c) (congrArg (ix2 _) (Fin.ext (by show 1024 + (0 + l.val) = 1024 + l.val; omega)))

/-- The val half of the next block. -/
def valNext : FVec Ideal S128x256 .bf16 :=
  View.readAt (Elt Ideal) (ms0_4 t).view (Rect.unit (s := S128x512) ![0, 256] S128x256.size inb_S128x512_S128x256_0_256).toLoadRect ((hs0_4 t).unread (iblk m c 4 t))

theorem valNext_apply (r : Fin 128) (l : Fin 256) : valNext m c t (ix2 r l)
    = argX m c (ix2 ⟨(bt t).val * 2048 + (nextPos (qb t) r).val, by omega⟩ ⟨1280 + l.val, by omega⟩) := by
  unfold valNext
  rw [Memref.IsWhole.readAt_unread]
  refine Eq.trans (congrArg (iblk m c 4 t) (a₂ := ix2 r ⟨256 + l.val, by omega⟩) ?_) ((blk4 t (V m c main_arg0) r ⟨256 + l.val, by omega⟩).trans ?_)
  · funext a
    fin_cases a
    · exact Fin.ext (by show 0 + 1 * r.val = r.val; omega)
    · exact Fin.ext (by show 256 + 1 * l.val = 256 + l.val; omega)
  · rw [V_main_arg0]
    exact congrArg (argX m c) (congrArg (ix2 _) (Fin.ext (by show 1024 + (256 + l.val) = 1280 + l.val; omega)))

/-- The key half of the context block. -/
def keyCtx : FVec Ideal S256x256 .bf16 :=
  View.readAt (Elt Ideal) (ms0_5 t).view (Rect.unit (s := S256x512) ![0, 0] S256x256.size inb_S256x512_S256x256_0_0).toLoadRect ((hs0_5 t).unread (iblk m c 5 t))

theorem keyCtx_apply (r l : Fin 256) : keyCtx m c t (ix2 r l)
    = argX m c (ix2 ⟨16384 + ((bt t).val * 256 + r.val), by omega⟩ ⟨1024 + l.val, by omega⟩) := by
  unfold keyCtx
  rw [Memref.IsWhole.readAt_unread]
  refine Eq.trans (congrArg (iblk m c 5 t) (a₂ := ix2 r ⟨0 + l.val, by omega⟩) ?_) ((blk5 t (V m c main_arg0) r ⟨0 + l.val, by omega⟩).trans ?_)
  · funext a
    fin_cases a
    · exact Fin.ext (by show 0 + 1 * r.val = r.val; omega)
    · exact Fin.ext (by show 0 + 1 * l.val = 0 + l.val; omega)
  · rw [V_main_arg0]
    exact congrArg (argX m c) (congrArg (ix2 _) (Fin.ext (by show 1024 + (0 + l.val) = 1024 + l.val; omega)))

/-- The val half of the context block. -/
def valCtx : FVec Ideal S256x256 .bf16 :=
  View.readAt (Elt Ideal) (ms0_5 t).view (Rect.unit (s := S256x512) ![0, 256] S256x256.size inb_S256x512_S256x256_0_256).toLoadRect ((hs0_5 t).unread (iblk m c 5 t))

theorem valCtx_apply (r l : Fin 256) : valCtx m c t (ix2 r l)
    = argX m c (ix2 ⟨16384 + ((bt t).val * 256 + r.val), by omega⟩ ⟨1280 + l.val, by omega⟩) := by
  unfold valCtx
  rw [Memref.IsWhole.readAt_unread]
  refine Eq.trans (congrArg (iblk m c 5 t) (a₂ := ix2 r ⟨256 + l.val, by omega⟩) ?_) ((blk5 t (V m c main_arg0) r ⟨256 + l.val, by omega⟩).trans ?_)
  · funext a
    fin_cases a
    · exact Fin.ext (by show 0 + 1 * r.val = r.val; omega)
    · exact Fin.ext (by show 256 + 1 * l.val = 256 + l.val; omega)
  · rw [V_main_arg0]
    exact congrArg (argX m c) (congrArg (ix2 _) (Fin.ext (by show 1024 + (256 + l.val) = 1280 + l.val; omega)))

/-- The query block. -/
def query : FVec Ideal S128x1024 .bf16 :=
  View.readAt (Elt Ideal) (ms0_1 t).view (Rect.unit ![0, 0] S128x1024.size inb_S128x1024_S128x1024_0_0).toLoadRect ((hs0_1 t).unread (X0_1 m c t))

theorem query_apply (r : Fin 128) (l : Fin 1024) : query m c t (ix2 r l)
    = argX m c (ix2 ⟨(bt t).val * 2048 + (curPos (qb t) r).val, by omega⟩ ⟨l.val, by omega⟩) := by
  unfold query
  rw [Memref.IsWhole.readAt_unread]
  refine Eq.trans (congrArg (X0_1 m c t) (a₂ := ix2 r l) ?_) ((blk1 t (V m c main_arg0) dflt0_1 r l).trans ?_)
  · funext a
    fin_cases a
    · exact Fin.ext (by show 0 + 1 * r.val = r.val; omega)
    · exact Fin.ext (by show 0 + 1 * l.val = l.val; omega)
  · rw [V_main_arg0]

theorem Qt_def : Qt m c t = queryV (extf .f32 (query m c t) bitsLt_bf16_f32) (tabCur m c t) := rfl

theorem Kt_def : Kt m c t = concatenate S640x256 0 [⟨S128x256, turnKV (extf .f32 (keyPrev m c t) bitsLt_bf16_f32) (tabPrev m c t)⟩,
    ⟨S128x256, turnKV (extf .f32 (keyCur m c t) bitsLt_bf16_f32) (tabCur m c t)⟩,
    ⟨S128x256, turnKV (extf .f32 (keyNext m c t) bitsLt_bf16_f32) (tabNext m c t)⟩,
    ⟨S256x256, extf .f32 (keyCtx m c t) bitsLt_bf16_f32⟩] concatenates_S128x256_S128x256_S128x256_S256x256_S640x256_d0 := rfl

theorem Vt_def : Vt m c t = extf .f32 (concatenate S640x256 0 [⟨S128x256, valPrev m c t⟩, ⟨S128x256, valCur m c t⟩, ⟨S128x256, valNext m c t⟩,
    ⟨S256x256, valCtx m c t⟩] concatenates_S128x256_S128x256_S128x256_S256x256_S640x256_d0) bitsLt_bf16_f32 := rfl

/-- The stream by row and column. -/
abbrev strm (i : Fin 18432) (e : Fin 1536) : EReal := argX m c (ix2 i e)

theorem Qt_apply (r : Fin 128) (h : Fin 16) (d : Fin 64) : Qt m c t (ix2 r ⟨h.val * 64 + d.val, by omega⟩)
    = qLat (strm m c) cr sr cc sc (bt t) (curPos (qb t) r) h d * (((8 * Real.log 2)⁻¹ : ℝ) : EReal) := by
  rw [Qt_def, queryV_apply _ _ _ _ _ (isTabCur m c t)]
  exact congrArg (fun f => rope f _ _ _ _ d * _) (funext fun e => query_apply m c t r _)

theorem pick_congr {p p' q q' n n' : Fin 128 → EReal} {x x' : Fin 256 → EReal} (hp : ∀ r, p r = p' r) (hq : ∀ r, q r = q' r)
    (hn : ∀ r, n r = n' r) (hx : ∀ r, x r = x' r) (j : Fin 640) : pick p q n x j = pick p' q' n' x' j := by
  rw [funext hp, funext hq, funext hn, funext hx]

theorem Kt_apply (j : Fin 640) (g : Fin 4) (d : Fin 64) : Kt m c t (ix2 j ⟨g.val * 64 + d.val, by omega⟩)
    = key (strm m c) cr sr cc sc (bt t) (qb t) g d j := by
  rw [Kt_def, rows_apply]
  refine pick_congr (fun r => ?_) (fun r => ?_) (fun r => ?_) (fun r => ?_) j
  · rw [turnKV_apply _ _ _ _ _ (isTabPrev m c t)]
    exact congrArg (fun f => rope f _ _ _ _ d) (funext fun e => keyPrev_apply m c t r _)
  · rw [turnKV_apply _ _ _ _ _ (isTabCur m c t)]
    exact congrArg (fun f => rope f _ _ _ _ d) (funext fun e => keyCur_apply m c t r _)
  · rw [turnKV_apply _ _ _ _ _ (isTabNext m c t)]
    exact congrArg (fun f => rope f _ _ _ _ d) (funext fun e => keyNext_apply m c t r _)
  · exact keyCtx_apply m c t r _

theorem Vt_apply (j : Fin 640) (g : Fin 4) (d : Fin 64) : Vt m c t (ix2 j ⟨g.val * 64 + d.val, by omega⟩)
    = value (strm m c) (bt t) (qb t) g d j := by
  rw [Vt_def]
  refine (rows_apply _ _ _ _ j _).trans ?_
  exact pick_congr (fun r => valPrev_apply m c t r _) (fun r => valCur_apply m c t r _) (fun r => valNext_apply m c t r _)
    (fun r => valCtx_apply m c t r _) j

theorem sinkOf_eq (h : Fin 16) (hb : ∀ a, ![h.val] a + S1.size a ≤ S16.size a) : sinkOf m c t h.val hb = argS m c (ix1 h) * l2e := by
  have hs : Named.named (F := Ideal) (φ := .f32) κ "log2e" 0x3FB8AA3B#32 = l2e := IdealRules.named_const.ideal_named_scalar _ _ _ _ rfl
  unfold sinkOf
  refine congrArg₂ (· * ·) ?_ hs
  rw [Memref.IsWhole.readAt_unread]
  refine Eq.trans (congrArg (iblk m c 0 t) (a₂ := ix1 h) ?_) ((blk0 t (V m c main_arg1) h).trans ?_)
  · funext a
    fin_cases a
    exact Fin.ext (by show h.val + 1 * 0 = h.val; omega)
  · rw [V_main_arg1]

end Cert.SwaIdeal.Hand

end
-- ==== Proof.Swa.Array.lean ====
/- What the attention kernel leaves: the heads' outputs at every position and lane. -/
module

public import proofs.«01_k».proof.Proof.Swa.Vals
public import proofs.«01_k».proof.Proof.Gen.SwaIdeal.Value

@[expose] public section

set_option maxRecDepth 16384

noncomputable section

namespace Cert.SwaIdeal.Hand

open Cert.SwaIdeal Cert.SwaIdeal.Gen Cert.SwaModel Idealize.ShloMosaic Idealize.ShloMosaic.TcCoe Idealize.SL.Sem
open Cert.SwaRefIdeal.Hand (cr sr cc sc)
open Idealize.ShloMosaic.Pipeline (Dat)

variable (m : (ℓ : Loc nD τ sig) → Buf (Elt Ideal) ℓ) (c : Dev nD)

/-- A head's output at row `r` of a block, at the kernel's arguments. -/
def outRow (b : Fin 8) (n : Fin 16) (r : Fin 128) (h : Fin 16) (d : Fin 64) : EReal :=
  attn (strm m c) cr sr cc sc (fun h => argS m c (ix1 h)) b n r h d

variable (t : Fin cfg0.N)

/-- A column's first head. -/
theorem core_lo (q : FVec Ideal S128x128 .bf16) (kl kh vl vh : FVec Ideal S640x128 .bf16) (s1 s2 : EReal) (h : Fin 16)
    (hq : ∀ (r : Fin 128) (e : Fin 64), q (ix2 r ⟨e.val, by omega⟩)
      = qLat (strm m c) cr sr cc sc (bt t) (curPos (qb t) r) h e * (((8 * Real.log 2)⁻¹ : ℝ) : EReal))
    (hk : ∀ (j : Fin 640) (l : Fin 128), kl (ix2 j l) = if hl : l.val < 64 then key (strm m c) cr sr cc sc (bt t) (qb t) (kvHead h) ⟨l.val, hl⟩ j else 0)
    (hv : ∀ (j : Fin 640) (d : Fin 64), vl (ix2 j ⟨d.val, by omega⟩) = value (strm m c) (bt t) (qb t) (kvHead h) d j)
    (hv1 : ∀ j : Fin 640, vl (ix2 j 64) = 1) (hs : s1 = argS m c (ix1 h) * l2e) (r : Fin 128) (d : Fin 64) :
    colV k0_pay37 q kl kh vl vh (mPrev t) (mNext t) s1 s2 (ix2 r ⟨d.val, by omega⟩) = outRow m c (bt t) (qb t) r h d := by
  rw [colV_lo k0_pay37 q kl kh vl vh (mPrev t) (mNext t) s1 s2 _ _
    (fun j e => key (strm m c) cr sr cc sc (bt t) (qb t) (kvHead h) e j) (fun j d => value (strm m c) (bt t) (qb t) (kvHead h) d j)
    low128 (mPrev_apply t) (mNext_apply t) hk hv hv1 r d, hs]
  simp only [okV_eq (qb t), hq]
  exact attn_eq (strm m c) cr sr cc sc (fun h => argS m c (ix1 h)) (bt t) (qb t) r h d

/-- A column's second head. -/
theorem core_hi (q : FVec Ideal S128x128 .bf16) (kl kh vl vh : FVec Ideal S640x128 .bf16) (s1 s2 : EReal) (h : Fin 16)
    (hq : ∀ (r : Fin 128) (e : Fin 64), q (ix2 r ⟨64 + e.val, by omega⟩)
      = qLat (strm m c) cr sr cc sc (bt t) (curPos (qb t) r) h e * (((8 * Real.log 2)⁻¹ : ℝ) : EReal))
    (hk : ∀ (j : Fin 640) (l : Fin 128), kh (ix2 j l) = if hl : 64 ≤ l.val then key (strm m c) cr sr cc sc (bt t) (qb t) (kvHead h) ⟨l.val - 64, by omega⟩ j else 0)
    (hv : ∀ (j : Fin 640) (d : Fin 64), vh (ix2 j ⟨64 + d.val, by omega⟩) = value (strm m c) (bt t) (qb t) (kvHead h) d j)
    (hv1 : ∀ j : Fin 640, vh (ix2 j 0) = 1) (hs : s2 = argS m c (ix1 h) * l2e) (r : Fin 128) (d : Fin 64) :
    colV k0_pay37 q kl kh vl vh (mPrev t) (mNext t) s1 s2 (ix2 r ⟨64 + d.val, by omega⟩) = outRow m c (bt t) (qb t) r h d := by
  rw [colV_hi k0_pay37 q kl kh vl vh (mPrev t) (mNext t) s1 s2 _ _
    (fun j e => key (strm m c) cr sr cc sc (bt t) (qb t) (kvHead h) e j) (fun j d => value (strm m c) (bt t) (qb t) (kvHead h) d j)
    low128 (mPrev_apply t) (mNext_apply t) hk hv hv1 r d, hs]
  simp only [okV_eq (qb t), hq]
  exact attn_eq (strm m c) cr sr cc sc (fun h => argS m c (ix1 h)) (bt t) (qb t) r h d

theorem sslice (K : FVec Ideal S640x256 .f32) (o : Nat) (h : S640x256.Slices ![0, o] S640x128) (r : Fin 640) (l : Fin 128) (ho : o + l.val < 256) :
    extractStridedSlice S640x128 ![0, o] K h (ix2 r l) = K (ix2 r ⟨o + l.val, ho⟩) :=
  extractStridedSlice_apply ![0, o] K h (ix2 r l) (ix2 r ⟨o + l.val, ho⟩) (by intro a; fin_cases a <;> simp [ix2])

/-- A slab's lanes from `a` are a key head's. -/
theorem slab_key (so : Nat) (hS : S640x256.Slices ![0, so] S640x128) (g : Fin 4) (a : Nat) (hg : so + a = g.val * 64) (ha : a ≤ 64) (j : Fin 640) (e : Fin 64) :
    extractStridedSlice S640x128 ![0, so] (Kt m c t) hS (ix2 j ⟨a + e.val, by omega⟩) = key (strm m c) cr sr cc sc (bt t) (qb t) g e j := by
  rw [sslice _ so hS j _ (by show so + (a + e.val) < 256; omega)]
  exact Eq.trans (congrArg (Kt m c t) (congrArg (ix2 j) (Fin.ext (by show so + (a + e.val) = g.val * 64 + e.val; omega)))) (Kt_apply m c t j g e)

theorem slab_value (so : Nat) (hS : S640x256.Slices ![0, so] S640x128) (g : Fin 4) (a : Nat) (hg : so + a = g.val * 64) (ha : a ≤ 64) (j : Fin 640) (e : Fin 64) :
    extractStridedSlice S640x128 ![0, so] (Vt m c t) hS (ix2 j ⟨a + e.val, by omega⟩) = value (strm m c) (bt t) (qb t) g e j := by
  rw [sslice _ so hS j _ (by show so + (a + e.val) < 256; omega)]
  exact Eq.trans (congrArg (Vt m c t) (congrArg (ix2 j) (Fin.ext (by show so + (a + e.val) = g.val * 64 + e.val; omega)))) (Vt_apply m c t j g e)

/-- A query column's lanes from `a` are a query head's. -/
theorem col_query (o : Nat) (ho : S128x1024.Slices ![0, o] S128x128) (h : Fin 16) (a : Nat) (hg : o + a = h.val * 64) (ha : a ≤ 64) (r : Fin 128) (e : Fin 64) :
    qCol o ho (Qt m c t) (ix2 r ⟨a + e.val, by omega⟩)
      = qLat (strm m c) cr sr cc sc (bt t) (curPos (qb t) r) h e * (((8 * Real.log 2)⁻¹ : ℝ) : EReal) := by
  refine (qslice (Qt m c t) o ho r _ (by show o + (a + e.val) < 1024; omega)).trans ?_
  exact Eq.trans (congrArg (Qt m c t) (congrArg (ix2 r) (Fin.ext (by show o + (a + e.val) = h.val * 64 + e.val; omega)))) (Qt_apply m c t r h e)

theorem lane0 (e : Fin 64) : (⟨e.val, by omega⟩ : Fin 128) = ⟨0 + e.val, by omega⟩ := Fin.ext (Nat.zero_add _).symm

/-- The even columns. -/
theorem even_col (o so : Nat) (ho : S128x1024.Slices ![0, o] S128x128) (hS : S640x256.Slices ![0, so] S640x128) (k1 k2 : Nat)
    (hb1 : ∀ a, ![k1] a + S1.size a ≤ S16.size a) (hb2 : ∀ a, ![k2] a + S1.size a ≤ S16.size a)
    (h1 : o = k1 * 64) (h2 : k2 = k1 + 1) (h3 : so + 0 = k1 / 4 * 64) (h4 : k1 % 2 = 0)
    (r : Fin 128) (h : Fin 16) (d : Fin 64) (x : S128x128.Idx) (e0 : r.val = (x 0).val) (e1 : h.val * 64 + d.val = o + (x 1).val) :
    evenCol (qCol o ho (Qt m c t)) (extractStridedSlice S640x128 ![0, so] (Kt m c t) hS) (extractStridedSlice S640x128 ![0, so] (Vt m c t) hS)
      (mPrev t) (mNext t) (sinkOf m c t k1 hb1) (sinkOf m c t k2 hb2) x = outRow m c (bt t) (qb t) r h d := by
  obtain ⟨r', l, rfl⟩ : ∃ r' l : Fin 128, x = ix2 r' l := ⟨x 0, x 1, by funext a; fin_cases a <;> rfl⟩
  obtain rfl : r = r' := Fin.ext e0
  have e1' : h.val * 64 + d.val = o + l.val := e1
  by_cases hl : l.val < 64
  · obtain rfl : k1 = h.val := by omega
    have el : l = ⟨d.val, lt_trans d.isLt (by decide)⟩ := Fin.ext (by show l.val = d.val; omega)
    rw [el]
    refine core_lo m c t _ _ _ _ _ _ _ h (fun r e => ?_) (fun j l => ?_) (fun j e => ?_) (fun j => even_vl1 _ j) (sinkOf_eq m c t h hb1) r d
    · rw [lane0]
      exact col_query m c t o ho h 0 (by omega) (by decide) r e
    · rw [even_kl]
      by_cases hl : l.val < 64
      · rw [dif_pos hl, dif_pos hl]
        exact (congrArg _ (congrArg (ix2 j) (Fin.ext (Nat.zero_add _).symm))).trans (slab_key m c t so hS (kvHead h) 0 (by show so + 0 = h.val / 4 * 64; omega) (by decide) j ⟨l.val, hl⟩)
      · rw [dif_neg hl, dif_neg hl]
    · rw [even_vl]
      exact (congrArg _ (congrArg (ix2 j) (Fin.ext (Nat.zero_add _).symm))).trans (slab_value m c t so hS (kvHead h) 0 (by show so + 0 = h.val / 4 * 64; omega) (by decide) j e)
  · obtain rfl : k2 = h.val := by omega
    have el : l = ⟨64 + d.val, Nat.add_lt_add_left d.isLt 64⟩ := Fin.ext (by show l.val = 64 + d.val; omega)
    rw [el]
    refine core_hi m c t _ _ _ _ _ _ _ h (fun r e => ?_) (fun j l => ?_) (fun j e => ?_) (fun j => even_vh1 _ j) (sinkOf_eq m c t h hb2) r d
    · exact col_query m c t o ho h 64 (by omega) (by decide) r e
    · rw [even_kh]
      by_cases hl : 64 ≤ l.val
      · rw [dif_pos hl, dif_pos hl]
        exact (congrArg _ (congrArg (ix2 j) (Fin.ext (Nat.zero_add _).symm))).trans (slab_key m c t so hS (kvHead h) 0 (by show so + 0 = h.val / 4 * 64; omega) (by decide) j ⟨l.val - 64, by omega⟩)
      · rw [dif_neg hl, dif_neg hl]
    · rw [even_vh]
      exact (congrArg _ (congrArg (ix2 j) (Fin.ext (Nat.zero_add _).symm))).trans (slab_value m c t so hS (kvHead h) 0 (by show so + 0 = h.val / 4 * 64; omega) (by decide) j e)

/-- The odd columns. -/
theorem odd_col (o so : Nat) (ho : S128x1024.Slices ![0, o] S128x128) (hS : S640x256.Slices ![0, so] S640x128) (k1 k2 : Nat)
    (hb1 : ∀ a, ![k1] a + S1.size a ≤ S16.size a) (hb2 : ∀ a, ![k2] a + S1.size a ≤ S16.size a)
    (h1 : o = k1 * 64) (h2 : k2 = k1 + 1) (h3 : so + 64 = k1 / 4 * 64) (h4 : k1 % 2 = 0)
    (r : Fin 128) (h : Fin 16) (d : Fin 64) (x : S128x128.Idx) (e0 : r.val = (x 0).val) (e1 : h.val * 64 + d.val = o + (x 1).val) :
    oddCol (qCol o ho (Qt m c t)) (extractStridedSlice S640x128 ![0, so] (Kt m c t) hS) (extractStridedSlice S640x128 ![0, so] (Vt m c t) hS)
      (mPrev t) (mNext t) (sinkOf m c t k1 hb1) (sinkOf m c t k2 hb2) x = outRow m c (bt t) (qb t) r h d := by
  obtain ⟨r', l, rfl⟩ : ∃ r' l : Fin 128, x = ix2 r' l := ⟨x 0, x 1, by funext a; fin_cases a <;> rfl⟩
  obtain rfl : r = r' := Fin.ext e0
  have e1' : h.val * 64 + d.val = o + l.val := e1
  by_cases hl : l.val < 64
  · obtain rfl : k1 = h.val := by omega
    have el : l = ⟨d.val, lt_trans d.isLt (by decide)⟩ := Fin.ext (by show l.val = d.val; omega)
    rw [el]
    refine core_lo m c t _ _ _ _ _ _ _ h (fun r e => ?_) (fun j l => ?_) (fun j e => ?_) (fun j => odd_vl1 _ j) (sinkOf_eq m c t h hb1) r d
    · rw [lane0]
      exact col_query m c t o ho h 0 (by omega) (by decide) r e
    · rw [odd_kl]
      by_cases hl : l.val < 64
      · rw [dif_pos hl, dif_pos hl]
        exact (slab_key m c t so hS (kvHead h) 64 (by show so + 64 = h.val / 4 * 64; omega) (by decide) j ⟨l.val, hl⟩)
      · rw [dif_neg hl, dif_neg hl]
    · rw [odd_vl]
      exact (slab_value m c t so hS (kvHead h) 64 (by show so + 64 = h.val / 4 * 64; omega) (by decide) j e)
  · obtain rfl : k2 = h.val := by omega
    have el : l = ⟨64 + d.val, Nat.add_lt_add_left d.isLt 64⟩ := Fin.ext (by show l.val = 64 + d.val; omega)
    rw [el]
    refine core_hi m c t _ _ _ _ _ _ _ h (fun r e => ?_) (fun j l => ?_) (fun j e => ?_) (fun j => odd_vh1 _ j) (sinkOf_eq m c t h hb2) r d
    · exact col_query m c t o ho h 64 (by omega) (by decide) r e
    · rw [odd_kh]
      by_cases hl : 64 ≤ l.val
      · rw [dif_pos hl, dif_pos hl]
        exact (slab_key m c t so hS (kvHead h) 64 (by show so + 64 = h.val / 4 * 64; omega) (by decide) j ⟨l.val - 64, by omega⟩)
      · rw [dif_neg hl, dif_neg hl]
    · rw [odd_vh]
      exact (slab_value m c t so hS (kvHead h) 64 (by show so + 64 = h.val / 4 * 64; omega) (by decide) j e)

/-- A point's output block. -/
theorem out_block (r : Fin 128) (h : Fin 16) (d : Fin 64) :
    outsAt0 m c t (ix2 r ⟨h.val * 64 + d.val, by omega⟩) = outRow m c (bt t) (qb t) r h d := by
  refine out_eq m c t _ _ (fun x e0 e1 => ?_) (fun x e0 e1 => ?_) (fun x e0 e1 => ?_) (fun x e0 e1 => ?_) (fun x e0 e1 => ?_)
    (fun x e0 e1 => ?_) (fun x e0 e1 => ?_) (fun x e0 e1 => ?_)
  · exact even_col m c t 0 0 slices_S128x1024_o0_0_S128x128 slices_S640x256_o0_0_S640x128 0 1 inb_S16_S1_0 inb_S16_S1_1 (by decide) (by decide) (by decide) (by decide) r h d x e0 e1
  · exact even_col m c t 128 0 slices_S128x1024_o0_128_S128x128 slices_S640x256_o0_0_S640x128 2 3 inb_S16_S1_2 inb_S16_S1_3 (by decide) (by decide) (by decide) (by decide) r h d x e0 e1
  · exact odd_col m c t 256 0 slices_S128x1024_o0_256_S128x128 slices_S640x256_o0_0_S640x128 4 5 inb_S16_S1_4 inb_S16_S1_5 (by decide) (by decide) (by decide) (by decide) r h d x e0 e1
  · exact odd_col m c t 384 0 slices_S128x1024_o0_384_S128x128 slices_S640x256_o0_0_S640x128 6 7 inb_S16_S1_6 inb_S16_S1_7 (by decide) (by decide) (by decide) (by decide) r h d x e0 e1
  · exact even_col m c t 512 128 slices_S128x1024_o0_512_S128x128 slices_S640x256_o0_128_S640x128 8 9 inb_S16_S1_8 inb_S16_S1_9 (by decide) (by decide) (by decide) (by decide) r h d x e0 e1
  · exact even_col m c t 640 128 slices_S128x1024_o0_640_S128x128 slices_S640x256_o0_128_S640x128 10 11 inb_S16_S1_10 inb_S16_S1_11 (by decide) (by decide) (by decide) (by decide) r h d x e0 e1
  · exact odd_col m c t 768 128 slices_S128x1024_o0_768_S128x128 slices_S640x256_o0_128_S640x128 12 13 inb_S16_S1_12 inb_S16_S1_13 (by decide) (by decide) (by decide) (by decide) r h d x e0 e1
  · exact odd_col m c t 896 128 slices_S128x1024_o0_896_S128x128 slices_S640x256_o0_128_S640x128 14 15 inb_S16_S1_14 inb_S16_S1_15 (by decide) (by decide) (by decide) (by decide) r h d x e0 e1

/-- The kernel's result array. -/
def result : Vec Ideal S16384x1024 .bf16 := fun i =>
  outRow m c ⟨(i 0).val / 2048, by have := (i 0).isLt; have : (i 0).val < 16384 := this; omega⟩
    ⟨(i 0).val / 128 % 16, Nat.mod_lt _ (by decide)⟩ ⟨(i 0).val % 128, Nat.mod_lt _ (by decide)⟩
    ⟨(i 1).val / 64, by have := (i 1).isLt; have : (i 1).val < 1024 := this; omega⟩ ⟨(i 1).val % 64, Nat.mod_lt _ (by decide)⟩

theorem result_apply (b : Fin 8) (n : Fin 16) (r : Fin 128) (h : Fin 16) (d : Fin 64) :
    result m c (ix2 ⟨b.val * 2048 + (n.val * 128 + r.val), by omega⟩ ⟨h.val * 64 + d.val, by omega⟩) = outRow m c b n r h d := by
  have h1 : (⟨(b.val * 2048 + (n.val * 128 + r.val)) / 2048, by omega⟩ : Fin 8) = b := Fin.ext (by show (b.val * 2048 + (n.val * 128 + r.val)) / 2048 = b.val; omega)
  have h2 : (⟨(b.val * 2048 + (n.val * 128 + r.val)) / 128 % 16, by omega⟩ : Fin 16) = n := Fin.ext (by show (b.val * 2048 + (n.val * 128 + r.val)) / 128 % 16 = n.val; omega)
  have h3 : (⟨(b.val * 2048 + (n.val * 128 + r.val)) % 128, by omega⟩ : Fin 128) = r := Fin.ext (by show (b.val * 2048 + (n.val * 128 + r.val)) % 128 = r.val; omega)
  have h4 : (⟨(h.val * 64 + d.val) / 64, by omega⟩ : Fin 16) = h := Fin.ext (by show (h.val * 64 + d.val) / 64 = h.val; omega)
  have h5 : (⟨(h.val * 64 + d.val) % 64, by omega⟩ : Fin 64) = d := Fin.ext (by show (h.val * 64 + d.val) % 64 = d.val; omega)
  show outRow m c ⟨(b.val * 2048 + (n.val * 128 + r.val)) / 2048, _⟩ ⟨(b.val * 2048 + (n.val * 128 + r.val)) / 128 % 16, _⟩
    ⟨(b.val * 2048 + (n.val * 128 + r.val)) % 128, _⟩ ⟨(h.val * 64 + d.val) / 64, _⟩ ⟨(h.val * 64 + d.val) % 64, _⟩ = _
  rw [h1, h2, h3, h4, h5]

/-- The output window's array after the run. -/
theorem final : (dats m 0 c).arrAt 9 cfg0.N = result m c := by
  refine (dats m 0 c).arrAt_eq_of_covers 9 _ (by decide +kernel) fun t hf y => ?_
  have := lt128 t
  obtain ⟨r, l, rfl⟩ : ∃ (r : Fin 128) (l : Fin 1024), y = ix2 r l := ⟨y 0, y 1, by funext a; fin_cases a <;> rfl⟩
  obtain ⟨h, d, rfl⟩ : ∃ (h : Fin 16) (d : Fin 64), l = ⟨h.val * 64 + d.val, by omega⟩ :=
    ⟨⟨l.val / 64, by omega⟩, ⟨l.val % 64, by omega⟩, Fin.ext (by show l.val = l.val / 64 * 64 + l.val % 64; omega)⟩
  have key : ((cfg0.win 9).blk t).view.emb (ix2 r ⟨h.val * 64 + d.val, by omega⟩)
      = ix2 ⟨(bt t).val * 2048 + ((qb t).val * 128 + r.val), by omega⟩ ⟨h.val * 64 + d.val, by omega⟩ := by
    blk_ext [idx9 t]
  blk_simp
  rw [after0_9]
  exact (out_block m c t r h d).trans ((result_apply m c (bt t) (qb t) r h d).symm.trans (congrArg (result m c) key.symm))

variable (ρ : Dev nD → PrngReg)

/-- The kernel's run: the result array, the arguments as launched. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2⟩) (Value.run_blocks m ρ)

end Cert.SwaIdeal.Hand

end
-- ==== Proof.Swa.Mask.lean ====
module

public import proofs.«01_k».proof.Proof.Gen.SwaRefIdeal
public import proofs.«01_k».proof.Proof.Gen.SwaRefIdeal.Read
public import proofs.«01_k».proof.Proof.Swa.Ref

@[expose] public section

set_option maxRecDepth 16384

noncomputable section

namespace Cert.SwaRefIdeal.Hand

open Cert.SwaRefIdeal Cert.SwaRefIdeal.Gen Cert.SwaRefIdeal.Read Cert.SwaModel Idealize.ShloMosaic Idealize.ShloMosaic.TcCoe
open Idealize.SL.Sem

/-- The mask. -/
theorem rel_ok : ∀ (r : Fin 128) (j : Fin 384), IntOp.cmpi .sle (IntOp.absi (IntOp.subi (IntOp.subi (BitVec.ofNat 32 j.val) 128#32) (BitVec.ofNat 32 r.val))) 128#32
    = if (j.val < 128 → r.val ≤ j.val) ∧ (256 ≤ j.val → j.val ≤ r.val + 256) then 1#1 else 0#1 := by decide +kernel

theorem low_ok : ∀ (n : Fin 16) (j : Fin 384), IntOp.cmpi .sge (IntOp.subi (IntOp.addi (IntOp.muli (BitVec.ofNat 32 n.val) 128#32) (BitVec.ofNat 32 j.val)) 128#32) 0#32
    = if 0 < n.val ∨ 128 ≤ j.val then 1#1 else 0#1 := by decide +kernel

theorem high_ok : ∀ (n : Fin 16) (j : Fin 384), IntOp.cmpi .slt (IntOp.subi (IntOp.addi (IntOp.muli (BitVec.ofNat 32 n.val) 128#32) (BitVec.ofNat 32 j.val)) 128#32) 2048#32
    = if n.val < 15 ∨ j.val < 256 then 1#1 else 0#1 := by decide +kernel

theorem and_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem mask_apply (n : Fin 16) (r : Fin 128) (j : Fin 384) : val_main_v141 (F := Ideal) (ix3 n r j) = if ok n r ⟨j.val, by omega⟩ then 1#1 else 0#1 := by
  simp only [val_main_v141_apply, val_main_v140_apply, val_main_v139_apply, val_main_v138_apply, val_main_v137_apply, val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply, val_main_v123_apply, val_main_v122_apply, val_main_v121_apply, val_main_v120_apply, val_main_v119_apply, val_main_v118_apply, val_main_v117_apply, val_main_v116_apply, val_main_v115_apply, val_main_v114_apply, val_main_v113_apply, val_main_v112_apply, val_main_v111_apply, val_main_v110_apply, val_main_c_2_apply, val_main_c_3_apply, val_main_c_4_apply, val_main_c_5_apply, val_main_c_6_apply, val_main_c_7_apply]
  refine (congrArg₂ IntOp.andi (congrArg₂ IntOp.andi (rel_ok r j) (low_ok n j)) (high_ok n j)).trans ?_
  rw [and_ite, and_ite]
  refine if_congr ?_ rfl rfl
  unfold ok
  dsimp only
  split_ifs with h1 h2 h3
  · rw [decide_eq_true_eq]; constructor <;> intro h <;> omega
  · constructor <;> intro h
    · rfl
    · omega
  · rw [decide_eq_true_eq]; constructor <;> intro h <;> omega
  · exfalso; have := j.isLt; omega

/-- The mask over a block's keys. -/
theorem mask640_apply (n : Fin 16) (r : Fin 128) (j : Fin 640) :
    val_main_v143 (F := Ideal) (ix3 n r j) = if ok n r j then 1#1 else 0#1 := by
  have e : val_main_v143 (F := Ideal) (ix3 n r j) = if h : j.val < 384 then val_main_v141 (F := Ideal) (ix3 n r ⟨j.val, h⟩)
      else val_main_v142 (F := Ideal) (ix3 n r ⟨j.val - 384, by omega⟩) := by
    unfold val_main_v143
    generalize val_main_v141 (F := Ideal) = X
    generalize val_main_v142 (F := Ideal) = A
    pointwise []
  rw [e]
  split_ifs with h ho ho
  · rw [mask_apply, if_pos ho]
  · rw [mask_apply, if_neg ho]
  · rfl
  · exfalso; revert ho; unfold ok; rw [if_neg (by omega), if_neg (by omega), if_neg h]; simp

end Cert.SwaRefIdeal.Hand

end
-- ==== Proof.Swa.Keys.lean ====
module

public import proofs.«01_k».proof.Proof.Gen.SwaRefIdeal
public import proofs.«01_k».proof.Proof.Gen.SwaRefIdeal.Read
public import proofs.«01_k».proof.Proof.Swa.Ref
public import Idealize.ShloMosaic.Lib.KernelVsHost

@[expose] public section

set_option maxRecDepth 16384

noncomputable section

namespace Cert.SwaRefIdeal.Hand

open Cert.SwaRefIdeal Cert.SwaRefIdeal.Gen Cert.SwaRefIdeal.Read Cert.SwaModel Idealize.ShloMosaic Idealize.ShloMosaic.TcCoe
open Idealize.SL.Sem

variable (x : Vec Ideal S18432x1536 .bf16) (sk : Vec Ideal S16 .f32)

theorem vheads_apply (b : Fin 8) (l : Fin 2048) (h : Fin 4) (d : Fin 64) :
    val_main_v105 x (ix4 b l h d) = x (ix2 (flat b l) ⟨1280 + (h.val * 64 + d.val), by omega⟩) := by
  pointwise [val_main_v105, val_main_v104]
  rw [lat_apply]

theorem kctx_apply (b : Fin 8) (i : Fin 256) (h : Fin 4) (d : Fin 64) :
    val_main_v107 x (ix4 b i h d) = x (ix2 ⟨16384 + (b.val * 256 + i.val), by omega⟩ ⟨1024 + (h.val * 64 + d.val), by omega⟩) := by
  pointwise [val_main_v107, val_main_v106, val_main_v4, val_main_v3, val_main_v0]

theorem vctx_apply (b : Fin 8) (i : Fin 256) (h : Fin 4) (d : Fin 64) :
    val_main_v109 x (ix4 b i h d) = x (ix2 ⟨16384 + (b.val * 256 + i.val), by omega⟩ ⟨1280 + (h.val * 64 + d.val), by omega⟩) := by
  pointwise [val_main_v109, val_main_v108, val_main_v4, val_main_v3, val_main_v0]

/-- The block of queries. -/
theorem qblock_apply (b : Fin 8) (n : Fin 16) (r : Fin 128) (h : Fin 16) (d : Fin 64) :
    val_main_v144 x (ix5 b n r h d) = qLat (fun i e => x (ix2 i e)) cr sr cc sc b (curPos n r) h d := by
  rw [← q_apply]
  unfold val_main_v144
  generalize val_main_v64 x = X
  pointwise []

theorem keypad_apply (b : Fin 8) (a : Fin 18) (r : Fin 128) (g : Fin 4) (d : Fin 64) (h0 : 1 ≤ a.val) (h1 : a.val ≤ 16) :
    val_main_v146 x (ix5 b a r g d) = val_main_v103 x (ix4 b ⟨(a.val - 1) * 128 + r.val, by omega⟩ g d) := by
  rw [val_main_v146_apply]
  unfold val_main_v145
  generalize val_main_v103 x = X
  have hb := b.isLt
  have ha := a.isLt
  have hr := r.isLt
  have hg := g.isLt
  have hd := d.isLt
  refine pad_apply_of_inside _ _ _ _ _ _ _ _ _ fun k => ?_
  match k with
  | ⟨0, _⟩ => show ((((b.val * 18 + a.val) * 128 + r.val) * 4 + g.val) * 64 + d.val) / 589824 = 0 + b.val * (0 + 1); omega
  | ⟨1, _⟩ => show ((((b.val * 18 + a.val) * 128 + r.val) * 4 + g.val) * 64 + d.val) / 256 % 2304 = 128 + ((a.val - 1) * 128 + r.val) * (0 + 1); omega
  | ⟨2, _⟩ => show ((((b.val * 18 + a.val) * 128 + r.val) * 4 + g.val) * 64 + d.val) / 64 % 4 = 0 + g.val * (0 + 1); omega
  | ⟨3, _⟩ => show ((((b.val * 18 + a.val) * 128 + r.val) * 4 + g.val) * 64 + d.val) % 64 = 0 + d.val * (0 + 1); omega

theorem keycat_apply (b : Fin 8) (n : Fin 16) (j : Fin 640) (g : Fin 4) (d : Fin 64) :
    val_main_v152 x (ix5 b n j g d) = pick (fun r => val_main_v146 x (ix5 b ⟨n.val, by omega⟩ r g d))
      (fun r => val_main_v146 x (ix5 b ⟨1 + n.val, by omega⟩ r g d)) (fun r => val_main_v146 x (ix5 b ⟨2 + n.val, by omega⟩ r g d))
      (fun r => val_main_v107 x (ix4 b r g d)) j := by
  unfold val_main_v152 val_main_v149 val_main_v150 val_main_v151 val_main_v148 val_main_v147 pick
  generalize val_main_v146 x = X
  generalize val_main_v107 x = A
  pointwise []
  by_cases h1 : j.val < 128
  · rw [dif_pos h1, dif_pos h1]
  · by_cases h2 : j.val < 256
    · rw [dif_neg h1, dif_pos (show j.val - 128 < 128 by omega), dif_neg h1, dif_pos h2]
    · by_cases h3 : j.val < 384
      · rw [dif_neg h1, dif_neg (show ¬ j.val - 128 < 128 by omega), dif_pos (show j.val - 128 - 128 < 128 by omega), dif_neg h1, dif_neg h2,
          dif_pos h3]
        simp only [Nat.sub_sub]
      · rw [dif_neg h1, dif_neg (show ¬ j.val - 128 < 128 by omega), dif_neg (show ¬ j.val - 128 - 128 < 128 by omega), dif_neg h1,
          dif_neg h2, dif_neg h3]
        simp only [Nat.sub_sub]

theorem key_apply (b : Fin 8) (n : Fin 16) (j : Fin 640) (h : Fin 16) (d : Fin 64) :
    val_main_v154 x (ix5 b n j h d) = val_main_v152 x (ix5 b n j (kvHead h) d) := by
  unfold val_main_v154
  have hb := b.isLt
  have hn := n.isLt
  have hj := j.isLt
  have hh := h.isLt
  have hd := d.isLt
  refine (shapeCast_apply _ _ _ (ix6 b n j (⟨h.val / 4, by omega⟩ : Fin 4) (⟨h.val % 4, by omega⟩ : Fin 4) d) ?_).trans ?_
  · rw [rowMajor_val6 _ 10485760 655360 1024 256 64 rfl rfl rfl rfl rfl, Shape.rowMajor_val_five]
    show b.val * 10485760 + n.val * 655360 + j.val * 1024 + h.val / 4 * 256 + h.val % 4 * 64 + d.val
      = (((b.val * 16 + n.val) * 640 + j.val) * 16 + h.val) * 64 + d.val
    omega
  · rw [val_main_v153_apply]
    generalize val_main_v152 x = X
    exact congrArg X ((eq_ix5 _).trans rfl)

theorem valpad_apply (b : Fin 8) (a : Fin 18) (r : Fin 128) (g : Fin 4) (d : Fin 64) (h0 : 1 ≤ a.val) (h1 : a.val ≤ 16) :
    val_main_v176 x (ix5 b a r g d) = val_main_v105 x (ix4 b ⟨(a.val - 1) * 128 + r.val, by omega⟩ g d) := by
  rw [val_main_v176_apply]
  unfold val_main_v175
  generalize val_main_v105 x = X
  have hb := b.isLt
  have ha := a.isLt
  have hr := r.isLt
  have hg := g.isLt
  have hd := d.isLt
  refine pad_apply_of_inside _ _ _ _ _ _ _ _ _ fun k => ?_
  match k with
  | ⟨0, _⟩ => show ((((b.val * 18 + a.val) * 128 + r.val) * 4 + g.val) * 64 + d.val) / 589824 = 0 + b.val * (0 + 1); omega
  | ⟨1, _⟩ => show ((((b.val * 18 + a.val) * 128 + r.val) * 4 + g.val) * 64 + d.val) / 256 % 2304 = 128 + ((a.val - 1) * 128 + r.val) * (0 + 1); omega
  | ⟨2, _⟩ => show ((((b.val * 18 + a.val) * 128 + r.val) * 4 + g.val) * 64 + d.val) / 64 % 4 = 0 + g.val * (0 + 1); omega
  | ⟨3, _⟩ => show ((((b.val * 18 + a.val) * 128 + r.val) * 4 + g.val) * 64 + d.val) % 64 = 0 + d.val * (0 + 1); omega

theorem valcat_apply (b : Fin 8) (n : Fin 16) (j : Fin 640) (g : Fin 4) (d : Fin 64) :
    val_main_v182 x (ix5 b n j g d) = pick (fun r => val_main_v176 x (ix5 b ⟨n.val, by omega⟩ r g d))
      (fun r => val_main_v176 x (ix5 b ⟨1 + n.val, by omega⟩ r g d)) (fun r => val_main_v176 x (ix5 b ⟨2 + n.val, by omega⟩ r g d))
      (fun r => val_main_v109 x (ix4 b r g d)) j := by
  unfold val_main_v182 val_main_v179 val_main_v180 val_main_v181 val_main_v178 val_main_v177 pick
  generalize val_main_v176 x = X
  generalize val_main_v109 x = A
  pointwise []
  by_cases h1 : j.val < 128
  · rw [dif_pos h1, dif_pos h1]
  · by_cases h2 : j.val < 256
    · rw [dif_neg h1, dif_pos (show j.val - 128 < 128 by omega), dif_neg h1, dif_pos h2]
    · by_cases h3 : j.val < 384
      · rw [dif_neg h1, dif_neg (show ¬ j.val - 128 < 128 by omega), dif_pos (show j.val - 128 - 128 < 128 by omega), dif_neg h1, dif_neg h2,
          dif_pos h3]
        simp only [Nat.sub_sub]
      · rw [dif_neg h1, dif_neg (show ¬ j.val - 128 < 128 by omega), dif_neg (show ¬ j.val - 128 - 128 < 128 by omega), dif_neg h1,
          dif_neg h2, dif_neg h3]
        simp only [Nat.sub_sub]

theorem val_apply (b : Fin 8) (n : Fin 16) (j : Fin 640) (h : Fin 16) (d : Fin 64) :
    val_main_v184 x (ix5 b n j h d) = val_main_v182 x (ix5 b n j (kvHead h) d) := by
  unfold val_main_v184
  have hb := b.isLt
  have hn := n.isLt
  have hj := j.isLt
  have hh := h.isLt
  have hd := d.isLt
  refine (shapeCast_apply _ _ _ (ix6 b n j (⟨h.val / 4, by omega⟩ : Fin 4) (⟨h.val % 4, by omega⟩ : Fin 4) d) ?_).trans ?_
  · rw [rowMajor_val6 _ 10485760 655360 1024 256 64 rfl rfl rfl rfl rfl, Shape.rowMajor_val_five]
    show b.val * 10485760 + n.val * 655360 + j.val * 1024 + h.val / 4 * 256 + h.val % 4 * 64 + d.val
      = (((b.val * 16 + n.val) * 640 + j.val) * 16 + h.val) * 64 + d.val
    omega
  · rw [val_main_v183_apply]
    generalize val_main_v182 x = X
    exact congrArg X ((eq_ix5 _).trans rfl)

theorem pick_apply (n : Fin 16) (r : Fin 128) (j : Fin 640) (p c q p' c' q' : Fin 128 → EReal) (t t' : Fin 256 → EReal)
    (hj : ok n r j = true) (hp : 0 < n.val → p = p') (hc : c = c') (hq : n.val < 15 → q = q') (ht : t = t') :
    pick p c q t j = pick p' c' q' t' j := by
  unfold ok at hj
  unfold pick
  split_ifs at hj ⊢ with h1 h2 h3
  · rw [hp (decide_eq_true_eq.mp hj).1]
  · rw [hc]
  · rw [hq (decide_eq_true_eq.mp hj).1]
  · rw [ht]

/-- An attended key. -/
theorem key_ok (b : Fin 8) (n : Fin 16) (r : Fin 128) (j : Fin 640) (h : Fin 16) (d : Fin 64) (hj : ok n r j = true) :
    val_main_v154 x (ix5 b n j h d) = key (fun i e => x (ix2 i e)) cr sr cc sc b n (kvHead h) d j := by
  rw [key_apply, keycat_apply, key]
  refine pick_apply n r j _ _ _ _ _ _ _ _ hj (fun hn => funext fun r => ?_) (funext fun r => ?_) (fun hn => funext fun r => ?_)
    (funext fun r => ?_)
  · rw [keypad_apply _ _ _ _ _ _ (by show 1 ≤ n.val; omega) (by show n.val ≤ 16; omega), k_apply]
  · rw [keypad_apply _ _ _ _ _ _ (by show 1 ≤ 1 + n.val; omega) (by show 1 + n.val ≤ 16; omega), k_apply]
    simp only [show 1 + n.val - 1 = n.val by omega]
  · rw [keypad_apply _ _ _ _ _ _ (by show 1 ≤ 2 + n.val; omega) (by show 2 + n.val ≤ 16; omega), k_apply]
    simp only [show 2 + n.val - 1 = min (n.val + 1) 15 by omega]
  · rw [kctx_apply]

/-- An attended value. -/
theorem value_ok (b : Fin 8) (n : Fin 16) (r : Fin 128) (j : Fin 640) (h : Fin 16) (d : Fin 64) (hj : ok n r j = true) :
    val_main_v184 x (ix5 b n j h d) = value (fun i e => x (ix2 i e)) b n (kvHead h) d j := by
  rw [val_apply, valcat_apply, value]
  refine pick_apply n r j _ _ _ _ _ _ _ _ hj (fun hn => funext fun r => ?_) (funext fun r => ?_) (fun hn => funext fun r => ?_)
    (funext fun r => ?_)
  · rw [valpad_apply _ _ _ _ _ _ (by show 1 ≤ n.val; omega) (by show n.val ≤ 16; omega), vheads_apply]
  · rw [valpad_apply _ _ _ _ _ _ (by show 1 ≤ 1 + n.val; omega) (by show 1 + n.val ≤ 16; omega), vheads_apply]
    simp only [show 1 + n.val - 1 = n.val by omega]
  · rw [valpad_apply _ _ _ _ _ _ (by show 1 ≤ 2 + n.val; omega) (by show 2 + n.val ≤ 16; omega), vheads_apply]
    simp only [show 2 + n.val - 1 = min (n.val + 1) 15 by omega]
  · rw [vctx_apply]

end Cert.SwaRefIdeal.Hand

end
-- ==== Proof.Swa.RefOut.lean ====
module

public import proofs.«01_k».proof.Proof.Gen.SwaRefIdeal
public import proofs.«01_k».proof.Proof.Gen.SwaRefIdeal.Read
public import proofs.«01_k».proof.Proof.Swa.Mask
public import proofs.«01_k».proof.Proof.Swa.Keys

@[expose] public section

set_option maxRecDepth 16384

noncomputable section

namespace Cert.SwaRefIdeal.Hand

open Cert.SwaRefIdeal Cert.SwaRefIdeal.Gen Cert.SwaRefIdeal.Read Cert.SwaModel Idealize.ShloMosaic Idealize.ShloMosaic.TcCoe
open Idealize.SL.Sem

variable (x : Vec Ideal S18432x1536 .bf16) (sk : Vec Ideal S16 .f32)

/-- A head's score of a key. -/
abbrev scores (b : Fin 8) (n : Fin 16) (r : Fin 128) (h : Fin 16) (j : Fin 640) : EReal :=
  if ok n r j then (∑ e : Fin 64, qLat (fun i e => x (ix2 i e)) cr sr cc sc b (curPos n r) h e
    * key (fun i e => x (ix2 i e)) cr sr cc sc b n (kvHead h) e j) * ((1 / 8 : ℝ) : EReal) else ⊥

theorem ix5_congr {n0 n1 n2 n3 n4 : Nat} {a a' : Fin n0} {b b' : Fin n1} {c c' : Fin n2} {d d' : Fin n3} {e e' : Fin n4}
    (h0 : a = a') (h1 : b = b') (h2 : c = c') (h3 : d = d') (h4 : e = e') : ix5 a b c d e = ix5 a' b' c' d' e' := by
  subst h0 h1 h2 h3 h4
  rfl

theorem neg_inf : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee, -EReal.coe_mul]; norm_num

theorem dot_apply (b : Fin 8) (n : Fin 16) (h : Fin 16) (r : Fin 128) (j : Fin 640) :
    val_main_v155 x (ix5 b n h r j) = ∑ e : Fin 64, val_main_v144 x (ix5 b n r h e) * val_main_v154 x (ix5 b n j h e) := by
  rw [val_main_v155_apply]
  generalize val_main_v144 x = X
  generalize val_main_v154 x = Y
  exact Finset.sum_congr rfl fun e _ => congrArg₂ (· * ·) (congrArg X ((eq_ix5 _).trans rfl)) (congrArg Y ((eq_ix5 _).trans rfl))

theorem scores_apply (b : Fin 8) (n : Fin 16) (h : Fin 16) (r : Fin 128) (j : Fin 640) :
    val_main_v159 x (ix5 b n h r j) = scores x b n r h j := by
  rw [val_main_v159_apply, val_main_call3_v1_apply, val_main_v158_apply, val_main_v157_apply, dot_apply, val_main_v156_apply,
    val_main_cst_10_apply, val_main_call3_v2_apply, val_main_call3_v0_apply, val_main_cst_11_apply]
  rw [show idx_main_v158 (idx_main_call3_v1 (ix5 b n h r j)) = ix3 n r j from (eq_ix3 _).trans rfl, mask640_apply]
  unfold scores
  by_cases hj : ok n r j = true
  · rw [if_pos hj, if_pos hj]
    refine (congrArg₂ (· * ·) (Finset.sum_congr rfl fun e _ => ?_) eighth)
    rw [qblock_apply, key_ok _ _ _ _ _ _ _ hj]
  · rw [if_neg hj, if_neg hj]
    exact neg_inf

theorem logits_apply (b : Fin 8) (n : Fin 16) (h : Fin 16) (r : Fin 128) (j : Fin 641) :
    val_main_v162 x sk (ix5 b n h r j) = if hj : j.val < 640 then scores x b n r h ⟨j.val, hj⟩ else sk (ix1 h) := by
  have e : val_main_v162 x sk (ix5 b n h r j) = if hj : j.val < 640 then val_main_v159 x (ix5 b n h r ⟨j.val, hj⟩)
      else val_main_v161 sk (ix5 b n h r ⟨j.val - 640, by omega⟩) := by
    unfold val_main_v162
    generalize val_main_v159 x = X
    generalize val_main_v161 sk = A
    pointwise []
  rw [e]
  split_ifs with hj
  · exact scores_apply _ _ _ _ _ _
  · rw [val_main_v161_apply, val_main_v160_apply]
    exact congrArg sk ((eq_ix1 _).trans rfl)

theorem max_apply (b : Fin 8) (n : Fin 16) (h : Fin 16) (r : Fin 128) :
    val_main_v163 x sk (ix4 b n h r) = kMax (scores x b n r h) (sk (ix1 h)) := by
  have e : val_main_v163 x sk (ix4 b n h r) = Finset.univ.fold max ⊥ fun j : Fin 641 => val_main_v162 x sk (ix5 b n h r j) := by
    unfold val_main_v163
    generalize val_main_v162 x sk = X
    pointwise [val_main_cst_12]
    rw [neg_inf]
  rw [e, fold_max_castSucc, kMax]
  refine congrArg₂ max ?_ ?_
  · refine congrArg (fun f : Fin 640 → EReal => Finset.univ.fold max ⊥ f) (funext fun j => ?_)
    rw [logits_apply, dif_pos (show (Fin.castSucc j).val < 640 from j.isLt)]
    rfl
  · rw [logits_apply, dif_neg (by show ¬ 640 < 640; omega)]

theorem exp_apply (b : Fin 8) (n : Fin 16) (h : Fin 16) (r : Fin 128) (j : Fin 641) :
    val_main_v167 x sk (ix5 b n h r j) = Ideal.exp ((if hj : j.val < 640 then scores x b n r h ⟨j.val, hj⟩ else sk (ix1 h))
      - kMax (scores x b n r h) (sk (ix1 h))) := by
  rw [val_main_v167_apply, val_main_v166_apply, val_main_v165_apply, val_main_v164_apply, logits_apply,
    show idx_main_v164 (idx_main_v165 (ix5 b n h r j)) = ix4 b n h r from (eq_ix4 _).trans rfl, max_apply]
  rfl

theorem inv_apply (b : Fin 8) (n : Fin 16) (h : Fin 16) (r : Fin 128) :
    val_main_v171 x sk (ix5 b n h r 0) = Ideal.div 1 ((∑ j, Ideal.exp (scores x b n r h j - kMax (scores x b n r h) (sk (ix1 h))))
      + Ideal.exp (sk (ix1 h) - kMax (scores x b n r h) (sk (ix1 h)))) := by
  rw [val_main_v171_apply, val_main_v170_apply, val_main_cst_14_apply, val_main_v169_apply,
    show idx_main_v169 (ix5 b n h r (0 : Fin 1)) = ix4 b n h r from (eq_ix4 _).trans rfl, val_main_v168_apply, val_main_cst_13_apply]
  have e : ∀ k : Fin 641, idx_main_v168 (ix4 b n h r) k = ix5 b n h r k := fun k => (eq_ix5 _).trans rfl
  refine congrArg₂ Ideal.div Ideal.ofBits_one_f32 ?_
  rw [show FloatOps.ofBits (F := Ideal) .f32 0x00000000#32 = (0 : EReal) from by simp [FloatOps.ofBits, Ideal.ofBits, Ideal.ieee], zero_add,
    Fin.sum_univ_castSucc]
  refine congrArg₂ (· + ·) (Finset.sum_congr rfl fun j _ => ?_) ?_
  · rw [e, exp_apply, dif_pos (show (Fin.castSucc j).val < 640 from j.isLt)]
    rfl
  · rw [e, exp_apply, dif_neg (by show ¬ 640 < 640; omega)]

theorem prob_apply (b : Fin 8) (n : Fin 16) (h : Fin 16) (r : Fin 128) (j : Fin 640) :
    val_main_v174 x sk (ix5 b n h r j) = Ideal.exp (scores x b n r h j - kMax (scores x b n r h) (sk (ix1 h)))
      * Ideal.div 1 ((∑ j, Ideal.exp (scores x b n r h j - kMax (scores x b n r h) (sk (ix1 h))))
      + Ideal.exp (sk (ix1 h) - kMax (scores x b n r h) (sk (ix1 h)))) := by
  rw [val_main_v174_apply, val_main_v173_apply, val_main_v172_apply,
    show idx_main_v174 (ix5 b n h r j) = ix5 b n h r ⟨j.val, by omega⟩ from (eq_ix5 _).trans rfl,
    show idx_main_v172 (ix5 b n h r ⟨j.val, by omega⟩) = ix5 b n h r 0 from (eq_ix5 _).trans rfl, inv_apply, exp_apply,
    dif_pos (show j.val < 640 from j.isLt)]
  rfl

/-- The reference's result. -/
theorem result_apply (b : Fin 8) (n : Fin 16) (r : Fin 128) (h : Fin 16) (d : Fin 64) :
    val_main_v188 x sk (ix2 ⟨b.val * 2048 + (n.val * 128 + r.val), by omega⟩ ⟨h.val * 64 + d.val, by omega⟩)
      = attn (fun i e => x (ix2 i e)) cr sr cc sc (fun h => sk (ix1 h)) b n r h d := by
  have hb := b.isLt
  have hn := n.isLt
  have hr := r.isLt
  have hh := h.isLt
  have hd := d.isLt
  rw [val_main_v188_apply, val_main_v187_apply, val_main_v186_apply]
  have e : idx_main_v186 (idx_main_v187 (ix2 (⟨b.val * 2048 + (n.val * 128 + r.val), by omega⟩ : Fin 16384) (⟨h.val * 64 + d.val, by omega⟩ : Fin 1024)))
      = ix5 b n h d r := by
    refine (eq_ix5 _).trans (ix5_congr (Fin.ext ?_) (Fin.ext ?_) (Fin.ext ?_) (Fin.ext ?_) (Fin.ext ?_))
    · show ((b.val * 2048 + (n.val * 128 + r.val)) * 1024 + (h.val * 64 + d.val)) / 2097152 = b.val
      omega
    · show ((b.val * 2048 + (n.val * 128 + r.val)) * 1024 + (h.val * 64 + d.val)) / 131072 % 16 = n.val
      omega
    · show ((b.val * 2048 + (n.val * 128 + r.val)) * 1024 + (h.val * 64 + d.val)) / 64 % 16 = h.val
      omega
    · show ((b.val * 2048 + (n.val * 128 + r.val)) * 1024 + (h.val * 64 + d.val)) % 64 = d.val
      omega
    · show ((b.val * 2048 + (n.val * 128 + r.val)) * 1024 + (h.val * 64 + d.val)) / 1024 % 128 = r.val
      omega
  rw [e, val_main_v185_apply]
  have e1 : ∀ j : Fin 640, lidx_main_v185 (ix5 b n h d r) j = ix5 b n j h d := fun j => (eq_ix5 _).trans rfl
  have e2 : ∀ j : Fin 640, ridx_main_v185 (ix5 b n h d r) j = ix5 b n h r j := fun j => (eq_ix5 _).trans rfl
  simp only [e1, e2, prob_apply]
  rw [attn, refOut_congr _ _ _ (fun j => val_main_v184 x (ix5 b n j h d)) (fun j => ?_)]
  · exact Finset.sum_congr rfl fun j _ => mul_comm _ _
  · by_cases hj : ok n r j = true
    · exact Or.inr (value_ok _ _ _ _ _ _ _ hj).symm
    · exact Or.inl (if_neg hj)

end Cert.SwaRefIdeal.Hand

end
-- ==== Proof.Swa.Equal.lean ====
/- The attention kernel and its reference end with the same array. -/
module

public import proofs.«01_k».proof.Defs
public import proofs.«01_k».proof.Proof.Swa.Array
public import proofs.«01_k».proof.Proof.Swa.RefOut
public import proofs.«01_k».proof.Proof.Gen.SwaRefIdeal.Run

@[expose] public section

set_option maxRecDepth 16384

noncomputable section

namespace Cert.SwaIdeal.Hand

open Cert.SwaIdeal.Gen Cert.SwaModel Idealize.ShloMosaic Idealize.ShloMosaic.TcCoe Idealize.SL.Sem

/-- The kernel's result array is the reference's, at the kernel's arguments. -/
theorem result_eq (m : (ℓ : Loc nD τ sig) → Buf (Elt Ideal) ℓ) (c : Dev nD) :
    result m c = SwaRefIdeal.Read.val_main_v188 (argX m c) (argS m c) := by
  funext i
  obtain ⟨R, l, rfl⟩ : ∃ (R : Fin 16384) (l : Fin 1024), i = ix2 R l := ⟨i 0, i 1, by funext a; fin_cases a <;> rfl⟩
  have hk := result_apply m c ⟨R.val / 2048, by omega⟩ ⟨R.val / 128 % 16, by omega⟩ ⟨R.val % 128, by omega⟩ ⟨l.val / 64, by omega⟩ ⟨l.val % 64, by omega⟩
  have hr := SwaRefIdeal.Hand.result_apply (argX m c) (argS m c) ⟨R.val / 2048, by omega⟩ ⟨R.val / 128 % 16, by omega⟩ ⟨R.val % 128, by omega⟩
    ⟨l.val / 64, by omega⟩ ⟨l.val % 64, by omega⟩
  have e1 : (⟨R.val / 2048 * 2048 + (R.val / 128 % 16 * 128 + R.val % 128), by omega⟩ : Fin 16384) = R :=
    Fin.ext (by show R.val / 2048 * 2048 + (R.val / 128 % 16 * 128 + R.val % 128) = R.val; omega)
  have e2 : (⟨l.val / 64 * 64 + l.val % 64, by omega⟩ : Fin 1024) = l := Fin.ext (by show l.val / 64 * 64 + l.val % 64 = l.val; omega)
  dsimp only at hk hr
  rw [e1, e2] at hk hr
  exact hk.trans hr.symm

/-- The value claim of the attention. -/
theorem claim : Cert.algebraic_SwaIdeal_SwaRefIdeal (hSwaIdeal := SwaIdeal.Gen.facts) (hSwaRefIdeal := SwaRefIdeal.Gen.facts) := by
  intro m g m' g' _ hagree
  refine ⟨fun c => result m c, run m g, ?_⟩
  refine (θ_run _ _ _).mono (fun r h c => ?_) (SwaRefIdeal.Value.run m' g')
  obtain ⟨h0, hrest⟩ := h c
  refine ⟨h0.trans ?_, hrest⟩
  obtain ⟨a0, a1⟩ := hagree c
  refine (SwaRefIdeal.Read.val_main_v188_eq (StableHlo.launchContents m' c)).trans ?_
  refine (congrArg₂ (SwaRefIdeal.Read.val_main_v188 (F := Ideal)) a0 a1).trans ?_
  exact (result_eq m c).symm

end Cert.SwaIdeal.Hand

end
-- ==== Proof.SwaIn.Array.lean ====
/- The attention layer's in-projection: the block of one point, and the result array. -/
module

public import proofs.«01_k».proof.Proof.Gen.SwaInIdeal.Frame
public import proofs.«01_k».proof.Proof.Mlp.Model
public import Idealize.ShloMosaic.Lib.Pipeline.ValueKit
public import Idealize.ShloMosaic.Lib.Pipeline.ReadBack

@[expose] public section

set_option maxRecDepth 16384

noncomputable section

namespace Cert.SwaInIdeal.Hand

open Cert.SwaInIdeal Cert.SwaInIdeal.Gen Cert.MlpModel Idealize.ShloMosaic Idealize.ShloMosaic.TcCoe Idealize.SL.Sem
open Idealize.ShloMosaic.Pipeline (Dat)

theorem idx0 : ∀ t : Fin cfg0.N, win0_0.index t = ![t.val, 0] :=
  (by decide +kernel : ∀ t : Fin grid0.N, win0_0.index t = ![t.val, 0])

theorem idx1 : ∀ t : Fin cfg0.N, win0_1.index t = ![0, 0] :=
  (by decide +kernel : ∀ t : Fin grid0.N, win0_1.index t = ![0, 0])

theorem idx2 : ∀ t : Fin cfg0.N, win0_2.index t = ![288 + t.val / 2 * 6 + 0, 0, 0] :=
  (by decide +kernel : ∀ t : Fin grid0.N, win0_2.index t = ![288 + t.val / 2 * 6 + 0, 0, 0])

theorem idx3 : ∀ t : Fin cfg0.N, win0_3.index t = ![288 + t.val / 2 * 6 + 1, 0, 0] :=
  (by decide +kernel : ∀ t : Fin grid0.N, win0_3.index t = ![288 + t.val / 2 * 6 + 1, 0, 0])

theorem idx4 : ∀ t : Fin cfg0.N, win0_4.index t = ![0, 0] :=
  (by decide +kernel : ∀ t : Fin grid0.N, win0_4.index t = ![0, 0])

theorem idx5 : ∀ t : Fin cfg0.N, win0_5.index t = ![t.val, 0] :=
  (by decide +kernel : ∀ t : Fin grid0.N, win0_5.index t = ![t.val, 0])

variable (m : (ℓ : Loc nD τ sig) → Buf (Elt Ideal) ℓ) (c : Dev nD)

/-- The stream. -/
abbrev argX : Vec Ideal S18432x1024 .f32 := m ((c : Thread nD τ).loc main_arg0)
/-- The gain of the norm. -/
abbrev argG : Vec Ideal S1024 .f32 := m ((c : Thread nD τ).loc main_arg1)
/-- The modulation. -/
abbrev argM : Vec Ideal S384x1x1024 .f32 := m ((c : Thread nD τ).loc main_arg2)
/-- The weight. -/
abbrev argW : Vec Ideal S1024x1536 .f32 := m ((c : Thread nD τ).loc main_arg3)

/-- The grid has 18 points. -/
theorem ltN (t : Fin cfg0.N) : t.val < 18 := lt_of_lt_of_eq t.isLt (show cfg0.N = 18 from N_0)

/-- The row tile of a point. -/
abbrev tile (t : Fin cfg0.N) : Fin 18 := ⟨t.val, by have := ltN t; omega⟩

/-- Row `r` of tile `q` in the stream. -/
abbrev tileRow (q : Fin 18) (r : Fin 1024) : Fin 18432 := ⟨q.val * 1024 + r.val, by omega⟩

/-- Column `n` of a point's tile of columns. -/
abbrev tileCol (t : Fin cfg0.N) (n : Fin 1536) : Fin 1536 := ⟨n.val, by omega⟩

/-- Row of the modulation array: vector number `v` of the batch that row `R` lies in. -/
abbrev modRow (R : Fin 18432) (v : Fin 6) : Fin 384 := ⟨288 + R.val / 2048 * 6 + v.val, by omega⟩

theorem read0 (t : Fin cfg0.N) (r d : Fin 1024) : iblk m c 0 t (ix2 r d) = argX m c (ix2 (tileRow (tile t) r) d) := by
  have := ltN t
  blk_ext [iblk, V, idx0 t]

theorem read1 (t : Fin cfg0.N) (d : Fin 1024) : iblk m c 1 t (ix2 0 d) = argG m c (ix1 d) := by
  blk_ext! [iblk, V, idx1 t]

theorem read2 (t : Fin cfg0.N) (r d : Fin 1024) :
    iblk m c 2 t (ix3 0 0 d) = argM m c (ix3 (modRow (tileRow (tile t) r) 0) 0 d) := by
  have := ltN t
  blk_ext [iblk, V, idx2 t]

theorem read3 (t : Fin cfg0.N) (r d : Fin 1024) :
    iblk m c 3 t (ix3 0 0 d) = argM m c (ix3 (modRow (tileRow (tile t) r) 1) 0 d) := by
  have := ltN t
  blk_ext [iblk, V, idx3 t]

theorem read4 (t : Fin cfg0.N) (d : Fin 1024) (n : Fin 1536) :
    iblk m c 4 t (ix2 d n) = argW m c (ix2 d (tileCol t n)) := by
  have := ltN t
  blk_ext! [iblk, V, idx4 t]

/-- Row `R` of the stream, normed and modulated. -/
def hrow (R : Fin 18432) : Fin 1024 → EReal :=
  modulated (fun k => argX m c (ix2 R k)) (fun k => argG m c (ix1 k)) (fun k => argM m c (ix3 (modRow R 0) 0 k))
    (fun k => argM m c (ix3 (modRow R 1) 0 k))

/-- The kernel's result array. -/
def result : Vec Ideal S18432x1536 .bf16 := fun i => ∑ d : Fin 1024, hrow m c (i 0) d * argW m c (ix2 d (i 1))

/-- The rows' payload at an index. -/
theorem pay1_apply (x : Vec Ideal S1024x1024 .f32) (g : Vec Ideal S1x1024 .f32) (sh sc : Vec Ideal S1x1x1024 .f32)
    (r d : Fin 1024) :
    k0_pay1 x g sh sc (ix2 r d) = modulated (fun k => x (ix2 r k)) (fun k => g (ix2 0 k)) (fun k => sh (ix3 0 0 k))
      (fun k => sc (ix3 0 0 k)) d := by
  pointwise [k0_pay1, modulated, rms]

/-- The output's payload at an index. -/
theorem pay2_apply (h : Vec Ideal S1024x1024 .bf16) (w : Vec Ideal S1024x1536 .bf16) (r : Fin 1024) (n : Fin 1536) :
    k0_pay2 h w (ix2 r n) = ∑ d : Fin 1024, h (ix2 r d) * w (ix2 d n) := by
  pointwise [k0_pay2]

/-- The rows' payload is the tile's normed rows. -/
theorem rows_pay (t : Fin cfg0.N) (r d : Fin 1024) :
    k0_pay1 (iblk m c 0 t) (iblk m c 1 t) (iblk m c 2 t) (iblk m c 3 t) (ix2 r d) = hrow m c (tileRow (tile t) r) d := by
  rw [pay1_apply]
  simp only [read0, read1, read2 m c t r, read3 m c t r]
  rfl

/-- The output's payload over rows that hold the tile's normed rows. -/
theorem out_pay (t : Fin cfg0.N) (h : Vec Ideal S1024x1024 .bf16) (r : Fin 1024) (n : Fin 1536)
    (hh : ∀ d, h (ix2 r d) = hrow m c (tileRow (tile t) r) d) :
    k0_pay2 h (iblk m c 4 t) (ix2 r n) = result m c (ix2 (tileRow (tile t) r) (tileCol t n)) := by
  rw [pay2_apply]
  simp only [hh, read4]
  rfl

/-- The output block of a point. -/
theorem out_eq (t : Fin cfg0.N) :
    outsAt0 m c t = k0_pay2 (k0_pay1 (iblk m c 0 t) (iblk m c 1 t) (iblk m c 2 t) (iblk m c 3 t)) (iblk m c 4 t) := by
  unfold outsAt0
  frame_out

/-- The output block of a point at an index. -/
theorem out_block (t : Fin cfg0.N) (r : Fin 1024) (n : Fin 1536) :
    outsAt0 m c t (ix2 r n) = result m c (ix2 (tileRow (tile t) r) (tileCol t n)) :=
  (congrFun (out_eq m c t) _).trans (out_pay m c t _ r n fun d => rows_pay m c t r d)

/-- The output window's array after the run. -/
theorem final : (dats m 0 c).arrAt 5 cfg0.N = result m c := by
  refine (dats m 0 c).arrAt_eq_of_covers 5 _ (by decide +kernel) fun t hf y => ?_
  have := ltN t
  obtain ⟨r, n, rfl⟩ : ∃ (r : Fin 1024) (n : Fin 1536), y = ix2 r n := ⟨y 0, y 1, by funext a; fin_cases a <;> rfl⟩
  have key : ((cfg0.win 5).blk t).view.emb (ix2 r n) = ix2 (tileRow (tile t) r) (tileCol t n) := by
    blk_ext [idx5 t]
  blk_simp
  rw [after0_5]
  exact (out_block m c t r n).trans (congrArg (result m c) key.symm)

variable (ρ : Dev nD → PrngReg)

/-- The kernel's run: the result array, the arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.SwaInIdeal.Hand

end
-- ==== Proof.SwaIn.Ref.lean ====
/- The reference of the attention layer's in-projection read at an index. -/
module

public import proofs.«01_k».proof.Proof.Gen.SwaInRefIdeal.Read
public import proofs.«01_k».proof.Proof.Mlp.Model

@[expose] public section

set_option maxRecDepth 16384

noncomputable section

namespace Cert.SwaInRefIdeal.Hand

open Cert.SwaInRefIdeal Cert.SwaInRefIdeal.Gen Cert.SwaInRefIdeal.Read Cert.MlpModel Idealize.ShloMosaic Idealize.ShloMosaic.TcCoe
open Idealize.SL.Sem

variable (x : Vec Ideal S18432x1024 .f32) (g : Vec Ideal S1024 .f32) (md : Vec Ideal S384x1x1024 .f32)
  (w : Vec Ideal S1024x1536 .f32)

/-- Row of the modulation array: vector number `v` of the batch that row `R` lies in (of the context, past the batches). -/
abbrev modRow (R : Fin 18432) (v : Fin 6) : Fin 384 := ⟨288 + R.val / 2048 * 6 + v.val, by omega⟩

/-- Row `R` of the stream, normed and modulated. -/
def hrow (R : Fin 18432) : Fin 1024 → EReal :=
  modulated (fun k => x (ix2 R k)) (fun k => g (ix1 k)) (fun k => md (ix3 (modRow R 0) 0 k)) (fun k => md (ix3 (modRow R 1) 0 k))

/-- Row `l` of batch `b` in the stream. -/
abbrev flat (b : Fin 8) (l : Fin 2048) : Fin 18432 := ⟨b.val * 2048 + l.val, by omega⟩

/-- Row `r` of the context in the stream. -/
abbrev ctx (r : Fin 2048) : Fin 18432 := ⟨16384 + r.val, by omega⟩

/-- A layer's modulation vectors. -/
theorem vec_apply (b : Fin 16) (v : Fin 6) (d : Fin 1024) :
    val_main_v2 md (ix3 b v d) = md (ix3 ⟨288 + b.val * 6 + v.val, by omega⟩ 0 d) := by
  pointwise [val_main_v2, val_main_v1, val_main_v0]

/-- The latent rows. -/
theorem stream_apply (b : Fin 8) (l : Fin 2048) (d : Fin 1024) : val_main_v4 x (ix3 b l d) = x (ix2 (flat b l) d) := by
  pointwise [val_main_v4, val_main_v3]

/-- The shift and the scale of the latent rows. -/
theorem shift_apply (b : Fin 8) (l : Fin 2048) (d : Fin 1024) : val_main_v27 md (ix3 b 0 d) = md (ix3 (modRow (flat b l) 0) 0 d) := by
  have e : (b.val * 2048 + l.val) / 2048 = b.val := by omega
  pointwise [val_main_v27, val_main_v26, val_main_v25]
  refine (vec_apply md _ _ d).trans (congrArg (fun a => md (ix3 a 0 d)) (Fin.ext ?_))
  simp [e]

theorem scale_apply (b : Fin 8) (l : Fin 2048) (d : Fin 1024) : val_main_v20 md (ix3 b 0 d) = md (ix3 (modRow (flat b l) 1) 0 d) := by
  have e : (b.val * 2048 + l.val) / 2048 = b.val := by omega
  pointwise [val_main_v20, val_main_v19, val_main_v18]
  refine (vec_apply md _ _ d).trans (congrArg (fun a => md (ix3 a 0 d)) (Fin.ext ?_))
  simp [e]

/-- A latent row, normed and modulated. -/
theorem lat_apply (b : Fin 8) (l : Fin 2048) (d : Fin 1024) : val_main_v29 x g md (ix3 b l d) = hrow x g md (flat b l) d := by
  pointwise [val_main_v29, val_main_v28, val_main_v24, val_main_v23, val_main_v22, val_main_v21, val_main_cst_2,
    val_main_v17, val_main_v16, val_main_v15, val_main_v14, val_main_v13, val_main_v12, val_main_v11, val_main_v10,
    val_main_cst_1, val_main_v9, val_main_v8, val_main_cst_0, val_main_v7, val_main_v6, val_main_cst, val_main_v5,
    hrow, modulated, rms]
  simp only [stream_apply, shift_apply md b l, scale_apply md b l, zero_add]

/-- The context rows. -/
theorem cstream_apply (r : Fin 2048) (d : Fin 1024) : val_main_v30 x (ix2 r d) = x (ix2 (ctx r) d) := by
  pointwise [val_main_v30]

/-- The shift and the scale of the context rows. -/
theorem cshift_apply (r : Fin 2048) (d : Fin 1024) : val_main_v52 md (ix1 d) = md (ix3 (modRow (ctx r) 0) 0 d) := by
  have e : (16384 + r.val) / 2048 = 8 := by omega
  pointwise [val_main_v52, val_main_v51]
  refine (vec_apply md _ _ d).trans (congrArg (fun a => md (ix3 a 0 d)) (Fin.ext ?_))
  simp [e]

theorem cscale_apply (r : Fin 2048) (d : Fin 1024) : val_main_v45 md (ix1 d) = md (ix3 (modRow (ctx r) 1) 0 d) := by
  have e : (16384 + r.val) / 2048 = 8 := by omega
  pointwise [val_main_v45, val_main_v44]
  refine (vec_apply md _ _ d).trans (congrArg (fun a => md (ix3 a 0 d)) (Fin.ext ?_))
  simp [e]

/-- A context row, normed and modulated. -/
theorem ctx_apply (r : Fin 2048) (d : Fin 1024) : val_main_v55 x g md (ix2 r d) = hrow x g md (ctx r) d := by
  pointwise [val_main_v55, val_main_v54, val_main_v53, val_main_v50, val_main_v49, val_main_v48, val_main_v47, val_main_v46,
    val_main_cst_6, val_main_v43, val_main_v42, val_main_v41, val_main_v40, val_main_v39, val_main_v38, val_main_v37,
    val_main_v36, val_main_cst_5, val_main_v35, val_main_v34, val_main_cst_4, val_main_v33, val_main_v32, val_main_cst_3,
    val_main_v31, hrow, modulated, rms]
  simp only [cstream_apply, cshift_apply md r, cscale_apply md r, zero_add]

/-- The two parts joined. -/
theorem cat_apply (A : FVec Ideal S16384x1024 .f32) (B : FVec Ideal S2048x1024 .f32) (h : Fin 18432 → Fin 1024 → EReal)
    (hA : ∀ (r : Fin 16384) d, A (ix2 r d) = h ⟨r.val, by omega⟩ d) (hB : ∀ r d, B (ix2 r d) = h (ctx r) d) (R : Fin 18432)
    (d : Fin 1024) :
    concatenate S18432x1024 0 [⟨S16384x1024, A⟩, ⟨S2048x1024, B⟩] concatenates_S16384x1024_S2048x1024_S18432x1024_d0 (ix2 R d)
      = h R d := by
  pointwise []
  by_cases h1 : R.val < 16384
  · rw [dif_pos h1]; exact hA _ d
  · rw [dif_neg h1]
    refine (hB _ d).trans (congrArg (fun a => h a d) (Fin.ext ?_))
    show 16384 + (R.val - 16384) = R.val
    omega

/-- Every row, normed and modulated. -/
theorem row_apply (R : Fin 18432) (d : Fin 1024) : val_main_v57 x g md (ix2 R d) = hrow x g md R d := by
  unfold val_main_v57
  refine cat_apply _ _ (hrow x g md) (fun r d => ?_) (fun r d => ctx_apply x g md r d) R d
  have e2 : flat ⟨r.val / 2048, by omega⟩ ⟨r.val % 2048, by omega⟩ = ⟨r.val, by omega⟩ :=
    Fin.ext (by show r.val / 2048 * 2048 + r.val % 2048 = r.val; omega)
  pointwise [val_main_v56]
  exact (lat_apply x g md _ _ d).trans (congrArg (fun a => hrow x g md a d) e2)

/-- The reference's result. -/
theorem result_apply (R : Fin 18432) (n : Fin 1536) :
    val_main_v59 x g md w (ix2 R n) = ∑ d : Fin 1024, hrow x g md R d * w (ix2 d n) := by
  pointwise [val_main_v59, val_main_v58]
  simp only [row_apply]

end Cert.SwaInRefIdeal.Hand

end
-- ==== Proof.SwaIn.Equal.lean ====
/- The attention layer's in-projection and its reference end with the same array. -/
module

public import proofs.«01_k».proof.Defs
public import proofs.«01_k».proof.Proof.SwaIn.Array
public import proofs.«01_k».proof.Proof.SwaIn.Ref
public import proofs.«01_k».proof.Proof.Gen.SwaInRefIdeal.Run

@[expose] public section

set_option maxRecDepth 16384

noncomputable section

namespace Cert.SwaInIdeal.Hand

open Cert.SwaInIdeal.Gen Idealize.ShloMosaic Idealize.ShloMosaic.TcCoe Idealize.SL.Sem

/-- The kernel's result array is the reference's, at the kernel's arguments. -/
theorem result_eq (m : (ℓ : Loc nD τ sig) → Buf (Elt Ideal) ℓ) (c : Dev nD) :
    result m c = SwaInRefIdeal.Read.val_main_v59 (argX m c) (argG m c) (argM m c) (argW m c) := by
  funext i
  obtain ⟨R, n, rfl⟩ : ∃ (R : Fin 18432) (n : Fin 1536), i = ix2 R n := ⟨i 0, i 1, by funext a; fin_cases a <;> rfl⟩
  exact (SwaInRefIdeal.Hand.result_apply (argX m c) (argG m c) (argM m c) (argW m c) R n).symm

/-- The value claim of the in-projection. -/
theorem claim : Cert.algebraic_SwaInIdeal_SwaInRefIdeal (hSwaInIdeal := SwaInIdeal.Gen.facts)
    (hSwaInRefIdeal := SwaInRefIdeal.Gen.facts) := by
  intro m g m' g' _ hagree
  refine ⟨fun c => result m c, run m g, ?_⟩
  refine (θ_run _ _ _).mono (fun r h c => ?_) (SwaInRefIdeal.Value.run m' g')
  obtain ⟨h0, hrest⟩ := h c
  refine ⟨h0.trans ?_, hrest⟩
  obtain ⟨a0, a1, a2, a3⟩ := hagree c
  rw [SwaInRefIdeal.Read.val_main_v59_eq m' c, a0, a1, a2, a3]
  exact (result_eq m c).symm

end Cert.SwaInIdeal.Hand

end
-- ==== Proof.RetIn.Array.lean ====
/- The retention layer's in-projection: the block of one point, and the result array. -/
module

public import proofs.«01_k».proof.Proof.Gen.RetInIdeal.Frame
public import proofs.«01_k».proof.Proof.Mlp.Model
public import Idealize.ShloMosaic.Lib.Pipeline.ValueKit
public import Idealize.ShloMosaic.Lib.Pipeline.ReadBack

@[expose] public section

set_option maxRecDepth 16384

noncomputable section

namespace Cert.RetInIdeal.Hand

open Cert.RetInIdeal Cert.RetInIdeal.Gen Cert.MlpModel Idealize.ShloMosaic Idealize.ShloMosaic.TcCoe Idealize.SL.Sem
open Idealize.ShloMosaic.Pipeline (Dat)

theorem idx0 : ∀ t : Fin cfg0.N, win0_0.index t = ![t.val / 3, 0] :=
  (by decide +kernel : ∀ t : Fin grid0.N, win0_0.index t = ![t.val / 3, 0])

theorem idx1 : ∀ t : Fin cfg0.N, win0_1.index t = ![0, 0] :=
  (by decide +kernel : ∀ t : Fin grid0.N, win0_1.index t = ![0, 0])

theorem idx2 : ∀ t : Fin cfg0.N, win0_2.index t = ![96 + t.val / 6 * 6 + 0, 0, 0] :=
  (by decide +kernel : ∀ t : Fin grid0.N, win0_2.index t = ![96 + t.val / 6 * 6 + 0, 0, 0])

theorem idx3 : ∀ t : Fin cfg0.N, win0_3.index t = ![96 + t.val / 6 * 6 + 1, 0, 0] :=
  (by decide +kernel : ∀ t : Fin grid0.N, win0_3.index t = ![96 + t.val / 6 * 6 + 1, 0, 0])

theorem idx4 : ∀ t : Fin cfg0.N, win0_4.index t = ![0, t.val % 3] :=
  (by decide +kernel : ∀ t : Fin grid0.N, win0_4.index t = ![0, t.val % 3])

theorem idx5 : ∀ t : Fin cfg0.N, win0_5.index t = ![t.val / 3, t.val % 3] :=
  (by decide +kernel : ∀ t : Fin grid0.N, win0_5.index t = ![t.val / 3, t.val % 3])

variable (m : (ℓ : Loc nD τ sig) → Buf (Elt Ideal) ℓ) (c : Dev nD)

/-- The stream. -/
abbrev argX : Vec Ideal S18432x1024 .f32 := m ((c : Thread nD τ).loc main_arg0)
/-- The gain of the norm. -/
abbrev argG : Vec Ideal S1024 .f32 := m ((c : Thread nD τ).loc main_arg1)
/-- The modulation. -/
abbrev argM : Vec Ideal S384x1x1024 .f32 := m ((c : Thread nD τ).loc main_arg2)
/-- The weight. -/
abbrev argW : Vec Ideal S1024x6144 .f32 := m ((c : Thread nD τ).loc main_arg3)

/-- The grid has 54 points. -/
theorem ltN (t : Fin cfg0.N) : t.val < 54 := lt_of_lt_of_eq t.isLt (show cfg0.N = 54 from N_0)

/-- The row tile of a point. -/
abbrev tile (t : Fin cfg0.N) : Fin 18 := ⟨t.val / 3, by have := ltN t; omega⟩

/-- Row `r` of tile `q` in the stream. -/
abbrev tileRow (q : Fin 18) (r : Fin 1024) : Fin 18432 := ⟨q.val * 1024 + r.val, by omega⟩

/-- Column `n` of a point's tile of columns. -/
abbrev tileCol (t : Fin cfg0.N) (n : Fin 2048) : Fin 6144 := ⟨t.val % 3 * 2048 + n.val, by omega⟩

/-- Row of the modulation array: vector number `v` of the batch that row `R` lies in. -/
abbrev modRow (R : Fin 18432) (v : Fin 6) : Fin 384 := ⟨96 + R.val / 2048 * 6 + v.val, by omega⟩

theorem read0 (t : Fin cfg0.N) (r d : Fin 1024) : iblk m c 0 t (ix2 r d) = argX m c (ix2 (tileRow (tile t) r) d) := by
  have := ltN t
  blk_ext [iblk, V, idx0 t]

theorem read1 (t : Fin cfg0.N) (d : Fin 1024) : iblk m c 1 t (ix2 0 d) = argG m c (ix1 d) := by
  blk_ext! [iblk, V, idx1 t]

theorem read2 (t : Fin cfg0.N) (r d : Fin 1024) :
    iblk m c 2 t (ix3 0 0 d) = argM m c (ix3 (modRow (tileRow (tile t) r) 0) 0 d) := by
  have := ltN t
  blk_ext [iblk, V, idx2 t]

theorem read3 (t : Fin cfg0.N) (r d : Fin 1024) :
    iblk m c 3 t (ix3 0 0 d) = argM m c (ix3 (modRow (tileRow (tile t) r) 1) 0 d) := by
  have := ltN t
  blk_ext [iblk, V, idx3 t]

theorem read4 (t : Fin cfg0.N) (d : Fin 1024) (n : Fin 2048) :
    iblk m c 4 t (ix2 d n) = argW m c (ix2 d (tileCol t n)) := by
  have := ltN t
  blk_ext! [iblk, V, idx4 t]

/-- Row `R` of the stream, normed and modulated. -/
def hrow (R : Fin 18432) : Fin 1024 → EReal :=
  modulated (fun k => argX m c (ix2 R k)) (fun k => argG m c (ix1 k)) (fun k => argM m c (ix3 (modRow R 0) 0 k))
    (fun k => argM m c (ix3 (modRow R 1) 0 k))

/-- The kernel's result array. -/
def result : Vec Ideal S18432x6144 .bf16 := fun i => ∑ d : Fin 1024, hrow m c (i 0) d * argW m c (ix2 d (i 1))

/-- The rows' payload at an index. -/
theorem pay1_apply (x : Vec Ideal S1024x1024 .f32) (g : Vec Ideal S1x1024 .f32) (sh sc : Vec Ideal S1x1x1024 .f32)
    (r d : Fin 1024) :
    k0_pay1 x g sh sc (ix2 r d) = modulated (fun k => x (ix2 r k)) (fun k => g (ix2 0 k)) (fun k => sh (ix3 0 0 k))
      (fun k => sc (ix3 0 0 k)) d := by
  pointwise [k0_pay1, modulated, rms]

/-- The output's payload at an index. -/
theorem pay2_apply (h : Vec Ideal S1024x1024 .bf16) (w : Vec Ideal S1024x2048 .bf16) (r : Fin 1024) (n : Fin 2048) :
    k0_pay2 h w (ix2 r n) = ∑ d : Fin 1024, h (ix2 r d) * w (ix2 d n) := by
  pointwise [k0_pay2]

/-- The rows' payload is the tile's normed rows. -/
theorem rows_pay (t : Fin cfg0.N) (r d : Fin 1024) :
    k0_pay1 (iblk m c 0 t) (iblk m c 1 t) (iblk m c 2 t) (iblk m c 3 t) (ix2 r d) = hrow m c (tileRow (tile t) r) d := by
  rw [pay1_apply]
  simp only [read0, read1, read2 m c t r, read3 m c t r]
  rfl

/-- The output's payload over rows that hold the tile's normed rows. -/
theorem out_pay (t : Fin cfg0.N) (h : Vec Ideal S1024x1024 .bf16) (r : Fin 1024) (n : Fin 2048)
    (hh : ∀ d, h (ix2 r d) = hrow m c (tileRow (tile t) r) d) :
    k0_pay2 h (iblk m c 4 t) (ix2 r n) = result m c (ix2 (tileRow (tile t) r) (tileCol t n)) := by
  rw [pay2_apply]
  simp only [hh, read4]
  rfl

/-- The first point of a row tile leaves the normed rows in the scratch. -/
theorem rows_first (t : Fin cfg0.N) (h0 : t.val % 3 = 0) :
    (outsAt0 m c t.val t.isLt).2 = k0_pay1 (iblk m c 0 t) (iblk m c 1 t) (iblk m c 2 t) (iblk m c 3 t) := by
  rw [outsAt0_A m c t h0]; frame_out

/-- The first point of a row tile projects the rows that it computed. -/
theorem out_first (t : Fin cfg0.N) (h0 : t.val % 3 = 0) :
    (outsAt0 m c t.val t.isLt).1
      = k0_pay2 (k0_pay1 (iblk m c 0 t) (iblk m c 1 t) (iblk m c 2 t) (iblk m c 3 t)) (iblk m c 4 t) := by
  rw [outsAt0_A m c t h0]; frame_out

/-- A later point keeps the rows. -/
theorem rows_later (t : Fin cfg0.N) (h0 : ¬t.val % 3 = 0) :
    (outsAt0 m c t.val t.isLt).2 = (outsAt0 m c (t.val - 1) (Nat.lt_of_le_of_lt (Nat.sub_le _ _) t.isLt)).2 := by
  rw [outsAt0_B m c t h0]; rfl

/-- A later point projects the rows that it found. -/
theorem out_later (t : Fin cfg0.N) (h0 : ¬t.val % 3 = 0) :
    (outsAt0 m c t.val t.isLt).1
      = k0_pay2 (outsAt0 m c (t.val - 1) (Nat.lt_of_le_of_lt (Nat.sub_le _ _) t.isLt)).2 (iblk m c 4 t) := by
  rw [outsAt0_B m c t h0]; frame_out; simp only [read_unread_whole]

/-- The scratch after a point: the tile's normed rows. -/
theorem held : ∀ (n : ℕ) (hn : n < cfg0.N) (r d : Fin 1024),
    (outsAt0 m c n hn).2 (ix2 r d) = hrow m c (tileRow (tile ⟨n, hn⟩) r) d := by
  intro n
  induction n with
  | zero =>
    intro hn r d
    exact (congrFun (rows_first m c ⟨0, hn⟩ rfl) _).trans (rows_pay m c ⟨0, hn⟩ r d)
  | succ n ih =>
    intro hn r d
    by_cases h0 : (n + 1) % 3 = 0
    · exact (congrFun (rows_first m c ⟨n + 1, hn⟩ h0) _).trans (rows_pay m c ⟨n + 1, hn⟩ r d)
    · have hn' : n < cfg0.N := Nat.lt_of_succ_lt hn
      have hq : tile ⟨n, hn'⟩ = tile ⟨n + 1, hn⟩ := Fin.ext (by show n / 3 = (n + 1) / 3; omega)
      refine (congrFun (rows_later m c ⟨n + 1, hn⟩ h0) _).trans ((ih hn' r d).trans ?_)
      rw [hq]

/-- The output block of a point at an index. -/
theorem out_block (t : Fin cfg0.N) (r : Fin 1024) (n : Fin 2048) :
    (outsAt0 m c t.val t.isLt).1 (ix2 r n) = result m c (ix2 (tileRow (tile t) r) (tileCol t n)) := by
  by_cases h0 : t.val % 3 = 0
  · exact (congrFun (out_first m c t h0) _).trans (out_pay m c t _ r n fun d => rows_pay m c t r d)
  · have hn' : t.val - 1 < cfg0.N := Nat.lt_of_le_of_lt (Nat.sub_le _ _) t.isLt
    have hq : tile ⟨t.val - 1, hn'⟩ = tile t := Fin.ext (by show (t.val - 1) / 3 = t.val / 3; omega)
    refine (congrFun (out_later m c t h0) _).trans (out_pay m c t _ r n fun d => ?_)
    rw [← hq]
    exact held m c _ hn' r d

/-- The output window's array after the run. -/
theorem final : (dats m 0 c).arrAt 5 cfg0.N = result m c := by
  refine (dats m 0 c).arrAt_eq_of_covers 5 _ (by decide +kernel) fun t hf y => ?_
  have := ltN t
  obtain ⟨r, n, rfl⟩ : ∃ (r : Fin 1024) (n : Fin 2048), y = ix2 r n := ⟨y 0, y 1, by funext a; fin_cases a <;> rfl⟩
  have key : ((cfg0.win 5).blk t).view.emb (ix2 r n) = ix2 (tileRow (tile t) r) (tileCol t n) := by
    blk_ext [idx5 t]
  blk_simp
  rw [after0_5]
  exact (out_block m c t r n).trans (congrArg (result m c) key.symm)

variable (ρ : Dev nD → PrngReg)

/-- The kernel's run: the result array, the arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.RetInIdeal.Hand

end
-- ==== Proof.RetIn.Ref.lean ====
/- The reference of the retention layer's in-projection read at an index. -/
module

public import proofs.«01_k».proof.Proof.Gen.RetInRefIdeal.Read
public import proofs.«01_k».proof.Proof.Mlp.Model

@[expose] public section

set_option maxRecDepth 16384

noncomputable section

namespace Cert.RetInRefIdeal.Hand

open Cert.RetInRefIdeal Cert.RetInRefIdeal.Gen Cert.RetInRefIdeal.Read Cert.MlpModel Idealize.ShloMosaic Idealize.ShloMosaic.TcCoe
open Idealize.SL.Sem

variable (x : Vec Ideal S18432x1024 .f32) (g : Vec Ideal S1024 .f32) (md : Vec Ideal S384x1x1024 .f32)
  (w : Vec Ideal S1024x6144 .f32)

/-- Row of the modulation array: vector number `v` of the batch that row `R` lies in (of the context, past the batches). -/
abbrev modRow (R : Fin 18432) (v : Fin 6) : Fin 384 := ⟨96 + R.val / 2048 * 6 + v.val, by omega⟩

/-- Row `R` of the stream, normed and modulated. -/
def hrow (R : Fin 18432) : Fin 1024 → EReal :=
  modulated (fun k => x (ix2 R k)) (fun k => g (ix1 k)) (fun k => md (ix3 (modRow R 0) 0 k)) (fun k => md (ix3 (modRow R 1) 0 k))

/-- Row `l` of batch `b` in the stream. -/
abbrev flat (b : Fin 8) (l : Fin 2048) : Fin 18432 := ⟨b.val * 2048 + l.val, by omega⟩

/-- Row `r` of the context in the stream. -/
abbrev ctx (r : Fin 2048) : Fin 18432 := ⟨16384 + r.val, by omega⟩

/-- A layer's modulation vectors. -/
theorem vec_apply (b : Fin 16) (v : Fin 6) (d : Fin 1024) :
    val_main_v2 md (ix3 b v d) = md (ix3 ⟨96 + b.val * 6 + v.val, by omega⟩ 0 d) := by
  pointwise [val_main_v2, val_main_v1, val_main_v0]

/-- The latent rows. -/
theorem stream_apply (b : Fin 8) (l : Fin 2048) (d : Fin 1024) : val_main_v4 x (ix3 b l d) = x (ix2 (flat b l) d) := by
  pointwise [val_main_v4, val_main_v3]

/-- The shift and the scale of the latent rows. -/
theorem shift_apply (b : Fin 8) (l : Fin 2048) (d : Fin 1024) : val_main_v27 md (ix3 b 0 d) = md (ix3 (modRow (flat b l) 0) 0 d) := by
  have e : (b.val * 2048 + l.val) / 2048 = b.val := by omega
  pointwise [val_main_v27, val_main_v26, val_main_v25]
  refine (vec_apply md _ _ d).trans (congrArg (fun a => md (ix3 a 0 d)) (Fin.ext ?_))
  simp [e]

theorem scale_apply (b : Fin 8) (l : Fin 2048) (d : Fin 1024) : val_main_v20 md (ix3 b 0 d) = md (ix3 (modRow (flat b l) 1) 0 d) := by
  have e : (b.val * 2048 + l.val) / 2048 = b.val := by omega
  pointwise [val_main_v20, val_main_v19, val_main_v18]
  refine (vec_apply md _ _ d).trans (congrArg (fun a => md (ix3 a 0 d)) (Fin.ext ?_))
  simp [e]

/-- A latent row, normed and modulated. -/
theorem lat_apply (b : Fin 8) (l : Fin 2048) (d : Fin 1024) : val_main_v29 x g md (ix3 b l d) = hrow x g md (flat b l) d := by
  pointwise [val_main_v29, val_main_v28, val_main_v24, val_main_v23, val_main_v22, val_main_v21, val_main_cst_2,
    val_main_v17, val_main_v16, val_main_v15, val_main_v14, val_main_v13, val_main_v12, val_main_v11, val_main_v10,
    val_main_cst_1, val_main_v9, val_main_v8, val_main_cst_0, val_main_v7, val_main_v6, val_main_cst, val_main_v5,
    hrow, modulated, rms]
  simp only [stream_apply, shift_apply md b l, scale_apply md b l, zero_add]

/-- The context rows. -/
theorem cstream_apply (r : Fin 2048) (d : Fin 1024) : val_main_v30 x (ix2 r d) = x (ix2 (ctx r) d) := by
  pointwise [val_main_v30]

/-- The shift and the scale of the context rows. -/
theorem cshift_apply (r : Fin 2048) (d : Fin 1024) : val_main_v52 md (ix1 d) = md (ix3 (modRow (ctx r) 0) 0 d) := by
  have e : (16384 + r.val) / 2048 = 8 := by omega
  pointwise [val_main_v52, val_main_v51]
  refine (vec_apply md _ _ d).trans (congrArg (fun a => md (ix3 a 0 d)) (Fin.ext ?_))
  simp [e]

theorem cscale_apply (r : Fin 2048) (d : Fin 1024) : val_main_v45 md (ix1 d) = md (ix3 (modRow (ctx r) 1) 0 d) := by
  have e : (16384 + r.val) / 2048 = 8 := by omega
  pointwise [val_main_v45, val_main_v44]
  refine (vec_apply md _ _ d).trans (congrArg (fun a => md (ix3 a 0 d)) (Fin.ext ?_))
  simp [e]

/-- A context row, normed and modulated. -/
theorem ctx_apply (r : Fin 2048) (d : Fin 1024) : val_main_v55 x g md (ix2 r d) = hrow x g md (ctx r) d := by
  pointwise [val_main_v55, val_main_v54, val_main_v53, val_main_v50, val_main_v49, val_main_v48, val_main_v47, val_main_v46,
    val_main_cst_6, val_main_v43, val_main_v42, val_main_v41, val_main_v40, val_main_v39, val_main_v38, val_main_v37,
    val_main_v36, val_main_cst_5, val_main_v35, val_main_v34, val_main_cst_4, val_main_v33, val_main_v32, val_main_cst_3,
    val_main_v31, hrow, modulated, rms]
  simp only [cstream_apply, cshift_apply md r, cscale_apply md r, zero_add]

/-- The two parts joined. -/
theorem cat_apply (A : FVec Ideal S16384x1024 .f32) (B : FVec Ideal S2048x1024 .f32) (h : Fin 18432 → Fin 1024 → EReal)
    (hA : ∀ (r : Fin 16384) d, A (ix2 r d) = h ⟨r.val, by omega⟩ d) (hB : ∀ r d, B (ix2 r d) = h (ctx r) d) (R : Fin 18432)
    (d : Fin 1024) :
    concatenate S18432x1024 0 [⟨S16384x1024, A⟩, ⟨S2048x1024, B⟩] concatenates_S16384x1024_S2048x1024_S18432x1024_d0 (ix2 R d)
      = h R d := by
  pointwise []
  by_cases h1 : R.val < 16384
  · rw [dif_pos h1]; exact hA _ d
  · rw [dif_neg h1]
    refine (hB _ d).trans (congrArg (fun a => h a d) (Fin.ext ?_))
    show 16384 + (R.val - 16384) = R.val
    omega

/-- Every row, normed and modulated. -/
theorem row_apply (R : Fin 18432) (d : Fin 1024) : val_main_v57 x g md (ix2 R d) = hrow x g md R d := by
  unfold val_main_v57
  refine cat_apply _ _ (hrow x g md) (fun r d => ?_) (fun r d => ctx_apply x g md r d) R d
  have e2 : flat ⟨r.val / 2048, by omega⟩ ⟨r.val % 2048, by omega⟩ = ⟨r.val, by omega⟩ :=
    Fin.ext (by show r.val / 2048 * 2048 + r.val % 2048 = r.val; omega)
  pointwise [val_main_v56]
  exact (lat_apply x g md _ _ d).trans (congrArg (fun a => hrow x g md a d) e2)

/-- The reference's result. -/
theorem result_apply (R : Fin 18432) (n : Fin 6144) :
    val_main_v59 x g md w (ix2 R n) = ∑ d : Fin 1024, hrow x g md R d * w (ix2 d n) := by
  pointwise [val_main_v59, val_main_v58]
  simp only [row_apply]

end Cert.RetInRefIdeal.Hand

end
-- ==== Proof.RetIn.Equal.lean ====
/- The retention layer's in-projection and its reference end with the same array. -/
module

public import proofs.«01_k».proof.Defs
public import proofs.«01_k».proof.Proof.RetIn.Array
public import proofs.«01_k».proof.Proof.RetIn.Ref
public import proofs.«01_k».proof.Proof.Gen.RetInRefIdeal.Run

@[expose] public section

set_option maxRecDepth 16384

noncomputable section

namespace Cert.RetInIdeal.Hand

open Cert.RetInIdeal.Gen Idealize.ShloMosaic Idealize.ShloMosaic.TcCoe Idealize.SL.Sem

/-- The kernel's result array is the reference's, at the kernel's arguments. -/
theorem result_eq (m : (ℓ : Loc nD τ sig) → Buf (Elt Ideal) ℓ) (c : Dev nD) :
    result m c = RetInRefIdeal.Read.val_main_v59 (argX m c) (argG m c) (argM m c) (argW m c) := by
  funext i
  obtain ⟨R, n, rfl⟩ : ∃ (R : Fin 18432) (n : Fin 6144), i = ix2 R n := ⟨i 0, i 1, by funext a; fin_cases a <;> rfl⟩
  exact (RetInRefIdeal.Hand.result_apply (argX m c) (argG m c) (argM m c) (argW m c) R n).symm

/-- The value claim of the in-projection. -/
theorem claim : Cert.algebraic_RetInIdeal_RetInRefIdeal (hRetInIdeal := RetInIdeal.Gen.facts)
    (hRetInRefIdeal := RetInRefIdeal.Gen.facts) := by
  intro m g m' g' _ hagree
  refine ⟨fun c => result m c, run m g, ?_⟩
  refine (θ_run _ _ _).mono (fun r h c => ?_) (RetInRefIdeal.Value.run m' g')
  obtain ⟨h0, hrest⟩ := h c
  refine ⟨h0.trans ?_, hrest⟩
  obtain ⟨a0, a1, a2, a3⟩ := hagree c
  rw [RetInRefIdeal.Read.val_main_v59_eq m' c, a0, a1, a2, a3]
  exact (result_eq m c).symm

end Cert.RetInIdeal.Hand

end
-- ==== Proof.GdnIn.RunIdeal.lean ====
/- The delta net's in-projection (`GdnInIdeal`): the kernel body's run at a point, in its two cases. -/
module

public import proofs.«01_k».proof.Proof.Gen.GdnInIdeal.Frame
public import proofs.«01_k».proof.Proof.Gen.GdnInIdeal.Skeleton
public import Idealize.ShloMosaic.Lib.Pipeline.FrameBody
public import Idealize.ShloMosaic.Lib.Ring
public import Idealize.ShloMosaic.Lib.Tactic
public import Idealize.ShloMosaic.Lib.WordCmp
@[expose] public section

set_option maxRecDepth 16384

noncomputable section

namespace Cert.GdnInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body's branch is taken at the first point of a row tile. -/
theorem hcond0_0 : ∀ t : Fin cfg0.N, k0_cond1 (grid0.coords t) = 1#1 ↔ t.val % 3 = 0 :=
  (fun t => by
    have ht : t.val < 54 := Nat.lt_of_lt_of_eq t.isLt N_0
    have e0 : (grid0.coords t 0).val = t.val / 3 % 18 := Pipeline.Grid.coords_val t 0 (by decide) rfl
    have e1 : (grid0.coords t 1).val = t.val / 1 % 3 := Pipeline.Grid.coords_val t 1 (by decide) rfl
    simp only [k0_cond1, e0, e1]
    word_cmp
   : ∀ t : Fin grid0.N, k0_cond1 (grid0.coords t) = 1#1 ↔ t.val % 3 = 0)

/-- One staging buffer of each output, and the scratch, through which their contents are stated. -/
abbrev VO0_7 : View sig .tc .vmem S1024x2048 .bf16 := (Memref.whole cc0_stg7_0 : Memref sig .tc .vmem S1024x2048 .bf16).view
abbrev VO0_8 : View sig .tc .vmem S1024x128 .f32 := (Memref.whole cc0_stg8_0 : Memref sig .tc .vmem S1024x128 .f32).view
abbrev scM0_0 : Memref sig .tc .vmem S1024x1024 .bf16 := Memref.whole cc0_scratch0
abbrev VS0_0 : View sig .tc .vmem S1024x1024 .bf16 := scM0_0.view
/-- Each window's staging memref at a point, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)

/-- The launch's invariant, with the scratch as a memref owned at some contents. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at the first point of a row tile: it stores into both outputs and the scratch. -/
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x1024 .bf16) (harg11 : arg11.IsWhole) (hc0 : k0_cond1 i = 1#1)
    (x0 : Vec F S1024x1024 .f32) (x1 : Vec F S1024x1024 .f32) (x2 : Vec F S1x1024 .f32) (x3 : Vec F S1x1x1024 .f32) (x4 : Vec F S1x1x1024 .f32) (x5 : Vec F S1024x2048 .bf16) (x6 : Vec F S1024x128 .bf16) :
    Σ' (L7 : List (View.Piece (Elt F) S1024x2048 .bf16)) (L8 : List (View.Piece (Elt F) S1024x128 .f32)), { LS0 : List (View.Piece (Elt F) S1024x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__inproj_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__inproj_kernel_eq_skeleton]; unfold cc0__inproj_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

set_option maxHeartbeats 1000000 in
/-- The body at a later point: it stores into the first output only. -/
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x1024 .bf16) (harg11 : arg11.IsWhole) (hc0 : ¬k0_cond1 i = 1#1)
    (x0 : Vec F S1024x1024 .f32) (x1 : Vec F S1024x1024 .f32) (x2 : Vec F S1x1024 .f32) (x3 : Vec F S1x1x1024 .f32) (x4 : Vec F S1x1x1024 .f32) (x5 : Vec F S1024x2048 .bf16) (x6 : Vec F S1024x128 .bf16) (x8 : Vec F S1024x128 .f32) (xs0 : Vec F S1024x1024 .bf16) :
    { L7 : List (View.Piece (Elt F) S1024x2048 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare x8 ∗ owns (c : Thread nD τ) arg11 fullShare xs0) -∗ K ⟨⟩))
          ⊢ wp frame (wpE (defs₀ (F := F)) Variants.none c none) E (cc0__inproj_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__inproj_kernel_eq_skeleton]; unfold cc0__inproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact HS0

end Cert.GdnInIdeal.Gen

end
-- ==== Proof.GdnIn.FrameIdeal.lean ====
/- The delta net's in-projection (`GdnInIdeal`): what each point leaves, the body obligation, and the frame. The second output is
   stored at the first point of a row tile and written back at its last. -/
module

public import proofs.«01_k».proof.Proof.Gen.GdnInIdeal.Frame
public import proofs.«01_k».proof.Proof.Gen.GdnInIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.TableIdle
public import proofs.«01_k».proof.Proof.GdnIn.RunIdeal
@[expose] public section

set_option maxRecDepth 16384

noncomputable section

namespace Cert.GdnInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stores cover the buffer, -/
theorem cover0_A_7 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x1024 .bf16) (harg11 : arg11.IsWhole) (hc0 : k0_cond1 i = 1#1)
    (x0 : Vec F S1024x1024 .f32) (x1 : Vec F S1024x1024 .f32) (x2 : Vec F S1x1024 .f32) (x3 : Vec F S1x1x1024 .f32) (x4 : Vec F S1x1x1024 .f32) (x5 : Vec F S1024x2048 .bf16) (x6 : Vec F S1024x128 .bf16) (y : S1024x2048.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).1 S1024x2048.size (by sl_kernel_rfl) y

/-- and leave in it the stored pieces. -/
def out0_A_7 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x1024 .bf16) (harg11 : arg11.IsWhole) (hc0 : k0_cond1 i = 1#1)
    (x0 : Vec F S1024x1024 .f32) (x1 : Vec F S1024x1024 .f32) (x2 : Vec F S1x1024 .f32) (x3 : Vec F S1x1x1024 .f32) (x4 : Vec F S1x1x1024 .f32) (x5 : Vec F S1024x2048 .bf16) (x6 : Vec F S1024x128 .bf16) : Vec F S1024x2048 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 x6).1)

/-- The stores cover the buffer, -/
theorem cover0_A_8 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x1024 .bf16) (harg11 : arg11.IsWhole) (hc0 : k0_cond1 i = 1#1)
    (x0 : Vec F S1024x1024 .f32) (x1 : Vec F S1024x1024 .f32) (x2 : Vec F S1x1024 .f32) (x3 : Vec F S1x1x1024 .f32) (x4 : Vec F S1x1x1024 .f32) (x5 : Vec F S1024x2048 .bf16) (x6 : Vec F S1024x128 .bf16) (y : S1024x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.1 S1024x128.size (by sl_kernel_rfl) y

/-- and leave in it the stored pieces. -/
def out0_A_8 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x1024 .bf16) (harg11 : arg11.IsWhole) (hc0 : k0_cond1 i = 1#1)
    (x0 : Vec F S1024x1024 .f32) (x1 : Vec F S1024x1024 .f32) (x2 : Vec F S1x1024 .f32) (x3 : Vec F S1x1x1024 .f32) (x4 : Vec F S1x1x1024 .f32) (x5 : Vec F S1024x2048 .bf16) (x6 : Vec F S1024x128 .bf16) : Vec F S1024x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6).2.1)

/-- The stores cover the buffer, -/
theorem scover0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x1024 .bf16) (harg11 : arg11.IsWhole) (hc0 : k0_cond1 i = 1#1)
    (x0 : Vec F S1024x1024 .f32) (x1 : Vec F S1024x1024 .f32) (x2 : Vec F S1x1024 .f32) (x3 : Vec F S1x1x1024 .f32) (x4 : Vec F S1x1x1024 .f32) (x5 : Vec F S1024x2048 .bf16) (x6 : Vec F S1024x128 .bf16) (y : S1024x1024.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.2.1 S1024x1024.size (by sl_kernel_rfl) y

/-- and leave in it the stored pieces. -/
def sout0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x1024 .bf16) (harg11 : arg11.IsWhole) (hc0 : k0_cond1 i = 1#1)
    (x0 : Vec F S1024x1024 .f32) (x1 : Vec F S1024x1024 .f32) (x2 : Vec F S1x1024 .f32) (x3 : Vec F S1x1x1024 .f32) (x4 : Vec F S1x1x1024 .f32) (x5 : Vec F S1024x2048 .bf16) (x6 : Vec F S1024x128 .bf16) : Vec F S1024x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 x6).2.2.1)

/-- The stores cover the buffer, -/
theorem cover0_B_7 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x1024 .bf16) (harg11 : arg11.IsWhole) (hc0 : ¬k0_cond1 i = 1#1)
    (x0 : Vec F S1024x1024 .f32) (x1 : Vec F S1024x1024 .f32) (x2 : Vec F S1x1024 .f32) (x3 : Vec F S1x1x1024 .f32) (x4 : Vec F S1x1x1024 .f32) (x5 : Vec F S1024x2048 .bf16) (x6 : Vec F S1024x128 .bf16) (x8 : Vec F S1024x128 .f32) (xs0 : Vec F S1024x1024 .bf16) (y : S1024x2048.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x8 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x8 xs0).1 S1024x2048.size (by sl_kernel_rfl) y

/-- and leave in it the stored pieces. -/
def out0_B_7 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x1024 .bf16) (harg11 : arg11.IsWhole) (hc0 : ¬k0_cond1 i = 1#1)
    (x0 : Vec F S1024x1024 .f32) (x1 : Vec F S1024x1024 .f32) (x2 : Vec F S1x1024 .f32) (x3 : Vec F S1x1x1024 .f32) (x4 : Vec F S1x1x1024 .f32) (x5 : Vec F S1024x2048 .bf16) (x6 : Vec F S1024x128 .bf16) (x8 : Vec F S1024x128 .f32) (xs0 : Vec F S1024x1024 .bf16) : Vec F S1024x2048 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 x6 x8 xs0).1)

/-- What the first point of a row tile leaves: the two outputs and the scratch. -/
def stepA (c : Dev nD) (t : Fin cfg0.N) (h0 : t.val % 3 = 0) : Vec F S1024x2048 .bf16 × Vec F S1024x128 .f32 × Vec F S1024x1024 .bf16 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (X0_5 m c t) (iblk m c 6 t),
   out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (X0_5 m c t) (iblk m c 6 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (X0_5 m c t) (iblk m c 6 t))

/-- What a later point leaves, over what the point before left. -/
def stepB (c : Dev nD) (t : Fin cfg0.N) (h0 : ¬t.val % 3 = 0) (p : Vec F S1024x2048 .bf16 × Vec F S1024x128 .f32 × Vec F S1024x1024 .bf16) : Vec F S1024x2048 .bf16 × Vec F S1024x128 .f32 × Vec F S1024x1024 .bf16 :=
  (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (X0_5 m c t) (iblk m c 6 t) p.2.1 p.2.2, p.2.1, p.2.2)

/-- What the outputs' buffers and the scratch hold after each point. -/
def outsAt0 (c : Dev nD) : (n : ℕ) → n < cfg0.N → Vec F S1024x2048 .bf16 × Vec F S1024x128 .f32 × Vec F S1024x1024 .bf16
  | 0, hn => stepA m c ⟨0, hn⟩ (Nat.zero_mod _)
  | n + 1, hn => if h0 : (n + 1) % 3 = 0 then stepA m c ⟨n + 1, hn⟩ h0 else stepB m c ⟨n + 1, hn⟩ h0 (outsAt0 c n (Nat.lt_of_succ_lt hn))

theorem outsAt0_A (c : Dev nD) (t : Fin cfg0.N) (h0 : t.val % 3 = 0) : outsAt0 m c t.val t.isLt = stepA m c t h0 := by
  obtain ⟨n, hn⟩ := t
  cases n with
  | zero => exact rfl
  | succ n => exact (dif_pos h0).trans rfl

theorem outsAt0_B (c : Dev nD) (t : Fin cfg0.N) (h0 : ¬t.val % 3 = 0) :
    outsAt0 m c t.val t.isLt = stepB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The invariant before a point: the scratch at what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The second output is not stored at a later point, and keeps what it held. -/
theorem not_first_of_idle (t : Fin cfg0.N) (h : cfg0.idle 8 (cfg0.grid.coords t) = true) : ¬t.val % 3 = 0 := by
  intro h0
  have hc : k0_cond1 (grid0.coords t) = 1#1 := (hcond0_0 t).mpr h0
  have h' : (!(k0_cond1 (grid0.coords t) == 1#1)) = true := h
  rw [hc] at h'
  exact absurd h' (by decide)

theorem carry0_8 (c : Dev nD) (t : Fin cfg0.N) (h0 : ¬t.val % 3 = 0) :
    (dats m 0 c).after 8 t = (dats m 0 c).after 8 ⟨t.val - 1, Nat.lt_of_le_of_lt (Nat.sub_le _ _) t.isLt⟩ := by
  rw [after0_8, after0_8, outsAt0_B m c t h0]; rfl

theorem fresh0_8 (t : Fin cfg0.N) (h0 : ¬t.val % 3 = 0) : cfg0.fresh 8 t.val = false := by
  rw [cfg0.fresh_tab 8 (fun n => n % 3 == 0) rfl (by decide +kernel) t.val (Nat.le_of_lt t.isLt)]
  exact beq_eq_false_iff_ne.mpr h0

/-- At a later point the second output's buffer holds what the point before left. -/
theorem before0_8_B (c : Dev nD) (t : Fin cfg0.N) (h0 : ¬t.val % 3 = 0) (d) :
    (dats m 0 c).before 8 t d = (outsAt0 m c (t.val - 1) (Nat.lt_of_le_of_lt (Nat.sub_le _ _) t.isLt)).2.1 := by
  rw [Dat.before_out_traj (dats m 0 c) 8 rfl (fun _ _ => rfl)
    (fun t _ hi _ => carry0_8 m c t (not_first_of_idle t hi)) t.val t rfl d, fresh0_8 t h0, if_neg Bool.false_ne_true]
  exact after0_8 m c _

/-- What a point leaves in the second output's buffer, as the library's obligation asks for it. -/
theorem leaves0_8 (c : Dev nD) (t : Fin cfg0.N) :
    owns (c : Thread nD τ) (ms0_8 t) fullShare ((dats m 0 c).after 8 t)
      ⊢ ((dats m 0 c).leavesExact 8 t : sProp (MT nD τ sig Unit (Elt F) ℕ (UR sig nD τ) ℕ)) := by
  unfold Dat.leavesExact
  cases hi : cfg0.idle 8 (cfg0.grid.coords t)
  · exact .rfl
  · cases hf : (cfg0.win 8).flush t
    · have h0 := not_first_of_idle t hi
      have e : ∀ d, (dats m 0 c).before 8 t d = (dats m 0 c).after 8 t := fun d =>
        (before0_8_B m c t h0 d).trans ((after0_8 m c _).symm.trans (carry0_8 m c t h0).symm)
      iintro H
      iexists (dats m 0 c).after 8 t
      rw [e]
      iexact H
    · exact .rfl

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  by_cases h0 : t.val % 3 = 0
  · by_cases hz : t.val = 0
    · skip
      rw [PhiS_castSucc m c t, PhiS_zero m c _ _ hz, PhiA0_eq]
      rw [outsAt0_A m c t h0]
      unfold stepA; dsimp only
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (X0_5 m c t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    · skip
      rw [PhiS_castSucc m c t, PhiS_pos m c _ _ hz]
      rw [outsAt0_A m c t h0]
      unfold stepA; dsimp only
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (X0_5 m c t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexists _; iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
  · skip
    have hz : t.val ≠ 0 := fun h => h0 (by rw [h])
    simp only [before0_8_B m c t h0]
    rw [PhiS_castSucc m c t, PhiS_pos m c _ _ hz]
    rw [outsAt0_B m c t h0]
    unfold stepB; dsimp only
    unfold out0_B_7; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (X0_5 m c t) (iblk m c 6 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    iintro ⟨H0, H1, H2, H3, H4, H5, H6, ⟨%e7, H7⟩, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _)
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sep_mono .rfl (sep_mono .rfl (sep_mono .rfl (sep_mono .rfl (sep_mono .rfl (sep_mono .rfl (sep_mono .rfl (sep_mono .rfl (sep_mono .rfl (sep_mono .rfl (leaves0_8 m c t))))))))))

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 54 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.GdnInIdeal.Gen

end
-- ==== Proof.GdnIn.Array.lean ====
/- The delta net's in-projection: the blocks of one point, and the two result arrays. -/
module

public import proofs.«01_k».proof.Proof.GdnIn.FrameIdeal
public import proofs.«01_k».proof.Proof.Mlp.Model
public import Idealize.ShloMosaic.Lib.Pipeline.ValueKit
public import Idealize.ShloMosaic.Lib.Pipeline.ReadBack

@[expose] public section

set_option maxRecDepth 16384

noncomputable section

namespace Cert.GdnInIdeal.Hand

open Cert.GdnInIdeal Cert.GdnInIdeal.Gen Cert.MlpModel Idealize.ShloMosaic Idealize.ShloMosaic.TcCoe Idealize.SL.Sem
open Idealize.ShloMosaic.Pipeline (Dat)

theorem idx0 : ∀ t : Fin cfg0.N, win0_0.index t = ![min (t.val / 3) 15, 0] :=
  (by decide +kernel : ∀ t : Fin grid0.N, win0_0.index t = ![min (t.val / 3) 15, 0])

theorem idx1 : ∀ t : Fin cfg0.N, win0_1.index t = ![t.val / 3 - 16, 0] :=
  (by decide +kernel : ∀ t : Fin grid0.N, win0_1.index t = ![t.val / 3 - 16, 0])

theorem idx2 : ∀ t : Fin cfg0.N, win0_2.index t = ![0, 0] :=
  (by decide +kernel : ∀ t : Fin grid0.N, win0_2.index t = ![0, 0])

theorem idx3 : ∀ t : Fin cfg0.N, win0_3.index t = ![t.val / 6 * 6 + 0, 0, 0] :=
  (by decide +kernel : ∀ t : Fin grid0.N, win0_3.index t = ![t.val / 6 * 6 + 0, 0, 0])

theorem idx4 : ∀ t : Fin cfg0.N, win0_4.index t = ![t.val / 6 * 6 + 1, 0, 0] :=
  (by decide +kernel : ∀ t : Fin grid0.N, win0_4.index t = ![t.val / 6 * 6 + 1, 0, 0])

theorem idx5 : ∀ t : Fin cfg0.N, win0_5.index t = ![0, t.val % 3] :=
  (by decide +kernel : ∀ t : Fin grid0.N, win0_5.index t = ![0, t.val % 3])

theorem idx6 : ∀ t : Fin cfg0.N, win0_6.index t = ![0, 0] :=
  (by decide +kernel : ∀ t : Fin grid0.N, win0_6.index t = ![0, 0])

theorem idx7 : ∀ t : Fin cfg0.N, win0_7.index t = ![t.val / 3, t.val % 3] :=
  (by decide +kernel : ∀ t : Fin grid0.N, win0_7.index t = ![t.val / 3, t.val % 3])

theorem idx8 : ∀ t : Fin cfg0.N, win0_8.index t = ![t.val / 3, 0] :=
  (by decide +kernel : ∀ t : Fin grid0.N, win0_8.index t = ![t.val / 3, 0])

variable (m : (ℓ : Loc nD τ sig) → Buf (Elt Ideal) ℓ) (c : Dev nD)

/-- The latent rows. -/
abbrev argX : Vec Ideal S16384x1024 .f32 := m ((c : Thread nD τ).loc main_arg0)
/-- The context rows. -/
abbrev argC : Vec Ideal S2048x1024 .f32 := m ((c : Thread nD τ).loc main_arg1)
/-- The gain of the norm. -/
abbrev argG : Vec Ideal S1024 .f32 := m ((c : Thread nD τ).loc main_arg2)
/-- The modulation. -/
abbrev argM : Vec Ideal S384x1x1024 .f32 := m ((c : Thread nD τ).loc main_arg3)
/-- The weight. -/
abbrev argW : Vec Ideal S1024x6208 .f32 := m ((c : Thread nD τ).loc main_arg4)

/-- The grid has 54 points. -/
theorem ltN (t : Fin cfg0.N) : t.val < 54 := lt_of_lt_of_eq t.isLt (show cfg0.N = 54 from N_0)

/-- The row tile of a point. -/
abbrev tile (t : Fin cfg0.N) : Fin 18 := ⟨t.val / 3, by have := ltN t; omega⟩

/-- Row `r` of tile `q` in the stream. -/
abbrev tileRow (q : Fin 18) (r : Fin 1024) : Fin 18432 := ⟨q.val * 1024 + r.val, by omega⟩

/-- Column `n` of a point's tile of columns. -/
abbrev tileCol (t : Fin cfg0.N) (n : Fin 2048) : Fin 6144 := ⟨t.val % 3 * 2048 + n.val, by omega⟩

/-- Row of the modulation array: vector number `v` of the batch that row `R` lies in. -/
abbrev modRow (R : Fin 18432) (v : Fin 6) : Fin 384 := ⟨R.val / 2048 * 6 + v.val, by omega⟩

/-- Row `R` of the stream: of the latent rows, or of the context rows behind them. -/
def stream (R : Fin 18432) (d : Fin 1024) : EReal :=
  if h : R.val < 16384 then argX m c (ix2 ⟨R.val, h⟩ d) else argC m c (ix2 ⟨R.val - 16384, by omega⟩ d)

theorem read0 (t : Fin cfg0.N) (h : t.val / 3 < 16) (r d : Fin 1024) :
    iblk m c 0 t (ix2 r d) = argX m c (ix2 ⟨t.val / 3 * 1024 + r.val, by omega⟩ d) := by
  have := ltN t
  have e : win0_0.index t = ![t.val / 3, 0] := by rw [idx0 t, min_eq_left (by omega)]
  blk_ext [iblk, V, e]

theorem read1 (t : Fin cfg0.N) (h : ¬t.val / 3 < 16) (r d : Fin 1024) :
    iblk m c 1 t (ix2 r d)
      = argC m c (ix2 ⟨t.val / 3 * 1024 + r.val - 16384, by have := ltN t; omega⟩ d) := by
  have := ltN t
  blk_ext [iblk, V, idx1 t]

/-- The gain as the region finds it, a row. -/
theorem V_gain (d : Fin 1024) : V m c main_v4 (ix2 0 d) = argG m c (ix1 d) := by
  show StableHlo.after [_, _, _, _, _, _, _] _ (Proc.devRef .tc main_v4) (ix2 0 d) = _
  after_results
  pointwise []

/-- The last 64 columns of the weight, with zeros behind them. -/
def wide (d : Fin 1024) (n : Fin 128) : EReal := if h : n.val < 64 then argW m c (ix2 d ⟨6144 + n.val, by omega⟩) else 0

/-- The wide tail of the weight as the region finds it. -/
theorem V_wide (d : Fin 1024) (n : Fin 128) : V m c main_v2 (ix2 d n) = wide m c d n := by
  show StableHlo.after [_, _, _, _, _, _, _] _ (Proc.devRef .tc main_v2) (ix2 d n) = _
  after_results
  show pad S1024x128 ![0, 0] ![0, 64] ![0, 0]
      (extractStridedSlice S1024x64 ![0, 6144] (argW m c) slices_S1024x6208_S1024x64_0_6144 : FVec Ideal S1024x64 .f32)
      (sitofp .f32 (constantI S_ 32 0#32) : FVec Ideal S_ .f32) pads_S1024x64_S1024x128_000_0640 h_S_ (ix2 d n) = wide m c d n
  unfold wide
  by_cases h : n.val < 64
  · rw [dif_pos h]
    pointwise [h]
  · rw [dif_neg h]
    pointwise [h]
    show (((0#32 : BitVec 32).toInt : ℝ) : EReal) = 0
    simp

theorem read2 (t : Fin cfg0.N) (d : Fin 1024) : iblk m c 2 t (ix2 0 d) = argG m c (ix1 d) := by
  refine Eq.trans ?_ (V_gain m c d)
  blk_ext [iblk, idx2 t]

theorem read3 (t : Fin cfg0.N) (r d : Fin 1024) :
    iblk m c 3 t (ix3 0 0 d) = argM m c (ix3 (modRow (tileRow (tile t) r) 0) 0 d) := by
  have := ltN t
  blk_ext [iblk, V, idx3 t]

theorem read4 (t : Fin cfg0.N) (r d : Fin 1024) :
    iblk m c 4 t (ix3 0 0 d) = argM m c (ix3 (modRow (tileRow (tile t) r) 1) 0 d) := by
  have := ltN t
  blk_ext [iblk, V, idx4 t]

theorem read5 (t : Fin cfg0.N) (d : Fin 1024) (n : Fin 2048) :
    X0_5 m c t (ix2 d n) = argW m c (ix2 d ⟨t.val % 3 * 2048 + n.val, by omega⟩) := by
  have := ltN t
  unfold X0_5 Pipeline.Window.fill
  rw [dif_pos (moved0_5 t _)]
  blk_ext! [iblk, V, idx5 t]

theorem read6 (t : Fin cfg0.N) (d : Fin 1024) (n : Fin 128) : iblk m c 6 t (ix2 d n) = wide m c d n := by
  refine Eq.trans ?_ (V_wide m c d n)
  blk_ext [iblk, idx6 t]

/-- Row `R` of the stream, normed and modulated. -/
def hrow (R : Fin 18432) : Fin 1024 → EReal :=
  modulated (fun k => stream m c R k) (fun k => argG m c (ix1 k)) (fun k => argM m c (ix3 (modRow R 0) 0 k))
    (fun k => argM m c (ix3 (modRow R 1) 0 k))

/-- The kernel's first result array. -/
def result : Vec Ideal S18432x6144 .bf16 := fun i =>
  ∑ d : Fin 1024, hrow m c (i 0) d * argW m c (ix2 d ⟨(i 1).val, lt_trans (i 1).isLt (by decide)⟩)

/-- The kernel's second result array. -/
def result2 : Vec Ideal S18432x128 .f32 := fun i => ∑ d : Fin 1024, hrow m c (i 0) d * wide m c d (i 1)

/-- The rows' payload at an index. -/
theorem pay3_apply (a : BitVec 32) (x xc : Vec Ideal S1024x1024 .f32) (g : Vec Ideal S1x1024 .f32) (sh sc : Vec Ideal S1x1x1024 .f32)
    (r d : Fin 1024) :
    k0_pay3 a x xc g sh sc (ix2 r d) = modulated (fun k => Scalar.select (Scalar.cmpi .slt a 16#32) (x (ix2 r k)) (xc (ix2 r k)))
      (fun k => g (ix2 0 k)) (fun k => sh (ix3 0 0 k)) (fun k => sc (ix3 0 0 k)) d := by
  pointwise [k0_pay3, k0_pay2, modulated, rms]

/-- The second output's payload is the product with the rows. -/
theorem pay4_apply (a : BitVec 32) (x xc : Vec Ideal S1024x1024 .f32) (g : Vec Ideal S1x1024 .f32) (sh sc : Vec Ideal S1x1x1024 .f32)
    (w : Vec Ideal S1024x128 .bf16) (r : Fin 1024) (n : Fin 128) :
    k0_pay4 a x xc g sh sc w (ix2 r n) = ∑ d : Fin 1024, k0_pay3 a x xc g sh sc (ix2 r d) * w (ix2 d n) := by
  have e : k0_pay3 a x xc g sh sc = k0_pay2 a x xc g sh sc := by
    unfold k0_pay3
    funext i
    obtain ⟨r, n, rfl⟩ : ∃ (r n : Fin 1024), i = ix2 r n := ⟨i 0, i 1, by funext a; fin_cases a <;> rfl⟩
    generalize k0_pay2 a x xc g sh sc = y
    pointwise []
  rw [e]
  unfold k0_pay4
  generalize k0_pay2 a x xc g sh sc = y
  pointwise []

/-- The first output's payload at an index. -/
theorem pay1_apply (h : Vec Ideal S1024x1024 .bf16) (w : Vec Ideal S1024x2048 .bf16) (r : Fin 1024) (n : Fin 2048) :
    k0_pay1 h w (ix2 r n) = ∑ d : Fin 1024, h (ix2 r d) * w (ix2 d n) := by
  pointwise [k0_pay1]

/-- The row tile as the body sees it. -/
abbrev pid (t : Fin cfg0.N) : BitVec 32 := BitVec.ofNat 32 (grid0.coords t 0).val

/-- The tiles below 16 are latent. -/
theorem latent_iff : ∀ t : Fin cfg0.N, Scalar.cmpi .slt (pid t) 16#32 = 1 ↔ t.val / 3 < 16 :=
  (by decide +kernel : ∀ t : Fin grid0.N, Scalar.cmpi .slt (BitVec.ofNat 32 (grid0.coords t 0).val) 16#32 = 1 ↔ t.val / 3 < 16)

/-- The rows' payload of a point. -/
abbrev rows (t : Fin cfg0.N) : Vec Ideal S1024x1024 .bf16 :=
  k0_pay3 (pid t) (iblk m c 0 t) (iblk m c 1 t) (iblk m c 2 t) (iblk m c 3 t) (iblk m c 4 t)

/-- The second output's payload of a point. -/
abbrev out2 (t : Fin cfg0.N) : Vec Ideal S1024x128 .f32 :=
  k0_pay4 (pid t) (iblk m c 0 t) (iblk m c 1 t) (iblk m c 2 t) (iblk m c 3 t) (iblk m c 4 t) (iblk m c 6 t)

/-- The rows' payload is the tile's normed rows. -/
theorem rows_pay (t : Fin cfg0.N) (r d : Fin 1024) : rows m c t (ix2 r d) = hrow m c (tileRow (tile t) r) d := by
  refine (pay3_apply _ _ _ _ _ _ r d).trans ?_
  have hs : ∀ k, Scalar.select (Scalar.cmpi .slt (pid t) 16#32) (iblk m c 0 t (ix2 r k)) (iblk m c 1 t (ix2 r k))
      = stream m c (tileRow (tile t) r) k := by
    intro k
    unfold stream Scalar.select
    by_cases h : t.val / 3 < 16
    · rw [if_pos ((latent_iff t).mpr h), dif_pos (show t.val / 3 * 1024 + r.val < 16384 by omega)]
      exact read0 m c t h r k
    · rw [if_neg fun h' => h ((latent_iff t).mp h'), dif_neg (show ¬t.val / 3 * 1024 + r.val < 16384 by omega)]
      exact read1 m c t h r k
  simp only [hs, read2, read3 m c t r, read4 m c t r]
  rfl

/-- The first output's payload over rows that hold the tile's normed rows. -/
theorem out_pay (t : Fin cfg0.N) (h : Vec Ideal S1024x1024 .bf16) (r : Fin 1024) (n : Fin 2048)
    (hh : ∀ d, h (ix2 r d) = hrow m c (tileRow (tile t) r) d) :
    k0_pay1 h (X0_5 m c t) (ix2 r n) = result m c (ix2 (tileRow (tile t) r) (tileCol t n)) := by
  refine (pay1_apply _ _ r n).trans ?_
  exact Finset.sum_congr rfl fun d _ => congrArg₂ (· * ·) (hh d) (read5 m c t d n)

/-- The second output's payload over the tile's normed rows. -/
theorem out2_pay (t : Fin cfg0.N) (r : Fin 1024) (n : Fin 128) :
    out2 m c t (ix2 r n) = result2 m c (ix2 (tileRow (tile t) r) n) := by
  refine (pay4_apply _ _ _ _ _ _ _ r n).trans ?_
  exact Finset.sum_congr rfl fun d _ => congrArg₂ (· * ·) (rows_pay m c t r d) (read6 m c t d n)

/-- The first point of a row tile leaves the normed rows in the scratch. -/
theorem rows_first (t : Fin cfg0.N) (h0 : t.val % 3 = 0) : (outsAt0 m c t.val t.isLt).2.2 = rows m c t := by
  rw [outsAt0_A m c t h0]; unfold stepA; dsimp only; frame_out

/-- The first point of a row tile projects the rows that it computed. -/
theorem out_first (t : Fin cfg0.N) (h0 : t.val % 3 = 0) :
    (outsAt0 m c t.val t.isLt).1 = k0_pay1 (rows m c t) (X0_5 m c t) := by
  rw [outsAt0_A m c t h0]; unfold stepA; dsimp only; frame_out

/-- The first point of a row tile writes the second output. -/
theorem out2_first (t : Fin cfg0.N) (h0 : t.val % 3 = 0) :
    (outsAt0 m c t.val t.isLt).2.1 = out2 m c t := by
  rw [outsAt0_A m c t h0]; unfold stepA; dsimp only; frame_out

/-- A later point keeps the rows. -/
theorem rows_later (t : Fin cfg0.N) (h0 : ¬t.val % 3 = 0) :
    (outsAt0 m c t.val t.isLt).2.2 = (outsAt0 m c (t.val - 1) (Nat.lt_of_le_of_lt (Nat.sub_le _ _) t.isLt)).2.2 := by
  rw [outsAt0_B m c t h0]; rfl

/-- A later point keeps the second output. -/
theorem out2_later (t : Fin cfg0.N) (h0 : ¬t.val % 3 = 0) :
    (outsAt0 m c t.val t.isLt).2.1 = (outsAt0 m c (t.val - 1) (Nat.lt_of_le_of_lt (Nat.sub_le _ _) t.isLt)).2.1 := by
  rw [outsAt0_B m c t h0]; rfl

/-- A later point projects the rows that it found. -/
theorem out_later (t : Fin cfg0.N) (h0 : ¬t.val % 3 = 0) :
    (outsAt0 m c t.val t.isLt).1
      = k0_pay1 (outsAt0 m c (t.val - 1) (Nat.lt_of_le_of_lt (Nat.sub_le _ _) t.isLt)).2.2 (X0_5 m c t) := by
  rw [outsAt0_B m c t h0]; unfold stepB; dsimp only; frame_out; simp only [read_unread_whole]

/-- After a point, the scratch holds the tile's normed rows and the second output block their product. -/
theorem held : ∀ (n : ℕ) (hn : n < cfg0.N) (r : Fin 1024),
    (∀ d : Fin 1024, (outsAt0 m c n hn).2.2 (ix2 r d) = hrow m c (tileRow (tile ⟨n, hn⟩) r) d)
    ∧ ∀ e : Fin 128, (outsAt0 m c n hn).2.1 (ix2 r e) = result2 m c (ix2 (tileRow (tile ⟨n, hn⟩) r) e) := by
  have first : ∀ (t : Fin cfg0.N) (_ : t.val % 3 = 0) (r : Fin 1024),
      (∀ d : Fin 1024, (outsAt0 m c t.val t.isLt).2.2 (ix2 r d) = hrow m c (tileRow (tile t) r) d)
      ∧ ∀ e : Fin 128, (outsAt0 m c t.val t.isLt).2.1 (ix2 r e) = result2 m c (ix2 (tileRow (tile t) r) e) := fun t h0 r =>
    ⟨fun d => (congrFun (rows_first m c t h0) _).trans (rows_pay m c t r d),
      fun e => (congrFun (out2_first m c t h0) _).trans (out2_pay m c t r e)⟩
  intro n
  induction n with
  | zero => exact fun hn r => first ⟨0, hn⟩ rfl r
  | succ n ih =>
    intro hn r
    by_cases h0 : (n + 1) % 3 = 0
    · exact first ⟨n + 1, hn⟩ h0 r
    · have hn' : n < cfg0.N := Nat.lt_of_succ_lt hn
      have hq : tile ⟨n, hn'⟩ = tile ⟨n + 1, hn⟩ := Fin.ext (by show n / 3 = (n + 1) / 3; omega)
      have IH := ih hn' r
      rw [hq] at IH
      exact ⟨fun d => (congrFun (rows_later m c ⟨n + 1, hn⟩ h0) _).trans (IH.1 d),
        fun e => (congrFun (out2_later m c ⟨n + 1, hn⟩ h0) _).trans (IH.2 e)⟩

/-- The first output block of a point at an index. -/
theorem out_block (t : Fin cfg0.N) (r : Fin 1024) (n : Fin 2048) :
    (outsAt0 m c t.val t.isLt).1 (ix2 r n) = result m c (ix2 (tileRow (tile t) r) (tileCol t n)) := by
  by_cases h0 : t.val % 3 = 0
  · exact (congrFun (out_first m c t h0) _).trans (out_pay m c t _ r n fun d => rows_pay m c t r d)
  · have hn' : t.val - 1 < cfg0.N := Nat.lt_of_le_of_lt (Nat.sub_le _ _) t.isLt
    have hq : tile ⟨t.val - 1, hn'⟩ = tile t := Fin.ext (by show (t.val - 1) / 3 = t.val / 3; omega)
    refine (congrFun (out_later m c t h0) _).trans (out_pay m c t _ r n fun d => ?_)
    rw [← hq]
    exact (held m c _ hn' r).1 d

/-- The first output window's array after the run. -/
theorem final : (dats m 0 c).arrAt 7 cfg0.N = result m c := by
  refine (dats m 0 c).arrAt_eq_of_covers 7 _ (by decide +kernel) fun t hf y => ?_
  have := ltN t
  obtain ⟨r, n, rfl⟩ : ∃ (r : Fin 1024) (n : Fin 2048), y = ix2 r n := ⟨y 0, y 1, by funext a; fin_cases a <;> rfl⟩
  have key : ((cfg0.win 7).blk t).view.emb (ix2 r n) = ix2 (tileRow (tile t) r) (tileCol t n) := by
    blk_ext [idx7 t]
  blk_simp
  rw [after0_7]
  exact (out_block m c t r n).trans (congrArg (result m c) key.symm)

/-- The second output window's array after the run. -/
theorem final2 : (dats m 0 c).arrAt 8 cfg0.N = result2 m c := by
  refine (dats m 0 c).arrAt_eq_of_covers 8 _ (by decide +kernel) fun t hf y => ?_
  have := ltN t
  obtain ⟨r, n, rfl⟩ : ∃ (r : Fin 1024) (n : Fin 128), y = ix2 r n := ⟨y 0, y 1, by funext a; fin_cases a <;> rfl⟩
  have key : ((cfg0.win 8).blk t).view.emb (ix2 r n) = ix2 (tileRow (tile t) r) n := by
    blk_ext [idx8 t]
  blk_simp
  rw [after0_8]
  exact ((held m c t.val t.isLt r).2 n).trans (congrArg (result2 m c) key.symm)

variable (ρ : Dev nD → PrngReg)

/-- The kernel's run: the result arrays, the arguments as launched. -/
theorem run : θ_run defs (onTc (τ := τ) (main (F := Ideal))) ⟨m, fun _ => 0, ρ⟩ fun r => ∀ c : Dev nD,
      r.2.mem ((c : Thread nD τ).loc main_v5_0) = result m c
      ∧ r.2.mem ((c : Thread nD τ).loc main_v5_1) = result2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 7).trans (final m c), ((h c).1 8).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.GdnInIdeal.Hand

end
-- ==== Proof.GdnIn.Ref.lean ====
/- The reference of the delta net's in-projection read at an index. -/
module

public import proofs.«01_k».proof.Proof.Gen.GdnInRefIdeal.Read
public import proofs.«01_k».proof.Proof.Mlp.Model

@[expose] public section

set_option maxRecDepth 16384

noncomputable section

namespace Cert.GdnInRefIdeal.Hand

open Cert.GdnInRefIdeal Cert.GdnInRefIdeal.Gen Cert.GdnInRefIdeal.Read Cert.MlpModel Idealize.ShloMosaic Idealize.ShloMosaic.TcCoe
open Idealize.SL.Sem

variable (x : Vec Ideal S16384x1024 .f32) (xc : Vec Ideal S2048x1024 .f32) (g : Vec Ideal S1024 .f32) (md : Vec Ideal S384x1x1024 .f32)
  (w : Vec Ideal S1024x6208 .f32)

/-- Row of the modulation array: vector number `v` of the batch that row `R` lies in (of the context, past the batches). -/
abbrev modRow (R : Fin 18432) (v : Fin 6) : Fin 384 := ⟨R.val / 2048 * 6 + v.val, by omega⟩

/-- Row `R` of the stream: of the latent rows, or of the context rows behind them. -/
def stream (R : Fin 18432) (d : Fin 1024) : EReal :=
  if h : R.val < 16384 then x (ix2 ⟨R.val, h⟩ d) else xc (ix2 ⟨R.val - 16384, by omega⟩ d)

/-- Row `R` of the stream, normed and modulated. -/
def hrow (R : Fin 18432) : Fin 1024 → EReal :=
  modulated (fun k => stream x xc R k) (fun k => g (ix1 k)) (fun k => md (ix3 (modRow R 0) 0 k)) (fun k => md (ix3 (modRow R 1) 0 k))

/-- Row `l` of batch `b` in the stream. -/
abbrev flat (b : Fin 8) (l : Fin 2048) : Fin 18432 := ⟨b.val * 2048 + l.val, by omega⟩

/-- Row `r` of the context in the stream. -/
abbrev ctx (r : Fin 2048) : Fin 18432 := ⟨16384 + r.val, by omega⟩

/-- A layer's modulation vectors. -/
theorem vec_apply (b : Fin 16) (v : Fin 6) (d : Fin 1024) :
    val_main_v2 md (ix3 b v d) = md (ix3 ⟨b.val * 6 + v.val, by omega⟩ 0 d) := by
  pointwise [val_main_v2, val_main_v1, val_main_v0]

/-- The latent rows. -/
theorem stream_apply (b : Fin 8) (l : Fin 2048) (d : Fin 1024) : val_main_v3 x (ix3 b l d) = stream x xc (flat b l) d := by
  unfold stream
  rw [dif_pos (show b.val * 2048 + l.val < 16384 by omega)]
  pointwise [val_main_v3]

/-- The shift and the scale of the latent rows. -/
theorem shift_apply (b : Fin 8) (l : Fin 2048) (d : Fin 1024) : val_main_v26 md (ix3 b 0 d) = md (ix3 (modRow (flat b l) 0) 0 d) := by
  have e : (b.val * 2048 + l.val) / 2048 = b.val := by omega
  pointwise [val_main_v26, val_main_v25, val_main_v24]
  refine (vec_apply md _ _ d).trans (congrArg (fun a => md (ix3 a 0 d)) (Fin.ext ?_))
  simp [e]

theorem scale_apply (b : Fin 8) (l : Fin 2048) (d : Fin 1024) : val_main_v19 md (ix3 b 0 d) = md (ix3 (modRow (flat b l) 1) 0 d) := by
  have e : (b.val * 2048 + l.val) / 2048 = b.val := by omega
  pointwise [val_main_v19, val_main_v18, val_main_v17]
  refine (vec_apply md _ _ d).trans (congrArg (fun a => md (ix3 a 0 d)) (Fin.ext ?_))
  simp [e]

/-- A latent row, normed and modulated. -/
theorem lat_apply (b : Fin 8) (l : Fin 2048) (d : Fin 1024) : val_main_v28 x g md (ix3 b l d) = hrow x xc g md (flat b l) d := by
  pointwise [val_main_v28, val_main_v27, val_main_v23, val_main_v22, val_main_v21, val_main_v20, val_main_cst_2,
    val_main_v16, val_main_v15, val_main_v14, val_main_v13, val_main_v12, val_main_v11, val_main_v10, val_main_v9,
    val_main_cst_1, val_main_v8, val_main_v7, val_main_cst_0, val_main_v6, val_main_v5, val_main_cst, val_main_v4,
    hrow, modulated, rms]
  simp only [stream_apply x xc, shift_apply md b l, scale_apply md b l, zero_add]

/-- The context rows. -/
theorem cstream_apply (r : Fin 2048) (d : Fin 1024) : xc (ix2 r d) = stream x xc (ctx r) d := by
  unfold stream
  rw [dif_neg (show ¬16384 + r.val < 16384 by omega)]
  exact congrArg (fun a => xc (ix2 a d)) (Fin.ext (by show r.val = 16384 + r.val - 16384; omega))

/-- The shift and the scale of the context rows. -/
theorem cshift_apply (r : Fin 2048) (d : Fin 1024) : val_main_v50 md (ix1 d) = md (ix3 (modRow (ctx r) 0) 0 d) := by
  have e : (16384 + r.val) / 2048 = 8 := by omega
  pointwise [val_main_v50, val_main_v49]
  refine (vec_apply md _ _ d).trans (congrArg (fun a => md (ix3 a 0 d)) (Fin.ext ?_))
  simp [e]

theorem cscale_apply (r : Fin 2048) (d : Fin 1024) : val_main_v43 md (ix1 d) = md (ix3 (modRow (ctx r) 1) 0 d) := by
  have e : (16384 + r.val) / 2048 = 8 := by omega
  pointwise [val_main_v43, val_main_v42]
  refine (vec_apply md _ _ d).trans (congrArg (fun a => md (ix3 a 0 d)) (Fin.ext ?_))
  simp [e]

/-- A context row, normed and modulated. -/
theorem ctx_apply (r : Fin 2048) (d : Fin 1024) : val_main_v53 xc g md (ix2 r d) = hrow x xc g md (ctx r) d := by
  pointwise [val_main_v53, val_main_v52, val_main_v51, val_main_v48, val_main_v47, val_main_v46, val_main_v45, val_main_v44,
    val_main_cst_6, val_main_v41, val_main_v40, val_main_v39, val_main_v38, val_main_v37, val_main_v36, val_main_v35,
    val_main_v34, val_main_cst_5, val_main_v33, val_main_v32, val_main_cst_4, val_main_v31, val_main_v30, val_main_cst_3,
    val_main_v29, hrow, modulated, rms]
  simp only [cstream_apply x xc, cshift_apply md r, cscale_apply md r, zero_add]

/-- The two parts joined. -/
theorem cat_apply (A : FVec Ideal S16384x1024 .f32) (B : FVec Ideal S2048x1024 .f32) (h : Fin 18432 → Fin 1024 → EReal)
    (hA : ∀ (r : Fin 16384) d, A (ix2 r d) = h ⟨r.val, by omega⟩ d) (hB : ∀ r d, B (ix2 r d) = h (ctx r) d) (R : Fin 18432)
    (d : Fin 1024) :
    concatenate S18432x1024 0 [⟨S16384x1024, A⟩, ⟨S2048x1024, B⟩] concatenates_S16384x1024_S2048x1024_S18432x1024_d0 (ix2 R d)
      = h R d := by
  pointwise []
  by_cases h1 : R.val < 16384
  · rw [dif_pos h1]; exact hA _ d
  · rw [dif_neg h1]
    refine (hB _ d).trans (congrArg (fun a => h a d) (Fin.ext ?_))
    show 16384 + (R.val - 16384) = R.val
    omega

/-- Every row, normed and modulated. -/
theorem row_apply (R : Fin 18432) (d : Fin 1024) : val_main_v55 x xc g md (ix2 R d) = hrow x xc g md R d := by
  unfold val_main_v55
  refine cat_apply _ _ (hrow x xc g md) (fun r d => ?_) (fun r d => ctx_apply x xc g md r d) R d
  have e2 : flat ⟨r.val / 2048, by omega⟩ ⟨r.val % 2048, by omega⟩ = ⟨r.val, by omega⟩ :=
    Fin.ext (by show r.val / 2048 * 2048 + r.val % 2048 = r.val; omega)
  pointwise [val_main_v54]
  exact (lat_apply x xc g md _ _ d).trans (congrArg (fun a => hrow x xc g md a d) e2)

/-- The product. -/
theorem proj_apply (R : Fin 18432) (n : Fin 6208) :
    val_main_v56 x xc g md w (ix2 R n) = ∑ d : Fin 1024, hrow x xc g md R d * w (ix2 d n) := by
  pointwise [val_main_v56]
  simp only [row_apply]

/-- The first result: the first 6144 columns. -/
theorem result_apply (R : Fin 18432) (n : Fin 6144) :
    val_main_v58 x xc g md w (ix2 R n) = ∑ d : Fin 1024, hrow x xc g md R d * w (ix2 d ⟨n.val, by omega⟩) := by
  pointwise [val_main_v58, val_main_v57]
  exact proj_apply x xc g md w R _

/-- The second result: the last 64 columns, with zeros behind them. -/
theorem result2_apply (R : Fin 18432) (n : Fin 128) :
    val_main_v60 x xc g md w (ix2 R n)
      = if h : n.val < 64 then ∑ d : Fin 1024, hrow x xc g md R d * w (ix2 d ⟨6144 + n.val, by omega⟩) else 0 := by
  pointwise [val_main_v60, val_main_v59]
  split
  · exact proj_apply x xc g md w R _
  · show (((0#32 : BitVec 32).toInt : ℝ) : EReal) = 0
    simp

end Cert.GdnInRefIdeal.Hand

end
-- ==== Proof.GdnIn.Equal.lean ====
/- The delta net's in-projection and its reference end with the same arrays. -/
module

public import proofs.«01_k».proof.Defs
public import proofs.«01_k».proof.Proof.GdnIn.Array
public import proofs.«01_k».proof.Proof.GdnIn.Ref
public import proofs.«01_k».proof.Proof.Gen.GdnInRefIdeal.Run

@[expose] public section

set_option maxRecDepth 16384

noncomputable section

namespace Cert.GdnInIdeal.Hand

open Cert.GdnInIdeal.Gen Idealize.ShloMosaic Idealize.ShloMosaic.TcCoe Idealize.SL.Sem

/-- The kernel's result arrays are the reference's, at the kernel's arguments. -/
theorem result_eq (m : (ℓ : Loc nD τ sig) → Buf (Elt Ideal) ℓ) (c : Dev nD) :
    result m c = GdnInRefIdeal.Read.val_main_v58 (argX m c) (argC m c) (argG m c) (argM m c) (argW m c) := by
  funext i
  obtain ⟨R, n, rfl⟩ : ∃ (R : Fin 18432) (n : Fin 6144), i = ix2 R n := ⟨i 0, i 1, by funext a; fin_cases a <;> rfl⟩
  exact (GdnInRefIdeal.Hand.result_apply (argX m c) (argC m c) (argG m c) (argM m c) (argW m c) R n).symm

theorem result2_eq (m : (ℓ : Loc nD τ sig) → Buf (Elt Ideal) ℓ) (c : Dev nD) :
    result2 m c = GdnInRefIdeal.Read.val_main_v60 (argX m c) (argC m c) (argG m c) (argM m c) (argW m c) := by
  funext i
  obtain ⟨R, n, rfl⟩ : ∃ (R : Fin 18432) (n : Fin 128), i = ix2 R n := ⟨i 0, i 1, by funext a; fin_cases a <;> rfl⟩
  refine Eq.trans ?_ (GdnInRefIdeal.Hand.result2_apply (argX m c) (argC m c) (argG m c) (argM m c) (argW m c) R n).symm
  show ∑ d : Fin 1024, hrow m c R d * wide m c d n = _
  unfold wide
  by_cases h : n.val < 64
  · simp only [dif_pos h]; rfl
  · simp only [dif_neg h, mul_zero, Finset.sum_const_zero]

/-- The value claim of the in-projection. -/
theorem claim : Cert.algebraic_GdnInIdeal_GdnInRefIdeal (hGdnInIdeal := GdnInIdeal.Gen.facts)
    (hGdnInRefIdeal := GdnInRefIdeal.Gen.facts) := by
  intro m g m' g' _ hagree
  refine ⟨fun c => result m c, fun c => result2 m c, run m g, ?_⟩
  refine (θ_run _ _ _).mono (fun r h c => ?_) (GdnInRefIdeal.Value.run m' g')
  obtain ⟨h0, h1, hrest⟩ := h c
  obtain ⟨a0, a1, a2, a3, a4⟩ := hagree c
  refine ⟨h0.trans ?_, h1.trans ?_, hrest⟩
  · rw [GdnInRefIdeal.Read.val_main_v58_eq m' c, a0, a1, a2, a3, a4]
    exact (result_eq m c).symm
  · rw [GdnInRefIdeal.Read.val_main_v60_eq m' c, a0, a1, a2, a3, a4]
    exact (result2_eq m c).symm

end Cert.GdnInIdeal.Hand

end
-- ==== Proof.LruIn.Array.lean ====
/- The recurrence layer's in-projection: the block of one point, and the result array. -/
module

public import proofs.«01_k».proof.Proof.Gen.LruInIdeal.Frame
public import proofs.«01_k».proof.Proof.Mlp.Model
public import Idealize.ShloMosaic.Lib.Pipeline.ValueKit
public import Idealize.ShloMosaic.Lib.Pipeline.ReadBack

@[expose] public section

set_option maxRecDepth 16384

noncomputable section

namespace Cert.LruInIdeal.Hand

open Cert.LruInIdeal Cert.LruInIdeal.Gen Cert.MlpModel Idealize.ShloMosaic Idealize.ShloMosaic.TcCoe Idealize.SL.Sem
open Idealize.ShloMosaic.Pipeline (Dat)

theorem idx0 : ∀ t : Fin cfg0.N, win0_0.index t = ![t.val / 2, 0] :=
  (by decide +kernel : ∀ t : Fin grid0.N, win0_0.index t = ![t.val / 2, 0])

theorem idx1 : ∀ t : Fin cfg0.N, win0_1.index t = ![0, 0] :=
  (by decide +kernel : ∀ t : Fin grid0.N, win0_1.index t = ![0, 0])

theorem idx2 : ∀ t : Fin cfg0.N, win0_2.index t = ![192 + t.val / 4 * 6 + 0, 0, 0] :=
  (by decide +kernel : ∀ t : Fin grid0.N, win0_2.index t = ![192 + t.val / 4 * 6 + 0, 0, 0])

theorem idx3 : ∀ t : Fin cfg0.N, win0_3.index t = ![192 + t.val / 4 * 6 + 1, 0, 0] :=
  (by decide +kernel : ∀ t : Fin grid0.N, win0_3.index t = ![192 + t.val / 4 * 6 + 1, 0, 0])

theorem idx4 : ∀ t : Fin cfg0.N, win0_4.index t = ![0, t.val % 2] :=
  (by decide +kernel : ∀ t : Fin grid0.N, win0_4.index t = ![0, t.val % 2])

theorem idx5 : ∀ t : Fin cfg0.N, win0_5.index t = ![t.val / 2, t.val % 2] :=
  (by decide +kernel : ∀ t : Fin grid0.N, win0_5.index t = ![t.val / 2, t.val % 2])

variable (m : (ℓ : Loc nD τ sig) → Buf (Elt Ideal) ℓ) (c : Dev nD)

/-- The stream. -/
abbrev argX : Vec Ideal S18432x1024 .f32 := m ((c : Thread nD τ).loc main_arg0)
/-- The gain of the norm. -/
abbrev argG : Vec Ideal S1024 .f32 := m ((c : Thread nD τ).loc main_arg1)
/-- The modulation. -/
abbrev argM : Vec Ideal S384x1x1024 .f32 := m ((c : Thread nD τ).loc main_arg2)
/-- The weight. -/
abbrev argW : Vec Ideal S1024x2560 .f32 := m ((c : Thread nD τ).loc main_arg3)

/-- The grid has 36 points. -/
theorem ltN (t : Fin cfg0.N) : t.val < 36 := lt_of_lt_of_eq t.isLt (show cfg0.N = 36 from N_0)

/-- The row tile of a point. -/
abbrev tile (t : Fin cfg0.N) : Fin 18 := ⟨t.val / 2, by have := ltN t; omega⟩

/-- Row `r` of tile `q` in the stream. -/
abbrev tileRow (q : Fin 18) (r : Fin 1024) : Fin 18432 := ⟨q.val * 1024 + r.val, by omega⟩

/-- Column `n` of a point's tile of columns. -/
abbrev tileCol (t : Fin cfg0.N) (n : Fin 1280) : Fin 2560 := ⟨t.val % 2 * 1280 + n.val, by omega⟩

/-- Row of the modulation array: vector number `v` of the batch that row `R` lies in. -/
abbrev modRow (R : Fin 18432) (v : Fin 6) : Fin 384 := ⟨192 + R.val / 2048 * 6 + v.val, by omega⟩

theorem read0 (t : Fin cfg0.N) (r d : Fin 1024) : iblk m c 0 t (ix2 r d) = argX m c (ix2 (tileRow (tile t) r) d) := by
  have := ltN t
  blk_ext [iblk, V, idx0 t]

theorem read1 (t : Fin cfg0.N) (d : Fin 1024) : iblk m c 1 t (ix2 0 d) = argG m c (ix1 d) := by
  blk_ext! [iblk, V, idx1 t]

theorem read2 (t : Fin cfg0.N) (r d : Fin 1024) :
    iblk m c 2 t (ix3 0 0 d) = argM m c (ix3 (modRow (tileRow (tile t) r) 0) 0 d) := by
  have := ltN t
  blk_ext [iblk, V, idx2 t]

theorem read3 (t : Fin cfg0.N) (r d : Fin 1024) :
    iblk m c 3 t (ix3 0 0 d) = argM m c (ix3 (modRow (tileRow (tile t) r) 1) 0 d) := by
  have := ltN t
  blk_ext [iblk, V, idx3 t]

theorem read4 (t : Fin cfg0.N) (d : Fin 1024) (n : Fin 1280) :
    iblk m c 4 t (ix2 d n) = argW m c (ix2 d (tileCol t n)) := by
  have := ltN t
  blk_ext! [iblk, V, idx4 t]

/-- Row `R` of the stream, normed and modulated. -/
def hrow (R : Fin 18432) : Fin 1024 → EReal :=
  modulated (fun k => argX m c (ix2 R k)) (fun k => argG m c (ix1 k)) (fun k => argM m c (ix3 (modRow R 0) 0 k))
    (fun k => argM m c (ix3 (modRow R 1) 0 k))

/-- The kernel's result array. -/
def result : Vec Ideal S18432x2560 .bf16 := fun i => ∑ d : Fin 1024, hrow m c (i 0) d * argW m c (ix2 d (i 1))

/-- The rows' payload at an index. -/
theorem pay1_apply (x : Vec Ideal S1024x1024 .f32) (g : Vec Ideal S1x1024 .f32) (sh sc : Vec Ideal S1x1x1024 .f32)
    (r d : Fin 1024) :
    k0_pay1 x g sh sc (ix2 r d) = modulated (fun k => x (ix2 r k)) (fun k => g (ix2 0 k)) (fun k => sh (ix3 0 0 k))
      (fun k => sc (ix3 0 0 k)) d := by
  pointwise [k0_pay1, modulated, rms]

/-- The output's payload at an index. -/
theorem pay2_apply (h : Vec Ideal S1024x1024 .bf16) (w : Vec Ideal S1024x1280 .bf16) (r : Fin 1024) (n : Fin 1280) :
    k0_pay2 h w (ix2 r n) = ∑ d : Fin 1024, h (ix2 r d) * w (ix2 d n) := by
  pointwise [k0_pay2]

/-- The rows' payload is the tile's normed rows. -/
theorem rows_pay (t : Fin cfg0.N) (r d : Fin 1024) :
    k0_pay1 (iblk m c 0 t) (iblk m c 1 t) (iblk m c 2 t) (iblk m c 3 t) (ix2 r d) = hrow m c (tileRow (tile t) r) d := by
  rw [pay1_apply]
  simp only [read0, read1, read2 m c t r, read3 m c t r]
  rfl

/-- The output's payload over rows that hold the tile's normed rows. -/
theorem out_pay (t : Fin cfg0.N) (h : Vec Ideal S1024x1024 .bf16) (r : Fin 1024) (n : Fin 1280)
    (hh : ∀ d, h (ix2 r d) = hrow m c (tileRow (tile t) r) d) :
    k0_pay2 h (iblk m c 4 t) (ix2 r n) = result m c (ix2 (tileRow (tile t) r) (tileCol t n)) := by
  rw [pay2_apply]
  simp only [hh, read4]
  rfl

/-- The first point of a row tile leaves the normed rows in the scratch. -/
theorem rows_first (t : Fin cfg0.N) (h0 : t.val % 2 = 0) :
    (outsAt0 m c t.val t.isLt).2 = k0_pay1 (iblk m c 0 t) (iblk m c 1 t) (iblk m c 2 t) (iblk m c 3 t) := by
  rw [outsAt0_A m c t h0]; frame_out

/-- The first point of a row tile projects the rows that it computed. -/
theorem out_first (t : Fin cfg0.N) (h0 : t.val % 2 = 0) :
    (outsAt0 m c t.val t.isLt).1
      = k0_pay2 (k0_pay1 (iblk m c 0 t) (iblk m c 1 t) (iblk m c 2 t) (iblk m c 3 t)) (iblk m c 4 t) := by
  rw [outsAt0_A m c t h0]; frame_out

/-- A later point keeps the rows. -/
theorem rows_later (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]; rfl

/-- A later point projects the rows that it found. -/
theorem out_later (t : Fin cfg0.N) (h0 : ¬t.val % 2 = 0) :
    (outsAt0 m c t.val t.isLt).1
      = k0_pay2 (outsAt0 m c (t.val - 1) (Nat.lt_of_le_of_lt (Nat.sub_le _ _) t.isLt)).2 (iblk m c 4 t) := by
  rw [outsAt0_B m c t h0]; frame_out; simp only [read_unread_whole]

/-- The scratch after a point: the tile's normed rows. -/
theorem held : ∀ (n : ℕ) (hn : n < cfg0.N) (r d : Fin 1024),
    (outsAt0 m c n hn).2 (ix2 r d) = hrow m c (tileRow (tile ⟨n, hn⟩) r) d := by
  intro n
  induction n with
  | zero =>
    intro hn r d
    exact (congrFun (rows_first m c ⟨0, hn⟩ rfl) _).trans (rows_pay m c ⟨0, hn⟩ r d)
  | succ n ih =>
    intro hn r d
    by_cases h0 : (n + 1) % 2 = 0
    · exact (congrFun (rows_first m c ⟨n + 1, hn⟩ h0) _).trans (rows_pay m c ⟨n + 1, hn⟩ r d)
    · have hn' : n < cfg0.N := Nat.lt_of_succ_lt hn
      have hq : tile ⟨n, hn'⟩ = tile ⟨n + 1, hn⟩ := Fin.ext (by show n / 2 = (n + 1) / 2; omega)
      refine (congrFun (rows_later m c ⟨n + 1, hn⟩ h0) _).trans ((ih hn' r d).trans ?_)
      rw [hq]

/-- The output block of a point at an index. -/
theorem out_block (t : Fin cfg0.N) (r : Fin 1024) (n : Fin 1280) :
    (outsAt0 m c t.val t.isLt).1 (ix2 r n) = result m c (ix2 (tileRow (tile t) r) (tileCol t n)) := by
  by_cases h0 : t.val % 2 = 0
  · exact (congrFun (out_first m c t h0) _).trans (out_pay m c t _ r n fun d => rows_pay m c t r d)
  · have hn' : t.val - 1 < cfg0.N := Nat.lt_of_le_of_lt (Nat.sub_le _ _) t.isLt
    have hq : tile ⟨t.val - 1, hn'⟩ = tile t := Fin.ext (by show (t.val - 1) / 2 = t.val / 2; omega)
    refine (congrFun (out_later m c t h0) _).trans (out_pay m c t _ r n fun d => ?_)
    rw [← hq]
    exact held m c _ hn' r d

/-- The output window's array after the run. -/
theorem final : (dats m 0 c).arrAt 5 cfg0.N = result m c := by
  refine (dats m 0 c).arrAt_eq_of_covers 5 _ (by decide +kernel) fun t hf y => ?_
  have := ltN t
  obtain ⟨r, n, rfl⟩ : ∃ (r : Fin 1024) (n : Fin 1280), y = ix2 r n := ⟨y 0, y 1, by funext a; fin_cases a <;> rfl⟩
  have key : ((cfg0.win 5).blk t).view.emb (ix2 r n) = ix2 (tileRow (tile t) r) (tileCol t n) := by
    blk_ext [idx5 t]
  blk_simp
  rw [after0_5]
  exact (out_block m c t r n).trans (congrArg (result m c) key.symm)

variable (ρ : Dev nD → PrngReg)

/-- The kernel's run: the result array, the arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.LruInIdeal.Hand

end
-- ==== Proof.LruIn.Ref.lean ====
/- The reference of the recurrence layer's in-projection read at an index. -/
module

public import proofs.«01_k».proof.Proof.Gen.LruInRefIdeal.Read
public import proofs.«01_k».proof.Proof.Mlp.Model

@[expose] public section

set_option maxRecDepth 16384

noncomputable section

namespace Cert.LruInRefIdeal.Hand

open Cert.LruInRefIdeal Cert.LruInRefIdeal.Gen Cert.LruInRefIdeal.Read Cert.MlpModel Idealize.ShloMosaic Idealize.ShloMosaic.TcCoe
open Idealize.SL.Sem

variable (x : Vec Ideal S18432x1024 .f32) (g : Vec Ideal S1024 .f32) (md : Vec Ideal S384x1x1024 .f32)
  (w : Vec Ideal S1024x2560 .f32)

/-- Row of the modulation array: vector number `v` of the batch that row `R` lies in (of the context, past the batches). -/
abbrev modRow (R : Fin 18432) (v : Fin 6) : Fin 384 := ⟨192 + R.val / 2048 * 6 + v.val, by omega⟩

/-- Row `R` of the stream, normed and modulated. -/
def hrow (R : Fin 18432) : Fin 1024 → EReal :=
  modulated (fun k => x (ix2 R k)) (fun k => g (ix1 k)) (fun k => md (ix3 (modRow R 0) 0 k)) (fun k => md (ix3 (modRow R 1) 0 k))

/-- Row `l` of batch `b` in the stream. -/
abbrev flat (b : Fin 8) (l : Fin 2048) : Fin 18432 := ⟨b.val * 2048 + l.val, by omega⟩

/-- Row `r` of the context in the stream. -/
abbrev ctx (r : Fin 2048) : Fin 18432 := ⟨16384 + r.val, by omega⟩

/-- A layer's modulation vectors. -/
theorem vec_apply (b : Fin 16) (v : Fin 6) (d : Fin 1024) :
    val_main_v2 md (ix3 b v d) = md (ix3 ⟨192 + b.val * 6 + v.val, by omega⟩ 0 d) := by
  pointwise [val_main_v2, val_main_v1, val_main_v0]

/-- The latent rows. -/
theorem stream_apply (b : Fin 8) (l : Fin 2048) (d : Fin 1024) : val_main_v4 x (ix3 b l d) = x (ix2 (flat b l) d) := by
  pointwise [val_main_v4, val_main_v3]

/-- The shift and the scale of the latent rows. -/
theorem shift_apply (b : Fin 8) (l : Fin 2048) (d : Fin 1024) : val_main_v27 md (ix3 b 0 d) = md (ix3 (modRow (flat b l) 0) 0 d) := by
  have e : (b.val * 2048 + l.val) / 2048 = b.val := by omega
  pointwise [val_main_v27, val_main_v26, val_main_v25]
  refine (vec_apply md _ _ d).trans (congrArg (fun a => md (ix3 a 0 d)) (Fin.ext ?_))
  simp [e]

theorem scale_apply (b : Fin 8) (l : Fin 2048) (d : Fin 1024) : val_main_v20 md (ix3 b 0 d) = md (ix3 (modRow (flat b l) 1) 0 d) := by
  have e : (b.val * 2048 + l.val) / 2048 = b.val := by omega
  pointwise [val_main_v20, val_main_v19, val_main_v18]
  refine (vec_apply md _ _ d).trans (congrArg (fun a => md (ix3 a 0 d)) (Fin.ext ?_))
  simp [e]

/-- A latent row, normed and modulated. -/
theorem lat_apply (b : Fin 8) (l : Fin 2048) (d : Fin 1024) : val_main_v29 x g md (ix3 b l d) = hrow x g md (flat b l) d := by
  pointwise [val_main_v29, val_main_v28, val_main_v24, val_main_v23, val_main_v22, val_main_v21, val_main_cst_2,
    val_main_v17, val_main_v16, val_main_v15, val_main_v14, val_main_v13, val_main_v12, val_main_v11, val_main_v10,
    val_main_cst_1, val_main_v9, val_main_v8, val_main_cst_0, val_main_v7, val_main_v6, val_main_cst, val_main_v5,
    hrow, modulated, rms]
  simp only [stream_apply, shift_apply md b l, scale_apply md b l, zero_add]

/-- The context rows. -/
theorem cstream_apply (r : Fin 2048) (d : Fin 1024) : val_main_v30 x (ix2 r d) = x (ix2 (ctx r) d) := by
  pointwise [val_main_v30]

/-- The shift and the scale of the context rows. -/
theorem cshift_apply (r : Fin 2048) (d : Fin 1024) : val_main_v52 md (ix1 d) = md (ix3 (modRow (ctx r) 0) 0 d) := by
  have e : (16384 + r.val) / 2048 = 8 := by omega
  pointwise [val_main_v52, val_main_v51]
  refine (vec_apply md _ _ d).trans (congrArg (fun a => md (ix3 a 0 d)) (Fin.ext ?_))
  simp [e]

theorem cscale_apply (r : Fin 2048) (d : Fin 1024) : val_main_v45 md (ix1 d) = md (ix3 (modRow (ctx r) 1) 0 d) := by
  have e : (16384 + r.val) / 2048 = 8 := by omega
  pointwise [val_main_v45, val_main_v44]
  refine (vec_apply md _ _ d).trans (congrArg (fun a => md (ix3 a 0 d)) (Fin.ext ?_))
  simp [e]

/-- A context row, normed and modulated. -/
theorem ctx_apply (r : Fin 2048) (d : Fin 1024) : val_main_v55 x g md (ix2 r d) = hrow x g md (ctx r) d := by
  pointwise [val_main_v55, val_main_v54, val_main_v53, val_main_v50, val_main_v49, val_main_v48, val_main_v47, val_main_v46,
    val_main_cst_6, val_main_v43, val_main_v42, val_main_v41, val_main_v40, val_main_v39, val_main_v38, val_main_v37,
    val_main_v36, val_main_cst_5, val_main_v35, val_main_v34, val_main_cst_4, val_main_v33, val_main_v32, val_main_cst_3,
    val_main_v31, hrow, modulated, rms]
  simp only [cstream_apply, cshift_apply md r, cscale_apply md r, zero_add]

/-- The two parts joined. -/
theorem cat_apply (A : FVec Ideal S16384x1024 .f32) (B : FVec Ideal S2048x1024 .f32) (h : Fin 18432 → Fin 1024 → EReal)
    (hA : ∀ (r : Fin 16384) d, A (ix2 r d) = h ⟨r.val, by omega⟩ d) (hB : ∀ r d, B (ix2 r d) = h (ctx r) d) (R : Fin 18432)
    (d : Fin 1024) :
    concatenate S18432x1024 0 [⟨S16384x1024, A⟩, ⟨S2048x1024, B⟩] concatenates_S16384x1024_S2048x1024_S18432x1024_d0 (ix2 R d)
      = h R d := by
  pointwise []
  by_cases h1 : R.val < 16384
  · rw [dif_pos h1]; exact hA _ d
  · rw [dif_neg h1]
    refine (hB _ d).trans (congrArg (fun a => h a d) (Fin.ext ?_))
    show 16384 + (R.val - 16384) = R.val
    omega

/-- Every row, normed and modulated. -/
theorem row_apply (R : Fin 18432) (d : Fin 1024) : val_main_v57 x g md (ix2 R d) = hrow x g md R d := by
  unfold val_main_v57
  refine cat_apply _ _ (hrow x g md) (fun r d => ?_) (fun r d => ctx_apply x g md r d) R d
  have e2 : flat ⟨r.val / 2048, by omega⟩ ⟨r.val % 2048, by omega⟩ = ⟨r.val, by omega⟩ :=
    Fin.ext (by show r.val / 2048 * 2048 + r.val % 2048 = r.val; omega)
  pointwise [val_main_v56]
  exact (lat_apply x g md _ _ d).trans (congrArg (fun a => hrow x g md a d) e2)

/-- The reference's result. -/
theorem result_apply (R : Fin 18432) (n : Fin 2560) :
    val_main_v59 x g md w (ix2 R n) = ∑ d : Fin 1024, hrow x g md R d * w (ix2 d n) := by
  pointwise [val_main_v59, val_main_v58]
  simp only [row_apply]

end Cert.LruInRefIdeal.Hand

end
-- ==== Proof.LruIn.Equal.lean ====
/- The recurrence layer's in-projection and its reference end with the same array. -/
module

public import proofs.«01_k».proof.Defs
public import proofs.«01_k».proof.Proof.LruIn.Array
public import proofs.«01_k».proof.Proof.LruIn.Ref
public import proofs.«01_k».proof.Proof.Gen.LruInRefIdeal.Run

@[expose] public section

set_option maxRecDepth 16384

noncomputable section

namespace Cert.LruInIdeal.Hand

open Cert.LruInIdeal.Gen Idealize.ShloMosaic Idealize.ShloMosaic.TcCoe Idealize.SL.Sem

/-- The kernel's result array is the reference's, at the kernel's arguments. -/
theorem result_eq (m : (ℓ : Loc nD τ sig) → Buf (Elt Ideal) ℓ) (c : Dev nD) :
    result m c = LruInRefIdeal.Read.val_main_v59 (argX m c) (argG m c) (argM m c) (argW m c) := by
  funext i
  obtain ⟨R, n, rfl⟩ : ∃ (R : Fin 18432) (n : Fin 2560), i = ix2 R n := ⟨i 0, i 1, by funext a; fin_cases a <;> rfl⟩
  exact (LruInRefIdeal.Hand.result_apply (argX m c) (argG m c) (argM m c) (argW m c) R n).symm

/-- The value claim of the in-projection. -/
theorem claim : Cert.algebraic_LruInIdeal_LruInRefIdeal (hLruInIdeal := LruInIdeal.Gen.facts)
    (hLruInRefIdeal := LruInRefIdeal.Gen.facts) := by
  intro m g m' g' _ hagree
  refine ⟨fun c => result m c, run m g, ?_⟩
  refine (θ_run _ _ _).mono (fun r h c => ?_) (LruInRefIdeal.Value.run m' g')
  obtain ⟨h0, hrest⟩ := h c
  refine ⟨h0.trans ?_, hrest⟩
  obtain ⟨a0, a1, a2, a3⟩ := hagree c
  rw [LruInRefIdeal.Read.val_main_v59_eq m' c, a0, a1, a2, a3]
  exact (result_eq m c).symm

end Cert.LruInIdeal.Hand

end
-- ==== Proof.SwaOut.Array.lean ====
/- The output projection of the attention layer: the block of one point, and the result array. -/
module

public import proofs.«01_k».proof.Proof.Gen.SwaOutIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SwaOutIdeal.Hand

open Cert.SwaOutIdeal Cert.SwaOutIdeal.Gen Idealize.ShloMosaic Idealize.ShloMosaic.TcCoe Idealize.SL.Sem
open Idealize.ShloMosaic.Pipeline (Dat)

theorem idx0 : ∀ t : Fin cfg0.N, win0_0.index t = ![t.val, 0] :=
  (by decide +kernel : ∀ t : Fin grid0.N, win0_0.index t = ![t.val, 0])

theorem idx1 : ∀ t : Fin cfg0.N, win0_1.index t = ![288 + t.val / 4 * 6 + 2, 0, 0] :=
  (by decide +kernel : ∀ t : Fin grid0.N, win0_1.index t = ![288 + t.val / 4 * 6 + 2, 0, 0])

theorem idx2 : ∀ t : Fin cfg0.N, win0_2.index t = ![t.val, 0] :=
  (by decide +kernel : ∀ t : Fin grid0.N, win0_2.index t = ![t.val, 0])

theorem idx3 : ∀ t : Fin cfg0.N, win0_3.index t = ![0, 0] :=
  (by decide +kernel : ∀ t : Fin grid0.N, win0_3.index t = ![0, 0])

theorem idx4 : ∀ t : Fin cfg0.N, win0_4.index t = ![t.val, 0] :=
  (by decide +kernel : ∀ t : Fin grid0.N, win0_4.index t = ![t.val, 0])

variable (m : (ℓ : Loc nD τ sig) → Buf (Elt Ideal) ℓ) (c : Dev nD)

/-- The stream. -/
abbrev argX : Vec Ideal S16384x1024 .f32 := m ((c : Thread nD τ).loc main_arg0)
/-- The modulation. -/
abbrev argM : Vec Ideal S384x1x1024 .f32 := m ((c : Thread nD τ).loc main_arg1)
/-- The attention's result. -/
abbrev argA : Vec Ideal S16384x1024 .bf16 := m ((c : Thread nD τ).loc main_arg2)
/-- The weight. -/
abbrev argW : Vec Ideal S1024x1024 .f32 := m ((c : Thread nD τ).loc main_arg3)

/-- The grid has 32 points. -/
theorem lt32 (t : Fin cfg0.N) : t.val < 32 := lt_of_lt_of_eq t.isLt (show cfg0.N = 32 from N_0)

/-- The tile of a point. -/
abbrev tile (t : Fin cfg0.N) : Fin 32 := ⟨t.val, lt32 t⟩

/-- Row `r` of tile `q` in the stream. -/
abbrev tileRow (q : Fin 32) (r : Fin 512) : Fin 16384 := ⟨q.val * 512 + r.val, by omega⟩

/-- The gate of the batch that row `R` lies in. -/
abbrev gateRow (R : Fin 16384) : Fin 384 := ⟨288 + R.val / 2048 * 6 + 2, by omega⟩

theorem read0 (t : Fin cfg0.N) (r : Fin 512) (d : Fin 1024) :
    iblk m c 0 t (ix2 r d) = argX m c (ix2 (tileRow (tile t) r) d) := by
  have := lt32 t
  blk_ext [iblk, V, idx0 t]

theorem read1 (t : Fin cfg0.N) (r : Fin 512) (d : Fin 1024) :
    iblk m c 1 t (ix3 0 0 d) = argM m c (ix3 (gateRow (tileRow (tile t) r)) 0 d) := by
  have := lt32 t
  blk_ext [iblk, V, idx1 t]

theorem read2 (t : Fin cfg0.N) (r : Fin 512) (d : Fin 1024) :
    iblk m c 2 t (ix2 r d) = argA m c (ix2 (tileRow (tile t) r) d) := by
  have := lt32 t
  blk_ext [iblk, V, idx2 t]

theorem read3 (t : Fin cfg0.N) (d e : Fin 1024) : iblk m c 3 t (ix2 d e) = argW m c (ix2 d e) := by
  have := lt32 t
  blk_ext! [iblk, V, idx3 t]

/-- The kernel's result array: the stream plus the gated projection. -/
def result : Vec Ideal S16384x1024 .f32 := fun i =>
  argX m c (ix2 (i 0) (i 1))
    + argM m c (ix3 (gateRow (i 0)) 0 (i 1)) * ∑ d : Fin 1024, argA m c (ix2 (i 0) d) * argW m c (ix2 d (i 1))

/-- The payload at an index. -/
theorem pay1_apply (x : Vec Ideal S512x1024 .f32) (gt : Vec Ideal S1x1x1024 .f32) (a : Vec Ideal S512x1024 .bf16)
    (w : Vec Ideal S1024x1024 .bf16) (r : Fin 512) (e : Fin 1024) :
    k0_pay1 x gt a w (ix2 r e) = x (ix2 r e) + gt (ix3 0 0 e) * ∑ d : Fin 1024, a (ix2 r d) * w (ix2 d e) := by
  pointwise [k0_pay1]

/-- The output block of a point. -/
theorem out_eq (t : Fin cfg0.N) :
    out0_4 (iblk m c 0 t) (iblk m c 1 t) (iblk m c 2 t) (iblk m c 3 t)
      = k0_pay1 (iblk m c 0 t) (iblk m c 1 t) (iblk m c 2 t) (iblk m c 3 t) := by
  unfold out0_4
  frame_out

/-- The output block of a point at an index. -/
theorem out_block (t : Fin cfg0.N) (r : Fin 512) (e : Fin 1024) :
    out0_4 (iblk m c 0 t) (iblk m c 1 t) (iblk m c 2 t) (iblk m c 3 t) (ix2 r e)
      = result m c (ix2 (tileRow (tile t) r) e) := by
  refine (congrFun (out_eq m c t) _).trans ?_
  rw [pay1_apply, read0, read1 m c t r]
  simp only [read2, read3]
  rfl

/-- The output window's array after the run. -/
theorem final : (dats m 0 c).arrAt 4 cfg0.N = result m c := by
  refine (dats m 0 c).arrAt_eq_of_covers 4 _ (by decide +kernel) fun t hf y => ?_
  have := lt32 t
  obtain ⟨r, e, rfl⟩ : ∃ (r : Fin 512) (e : Fin 1024), y = ix2 r e := ⟨y 0, y 1, by funext a; fin_cases a <;> rfl⟩
  have key : ((cfg0.win 4).blk t).view.emb (ix2 r e) = ix2 (tileRow (tile t) r) e := by
    blk_ext [idx4 t]
  blk_simp
  rw [after0_4]
  exact (out_block m c t r e).trans (congrArg (result m c) key.symm)

variable (ρ : Dev nD → PrngReg)

/-- The kernel's run: the result array, the arguments as launched. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.SwaOutIdeal.Hand

end
-- ==== Proof.SwaOut.Equal.lean ====
/- The output projection of the attention layer and its reference end with the same array. -/
module

public import proofs.«01_k».proof.Defs
public import proofs.«01_k».proof.Proof.SwaOut.Array
public import proofs.«01_k».proof.Proof.Gen.SwaOutRefIdeal.Read
public import proofs.«01_k».proof.Proof.Gen.SwaOutRefIdeal.Run

@[expose] public section

set_option maxRecDepth 16384

noncomputable section

namespace Cert.SwaOutRefIdeal.Hand

open Cert.SwaOutRefIdeal Cert.SwaOutRefIdeal.Gen Cert.SwaOutRefIdeal.Read Idealize.ShloMosaic Idealize.ShloMosaic.TcCoe
open Idealize.SL.Sem

variable (x : Vec Ideal S16384x1024 .f32) (md : Vec Ideal S384x1x1024 .f32) (a : Vec Ideal S16384x1024 .bf16)
  (w : Vec Ideal S1024x1024 .f32)

/-- The gate. -/
theorem gate_apply (b : Fin 8) (e : Fin 1024) :
    val_main_v3 md (ix3 b 0 e) = md (ix3 ⟨288 + b.val * 6 + 2, by omega⟩ 0 e) := by
  pointwise [val_main_v3, val_main_v2, val_main_v1, val_main_v0]

/-- The projection. -/
theorem proj_apply (b : Fin 8) (l : Fin 2048) (e : Fin 1024) :
    val_main_v7 a w (ix3 b l e) = ∑ d : Fin 1024, a (ix2 ⟨b.val * 2048 + l.val, by omega⟩ d) * w (ix2 d e) := by
  pointwise [val_main_v7, val_main_v6, val_main_v5]

/-- The stream. -/
theorem stream_apply (b : Fin 8) (l : Fin 2048) (e : Fin 1024) :
    val_main_v4 x (ix3 b l e) = x (ix2 ⟨b.val * 2048 + l.val, by omega⟩ e) := by
  pointwise [val_main_v4]

/-- The reference's result. -/
theorem result_apply (R : Fin 16384) (e : Fin 1024) :
    val_main_v11 x md a w (ix2 R e) = x (ix2 R e)
      + md (ix3 ⟨288 + R.val / 2048 * 6 + 2, by omega⟩ 0 e) * ∑ d : Fin 1024, a (ix2 R d) * w (ix2 d e) := by
  have e2 : (⟨R.val / 2048 * 2048 + R.val % 2048, by omega⟩ : Fin 16384) = R := Fin.ext (by show _ / _ * _ + _ % _ = _; omega)
  pointwise [val_main_v11, val_main_v10, val_main_v9, val_main_v8]
  simp only [gate_apply, proj_apply, stream_apply, e2]

end Cert.SwaOutRefIdeal.Hand

namespace Cert.SwaOutIdeal.Hand

open Cert.SwaOutIdeal.Gen Idealize.ShloMosaic Idealize.ShloMosaic.TcCoe Idealize.SL.Sem

/-- The kernel's result array is the reference's, at the kernel's arguments. -/
theorem result_eq (m : (ℓ : Loc nD τ sig) → Buf (Elt Ideal) ℓ) (c : Dev nD) :
    result m c = SwaOutRefIdeal.Read.val_main_v11 (argX m c) (argM m c) (argA m c) (argW m c) := by
  funext i
  obtain ⟨R, e, rfl⟩ : ∃ (R : Fin 16384) (e : Fin 1024), i = ix2 R e := ⟨i 0, i 1, by funext a; fin_cases a <;> rfl⟩
  exact (SwaOutRefIdeal.Hand.result_apply (argX m c) (argM m c) (argA m c) (argW m c) R e).symm

/-- The value claim of the output projection. -/
theorem claim : Cert.algebraic_SwaOutIdeal_SwaOutRefIdeal (hSwaOutIdeal := SwaOutIdeal.Gen.facts)
    (hSwaOutRefIdeal := SwaOutRefIdeal.Gen.facts) := by
  intro m g m' g' _ hagree
  refine ⟨fun c => result m c, run m g, ?_⟩
  refine (θ_run _ _ _).mono (fun r h c => ?_) (SwaOutRefIdeal.Value.run m' g')
  obtain ⟨h0, hrest⟩ := h c
  refine ⟨h0.trans ?_, hrest⟩
  obtain ⟨a0, a1, a2, a3⟩ := hagree c
  refine (SwaOutRefIdeal.Read.val_main_v11_eq _ _ _ _).trans ?_
  rw [a0, a1, a2, a3]
  exact (result_eq m c).symm

end Cert.SwaOutIdeal.Hand

end
-- ==== Proof.lean ====
module

public import proofs.«01_k».proof.Defs
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.SwaIdeal.Value
public import proofs.«01_k».proof.Proof.Gen.SwaRefIdeal.Run
public import proofs.«01_k».proof.Proof.Gen.SwaRefIdeal.Read
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Mlp0
public import proofs.«01_k».proof.Proof.Gen.Mlp0.Skeleton
public import proofs.«01_k».proof.Proof.Gen.Mlp0.Launch
public import proofs.«01_k».proof.Proof.Gen.Mlp0.Points
public import proofs.«01_k».proof.Proof.Gen.Mlp0.Frame
public import proofs.«01_k».proof.Proof.Gen.Mlp0Ideal
public import proofs.«01_k».proof.Proof.Gen.Mlp0Ideal.Skeleton
public import proofs.«01_k».proof.Proof.Gen.Mlp0Ideal.Launch
public import proofs.«01_k».proof.Proof.Gen.Mlp0Ideal.Points
public import proofs.«01_k».proof.Proof.Gen.Mlp0Ideal.Frame
public import proofs.«01_k».proof.Proof.Gen.Mlp0RefIdeal
public import proofs.«01_k».proof.Proof.Gen.Mlp0RefIdeal.Run
public import proofs.«01_k».proof.Proof.Gen.Mlp0RefIdeal.Read
public import proofs.«01_k».proof.Proof.Gen.Mlp1
public import proofs.«01_k».proof.Proof.Gen.Mlp1.Skeleton
public import proofs.«01_k».proof.Proof.Gen.Mlp1.Launch
public import proofs.«01_k».proof.Proof.Gen.Mlp1.Points
public import proofs.«01_k».proof.Proof.Gen.Mlp1.Frame
public import proofs.«01_k».proof.Proof.Gen.Mlp1Ideal
public import proofs.«01_k».proof.Proof.Gen.Mlp1Ideal.Skeleton
public import proofs.«01_k».proof.Proof.Gen.Mlp1Ideal.Launch
public import proofs.«01_k».proof.Proof.Gen.Mlp1Ideal.Points
public import proofs.«01_k».proof.Proof.Gen.Mlp1Ideal.Frame
public import proofs.«01_k».proof.Proof.Gen.Mlp1RefIdeal
public import proofs.«01_k».proof.Proof.Gen.Mlp1RefIdeal.Run
public import proofs.«01_k».proof.Proof.Gen.Mlp1RefIdeal.Read
public import proofs.«01_k».proof.Proof.Gen.Mlp2
public import proofs.«01_k».proof.Proof.Gen.Mlp2.Skeleton
public import proofs.«01_k».proof.Proof.Gen.Mlp2.Launch
public import proofs.«01_k».proof.Proof.Gen.Mlp2.Points
public import proofs.«01_k».proof.Proof.Gen.Mlp2.Frame
public import proofs.«01_k».proof.Proof.Gen.Mlp2Ideal
public import proofs.«01_k».proof.Proof.Gen.Mlp2Ideal.Skeleton
public import proofs.«01_k».proof.Proof.Gen.Mlp2Ideal.Launch
public import proofs.«01_k».proof.Proof.Gen.Mlp2Ideal.Points
public import proofs.«01_k».proof.Proof.Gen.Mlp2Ideal.Frame
public import proofs.«01_k».proof.Proof.Gen.Mlp2RefIdeal
public import proofs.«01_k».proof.Proof.Gen.Mlp2RefIdeal.Run
public import proofs.«01_k».proof.Proof.Gen.Mlp2RefIdeal.Read
public import proofs.«01_k».proof.Proof.Gen.SwaIn
public import proofs.«01_k».proof.Proof.Gen.SwaIn.Skeleton
public import proofs.«01_k».proof.Proof.Gen.SwaIn.Launch
public import proofs.«01_k».proof.Proof.Gen.SwaIn.Points
public import proofs.«01_k».proof.Proof.Gen.SwaIn.Frame
public import proofs.«01_k».proof.Proof.Gen.SwaInIdeal
public import proofs.«01_k».proof.Proof.Gen.SwaInIdeal.Skeleton
public import proofs.«01_k».proof.Proof.Gen.SwaInIdeal.Launch
public import proofs.«01_k».proof.Proof.Gen.SwaInIdeal.Points
public import proofs.«01_k».proof.Proof.Gen.SwaInIdeal.Frame
public import proofs.«01_k».proof.Proof.Gen.SwaInRefIdeal
public import proofs.«01_k».proof.Proof.Gen.SwaInRefIdeal.Run
public import proofs.«01_k».proof.Proof.Gen.SwaInRefIdeal.Read
public import proofs.«01_k».proof.Proof.Gen.RetIn
public import proofs.«01_k».proof.Proof.Gen.RetIn.Skeleton
public import proofs.«01_k».proof.Proof.Gen.RetIn.Launch
public import proofs.«01_k».proof.Proof.Gen.RetIn.Points
public import proofs.«01_k».proof.Proof.Gen.RetIn.Frame
public import proofs.«01_k».proof.Proof.Gen.RetInIdeal
public import proofs.«01_k».proof.Proof.Gen.RetInIdeal.Skeleton
public import proofs.«01_k».proof.Proof.Gen.RetInIdeal.Launch
public import proofs.«01_k».proof.Proof.Gen.RetInIdeal.Points
public import proofs.«01_k».proof.Proof.Gen.RetInIdeal.Frame
public import proofs.«01_k».proof.Proof.Gen.RetInRefIdeal
public import proofs.«01_k».proof.Proof.Gen.RetInRefIdeal.Run
public import proofs.«01_k».proof.Proof.Gen.RetInRefIdeal.Read
public import proofs.«01_k».proof.Proof.Gen.GdnIn
public import proofs.«01_k».proof.Proof.Gen.GdnIn.Skeleton
public import proofs.«01_k».proof.Proof.Gen.GdnIn.Launch
public import proofs.«01_k».proof.Proof.Gen.GdnIn.Points
public import proofs.«01_k».proof.Proof.Gen.GdnIn.Frame
public import proofs.«01_k».proof.Proof.Gen.GdnInIdeal
public import proofs.«01_k».proof.Proof.Gen.GdnInIdeal.Skeleton
public import proofs.«01_k».proof.Proof.Gen.GdnInIdeal.Launch
public import proofs.«01_k».proof.Proof.Gen.GdnInIdeal.Points
public import proofs.«01_k».proof.Proof.Gen.GdnInIdeal.Frame
public import proofs.«01_k».proof.Proof.Gen.GdnInRefIdeal
public import proofs.«01_k».proof.Proof.Gen.GdnInRefIdeal.Run
public import proofs.«01_k».proof.Proof.Gen.GdnInRefIdeal.Read
public import proofs.«01_k».proof.Proof.Gen.LruIn
public import proofs.«01_k».proof.Proof.Gen.LruIn.Skeleton
public import proofs.«01_k».proof.Proof.Gen.LruIn.Launch
public import proofs.«01_k».proof.Proof.Gen.LruIn.Points
public import proofs.«01_k».proof.Proof.Gen.LruIn.Frame
public import proofs.«01_k».proof.Proof.Gen.LruInIdeal
public import proofs.«01_k».proof.Proof.Gen.LruInIdeal.Skeleton
public import proofs.«01_k».proof.Proof.Gen.LruInIdeal.Launch
public import proofs.«01_k».proof.Proof.Gen.LruInIdeal.Points
public import proofs.«01_k».proof.Proof.Gen.LruInIdeal.Frame
public import proofs.«01_k».proof.Proof.Gen.LruInRefIdeal
public import proofs.«01_k».proof.Proof.Gen.LruInRefIdeal.Run
public import proofs.«01_k».proof.Proof.Gen.LruInRefIdeal.Read
public import proofs.«01_k».proof.Proof.Gen.SwaOut
public import proofs.«01_k».proof.Proof.Gen.SwaOut.Skeleton
public import proofs.«01_k».proof.Proof.Gen.SwaOut.Launch
public import proofs.«01_k».proof.Proof.Gen.SwaOut.Points
public import proofs.«01_k».proof.Proof.Gen.SwaOut.Frame
public import proofs.«01_k».proof.Proof.Gen.SwaOutIdeal
public import proofs.«01_k».proof.Proof.Gen.SwaOutIdeal.Skeleton
public import proofs.«01_k».proof.Proof.Gen.SwaOutIdeal.Launch
public import proofs.«01_k».proof.Proof.Gen.SwaOutIdeal.Points
public import proofs.«01_k».proof.Proof.Gen.SwaOutIdeal.Frame
public import proofs.«01_k».proof.Proof.Gen.SwaOutRefIdeal
public import proofs.«01_k».proof.Proof.Gen.SwaOutRefIdeal.Run
public import proofs.«01_k».proof.Proof.Gen.SwaOutRefIdeal.Read
public import proofs.«01_k».proof.Proof.Mlp.Equal
public import proofs.«01_k».proof.Proof.Mlp0.Equal
public import proofs.«01_k».proof.Proof.Mlp1.Equal
public import proofs.«01_k».proof.Proof.Mlp2.Equal
public import proofs.«01_k».proof.Proof.Swa.Equal
public import proofs.«01_k».proof.Proof.SwaIn.Equal
public import proofs.«01_k».proof.Proof.RetIn.Equal
public import proofs.«01_k».proof.Proof.GdnIn.Equal
public import proofs.«01_k».proof.Proof.GdnIn.Frame
public import proofs.«01_k».proof.Proof.LruIn.Equal
public import proofs.«01_k».proof.Proof.SwaOut.Equal
public import Idealize.ShloMosaic.Adequacy
public import Idealize.ShloMosaic.Init

@[expose] public section

noncomputable section

namespace Cert.Proof

open Idealize.ShloMosaic Idealize.SL.Sem Cert.Swa

theorem frame_swa_ref : Cert.quiescent_SwaRefIdeal (hSwaRefIdeal := Cert.SwaRefIdeal.Gen.facts) := fun m g _ =>
  (θ_run Cert.SwaRefIdeal.defs _ _).mono (fun r h => ⟨fun c => (h c).2,
      Idealize.ShloMosaic.sem_eq_zero_of_no_sems (by decide) r.2⟩)
    (Cert.SwaRefIdeal.Value.run (F := Ideal) m g)

theorem frame_mlp_ref : Cert.quiescent_MlpRefIdeal (hMlpRefIdeal := Cert.MlpRefIdeal.Gen.facts) := fun m g _ =>
  (θ_run Cert.MlpRefIdeal.defs _ _).mono (fun r h => ⟨fun c => (h c).2,
      Idealize.ShloMosaic.sem_eq_zero_of_no_sems (by decide) r.2⟩)
    (Cert.MlpRefIdeal.Value.run (F := Ideal) m g)

theorem frame_mlp0_ref : Cert.quiescent_Mlp0RefIdeal (hMlp0RefIdeal := Cert.Mlp0RefIdeal.Gen.facts) := fun m g _ =>
  (θ_run Cert.Mlp0RefIdeal.defs _ _).mono (fun r h => ⟨fun c => (h c).2,
      Idealize.ShloMosaic.sem_eq_zero_of_no_sems (by decide) r.2⟩)
    (Cert.Mlp0RefIdeal.Value.run (F := Ideal) m g)

theorem frame_mlp1_ref : Cert.quiescent_Mlp1RefIdeal (hMlp1RefIdeal := Cert.Mlp1RefIdeal.Gen.facts) := fun m g _ =>
  (θ_run Cert.Mlp1RefIdeal.defs _ _).mono (fun r h => ⟨fun c => (h c).2,
      Idealize.ShloMosaic.sem_eq_zero_of_no_sems (by decide) r.2⟩)
    (Cert.Mlp1RefIdeal.Value.run (F := Ideal) m g)

theorem frame_mlp2_ref : Cert.quiescent_Mlp2RefIdeal (hMlp2RefIdeal := Cert.Mlp2RefIdeal.Gen.facts) := fun m g _ =>
  (θ_run Cert.Mlp2RefIdeal.defs _ _).mono (fun r h => ⟨fun c => (h c).2,
      Idealize.ShloMosaic.sem_eq_zero_of_no_sems (by decide) r.2⟩)
    (Cert.Mlp2RefIdeal.Value.run (F := Ideal) m g)

theorem frame_swa_in_ref : Cert.quiescent_SwaInRefIdeal (hSwaInRefIdeal := Cert.SwaInRefIdeal.Gen.facts) := fun m g _ =>
  (θ_run Cert.SwaInRefIdeal.defs _ _).mono (fun r h => ⟨fun c => (h c).2,
      Idealize.ShloMosaic.sem_eq_zero_of_no_sems (by decide) r.2⟩)
    (Cert.SwaInRefIdeal.Value.run (F := Ideal) m g)

theorem frame_ret_in_ref : Cert.quiescent_RetInRefIdeal (hRetInRefIdeal := Cert.RetInRefIdeal.Gen.facts) := fun m g _ =>
  (θ_run Cert.RetInRefIdeal.defs _ _).mono (fun r h => ⟨fun c => (h c).2,
      Idealize.ShloMosaic.sem_eq_zero_of_no_sems (by decide) r.2⟩)
    (Cert.RetInRefIdeal.Value.run (F := Ideal) m g)

theorem frame_gdn_in_ref : Cert.quiescent_GdnInRefIdeal (hGdnInRefIdeal := Cert.GdnInRefIdeal.Gen.facts) := fun m g _ =>
  (θ_run Cert.GdnInRefIdeal.defs _ _).mono (fun r h => ⟨fun c => (h c).2.2,
      Idealize.ShloMosaic.sem_eq_zero_of_no_sems (by decide) r.2⟩)
    (Cert.GdnInRefIdeal.Value.run (F := Ideal) m g)

theorem frame_lru_in_ref : Cert.quiescent_LruInRefIdeal (hLruInRefIdeal := Cert.LruInRefIdeal.Gen.facts) := fun m g _ =>
  (θ_run Cert.LruInRefIdeal.defs _ _).mono (fun r h => ⟨fun c => (h c).2,
      Idealize.ShloMosaic.sem_eq_zero_of_no_sems (by decide) r.2⟩)
    (Cert.LruInRefIdeal.Value.run (F := Ideal) m g)

theorem frame_swa_out_ref : Cert.quiescent_SwaOutRefIdeal (hSwaOutRefIdeal := Cert.SwaOutRefIdeal.Gen.facts) := fun m g _ =>
  (θ_run Cert.SwaOutRefIdeal.defs _ _).mono (fun r h => ⟨fun c => (h c).2,
      Idealize.ShloMosaic.sem_eq_zero_of_no_sems (by decide) r.2⟩)
    (Cert.SwaOutRefIdeal.Value.run (F := Ideal) m g)

theorem claim : Cert.Claim :=
  ⟨Cert.Swa.Gen.facts, Cert.SwaIdeal.Gen.facts, Cert.SwaRefIdeal.Gen.facts, Cert.Mlp.Gen.facts, Cert.MlpIdeal.Gen.facts,
    Cert.MlpRefIdeal.Gen.facts,
    Cert.Mlp0.Gen.facts, Cert.Mlp0Ideal.Gen.facts, Cert.Mlp0RefIdeal.Gen.facts,
    Cert.Mlp1.Gen.facts, Cert.Mlp1Ideal.Gen.facts, Cert.Mlp1RefIdeal.Gen.facts,
    Cert.Mlp2.Gen.facts, Cert.Mlp2Ideal.Gen.facts, Cert.Mlp2RefIdeal.Gen.facts,
    Cert.SwaIn.Gen.facts, Cert.SwaInIdeal.Gen.facts, Cert.SwaInRefIdeal.Gen.facts,
    Cert.RetIn.Gen.facts, Cert.RetInIdeal.Gen.facts, Cert.RetInRefIdeal.Gen.facts,
    Cert.GdnIn.Gen.facts, Cert.GdnInIdeal.Gen.facts, Cert.GdnInRefIdeal.Gen.facts,
    Cert.LruIn.Gen.facts, Cert.LruInIdeal.Gen.facts, Cert.LruInRefIdeal.Gen.facts,
    Cert.SwaOut.Gen.facts, Cert.SwaOutIdeal.Gen.facts, Cert.SwaOutRefIdeal.Gen.facts,
    fun m g _ => Cert.Swa.Gen.frame m g,
    fun m g _ => Cert.SwaIdeal.Gen.frame m g,
    frame_swa_ref,
    fun m g _ => Cert.Mlp.Gen.frame m g,
    fun m g _ => Cert.MlpIdeal.Gen.frame m g,
    frame_mlp_ref,
    fun m g _ => Cert.Mlp0.Gen.frame m g,
    fun m g _ => Cert.Mlp0Ideal.Gen.frame m g,
    frame_mlp0_ref,
    fun m g _ => Cert.Mlp1.Gen.frame m g,
    fun m g _ => Cert.Mlp1Ideal.Gen.frame m g,
    frame_mlp1_ref,
    fun m g _ => Cert.Mlp2.Gen.frame m g,
    fun m g _ => Cert.Mlp2Ideal.Gen.frame m g,
    frame_mlp2_ref,
    fun m g _ => Cert.SwaIn.Gen.frame m g,
    fun m g _ => Cert.SwaInIdeal.Gen.frame m g,
    frame_swa_in_ref,
    fun m g _ => Cert.RetIn.Gen.frame m g,
    fun m g _ => Cert.RetInIdeal.Gen.frame m g,
    frame_ret_in_ref,
    fun m g _ => Cert.GdnIn.Gen.frame m g,
    fun m g _ => Cert.GdnInIdeal.Gen.frame m g,
    frame_gdn_in_ref,
    fun m g _ => Cert.LruIn.Gen.frame m g,
    fun m g _ => Cert.LruInIdeal.Gen.frame m g,
    frame_lru_in_ref,
    fun m g _ => Cert.SwaOut.Gen.frame m g,
    fun m g _ => Cert.SwaOutIdeal.Gen.frame m g,
    frame_swa_out_ref,
    ⟨IdealRules.named_const.statement Cert.SwaIdeal.κ "qscale" .f32 0x3E38AA3B#32 (((8 * (Real.log 2))⁻¹ : ℝ) : EReal) rfl,
      IdealRules.named_const.statement Cert.SwaIdeal.κ "log2e" .f32 0x3FB8AA3B#32 (((Real.log 2)⁻¹ : ℝ) : EReal) rfl⟩,
    trivial, trivial, trivial, trivial, trivial, trivial, trivial, trivial, trivial,
    Cert.SwaIdeal.Hand.claim,
    Cert.MlpIdeal.Hand.claim,
    Cert.Mlp0Ideal.Hand.claim,
    Cert.Mlp1Ideal.Hand.claim,
    Cert.Mlp2Ideal.Hand.claim,
    Cert.SwaInIdeal.Hand.claim,
    Cert.RetInIdeal.Hand.claim,
    Cert.GdnInIdeal.Hand.claim,
    Cert.LruInIdeal.Hand.claim,
    Cert.SwaOutIdeal.Hand.claim⟩

end Cert.Proof

end
